-- ==== Defs.lean ====
def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite [hPre_finite : Cert.Pre_finite.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2))) = (fun _ => 1#1)

def Pre_AttentionRefIdeal (m : (ℓ : Loc Cert.AttentionRefIdeal.nD Cert.AttentionRefIdeal.τ Cert.AttentionRefIdeal.sig) → Buf (Elt Ideal) ℓ) : Prop :=
  True

def Pre_AttentionRefIdeal_finite [hPre_finite : Cert.Pre_finite.Facts] (m : (ℓ : Loc Cert.AttentionRefIdeal.nD Cert.AttentionRefIdeal.τ Cert.AttentionRefIdeal.sig) → Buf (Elt Ideal) ℓ) : Prop :=
  ∀ c : Dev Cert.AttentionRefIdeal.nD,
    (Cert.Pre_finite.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_MixFfn (m : (ℓ : Loc Cert.MixFfn.nD Cert.MixFfn.τ Cert.MixFfn.sig) → Buf (Elt Bits) ℓ) : Prop :=
  True

def Pre_MixFfnIdeal (m : (ℓ : Loc Cert.MixFfnIdeal.nD Cert.MixFfnIdeal.τ Cert.MixFfnIdeal.sig) → Buf (Elt Ideal) ℓ) : Prop :=
  True

def Pre_MixFfnRefIdeal (m : (ℓ : Loc Cert.MixFfnRefIdeal.nD Cert.MixFfnRefIdeal.τ Cert.MixFfnRefIdeal.sig) → Buf (Elt Ideal) ℓ) : Prop :=
  True

def Pre_OutFfn (m : (ℓ : Loc Cert.OutFfn.nD Cert.OutFfn.τ Cert.OutFfn.sig) → Buf (Elt Bits) ℓ) : Prop :=
  True

def Pre_OutFfnIdeal (m : (ℓ : Loc Cert.OutFfnIdeal.nD Cert.OutFfnIdeal.τ Cert.OutFfnIdeal.sig) → Buf (Elt Ideal) ℓ) : Prop :=
  True

def Pre_OutFfnRefIdeal (m : (ℓ : Loc Cert.OutFfnRefIdeal.nD Cert.OutFfnRefIdeal.τ Cert.OutFfnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Gating (m : (ℓ : Loc Cert.Gating.nD Cert.Gating.τ Cert.Gating.sig) → Buf (Elt Bits) ℓ) : Prop :=
  True

def Pre_GatingIdeal (m : (ℓ : Loc Cert.GatingIdeal.nD Cert.GatingIdeal.τ Cert.GatingIdeal.sig) → Buf (Elt Ideal) ℓ) : Prop :=
  True

def Pre_GatingRefIdeal (m : (ℓ : Loc Cert.GatingRefIdeal.nD Cert.GatingRefIdeal.τ Cert.GatingRefIdeal.sig) → Buf (Elt Ideal) ℓ) : Prop :=
  True

def Pre_Fourier (m : (ℓ : Loc Cert.Fourier.nD Cert.Fourier.τ Cert.Fourier.sig) → Buf (Elt Bits) ℓ) : Prop :=
  True

def Pre_FourierIdeal (m : (ℓ : Loc Cert.FourierIdeal.nD Cert.FourierIdeal.τ Cert.FourierIdeal.sig) → Buf (Elt Ideal) ℓ) : Prop :=
  True

def Pre_FourierRefIdeal (m : (ℓ : Loc Cert.FourierRefIdeal.nD Cert.FourierRefIdeal.τ Cert.FourierRefIdeal.sig) → Buf (Elt Ideal) ℓ) : Prop :=
  True

def Pre_Twiddle (m : (ℓ : Loc Cert.Twiddle.nD Cert.Twiddle.τ Cert.Twiddle.sig) → Buf (Elt Bits) ℓ) : Prop :=
  True

def Pre_TwiddleIdeal (m : (ℓ : Loc Cert.TwiddleIdeal.nD Cert.TwiddleIdeal.τ Cert.TwiddleIdeal.sig) → Buf (Elt Ideal) ℓ) : Prop :=
  True

def Pre_TwiddleRefIdeal (m : (ℓ : Loc Cert.TwiddleRefIdeal.nD Cert.TwiddleRefIdeal.τ Cert.TwiddleRefIdeal.sig) → Buf (Elt Ideal) ℓ) : Prop :=
  True

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionIdeal_pre_finite [hAttentionIdeal : Cert.AttentionIdeal.Facts] [hPre_finite : Cert.Pre_finite.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2))
      ∧ r.2.sem = fun _ => 0)

def quiescent_AttentionRefIdeal_pre_finite [hAttentionRefIdeal : Cert.AttentionRefIdeal.Facts] [hPre_finite : Cert.Pre_finite.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal_finite m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_MixFfn [hMixFfn : Cert.MixFfn.Facts] : Prop :=
  ∀ (m : (ℓ : Loc Cert.MixFfn.nD Cert.MixFfn.τ Cert.MixFfn.sig) → Buf (Elt Bits) ℓ) (g : Dev Cert.MixFfn.nD → PrngReg), Pre_MixFfn m →
    θ_run (Cert.MixFfn.defs (F := Bits)) (onTc (τ := Cert.MixFfn.τ) (Cert.MixFfn.main (F := Bits))) ⟨m, fun _ => 0, g⟩ (fun r => (∀ c : Dev Cert.MixFfn.nD,
      r.2.mem ((c.tc : Thread Cert.MixFfn.nD Cert.MixFfn.τ).loc Cert.MixFfn.main_arg0) = m ((c.tc : Thread Cert.MixFfn.nD Cert.MixFfn.τ).loc Cert.MixFfn.main_arg0)
      ∧ r.2.mem ((c.tc : Thread Cert.MixFfn.nD Cert.MixFfn.τ).loc Cert.MixFfn.main_arg1) = m ((c.tc : Thread Cert.MixFfn.nD Cert.MixFfn.τ).loc Cert.MixFfn.main_arg1)
      ∧ r.2.mem ((c.tc : Thread Cert.MixFfn.nD Cert.MixFfn.τ).loc Cert.MixFfn.main_arg2) = m ((c.tc : Thread Cert.MixFfn.nD Cert.MixFfn.τ).loc Cert.MixFfn.main_arg2)
      ∧ r.2.mem ((c.tc : Thread Cert.MixFfn.nD Cert.MixFfn.τ).loc Cert.MixFfn.main_arg3) = m ((c.tc : Thread Cert.MixFfn.nD Cert.MixFfn.τ).loc Cert.MixFfn.main_arg3)
      ∧ r.2.mem ((c.tc : Thread Cert.MixFfn.nD Cert.MixFfn.τ).loc Cert.MixFfn.main_arg4) = m ((c.tc : Thread Cert.MixFfn.nD Cert.MixFfn.τ).loc Cert.MixFfn.main_arg4)
      ∧ r.2.mem ((c.tc : Thread Cert.MixFfn.nD Cert.MixFfn.τ).loc Cert.MixFfn.main_arg5) = m ((c.tc : Thread Cert.MixFfn.nD Cert.MixFfn.τ).loc Cert.MixFfn.main_arg5)
      ∧ r.2.mem ((c.tc : Thread Cert.MixFfn.nD Cert.MixFfn.τ).loc Cert.MixFfn.main_arg6) = m ((c.tc : Thread Cert.MixFfn.nD Cert.MixFfn.τ).loc Cert.MixFfn.main_arg6)
      ∧ r.2.mem ((c.tc : Thread Cert.MixFfn.nD Cert.MixFfn.τ).loc Cert.MixFfn.main_arg7) = m ((c.tc : Thread Cert.MixFfn.nD Cert.MixFfn.τ).loc Cert.MixFfn.main_arg7))
      ∧ r.2.sem = fun _ => 0)

def quiescent_MixFfnIdeal [hMixFfnIdeal : Cert.MixFfnIdeal.Facts] : Prop :=
  ∀ (m : (ℓ : Loc Cert.MixFfnIdeal.nD Cert.MixFfnIdeal.τ Cert.MixFfnIdeal.sig) → Buf (Elt Ideal) ℓ) (g : Dev Cert.MixFfnIdeal.nD → PrngReg), Pre_MixFfnIdeal m →
    θ_run (Cert.MixFfnIdeal.defs (F := Ideal)) (onTc (τ := Cert.MixFfnIdeal.τ) (Cert.MixFfnIdeal.main (F := Ideal))) ⟨m, fun _ => 0, g⟩ (fun r => (∀ c : Dev Cert.MixFfnIdeal.nD,
      r.2.mem ((c.tc : Thread Cert.MixFfnIdeal.nD Cert.MixFfnIdeal.τ).loc Cert.MixFfnIdeal.main_arg0) = m ((c.tc : Thread Cert.MixFfnIdeal.nD Cert.MixFfnIdeal.τ).loc Cert.MixFfnIdeal.main_arg0)
      ∧ r.2.mem ((c.tc : Thread Cert.MixFfnIdeal.nD Cert.MixFfnIdeal.τ).loc Cert.MixFfnIdeal.main_arg1) = m ((c.tc : Thread Cert.MixFfnIdeal.nD Cert.MixFfnIdeal.τ).loc Cert.MixFfnIdeal.main_arg1)
      ∧ r.2.mem ((c.tc : Thread Cert.MixFfnIdeal.nD Cert.MixFfnIdeal.τ).loc Cert.MixFfnIdeal.main_arg2) = m ((c.tc : Thread Cert.MixFfnIdeal.nD Cert.MixFfnIdeal.τ).loc Cert.MixFfnIdeal.main_arg2)
      ∧ r.2.mem ((c.tc : Thread Cert.MixFfnIdeal.nD Cert.MixFfnIdeal.τ).loc Cert.MixFfnIdeal.main_arg3) = m ((c.tc : Thread Cert.MixFfnIdeal.nD Cert.MixFfnIdeal.τ).loc Cert.MixFfnIdeal.main_arg3)
      ∧ r.2.mem ((c.tc : Thread Cert.MixFfnIdeal.nD Cert.MixFfnIdeal.τ).loc Cert.MixFfnIdeal.main_arg4) = m ((c.tc : Thread Cert.MixFfnIdeal.nD Cert.MixFfnIdeal.τ).loc Cert.MixFfnIdeal.main_arg4)
      ∧ r.2.mem ((c.tc : Thread Cert.MixFfnIdeal.nD Cert.MixFfnIdeal.τ).loc Cert.MixFfnIdeal.main_arg5) = m ((c.tc : Thread Cert.MixFfnIdeal.nD Cert.MixFfnIdeal.τ).loc Cert.MixFfnIdeal.main_arg5)
      ∧ r.2.mem ((c.tc : Thread Cert.MixFfnIdeal.nD Cert.MixFfnIdeal.τ).loc Cert.MixFfnIdeal.main_arg6) = m ((c.tc : Thread Cert.MixFfnIdeal.nD Cert.MixFfnIdeal.τ).loc Cert.MixFfnIdeal.main_arg6)
      ∧ r.2.mem ((c.tc : Thread Cert.MixFfnIdeal.nD Cert.MixFfnIdeal.τ).loc Cert.MixFfnIdeal.main_arg7) = m ((c.tc : Thread Cert.MixFfnIdeal.nD Cert.MixFfnIdeal.τ).loc Cert.MixFfnIdeal.main_arg7))
      ∧ r.2.sem = fun _ => 0)

def quiescent_MixFfnRefIdeal [hMixFfnRefIdeal : Cert.MixFfnRefIdeal.Facts] : Prop :=
  ∀ (m : (ℓ : Loc Cert.MixFfnRefIdeal.nD Cert.MixFfnRefIdeal.τ Cert.MixFfnRefIdeal.sig) → Buf (Elt Ideal) ℓ) (g : Dev Cert.MixFfnRefIdeal.nD → PrngReg), Pre_MixFfnRefIdeal m →
    θ_run (Cert.MixFfnRefIdeal.defs (F := Ideal)) (onTc (τ := Cert.MixFfnRefIdeal.τ) (Cert.MixFfnRefIdeal.main (F := Ideal))) ⟨m, fun _ => 0, g⟩ (fun r => (∀ c : Dev Cert.MixFfnRefIdeal.nD,
      r.2.mem ((c.tc : Thread Cert.MixFfnRefIdeal.nD Cert.MixFfnRefIdeal.τ).loc Cert.MixFfnRefIdeal.main_arg0) = m ((c.tc : Thread Cert.MixFfnRefIdeal.nD Cert.MixFfnRefIdeal.τ).loc Cert.MixFfnRefIdeal.main_arg0)
      ∧ r.2.mem ((c.tc : Thread Cert.MixFfnRefIdeal.nD Cert.MixFfnRefIdeal.τ).loc Cert.MixFfnRefIdeal.main_arg1) = m ((c.tc : Thread Cert.MixFfnRefIdeal.nD Cert.MixFfnRefIdeal.τ).loc Cert.MixFfnRefIdeal.main_arg1)
      ∧ r.2.mem ((c.tc : Thread Cert.MixFfnRefIdeal.nD Cert.MixFfnRefIdeal.τ).loc Cert.MixFfnRefIdeal.main_arg2) = m ((c.tc : Thread Cert.MixFfnRefIdeal.nD Cert.MixFfnRefIdeal.τ).loc Cert.MixFfnRefIdeal.main_arg2)
      ∧ r.2.mem ((c.tc : Thread Cert.MixFfnRefIdeal.nD Cert.MixFfnRefIdeal.τ).loc Cert.MixFfnRefIdeal.main_arg3) = m ((c.tc : Thread Cert.MixFfnRefIdeal.nD Cert.MixFfnRefIdeal.τ).loc Cert.MixFfnRefIdeal.main_arg3)
      ∧ r.2.mem ((c.tc : Thread Cert.MixFfnRefIdeal.nD Cert.MixFfnRefIdeal.τ).loc Cert.MixFfnRefIdeal.main_arg4) = m ((c.tc : Thread Cert.MixFfnRefIdeal.nD Cert.MixFfnRefIdeal.τ).loc Cert.MixFfnRefIdeal.main_arg4)
      ∧ r.2.mem ((c.tc : Thread Cert.MixFfnRefIdeal.nD Cert.MixFfnRefIdeal.τ).loc Cert.MixFfnRefIdeal.main_arg5) = m ((c.tc : Thread Cert.MixFfnRefIdeal.nD Cert.MixFfnRefIdeal.τ).loc Cert.MixFfnRefIdeal.main_arg5)
      ∧ r.2.mem ((c.tc : Thread Cert.MixFfnRefIdeal.nD Cert.MixFfnRefIdeal.τ).loc Cert.MixFfnRefIdeal.main_arg6) = m ((c.tc : Thread Cert.MixFfnRefIdeal.nD Cert.MixFfnRefIdeal.τ).loc Cert.MixFfnRefIdeal.main_arg6)
      ∧ r.2.mem ((c.tc : Thread Cert.MixFfnRefIdeal.nD Cert.MixFfnRefIdeal.τ).loc Cert.MixFfnRefIdeal.main_arg7) = m ((c.tc : Thread Cert.MixFfnRefIdeal.nD Cert.MixFfnRefIdeal.τ).loc Cert.MixFfnRefIdeal.main_arg7))
      ∧ r.2.sem = fun _ => 0)

def quiescent_OutFfn [hOutFfn : Cert.OutFfn.Facts] : Prop :=
  ∀ (m : (ℓ : Loc Cert.OutFfn.nD Cert.OutFfn.τ Cert.OutFfn.sig) → Buf (Elt Bits) ℓ) (g : Dev Cert.OutFfn.nD → PrngReg), Pre_OutFfn m →
    θ_run (Cert.OutFfn.defs (F := Bits)) (onTc (τ := Cert.OutFfn.τ) (Cert.OutFfn.main (F := Bits))) ⟨m, fun _ => 0, g⟩ (fun r => (∀ c : Dev Cert.OutFfn.nD,
      r.2.mem ((c.tc : Thread Cert.OutFfn.nD Cert.OutFfn.τ).loc Cert.OutFfn.main_arg0) = m ((c.tc : Thread Cert.OutFfn.nD Cert.OutFfn.τ).loc Cert.OutFfn.main_arg0)
      ∧ r.2.mem ((c.tc : Thread Cert.OutFfn.nD Cert.OutFfn.τ).loc Cert.OutFfn.main_arg1) = m ((c.tc : Thread Cert.OutFfn.nD Cert.OutFfn.τ).loc Cert.OutFfn.main_arg1)
      ∧ r.2.mem ((c.tc : Thread Cert.OutFfn.nD Cert.OutFfn.τ).loc Cert.OutFfn.main_arg2) = m ((c.tc : Thread Cert.OutFfn.nD Cert.OutFfn.τ).loc Cert.OutFfn.main_arg2)
      ∧ r.2.mem ((c.tc : Thread Cert.OutFfn.nD Cert.OutFfn.τ).loc Cert.OutFfn.main_arg3) = m ((c.tc : Thread Cert.OutFfn.nD Cert.OutFfn.τ).loc Cert.OutFfn.main_arg3)
      ∧ r.2.mem ((c.tc : Thread Cert.OutFfn.nD Cert.OutFfn.τ).loc Cert.OutFfn.main_arg4) = m ((c.tc : Thread Cert.OutFfn.nD Cert.OutFfn.τ).loc Cert.OutFfn.main_arg4)
      ∧ r.2.mem ((c.tc : Thread Cert.OutFfn.nD Cert.OutFfn.τ).loc Cert.OutFfn.main_arg5) = m ((c.tc : Thread Cert.OutFfn.nD Cert.OutFfn.τ).loc Cert.OutFfn.main_arg5)
      ∧ r.2.mem ((c.tc : Thread Cert.OutFfn.nD Cert.OutFfn.τ).loc Cert.OutFfn.main_arg6) = m ((c.tc : Thread Cert.OutFfn.nD Cert.OutFfn.τ).loc Cert.OutFfn.main_arg6)
      ∧ r.2.mem ((c.tc : Thread Cert.OutFfn.nD Cert.OutFfn.τ).loc Cert.OutFfn.main_arg7) = m ((c.tc : Thread Cert.OutFfn.nD Cert.OutFfn.τ).loc Cert.OutFfn.main_arg7))
      ∧ r.2.sem = fun _ => 0)

def quiescent_OutFfnIdeal [hOutFfnIdeal : Cert.OutFfnIdeal.Facts] : Prop :=
  ∀ (m : (ℓ : Loc Cert.OutFfnIdeal.nD Cert.OutFfnIdeal.τ Cert.OutFfnIdeal.sig) → Buf (Elt Ideal) ℓ) (g : Dev Cert.OutFfnIdeal.nD → PrngReg), Pre_OutFfnIdeal m →
    θ_run (Cert.OutFfnIdeal.defs (F := Ideal)) (onTc (τ := Cert.OutFfnIdeal.τ) (Cert.OutFfnIdeal.main (F := Ideal))) ⟨m, fun _ => 0, g⟩ (fun r => (∀ c : Dev Cert.OutFfnIdeal.nD,
      r.2.mem ((c.tc : Thread Cert.OutFfnIdeal.nD Cert.OutFfnIdeal.τ).loc Cert.OutFfnIdeal.main_arg0) = m ((c.tc : Thread Cert.OutFfnIdeal.nD Cert.OutFfnIdeal.τ).loc Cert.OutFfnIdeal.main_arg0)
      ∧ r.2.mem ((c.tc : Thread Cert.OutFfnIdeal.nD Cert.OutFfnIdeal.τ).loc Cert.OutFfnIdeal.main_arg1) = m ((c.tc : Thread Cert.OutFfnIdeal.nD Cert.OutFfnIdeal.τ).loc Cert.OutFfnIdeal.main_arg1)
      ∧ r.2.mem ((c.tc : Thread Cert.OutFfnIdeal.nD Cert.OutFfnIdeal.τ).loc Cert.OutFfnIdeal.main_arg2) = m ((c.tc : Thread Cert.OutFfnIdeal.nD Cert.OutFfnIdeal.τ).loc Cert.OutFfnIdeal.main_arg2)
      ∧ r.2.mem ((c.tc : Thread Cert.OutFfnIdeal.nD Cert.OutFfnIdeal.τ).loc Cert.OutFfnIdeal.main_arg3) = m ((c.tc : Thread Cert.OutFfnIdeal.nD Cert.OutFfnIdeal.τ).loc Cert.OutFfnIdeal.main_arg3)
      ∧ r.2.mem ((c.tc : Thread Cert.OutFfnIdeal.nD Cert.OutFfnIdeal.τ).loc Cert.OutFfnIdeal.main_arg4) = m ((c.tc : Thread Cert.OutFfnIdeal.nD Cert.OutFfnIdeal.τ).loc Cert.OutFfnIdeal.main_arg4)
      ∧ r.2.mem ((c.tc : Thread Cert.OutFfnIdeal.nD Cert.OutFfnIdeal.τ).loc Cert.OutFfnIdeal.main_arg5) = m ((c.tc : Thread Cert.OutFfnIdeal.nD Cert.OutFfnIdeal.τ).loc Cert.OutFfnIdeal.main_arg5)
      ∧ r.2.mem ((c.tc : Thread Cert.OutFfnIdeal.nD Cert.OutFfnIdeal.τ).loc Cert.OutFfnIdeal.main_arg6) = m ((c.tc : Thread Cert.OutFfnIdeal.nD Cert.OutFfnIdeal.τ).loc Cert.OutFfnIdeal.main_arg6)
      ∧ r.2.mem ((c.tc : Thread Cert.OutFfnIdeal.nD Cert.OutFfnIdeal.τ).loc Cert.OutFfnIdeal.main_arg7) = m ((c.tc : Thread Cert.OutFfnIdeal.nD Cert.OutFfnIdeal.τ).loc Cert.OutFfnIdeal.main_arg7))
      ∧ r.2.sem = fun _ => 0)

def quiescent_OutFfnRefIdeal [hOutFfnRefIdeal : Cert.OutFfnRefIdeal.Facts] : Prop :=
  ∀ (m : (ℓ : Loc Cert.OutFfnRefIdeal.nD Cert.OutFfnRefIdeal.τ Cert.OutFfnRefIdeal.sig) → Buf (Elt Ideal) ℓ) (g : Dev Cert.OutFfnRefIdeal.nD → PrngReg), Pre_OutFfnRefIdeal m →
    θ_run (Cert.OutFfnRefIdeal.defs (F := Ideal)) (onTc (τ := Cert.OutFfnRefIdeal.τ) (Cert.OutFfnRefIdeal.main (F := Ideal))) ⟨m, fun _ => 0, g⟩ (fun r => (∀ c : Dev Cert.OutFfnRefIdeal.nD,
      r.2.mem ((c.tc : Thread Cert.OutFfnRefIdeal.nD Cert.OutFfnRefIdeal.τ).loc Cert.OutFfnRefIdeal.main_arg0) = m ((c.tc : Thread Cert.OutFfnRefIdeal.nD Cert.OutFfnRefIdeal.τ).loc Cert.OutFfnRefIdeal.main_arg0)
      ∧ r.2.mem ((c.tc : Thread Cert.OutFfnRefIdeal.nD Cert.OutFfnRefIdeal.τ).loc Cert.OutFfnRefIdeal.main_arg1) = m ((c.tc : Thread Cert.OutFfnRefIdeal.nD Cert.OutFfnRefIdeal.τ).loc Cert.OutFfnRefIdeal.main_arg1)
      ∧ r.2.mem ((c.tc : Thread Cert.OutFfnRefIdeal.nD Cert.OutFfnRefIdeal.τ).loc Cert.OutFfnRefIdeal.main_arg2) = m ((c.tc : Thread Cert.OutFfnRefIdeal.nD Cert.OutFfnRefIdeal.τ).loc Cert.OutFfnRefIdeal.main_arg2)
      ∧ r.2.mem ((c.tc : Thread Cert.OutFfnRefIdeal.nD Cert.OutFfnRefIdeal.τ).loc Cert.OutFfnRefIdeal.main_arg3) = m ((c.tc : Thread Cert.OutFfnRefIdeal.nD Cert.OutFfnRefIdeal.τ).loc Cert.OutFfnRefIdeal.main_arg3)
      ∧ r.2.mem ((c.tc : Thread Cert.OutFfnRefIdeal.nD Cert.OutFfnRefIdeal.τ).loc Cert.OutFfnRefIdeal.main_arg4) = m ((c.tc : Thread Cert.OutFfnRefIdeal.nD Cert.OutFfnRefIdeal.τ).loc Cert.OutFfnRefIdeal.main_arg4)
      ∧ r.2.mem ((c.tc : Thread Cert.OutFfnRefIdeal.nD Cert.OutFfnRefIdeal.τ).loc Cert.OutFfnRefIdeal.main_arg5) = m ((c.tc : Thread Cert.OutFfnRefIdeal.nD Cert.OutFfnRefIdeal.τ).loc Cert.OutFfnRefIdeal.main_arg5)
      ∧ r.2.mem ((c.tc : Thread Cert.OutFfnRefIdeal.nD Cert.OutFfnRefIdeal.τ).loc Cert.OutFfnRefIdeal.main_arg6) = m ((c.tc : Thread Cert.OutFfnRefIdeal.nD Cert.OutFfnRefIdeal.τ).loc Cert.OutFfnRefIdeal.main_arg6)
      ∧ r.2.mem ((c.tc : Thread Cert.OutFfnRefIdeal.nD Cert.OutFfnRefIdeal.τ).loc Cert.OutFfnRefIdeal.main_arg7) = m ((c.tc : Thread Cert.OutFfnRefIdeal.nD Cert.OutFfnRefIdeal.τ).loc Cert.OutFfnRefIdeal.main_arg7))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6))
      ∧ r.2.sem = fun _ => 0)

def quiescent_Gating [hGating : Cert.Gating.Facts] : Prop :=
  ∀ (m : (ℓ : Loc Cert.Gating.nD Cert.Gating.τ Cert.Gating.sig) → Buf (Elt Bits) ℓ) (g : Dev Cert.Gating.nD → PrngReg), Pre_Gating m →
    θ_run (Cert.Gating.defs (F := Bits)) (onTc (τ := Cert.Gating.τ) (Cert.Gating.main (F := Bits))) ⟨m, fun _ => 0, g⟩ (fun r => (∀ c : Dev Cert.Gating.nD,
      r.2.mem ((c.tc : Thread Cert.Gating.nD Cert.Gating.τ).loc Cert.Gating.main_arg0) = m ((c.tc : Thread Cert.Gating.nD Cert.Gating.τ).loc Cert.Gating.main_arg0)
      ∧ r.2.mem ((c.tc : Thread Cert.Gating.nD Cert.Gating.τ).loc Cert.Gating.main_arg1) = m ((c.tc : Thread Cert.Gating.nD Cert.Gating.τ).loc Cert.Gating.main_arg1)
      ∧ r.2.mem ((c.tc : Thread Cert.Gating.nD Cert.Gating.τ).loc Cert.Gating.main_arg2) = m ((c.tc : Thread Cert.Gating.nD Cert.Gating.τ).loc Cert.Gating.main_arg2)
      ∧ r.2.mem ((c.tc : Thread Cert.Gating.nD Cert.Gating.τ).loc Cert.Gating.main_arg3) = m ((c.tc : Thread Cert.Gating.nD Cert.Gating.τ).loc Cert.Gating.main_arg3)
      ∧ r.2.mem ((c.tc : Thread Cert.Gating.nD Cert.Gating.τ).loc Cert.Gating.main_arg4) = m ((c.tc : Thread Cert.Gating.nD Cert.Gating.τ).loc Cert.Gating.main_arg4)
      ∧ r.2.mem ((c.tc : Thread Cert.Gating.nD Cert.Gating.τ).loc Cert.Gating.main_arg5) = m ((c.tc : Thread Cert.Gating.nD Cert.Gating.τ).loc Cert.Gating.main_arg5)
      ∧ r.2.mem ((c.tc : Thread Cert.Gating.nD Cert.Gating.τ).loc Cert.Gating.main_arg6) = m ((c.tc : Thread Cert.Gating.nD Cert.Gating.τ).loc Cert.Gating.main_arg6))
      ∧ r.2.sem = fun _ => 0)

def quiescent_GatingIdeal [hGatingIdeal : Cert.GatingIdeal.Facts] : Prop :=
  ∀ (m : (ℓ : Loc Cert.GatingIdeal.nD Cert.GatingIdeal.τ Cert.GatingIdeal.sig) → Buf (Elt Ideal) ℓ) (g : Dev Cert.GatingIdeal.nD → PrngReg), Pre_GatingIdeal m →
    θ_run (Cert.GatingIdeal.defs (F := Ideal)) (onTc (τ := Cert.GatingIdeal.τ) (Cert.GatingIdeal.main (F := Ideal))) ⟨m, fun _ => 0, g⟩ (fun r => (∀ c : Dev Cert.GatingIdeal.nD,
      r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
      ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
      ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
      ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
      ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4)
      ∧ r.2.mem ((c.tc : Thread Cert.GatingIdeal.nD Cert.GatingIdeal.τ).loc Cert.GatingIdeal.main_arg5) = m ((c.tc : Thread Cert.GatingIdeal.nD Cert.GatingIdeal.τ).loc Cert.GatingIdeal.main_arg5)
      ∧ r.2.mem ((c.tc : Thread Cert.GatingIdeal.nD Cert.GatingIdeal.τ).loc Cert.GatingIdeal.main_arg6) = m ((c.tc : Thread Cert.GatingIdeal.nD Cert.GatingIdeal.τ).loc Cert.GatingIdeal.main_arg6))
      ∧ r.2.sem = fun _ => 0)

def quiescent_GatingRefIdeal [hGatingRefIdeal : Cert.GatingRefIdeal.Facts] : Prop :=
  ∀ (m : (ℓ : Loc Cert.GatingRefIdeal.nD Cert.GatingRefIdeal.τ Cert.GatingRefIdeal.sig) → Buf (Elt Ideal) ℓ) (g : Dev Cert.GatingRefIdeal.nD → PrngReg), Pre_GatingRefIdeal m →
    θ_run (Cert.GatingRefIdeal.defs (F := Ideal)) (onTc (τ := Cert.GatingRefIdeal.τ) (Cert.GatingRefIdeal.main (F := Ideal))) ⟨m, fun _ => 0, g⟩ (fun r => (∀ c : Dev Cert.GatingRefIdeal.nD,
      r.2.mem ((c.tc : Thread Cert.GatingRefIdeal.nD Cert.GatingRefIdeal.τ).loc Cert.GatingRefIdeal.main_arg0) = m ((c.tc : Thread Cert.GatingRefIdeal.nD Cert.GatingRefIdeal.τ).loc Cert.GatingRefIdeal.main_arg0)
      ∧ r.2.mem ((c.tc : Thread Cert.GatingRefIdeal.nD Cert.GatingRefIdeal.τ).loc Cert.GatingRefIdeal.main_arg1) = m ((c.tc : Thread Cert.GatingRefIdeal.nD Cert.GatingRefIdeal.τ).loc Cert.GatingRefIdeal.main_arg1)
      ∧ r.2.mem ((c.tc : Thread Cert.GatingRefIdeal.nD Cert.GatingRefIdeal.τ).loc Cert.GatingRefIdeal.main_arg2) = m ((c.tc : Thread Cert.GatingRefIdeal.nD Cert.GatingRefIdeal.τ).loc Cert.GatingRefIdeal.main_arg2)
      ∧ r.2.mem ((c.tc : Thread Cert.GatingRefIdeal.nD Cert.GatingRefIdeal.τ).loc Cert.GatingRefIdeal.main_arg3) = m ((c.tc : Thread Cert.GatingRefIdeal.nD Cert.GatingRefIdeal.τ).loc Cert.GatingRefIdeal.main_arg3)
      ∧ r.2.mem ((c.tc : Thread Cert.GatingRefIdeal.nD Cert.GatingRefIdeal.τ).loc Cert.GatingRefIdeal.main_arg4) = m ((c.tc : Thread Cert.GatingRefIdeal.nD Cert.GatingRefIdeal.τ).loc Cert.GatingRefIdeal.main_arg4)
      ∧ r.2.mem ((c.tc : Thread Cert.GatingRefIdeal.nD Cert.GatingRefIdeal.τ).loc Cert.GatingRefIdeal.main_arg5) = m ((c.tc : Thread Cert.GatingRefIdeal.nD Cert.GatingRefIdeal.τ).loc Cert.GatingRefIdeal.main_arg5)
      ∧ r.2.mem ((c.tc : Thread Cert.GatingRefIdeal.nD Cert.GatingRefIdeal.τ).loc Cert.GatingRefIdeal.main_arg6) = m ((c.tc : Thread Cert.GatingRefIdeal.nD Cert.GatingRefIdeal.τ).loc Cert.GatingRefIdeal.main_arg6))
      ∧ r.2.sem = fun _ => 0)

def quiescent_Fourier [hFourier : Cert.Fourier.Facts] : Prop :=
  ∀ (m : (ℓ : Loc Cert.Fourier.nD Cert.Fourier.τ Cert.Fourier.sig) → Buf (Elt Bits) ℓ) (g : Dev Cert.Fourier.nD → PrngReg), Pre_Fourier m →
    θ_run (Cert.Fourier.defs (F := Bits)) (onTc (τ := Cert.Fourier.τ) (Cert.Fourier.main (F := Bits))) ⟨m, fun _ => 0, g⟩ (fun r => (∀ c : Dev Cert.Fourier.nD,
      r.2.mem ((c.tc : Thread Cert.Fourier.nD Cert.Fourier.τ).loc Cert.Fourier.main_arg0) = m ((c.tc : Thread Cert.Fourier.nD Cert.Fourier.τ).loc Cert.Fourier.main_arg0)
      ∧ r.2.mem ((c.tc : Thread Cert.Fourier.nD Cert.Fourier.τ).loc Cert.Fourier.main_arg1) = m ((c.tc : Thread Cert.Fourier.nD Cert.Fourier.τ).loc Cert.Fourier.main_arg1)
      ∧ r.2.mem ((c.tc : Thread Cert.Fourier.nD Cert.Fourier.τ).loc Cert.Fourier.main_arg2) = m ((c.tc : Thread Cert.Fourier.nD Cert.Fourier.τ).loc Cert.Fourier.main_arg2))
      ∧ r.2.sem = fun _ => 0)

def quiescent_FourierIdeal [hFourierIdeal : Cert.FourierIdeal.Facts] : Prop :=
  ∀ (m : (ℓ : Loc Cert.FourierIdeal.nD Cert.FourierIdeal.τ Cert.FourierIdeal.sig) → Buf (Elt Ideal) ℓ) (g : Dev Cert.FourierIdeal.nD → PrngReg), Pre_FourierIdeal m →
    θ_run (Cert.FourierIdeal.defs (F := Ideal)) (onTc (τ := Cert.FourierIdeal.τ) (Cert.FourierIdeal.main (F := Ideal))) ⟨m, fun _ => 0, g⟩ (fun r => (∀ c : Dev Cert.FourierIdeal.nD,
      r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
      ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1)
      ∧ r.2.mem ((c.tc : Thread Cert.FourierIdeal.nD Cert.FourierIdeal.τ).loc Cert.FourierIdeal.main_arg2) = m ((c.tc : Thread Cert.FourierIdeal.nD Cert.FourierIdeal.τ).loc Cert.FourierIdeal.main_arg2))
      ∧ r.2.sem = fun _ => 0)

def quiescent_FourierRefIdeal [hFourierRefIdeal : Cert.FourierRefIdeal.Facts] : Prop :=
  ∀ (m : (ℓ : Loc Cert.FourierRefIdeal.nD Cert.FourierRefIdeal.τ Cert.FourierRefIdeal.sig) → Buf (Elt Ideal) ℓ) (g : Dev Cert.FourierRefIdeal.nD → PrngReg), Pre_FourierRefIdeal m →
    θ_run (Cert.FourierRefIdeal.defs (F := Ideal)) (onTc (τ := Cert.FourierRefIdeal.τ) (Cert.FourierRefIdeal.main (F := Ideal))) ⟨m, fun _ => 0, g⟩ (fun r => (∀ c : Dev Cert.FourierRefIdeal.nD,
      r.2.mem ((c.tc : Thread Cert.FourierRefIdeal.nD Cert.FourierRefIdeal.τ).loc Cert.FourierRefIdeal.main_arg0) = m ((c.tc : Thread Cert.FourierRefIdeal.nD Cert.FourierRefIdeal.τ).loc Cert.FourierRefIdeal.main_arg0)
      ∧ r.2.mem ((c.tc : Thread Cert.FourierRefIdeal.nD Cert.FourierRefIdeal.τ).loc Cert.FourierRefIdeal.main_arg1) = m ((c.tc : Thread Cert.FourierRefIdeal.nD Cert.FourierRefIdeal.τ).loc Cert.FourierRefIdeal.main_arg1)
      ∧ r.2.mem ((c.tc : Thread Cert.FourierRefIdeal.nD Cert.FourierRefIdeal.τ).loc Cert.FourierRefIdeal.main_arg2) = m ((c.tc : Thread Cert.FourierRefIdeal.nD Cert.FourierRefIdeal.τ).loc Cert.FourierRefIdeal.main_arg2))
      ∧ r.2.sem = fun _ => 0)

def quiescent_Twiddle [hTwiddle : Cert.Twiddle.Facts] : Prop :=
  ∀ (m : (ℓ : Loc Cert.Twiddle.nD Cert.Twiddle.τ Cert.Twiddle.sig) → Buf (Elt Bits) ℓ) (g : Dev Cert.Twiddle.nD → PrngReg), Pre_Twiddle m →
    θ_run (Cert.Twiddle.defs (F := Bits)) (onTc (τ := Cert.Twiddle.τ) (Cert.Twiddle.main (F := Bits))) ⟨m, fun _ => 0, g⟩ (fun r => (∀ c : Dev Cert.Twiddle.nD,
      r.2.mem ((c.tc : Thread Cert.Twiddle.nD Cert.Twiddle.τ).loc Cert.Twiddle.main_arg0) = m ((c.tc : Thread Cert.Twiddle.nD Cert.Twiddle.τ).loc Cert.Twiddle.main_arg0)
      ∧ r.2.mem ((c.tc : Thread Cert.Twiddle.nD Cert.Twiddle.τ).loc Cert.Twiddle.main_arg1) = m ((c.tc : Thread Cert.Twiddle.nD Cert.Twiddle.τ).loc Cert.Twiddle.main_arg1)
      ∧ r.2.mem ((c.tc : Thread Cert.Twiddle.nD Cert.Twiddle.τ).loc Cert.Twiddle.main_arg2) = m ((c.tc : Thread Cert.Twiddle.nD Cert.Twiddle.τ).loc Cert.Twiddle.main_arg2))
      ∧ r.2.sem = fun _ => 0)

def quiescent_TwiddleIdeal [hTwiddleIdeal : Cert.TwiddleIdeal.Facts] : Prop :=
  ∀ (m : (ℓ : Loc Cert.TwiddleIdeal.nD Cert.TwiddleIdeal.τ Cert.TwiddleIdeal.sig) → Buf (Elt Ideal) ℓ) (g : Dev Cert.TwiddleIdeal.nD → PrngReg), Pre_TwiddleIdeal m →
    θ_run (Cert.TwiddleIdeal.defs (F := Ideal)) (onTc (τ := Cert.TwiddleIdeal.τ) (Cert.TwiddleIdeal.main (F := Ideal))) ⟨m, fun _ => 0, g⟩ (fun r => (∀ c : Dev Cert.TwiddleIdeal.nD,
      r.2.mem ((c.tc : Thread Cert.TwiddleIdeal.nD Cert.TwiddleIdeal.τ).loc Cert.TwiddleIdeal.main_arg0) = m ((c.tc : Thread Cert.TwiddleIdeal.nD Cert.TwiddleIdeal.τ).loc Cert.TwiddleIdeal.main_arg0)
      ∧ r.2.mem ((c.tc : Thread Cert.TwiddleIdeal.nD Cert.TwiddleIdeal.τ).loc Cert.TwiddleIdeal.main_arg1) = m ((c.tc : Thread Cert.TwiddleIdeal.nD Cert.TwiddleIdeal.τ).loc Cert.TwiddleIdeal.main_arg1)
      ∧ r.2.mem ((c.tc : Thread Cert.TwiddleIdeal.nD Cert.TwiddleIdeal.τ).loc Cert.TwiddleIdeal.main_arg2) = m ((c.tc : Thread Cert.TwiddleIdeal.nD Cert.TwiddleIdeal.τ).loc Cert.TwiddleIdeal.main_arg2))
      ∧ r.2.sem = fun _ => 0)

def quiescent_TwiddleRefIdeal [hTwiddleRefIdeal : Cert.TwiddleRefIdeal.Facts] : Prop :=
  ∀ (m : (ℓ : Loc Cert.TwiddleRefIdeal.nD Cert.TwiddleRefIdeal.τ Cert.TwiddleRefIdeal.sig) → Buf (Elt Ideal) ℓ) (g : Dev Cert.TwiddleRefIdeal.nD → PrngReg), Pre_TwiddleRefIdeal m →
    θ_run (Cert.TwiddleRefIdeal.defs (F := Ideal)) (onTc (τ := Cert.TwiddleRefIdeal.τ) (Cert.TwiddleRefIdeal.main (F := Ideal))) ⟨m, fun _ => 0, g⟩ (fun r => (∀ c : Dev Cert.TwiddleRefIdeal.nD,
      r.2.mem ((c.tc : Thread Cert.TwiddleRefIdeal.nD Cert.TwiddleRefIdeal.τ).loc Cert.TwiddleRefIdeal.main_arg0) = m ((c.tc : Thread Cert.TwiddleRefIdeal.nD Cert.TwiddleRefIdeal.τ).loc Cert.TwiddleRefIdeal.main_arg0)
      ∧ r.2.mem ((c.tc : Thread Cert.TwiddleRefIdeal.nD Cert.TwiddleRefIdeal.τ).loc Cert.TwiddleRefIdeal.main_arg1) = m ((c.tc : Thread Cert.TwiddleRefIdeal.nD Cert.TwiddleRefIdeal.τ).loc Cert.TwiddleRefIdeal.main_arg1)
      ∧ r.2.mem ((c.tc : Thread Cert.TwiddleRefIdeal.nD Cert.TwiddleRefIdeal.τ).loc Cert.TwiddleRefIdeal.main_arg2) = m ((c.tc : Thread Cert.TwiddleRefIdeal.nD Cert.TwiddleRefIdeal.τ).loc Cert.TwiddleRefIdeal.main_arg2))
      ∧ r.2.sem = fun _ => 0)

def preserves_Attention_AttentionIdeal : Prop :=
  IdealRules.named_const.Statement Cert.AttentionIdeal.κ "log2e" .f32 0x3FB8AA3B#32 (((Real.log 2)⁻¹ : ℝ) : EReal)
  ∧ IdealRules.named_const.Statement Cert.AttentionIdeal.κ "mask" .f32 0xF149F2CA#32 ⊥

def algebraic_AttentionIdeal_AttentionRefIdeal_pre_finite [hAttentionIdeal : Cert.AttentionIdeal.Facts] [hAttentionRefIdeal : Cert.AttentionRefIdeal.Facts] [hPre_finite : Cert.Pre_finite.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal_finite m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)) →
    ∃ (v0 : (c : Dev Cert.AttentionIdeal.nD) → Buf (Elt Ideal) ((c.tc : Thread Cert.AttentionIdeal.nD Cert.AttentionIdeal.τ).loc Cert.AttentionIdeal.main_v7)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v7) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v19) = v0 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1)
          ∧ r.2.mem ((c.tc : Thread Cert.AttentionRefIdeal.nD Cert.AttentionRefIdeal.τ).loc Cert.AttentionRefIdeal.main_arg2) = m' ((c.tc : Thread Cert.AttentionRefIdeal.nD Cert.AttentionRefIdeal.τ).loc Cert.AttentionRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_MixFfn_MixFfnIdeal : Prop :=
  True

def algebraic_MixFfnIdeal_MixFfnRefIdeal [hMixFfnIdeal : Cert.MixFfnIdeal.Facts] [hMixFfnRefIdeal : Cert.MixFfnRefIdeal.Facts] : Prop :=
  ∀ (m : (ℓ : Loc Cert.MixFfnIdeal.nD Cert.MixFfnIdeal.τ Cert.MixFfnIdeal.sig) → Buf (Elt Ideal) ℓ) (g : Dev Cert.MixFfnIdeal.nD → PrngReg)
    (m' : (ℓ : Loc Cert.MixFfnRefIdeal.nD Cert.MixFfnRefIdeal.τ Cert.MixFfnRefIdeal.sig) → Buf (Elt Ideal) ℓ) (g' : Dev Cert.MixFfnRefIdeal.nD → PrngReg), Pre_MixFfnIdeal m →
    (∀ c : Dev Cert.MixFfnIdeal.nD,
      m' ((c.tc : Thread Cert.MixFfnRefIdeal.nD Cert.MixFfnRefIdeal.τ).loc Cert.MixFfnRefIdeal.main_arg0) = m ((c.tc : Thread Cert.MixFfnIdeal.nD Cert.MixFfnIdeal.τ).loc Cert.MixFfnIdeal.main_arg0)
      ∧ m' ((c.tc : Thread Cert.MixFfnRefIdeal.nD Cert.MixFfnRefIdeal.τ).loc Cert.MixFfnRefIdeal.main_arg1) = m ((c.tc : Thread Cert.MixFfnIdeal.nD Cert.MixFfnIdeal.τ).loc Cert.MixFfnIdeal.main_arg1)
      ∧ m' ((c.tc : Thread Cert.MixFfnRefIdeal.nD Cert.MixFfnRefIdeal.τ).loc Cert.MixFfnRefIdeal.main_arg2) = m ((c.tc : Thread Cert.MixFfnIdeal.nD Cert.MixFfnIdeal.τ).loc Cert.MixFfnIdeal.main_arg2)
      ∧ m' ((c.tc : Thread Cert.MixFfnRefIdeal.nD Cert.MixFfnRefIdeal.τ).loc Cert.MixFfnRefIdeal.main_arg3) = m ((c.tc : Thread Cert.MixFfnIdeal.nD Cert.MixFfnIdeal.τ).loc Cert.MixFfnIdeal.main_arg3)
      ∧ m' ((c.tc : Thread Cert.MixFfnRefIdeal.nD Cert.MixFfnRefIdeal.τ).loc Cert.MixFfnRefIdeal.main_arg4) = m ((c.tc : Thread Cert.MixFfnIdeal.nD Cert.MixFfnIdeal.τ).loc Cert.MixFfnIdeal.main_arg4)
      ∧ m' ((c.tc : Thread Cert.MixFfnRefIdeal.nD Cert.MixFfnRefIdeal.τ).loc Cert.MixFfnRefIdeal.main_arg5) = m ((c.tc : Thread Cert.MixFfnIdeal.nD Cert.MixFfnIdeal.τ).loc Cert.MixFfnIdeal.main_arg5)
      ∧ m' ((c.tc : Thread Cert.MixFfnRefIdeal.nD Cert.MixFfnRefIdeal.τ).loc Cert.MixFfnRefIdeal.main_arg6) = m ((c.tc : Thread Cert.MixFfnIdeal.nD Cert.MixFfnIdeal.τ).loc Cert.MixFfnIdeal.main_arg6)
      ∧ m' ((c.tc : Thread Cert.MixFfnRefIdeal.nD Cert.MixFfnRefIdeal.τ).loc Cert.MixFfnRefIdeal.main_arg7) = m ((c.tc : Thread Cert.MixFfnIdeal.nD Cert.MixFfnIdeal.τ).loc Cert.MixFfnIdeal.main_arg7)) →
    ∃ (v0 : (c : Dev Cert.MixFfnIdeal.nD) → Buf (Elt Ideal) ((c.tc : Thread Cert.MixFfnIdeal.nD Cert.MixFfnIdeal.τ).loc Cert.MixFfnIdeal.main_v7)),
      θ_run (Cert.MixFfnIdeal.defs (F := Ideal)) (onTc (τ := Cert.MixFfnIdeal.τ) (Cert.MixFfnIdeal.main (F := Ideal))) ⟨m, fun _ => 0, g⟩ (fun r => ∀ c : Dev Cert.MixFfnIdeal.nD,
          r.2.mem ((c.tc : Thread Cert.MixFfnIdeal.nD Cert.MixFfnIdeal.τ).loc Cert.MixFfnIdeal.main_v7) = v0 c
          ∧ r.2.mem ((c.tc : Thread Cert.MixFfnIdeal.nD Cert.MixFfnIdeal.τ).loc Cert.MixFfnIdeal.main_arg0) = m ((c.tc : Thread Cert.MixFfnIdeal.nD Cert.MixFfnIdeal.τ).loc Cert.MixFfnIdeal.main_arg0)
          ∧ r.2.mem ((c.tc : Thread Cert.MixFfnIdeal.nD Cert.MixFfnIdeal.τ).loc Cert.MixFfnIdeal.main_arg1) = m ((c.tc : Thread Cert.MixFfnIdeal.nD Cert.MixFfnIdeal.τ).loc Cert.MixFfnIdeal.main_arg1)
          ∧ r.2.mem ((c.tc : Thread Cert.MixFfnIdeal.nD Cert.MixFfnIdeal.τ).loc Cert.MixFfnIdeal.main_arg2) = m ((c.tc : Thread Cert.MixFfnIdeal.nD Cert.MixFfnIdeal.τ).loc Cert.MixFfnIdeal.main_arg2)
          ∧ r.2.mem ((c.tc : Thread Cert.MixFfnIdeal.nD Cert.MixFfnIdeal.τ).loc Cert.MixFfnIdeal.main_arg3) = m ((c.tc : Thread Cert.MixFfnIdeal.nD Cert.MixFfnIdeal.τ).loc Cert.MixFfnIdeal.main_arg3)
          ∧ r.2.mem ((c.tc : Thread Cert.MixFfnIdeal.nD Cert.MixFfnIdeal.τ).loc Cert.MixFfnIdeal.main_arg4) = m ((c.tc : Thread Cert.MixFfnIdeal.nD Cert.MixFfnIdeal.τ).loc Cert.MixFfnIdeal.main_arg4)
          ∧ r.2.mem ((c.tc : Thread Cert.MixFfnIdeal.nD Cert.MixFfnIdeal.τ).loc Cert.MixFfnIdeal.main_arg5) = m ((c.tc : Thread Cert.MixFfnIdeal.nD Cert.MixFfnIdeal.τ).loc Cert.MixFfnIdeal.main_arg5)
          ∧ r.2.mem ((c.tc : Thread Cert.MixFfnIdeal.nD Cert.MixFfnIdeal.τ).loc Cert.MixFfnIdeal.main_arg6) = m ((c.tc : Thread Cert.MixFfnIdeal.nD Cert.MixFfnIdeal.τ).loc Cert.MixFfnIdeal.main_arg6)
          ∧ r.2.mem ((c.tc : Thread Cert.MixFfnIdeal.nD Cert.MixFfnIdeal.τ).loc Cert.MixFfnIdeal.main_arg7) = m ((c.tc : Thread Cert.MixFfnIdeal.nD Cert.MixFfnIdeal.τ).loc Cert.MixFfnIdeal.main_arg7))
      ∧ θ_run (Cert.MixFfnRefIdeal.defs (F := Ideal)) (onTc (τ := Cert.MixFfnRefIdeal.τ) (Cert.MixFfnRefIdeal.main (F := Ideal))) ⟨m', fun _ => 0, g'⟩ (fun r => ∀ c : Dev Cert.MixFfnRefIdeal.nD,
          r.2.mem ((c.tc : Thread Cert.MixFfnRefIdeal.nD Cert.MixFfnRefIdeal.τ).loc Cert.MixFfnRefIdeal.main_v25) = v0 c
          ∧ r.2.mem ((c.tc : Thread Cert.MixFfnRefIdeal.nD Cert.MixFfnRefIdeal.τ).loc Cert.MixFfnRefIdeal.main_arg0) = m' ((c.tc : Thread Cert.MixFfnRefIdeal.nD Cert.MixFfnRefIdeal.τ).loc Cert.MixFfnRefIdeal.main_arg0)
          ∧ r.2.mem ((c.tc : Thread Cert.MixFfnRefIdeal.nD Cert.MixFfnRefIdeal.τ).loc Cert.MixFfnRefIdeal.main_arg1) = m' ((c.tc : Thread Cert.MixFfnRefIdeal.nD Cert.MixFfnRefIdeal.τ).loc Cert.MixFfnRefIdeal.main_arg1)
          ∧ r.2.mem ((c.tc : Thread Cert.MixFfnRefIdeal.nD Cert.MixFfnRefIdeal.τ).loc Cert.MixFfnRefIdeal.main_arg2) = m' ((c.tc : Thread Cert.MixFfnRefIdeal.nD Cert.MixFfnRefIdeal.τ).loc Cert.MixFfnRefIdeal.main_arg2)
          ∧ r.2.mem ((c.tc : Thread Cert.MixFfnRefIdeal.nD Cert.MixFfnRefIdeal.τ).loc Cert.MixFfnRefIdeal.main_arg3) = m' ((c.tc : Thread Cert.MixFfnRefIdeal.nD Cert.MixFfnRefIdeal.τ).loc Cert.MixFfnRefIdeal.main_arg3)
          ∧ r.2.mem ((c.tc : Thread Cert.MixFfnRefIdeal.nD Cert.MixFfnRefIdeal.τ).loc Cert.MixFfnRefIdeal.main_arg4) = m' ((c.tc : Thread Cert.MixFfnRefIdeal.nD Cert.MixFfnRefIdeal.τ).loc Cert.MixFfnRefIdeal.main_arg4)
          ∧ r.2.mem ((c.tc : Thread Cert.MixFfnRefIdeal.nD Cert.MixFfnRefIdeal.τ).loc Cert.MixFfnRefIdeal.main_arg5) = m' ((c.tc : Thread Cert.MixFfnRefIdeal.nD Cert.MixFfnRefIdeal.τ).loc Cert.MixFfnRefIdeal.main_arg5)
          ∧ r.2.mem ((c.tc : Thread Cert.MixFfnRefIdeal.nD Cert.MixFfnRefIdeal.τ).loc Cert.MixFfnRefIdeal.main_arg6) = m' ((c.tc : Thread Cert.MixFfnRefIdeal.nD Cert.MixFfnRefIdeal.τ).loc Cert.MixFfnRefIdeal.main_arg6)
          ∧ r.2.mem ((c.tc : Thread Cert.MixFfnRefIdeal.nD Cert.MixFfnRefIdeal.τ).loc Cert.MixFfnRefIdeal.main_arg7) = m' ((c.tc : Thread Cert.MixFfnRefIdeal.nD Cert.MixFfnRefIdeal.τ).loc Cert.MixFfnRefIdeal.main_arg7))

def preserves_OutFfn_OutFfnIdeal : Prop :=
  True

def algebraic_OutFfnIdeal_OutFfnRefIdeal [hOutFfnIdeal : Cert.OutFfnIdeal.Facts] [hOutFfnRefIdeal : Cert.OutFfnRefIdeal.Facts] : Prop :=
  ∀ (m : (ℓ : Loc Cert.OutFfnIdeal.nD Cert.OutFfnIdeal.τ Cert.OutFfnIdeal.sig) → Buf (Elt Ideal) ℓ) (g : Dev Cert.OutFfnIdeal.nD → PrngReg)
    (m' : (ℓ : Loc Cert.OutFfnRefIdeal.nD Cert.OutFfnRefIdeal.τ Cert.OutFfnRefIdeal.sig) → Buf (Elt Ideal) ℓ) (g' : Dev Cert.OutFfnRefIdeal.nD → PrngReg), Pre_OutFfnIdeal m →
    (∀ c : Dev Cert.OutFfnIdeal.nD,
      m' ((c.tc : Thread Cert.OutFfnRefIdeal.nD Cert.OutFfnRefIdeal.τ).loc Cert.OutFfnRefIdeal.main_arg0) = m ((c.tc : Thread Cert.OutFfnIdeal.nD Cert.OutFfnIdeal.τ).loc Cert.OutFfnIdeal.main_arg0)
      ∧ m' ((c.tc : Thread Cert.OutFfnRefIdeal.nD Cert.OutFfnRefIdeal.τ).loc Cert.OutFfnRefIdeal.main_arg1) = m ((c.tc : Thread Cert.OutFfnIdeal.nD Cert.OutFfnIdeal.τ).loc Cert.OutFfnIdeal.main_arg1)
      ∧ m' ((c.tc : Thread Cert.OutFfnRefIdeal.nD Cert.OutFfnRefIdeal.τ).loc Cert.OutFfnRefIdeal.main_arg2) = m ((c.tc : Thread Cert.OutFfnIdeal.nD Cert.OutFfnIdeal.τ).loc Cert.OutFfnIdeal.main_arg2)
      ∧ m' ((c.tc : Thread Cert.OutFfnRefIdeal.nD Cert.OutFfnRefIdeal.τ).loc Cert.OutFfnRefIdeal.main_arg3) = m ((c.tc : Thread Cert.OutFfnIdeal.nD Cert.OutFfnIdeal.τ).loc Cert.OutFfnIdeal.main_arg3)
      ∧ m' ((c.tc : Thread Cert.OutFfnRefIdeal.nD Cert.OutFfnRefIdeal.τ).loc Cert.OutFfnRefIdeal.main_arg4) = m ((c.tc : Thread Cert.OutFfnIdeal.nD Cert.OutFfnIdeal.τ).loc Cert.OutFfnIdeal.main_arg4)
      ∧ m' ((c.tc : Thread Cert.OutFfnRefIdeal.nD Cert.OutFfnRefIdeal.τ).loc Cert.OutFfnRefIdeal.main_arg5) = m ((c.tc : Thread Cert.OutFfnIdeal.nD Cert.OutFfnIdeal.τ).loc Cert.OutFfnIdeal.main_arg5)
      ∧ m' ((c.tc : Thread Cert.OutFfnRefIdeal.nD Cert.OutFfnRefIdeal.τ).loc Cert.OutFfnRefIdeal.main_arg6) = m ((c.tc : Thread Cert.OutFfnIdeal.nD Cert.OutFfnIdeal.τ).loc Cert.OutFfnIdeal.main_arg6)
      ∧ m' ((c.tc : Thread Cert.OutFfnRefIdeal.nD Cert.OutFfnRefIdeal.τ).loc Cert.OutFfnRefIdeal.main_arg7) = m ((c.tc : Thread Cert.OutFfnIdeal.nD Cert.OutFfnIdeal.τ).loc Cert.OutFfnIdeal.main_arg7)) →
    ∃ (v0 : (c : Dev Cert.OutFfnIdeal.nD) → Buf (Elt Ideal) ((c.tc : Thread Cert.OutFfnIdeal.nD Cert.OutFfnIdeal.τ).loc Cert.OutFfnIdeal.main_v6)),
      θ_run (Cert.OutFfnIdeal.defs (F := Ideal)) (onTc (τ := Cert.OutFfnIdeal.τ) (Cert.OutFfnIdeal.main (F := Ideal))) ⟨m, fun _ => 0, g⟩ (fun r => ∀ c : Dev Cert.OutFfnIdeal.nD,
          r.2.mem ((c.tc : Thread Cert.OutFfnIdeal.nD Cert.OutFfnIdeal.τ).loc Cert.OutFfnIdeal.main_v6) = v0 c
          ∧ r.2.mem ((c.tc : Thread Cert.OutFfnIdeal.nD Cert.OutFfnIdeal.τ).loc Cert.OutFfnIdeal.main_arg0) = m ((c.tc : Thread Cert.OutFfnIdeal.nD Cert.OutFfnIdeal.τ).loc Cert.OutFfnIdeal.main_arg0)
          ∧ r.2.mem ((c.tc : Thread Cert.OutFfnIdeal.nD Cert.OutFfnIdeal.τ).loc Cert.OutFfnIdeal.main_arg1) = m ((c.tc : Thread Cert.OutFfnIdeal.nD Cert.OutFfnIdeal.τ).loc Cert.OutFfnIdeal.main_arg1)
          ∧ r.2.mem ((c.tc : Thread Cert.OutFfnIdeal.nD Cert.OutFfnIdeal.τ).loc Cert.OutFfnIdeal.main_arg2) = m ((c.tc : Thread Cert.OutFfnIdeal.nD Cert.OutFfnIdeal.τ).loc Cert.OutFfnIdeal.main_arg2)
          ∧ r.2.mem ((c.tc : Thread Cert.OutFfnIdeal.nD Cert.OutFfnIdeal.τ).loc Cert.OutFfnIdeal.main_arg3) = m ((c.tc : Thread Cert.OutFfnIdeal.nD Cert.OutFfnIdeal.τ).loc Cert.OutFfnIdeal.main_arg3)
          ∧ r.2.mem ((c.tc : Thread Cert.OutFfnIdeal.nD Cert.OutFfnIdeal.τ).loc Cert.OutFfnIdeal.main_arg4) = m ((c.tc : Thread Cert.OutFfnIdeal.nD Cert.OutFfnIdeal.τ).loc Cert.OutFfnIdeal.main_arg4)
          ∧ r.2.mem ((c.tc : Thread Cert.OutFfnIdeal.nD Cert.OutFfnIdeal.τ).loc Cert.OutFfnIdeal.main_arg5) = m ((c.tc : Thread Cert.OutFfnIdeal.nD Cert.OutFfnIdeal.τ).loc Cert.OutFfnIdeal.main_arg5)
          ∧ r.2.mem ((c.tc : Thread Cert.OutFfnIdeal.nD Cert.OutFfnIdeal.τ).loc Cert.OutFfnIdeal.main_arg6) = m ((c.tc : Thread Cert.OutFfnIdeal.nD Cert.OutFfnIdeal.τ).loc Cert.OutFfnIdeal.main_arg6)
          ∧ r.2.mem ((c.tc : Thread Cert.OutFfnIdeal.nD Cert.OutFfnIdeal.τ).loc Cert.OutFfnIdeal.main_arg7) = m ((c.tc : Thread Cert.OutFfnIdeal.nD Cert.OutFfnIdeal.τ).loc Cert.OutFfnIdeal.main_arg7))
      ∧ θ_run (Cert.OutFfnRefIdeal.defs (F := Ideal)) (onTc (τ := Cert.OutFfnRefIdeal.τ) (Cert.OutFfnRefIdeal.main (F := Ideal))) ⟨m', fun _ => 0, g'⟩ (fun r => ∀ c : Dev Cert.OutFfnRefIdeal.nD,
          r.2.mem ((c.tc : Thread Cert.OutFfnRefIdeal.nD Cert.OutFfnRefIdeal.τ).loc Cert.OutFfnRefIdeal.main_v36) = v0 c
          ∧ r.2.mem ((c.tc : Thread Cert.OutFfnRefIdeal.nD Cert.OutFfnRefIdeal.τ).loc Cert.OutFfnRefIdeal.main_arg0) = m' ((c.tc : Thread Cert.OutFfnRefIdeal.nD Cert.OutFfnRefIdeal.τ).loc Cert.OutFfnRefIdeal.main_arg0)
          ∧ r.2.mem ((c.tc : Thread Cert.OutFfnRefIdeal.nD Cert.OutFfnRefIdeal.τ).loc Cert.OutFfnRefIdeal.main_arg1) = m' ((c.tc : Thread Cert.OutFfnRefIdeal.nD Cert.OutFfnRefIdeal.τ).loc Cert.OutFfnRefIdeal.main_arg1)
          ∧ r.2.mem ((c.tc : Thread Cert.OutFfnRefIdeal.nD Cert.OutFfnRefIdeal.τ).loc Cert.OutFfnRefIdeal.main_arg2) = m' ((c.tc : Thread Cert.OutFfnRefIdeal.nD Cert.OutFfnRefIdeal.τ).loc Cert.OutFfnRefIdeal.main_arg2)
          ∧ r.2.mem ((c.tc : Thread Cert.OutFfnRefIdeal.nD Cert.OutFfnRefIdeal.τ).loc Cert.OutFfnRefIdeal.main_arg3) = m' ((c.tc : Thread Cert.OutFfnRefIdeal.nD Cert.OutFfnRefIdeal.τ).loc Cert.OutFfnRefIdeal.main_arg3)
          ∧ r.2.mem ((c.tc : Thread Cert.OutFfnRefIdeal.nD Cert.OutFfnRefIdeal.τ).loc Cert.OutFfnRefIdeal.main_arg4) = m' ((c.tc : Thread Cert.OutFfnRefIdeal.nD Cert.OutFfnRefIdeal.τ).loc Cert.OutFfnRefIdeal.main_arg4)
          ∧ r.2.mem ((c.tc : Thread Cert.OutFfnRefIdeal.nD Cert.OutFfnRefIdeal.τ).loc Cert.OutFfnRefIdeal.main_arg5) = m' ((c.tc : Thread Cert.OutFfnRefIdeal.nD Cert.OutFfnRefIdeal.τ).loc Cert.OutFfnRefIdeal.main_arg5)
          ∧ r.2.mem ((c.tc : Thread Cert.OutFfnRefIdeal.nD Cert.OutFfnRefIdeal.τ).loc Cert.OutFfnRefIdeal.main_arg6) = m' ((c.tc : Thread Cert.OutFfnRefIdeal.nD Cert.OutFfnRefIdeal.τ).loc Cert.OutFfnRefIdeal.main_arg6)
          ∧ r.2.mem ((c.tc : Thread Cert.OutFfnRefIdeal.nD Cert.OutFfnRefIdeal.τ).loc Cert.OutFfnRefIdeal.main_arg7) = m' ((c.tc : Thread Cert.OutFfnRefIdeal.nD Cert.OutFfnRefIdeal.τ).loc Cert.OutFfnRefIdeal.main_arg7))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)) →
    ∃ (v0 : (c : Dev Cert.QkvIdeal.nD) → Buf (Elt Ideal) ((c.tc : Thread Cert.QkvIdeal.nD Cert.QkvIdeal.τ).loc Cert.QkvIdeal.main_v22_0)) (v1 : (c : Dev Cert.QkvIdeal.nD) → Buf (Elt Ideal) ((c.tc : Thread Cert.QkvIdeal.nD Cert.QkvIdeal.τ).loc Cert.QkvIdeal.main_v22_1)) (v2 : (c : Dev Cert.QkvIdeal.nD) → Buf (Elt Ideal) ((c.tc : Thread Cert.QkvIdeal.nD Cert.QkvIdeal.τ).loc Cert.QkvIdeal.main_v22_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v22_0) = v0 c
          ∧ r.2.mem ((c.tc : Thread Cert.QkvIdeal.nD Cert.QkvIdeal.τ).loc Cert.QkvIdeal.main_v22_1) = v1 c
          ∧ r.2.mem ((c.tc : Thread Cert.QkvIdeal.nD Cert.QkvIdeal.τ).loc Cert.QkvIdeal.main_v22_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v87) = v0 c
          ∧ r.2.mem ((c.tc : Thread Cert.QkvRefIdeal.nD Cert.QkvRefIdeal.τ).loc Cert.QkvRefIdeal.main_v89) = v1 c
          ∧ r.2.mem ((c.tc : Thread Cert.QkvRefIdeal.nD Cert.QkvRefIdeal.τ).loc Cert.QkvRefIdeal.main_v91) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6))

def preserves_Gating_GatingIdeal : Prop :=
  True

def algebraic_GatingIdeal_GatingRefIdeal [hGatingIdeal : Cert.GatingIdeal.Facts] [hGatingRefIdeal : Cert.GatingRefIdeal.Facts] : Prop :=
  ∀ (m : (ℓ : Loc Cert.GatingIdeal.nD Cert.GatingIdeal.τ Cert.GatingIdeal.sig) → Buf (Elt Ideal) ℓ) (g : Dev Cert.GatingIdeal.nD → PrngReg)
    (m' : (ℓ : Loc Cert.GatingRefIdeal.nD Cert.GatingRefIdeal.τ Cert.GatingRefIdeal.sig) → Buf (Elt Ideal) ℓ) (g' : Dev Cert.GatingRefIdeal.nD → PrngReg), Pre_GatingIdeal m →
    (∀ c : Dev Cert.GatingIdeal.nD,
      m' ((c.tc : Thread Cert.GatingRefIdeal.nD Cert.GatingRefIdeal.τ).loc Cert.GatingRefIdeal.main_arg0) = m ((c.tc : Thread Cert.GatingIdeal.nD Cert.GatingIdeal.τ).loc Cert.GatingIdeal.main_arg0)
      ∧ m' ((c.tc : Thread Cert.GatingRefIdeal.nD Cert.GatingRefIdeal.τ).loc Cert.GatingRefIdeal.main_arg1) = m ((c.tc : Thread Cert.GatingIdeal.nD Cert.GatingIdeal.τ).loc Cert.GatingIdeal.main_arg1)
      ∧ m' ((c.tc : Thread Cert.GatingRefIdeal.nD Cert.GatingRefIdeal.τ).loc Cert.GatingRefIdeal.main_arg2) = m ((c.tc : Thread Cert.GatingIdeal.nD Cert.GatingIdeal.τ).loc Cert.GatingIdeal.main_arg2)
      ∧ m' ((c.tc : Thread Cert.GatingRefIdeal.nD Cert.GatingRefIdeal.τ).loc Cert.GatingRefIdeal.main_arg3) = m ((c.tc : Thread Cert.GatingIdeal.nD Cert.GatingIdeal.τ).loc Cert.GatingIdeal.main_arg3)
      ∧ m' ((c.tc : Thread Cert.GatingRefIdeal.nD Cert.GatingRefIdeal.τ).loc Cert.GatingRefIdeal.main_arg4) = m ((c.tc : Thread Cert.GatingIdeal.nD Cert.GatingIdeal.τ).loc Cert.GatingIdeal.main_arg4)
      ∧ m' ((c.tc : Thread Cert.GatingRefIdeal.nD Cert.GatingRefIdeal.τ).loc Cert.GatingRefIdeal.main_arg5) = m ((c.tc : Thread Cert.GatingIdeal.nD Cert.GatingIdeal.τ).loc Cert.GatingIdeal.main_arg5)
      ∧ m' ((c.tc : Thread Cert.GatingRefIdeal.nD Cert.GatingRefIdeal.τ).loc Cert.GatingRefIdeal.main_arg6) = m ((c.tc : Thread Cert.GatingIdeal.nD Cert.GatingIdeal.τ).loc Cert.GatingIdeal.main_arg6)) →
    ∃ (v0 : (c : Dev Cert.GatingIdeal.nD) → Buf (Elt Ideal) ((c.tc : Thread Cert.GatingIdeal.nD Cert.GatingIdeal.τ).loc Cert.GatingIdeal.main_v6_0)) (v1 : (c : Dev Cert.GatingIdeal.nD) → Buf (Elt Ideal) ((c.tc : Thread Cert.GatingIdeal.nD Cert.GatingIdeal.τ).loc Cert.GatingIdeal.main_v6_1)),
      θ_run (Cert.GatingIdeal.defs (F := Ideal)) (onTc (τ := Cert.GatingIdeal.τ) (Cert.GatingIdeal.main (F := Ideal))) ⟨m, fun _ => 0, g⟩ (fun r => ∀ c : Dev Cert.GatingIdeal.nD,
          r.2.mem ((c.tc : Thread Cert.GatingIdeal.nD Cert.GatingIdeal.τ).loc Cert.GatingIdeal.main_v6_0) = v0 c
          ∧ r.2.mem ((c.tc : Thread Cert.GatingIdeal.nD Cert.GatingIdeal.τ).loc Cert.GatingIdeal.main_v6_1) = v1 c
          ∧ r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
          ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
          ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
          ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
          ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4)
          ∧ r.2.mem ((c.tc : Thread Cert.GatingIdeal.nD Cert.GatingIdeal.τ).loc Cert.GatingIdeal.main_arg5) = m ((c.tc : Thread Cert.GatingIdeal.nD Cert.GatingIdeal.τ).loc Cert.GatingIdeal.main_arg5)
          ∧ r.2.mem ((c.tc : Thread Cert.GatingIdeal.nD Cert.GatingIdeal.τ).loc Cert.GatingIdeal.main_arg6) = m ((c.tc : Thread Cert.GatingIdeal.nD Cert.GatingIdeal.τ).loc Cert.GatingIdeal.main_arg6))
      ∧ θ_run (Cert.GatingRefIdeal.defs (F := Ideal)) (onTc (τ := Cert.GatingRefIdeal.τ) (Cert.GatingRefIdeal.main (F := Ideal))) ⟨m', fun _ => 0, g'⟩ (fun r => ∀ c : Dev Cert.GatingRefIdeal.nD,
          r.2.mem ((c.tc : Thread Cert.GatingRefIdeal.nD Cert.GatingRefIdeal.τ).loc Cert.GatingRefIdeal.main_v63) = v0 c
          ∧ r.2.mem ((c.tc : Thread Cert.GatingRefIdeal.nD Cert.GatingRefIdeal.τ).loc Cert.GatingRefIdeal.main_v64) = v1 c
          ∧ r.2.mem ((c.tc : Thread Cert.GatingRefIdeal.nD Cert.GatingRefIdeal.τ).loc Cert.GatingRefIdeal.main_arg0) = m' ((c.tc : Thread Cert.GatingRefIdeal.nD Cert.GatingRefIdeal.τ).loc Cert.GatingRefIdeal.main_arg0)
          ∧ r.2.mem ((c.tc : Thread Cert.GatingRefIdeal.nD Cert.GatingRefIdeal.τ).loc Cert.GatingRefIdeal.main_arg1) = m' ((c.tc : Thread Cert.GatingRefIdeal.nD Cert.GatingRefIdeal.τ).loc Cert.GatingRefIdeal.main_arg1)
          ∧ r.2.mem ((c.tc : Thread Cert.GatingRefIdeal.nD Cert.GatingRefIdeal.τ).loc Cert.GatingRefIdeal.main_arg2) = m' ((c.tc : Thread Cert.GatingRefIdeal.nD Cert.GatingRefIdeal.τ).loc Cert.GatingRefIdeal.main_arg2)
          ∧ r.2.mem ((c.tc : Thread Cert.GatingRefIdeal.nD Cert.GatingRefIdeal.τ).loc Cert.GatingRefIdeal.main_arg3) = m' ((c.tc : Thread Cert.GatingRefIdeal.nD Cert.GatingRefIdeal.τ).loc Cert.GatingRefIdeal.main_arg3)
          ∧ r.2.mem ((c.tc : Thread Cert.GatingRefIdeal.nD Cert.GatingRefIdeal.τ).loc Cert.GatingRefIdeal.main_arg4) = m' ((c.tc : Thread Cert.GatingRefIdeal.nD Cert.GatingRefIdeal.τ).loc Cert.GatingRefIdeal.main_arg4)
          ∧ r.2.mem ((c.tc : Thread Cert.GatingRefIdeal.nD Cert.GatingRefIdeal.τ).loc Cert.GatingRefIdeal.main_arg5) = m' ((c.tc : Thread Cert.GatingRefIdeal.nD Cert.GatingRefIdeal.τ).loc Cert.GatingRefIdeal.main_arg5)
          ∧ r.2.mem ((c.tc : Thread Cert.GatingRefIdeal.nD Cert.GatingRefIdeal.τ).loc Cert.GatingRefIdeal.main_arg6) = m' ((c.tc : Thread Cert.GatingRefIdeal.nD Cert.GatingRefIdeal.τ).loc Cert.GatingRefIdeal.main_arg6))

def preserves_Fourier_FourierIdeal : Prop :=
  True

def algebraic_FourierIdeal_FourierRefIdeal [hFourierIdeal : Cert.FourierIdeal.Facts] [hFourierRefIdeal : Cert.FourierRefIdeal.Facts] : Prop :=
  ∀ (m : (ℓ : Loc Cert.FourierIdeal.nD Cert.FourierIdeal.τ Cert.FourierIdeal.sig) → Buf (Elt Ideal) ℓ) (g : Dev Cert.FourierIdeal.nD → PrngReg)
    (m' : (ℓ : Loc Cert.FourierRefIdeal.nD Cert.FourierRefIdeal.τ Cert.FourierRefIdeal.sig) → Buf (Elt Ideal) ℓ) (g' : Dev Cert.FourierRefIdeal.nD → PrngReg), Pre_FourierIdeal m →
    (∀ c : Dev Cert.FourierIdeal.nD,
      m' ((c.tc : Thread Cert.FourierRefIdeal.nD Cert.FourierRefIdeal.τ).loc Cert.FourierRefIdeal.main_arg0) = m ((c.tc : Thread Cert.FourierIdeal.nD Cert.FourierIdeal.τ).loc Cert.FourierIdeal.main_arg0)
      ∧ m' ((c.tc : Thread Cert.FourierRefIdeal.nD Cert.FourierRefIdeal.τ).loc Cert.FourierRefIdeal.main_arg1) = m ((c.tc : Thread Cert.FourierIdeal.nD Cert.FourierIdeal.τ).loc Cert.FourierIdeal.main_arg1)
      ∧ m' ((c.tc : Thread Cert.FourierRefIdeal.nD Cert.FourierRefIdeal.τ).loc Cert.FourierRefIdeal.main_arg2) = m ((c.tc : Thread Cert.FourierIdeal.nD Cert.FourierIdeal.τ).loc Cert.FourierIdeal.main_arg2)) →
    ∃ (v0 : (c : Dev Cert.FourierIdeal.nD) → Buf (Elt Ideal) ((c.tc : Thread Cert.FourierIdeal.nD Cert.FourierIdeal.τ).loc Cert.FourierIdeal.main_v8)),
      θ_run (Cert.FourierIdeal.defs (F := Ideal)) (onTc (τ := Cert.FourierIdeal.τ) (Cert.FourierIdeal.main (F := Ideal))) ⟨m, fun _ => 0, g⟩ (fun r => ∀ c : Dev Cert.FourierIdeal.nD,
          r.2.mem ((c.tc : Thread Cert.FourierIdeal.nD Cert.FourierIdeal.τ).loc Cert.FourierIdeal.main_v8) = v0 c
          ∧ r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
          ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1)
          ∧ r.2.mem ((c.tc : Thread Cert.FourierIdeal.nD Cert.FourierIdeal.τ).loc Cert.FourierIdeal.main_arg2) = m ((c.tc : Thread Cert.FourierIdeal.nD Cert.FourierIdeal.τ).loc Cert.FourierIdeal.main_arg2))
      ∧ θ_run (Cert.FourierRefIdeal.defs (F := Ideal)) (onTc (τ := Cert.FourierRefIdeal.τ) (Cert.FourierRefIdeal.main (F := Ideal))) ⟨m', fun _ => 0, g'⟩ (fun r => ∀ c : Dev Cert.FourierRefIdeal.nD,
          r.2.mem ((c.tc : Thread Cert.FourierRefIdeal.nD Cert.FourierRefIdeal.τ).loc Cert.FourierRefIdeal.main_v19) = v0 c
          ∧ r.2.mem ((c.tc : Thread Cert.FourierRefIdeal.nD Cert.FourierRefIdeal.τ).loc Cert.FourierRefIdeal.main_arg0) = m' ((c.tc : Thread Cert.FourierRefIdeal.nD Cert.FourierRefIdeal.τ).loc Cert.FourierRefIdeal.main_arg0)
          ∧ r.2.mem ((c.tc : Thread Cert.FourierRefIdeal.nD Cert.FourierRefIdeal.τ).loc Cert.FourierRefIdeal.main_arg1) = m' ((c.tc : Thread Cert.FourierRefIdeal.nD Cert.FourierRefIdeal.τ).loc Cert.FourierRefIdeal.main_arg1)
          ∧ r.2.mem ((c.tc : Thread Cert.FourierRefIdeal.nD Cert.FourierRefIdeal.τ).loc Cert.FourierRefIdeal.main_arg2) = m' ((c.tc : Thread Cert.FourierRefIdeal.nD Cert.FourierRefIdeal.τ).loc Cert.FourierRefIdeal.main_arg2))

def preserves_Twiddle_TwiddleIdeal : Prop :=
  True

def algebraic_TwiddleIdeal_TwiddleRefIdeal [hTwiddleIdeal : Cert.TwiddleIdeal.Facts] [hTwiddleRefIdeal : Cert.TwiddleRefIdeal.Facts] : Prop :=
  ∀ (m : (ℓ : Loc Cert.TwiddleIdeal.nD Cert.TwiddleIdeal.τ Cert.TwiddleIdeal.sig) → Buf (Elt Ideal) ℓ) (g : Dev Cert.TwiddleIdeal.nD → PrngReg)
    (m' : (ℓ : Loc Cert.TwiddleRefIdeal.nD Cert.TwiddleRefIdeal.τ Cert.TwiddleRefIdeal.sig) → Buf (Elt Ideal) ℓ) (g' : Dev Cert.TwiddleRefIdeal.nD → PrngReg), Pre_TwiddleIdeal m →
    (∀ c : Dev Cert.TwiddleIdeal.nD,
      m' ((c.tc : Thread Cert.TwiddleRefIdeal.nD Cert.TwiddleRefIdeal.τ).loc Cert.TwiddleRefIdeal.main_arg0) = m ((c.tc : Thread Cert.TwiddleIdeal.nD Cert.TwiddleIdeal.τ).loc Cert.TwiddleIdeal.main_arg0)
      ∧ m' ((c.tc : Thread Cert.TwiddleRefIdeal.nD Cert.TwiddleRefIdeal.τ).loc Cert.TwiddleRefIdeal.main_arg1) = m ((c.tc : Thread Cert.TwiddleIdeal.nD Cert.TwiddleIdeal.τ).loc Cert.TwiddleIdeal.main_arg1)
      ∧ m' ((c.tc : Thread Cert.TwiddleRefIdeal.nD Cert.TwiddleRefIdeal.τ).loc Cert.TwiddleRefIdeal.main_arg2) = m ((c.tc : Thread Cert.TwiddleIdeal.nD Cert.TwiddleIdeal.τ).loc Cert.TwiddleIdeal.main_arg2)) →
    ∃ (v0 : (c : Dev Cert.TwiddleIdeal.nD) → Buf (Elt Ideal) ((c.tc : Thread Cert.TwiddleIdeal.nD Cert.TwiddleIdeal.τ).loc Cert.TwiddleIdeal.main_v3)),
      θ_run (Cert.TwiddleIdeal.defs (F := Ideal)) (onTc (τ := Cert.TwiddleIdeal.τ) (Cert.TwiddleIdeal.main (F := Ideal))) ⟨m, fun _ => 0, g⟩ (fun r => ∀ c : Dev Cert.TwiddleIdeal.nD,
          r.2.mem ((c.tc : Thread Cert.TwiddleIdeal.nD Cert.TwiddleIdeal.τ).loc Cert.TwiddleIdeal.main_v3) = v0 c
          ∧ r.2.mem ((c.tc : Thread Cert.TwiddleIdeal.nD Cert.TwiddleIdeal.τ).loc Cert.TwiddleIdeal.main_arg0) = m ((c.tc : Thread Cert.TwiddleIdeal.nD Cert.TwiddleIdeal.τ).loc Cert.TwiddleIdeal.main_arg0)
          ∧ r.2.mem ((c.tc : Thread Cert.TwiddleIdeal.nD Cert.TwiddleIdeal.τ).loc Cert.TwiddleIdeal.main_arg1) = m ((c.tc : Thread Cert.TwiddleIdeal.nD Cert.TwiddleIdeal.τ).loc Cert.TwiddleIdeal.main_arg1)
          ∧ r.2.mem ((c.tc : Thread Cert.TwiddleIdeal.nD Cert.TwiddleIdeal.τ).loc Cert.TwiddleIdeal.main_arg2) = m ((c.tc : Thread Cert.TwiddleIdeal.nD Cert.TwiddleIdeal.τ).loc Cert.TwiddleIdeal.main_arg2))
      ∧ θ_run (Cert.TwiddleRefIdeal.defs (F := Ideal)) (onTc (τ := Cert.TwiddleRefIdeal.τ) (Cert.TwiddleRefIdeal.main (F := Ideal))) ⟨m', fun _ => 0, g'⟩ (fun r => ∀ c : Dev Cert.TwiddleRefIdeal.nD,
          r.2.mem ((c.tc : Thread Cert.TwiddleRefIdeal.nD Cert.TwiddleRefIdeal.τ).loc Cert.TwiddleRefIdeal.main_v12) = v0 c
          ∧ r.2.mem ((c.tc : Thread Cert.TwiddleRefIdeal.nD Cert.TwiddleRefIdeal.τ).loc Cert.TwiddleRefIdeal.main_arg0) = m' ((c.tc : Thread Cert.TwiddleRefIdeal.nD Cert.TwiddleRefIdeal.τ).loc Cert.TwiddleRefIdeal.main_arg0)
          ∧ r.2.mem ((c.tc : Thread Cert.TwiddleRefIdeal.nD Cert.TwiddleRefIdeal.τ).loc Cert.TwiddleRefIdeal.main_arg1) = m' ((c.tc : Thread Cert.TwiddleRefIdeal.nD Cert.TwiddleRefIdeal.τ).loc Cert.TwiddleRefIdeal.main_arg1)
          ∧ r.2.mem ((c.tc : Thread Cert.TwiddleRefIdeal.nD Cert.TwiddleRefIdeal.τ).loc Cert.TwiddleRefIdeal.main_arg2) = m' ((c.tc : Thread Cert.TwiddleRefIdeal.nD Cert.TwiddleRefIdeal.τ).loc Cert.TwiddleRefIdeal.main_arg2))

def Claim : Prop :=
  ∃ (hAttention : Cert.Attention.Facts) (hAttentionIdeal : Cert.AttentionIdeal.Facts) (hAttentionRefIdeal : Cert.AttentionRefIdeal.Facts) (hFfn : Cert.Ffn.Facts) (hFfnIdeal : Cert.FfnIdeal.Facts) (hFfnRefIdeal : Cert.FfnRefIdeal.Facts) (hMixFfn : Cert.MixFfn.Facts) (hMixFfnIdeal : Cert.MixFfnIdeal.Facts) (hMixFfnRefIdeal : Cert.MixFfnRefIdeal.Facts) (hOutFfn : Cert.OutFfn.Facts) (hOutFfnIdeal : Cert.OutFfnIdeal.Facts) (hOutFfnRefIdeal : Cert.OutFfnRefIdeal.Facts) (hQkv : Cert.Qkv.Facts) (hQkvIdeal : Cert.QkvIdeal.Facts) (hQkvRefIdeal : Cert.QkvRefIdeal.Facts) (hGating : Cert.Gating.Facts) (hGatingIdeal : Cert.GatingIdeal.Facts) (hGatingRefIdeal : Cert.GatingRefIdeal.Facts) (hFourier : Cert.Fourier.Facts) (hFourierIdeal : Cert.FourierIdeal.Facts) (hFourierRefIdeal : Cert.FourierRefIdeal.Facts) (hTwiddle : Cert.Twiddle.Facts) (hTwiddleIdeal : Cert.TwiddleIdeal.Facts) (hTwiddleRefIdeal : Cert.TwiddleRefIdeal.Facts) (hPre_finite : Cert.Pre_finite.Facts),
    quiescent_Attention (hAttention := hAttention)
    ∧ quiescent_AttentionIdeal (hAttentionIdeal := hAttentionIdeal)
    ∧ quiescent_AttentionIdeal_pre_finite (hAttentionIdeal := hAttentionIdeal) (hPre_finite := hPre_finite)
    ∧ quiescent_AttentionRefIdeal (hAttentionRefIdeal := hAttentionRefIdeal)
    ∧ quiescent_AttentionRefIdeal_pre_finite (hAttentionRefIdeal := hAttentionRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_MixFfn (hMixFfn := hMixFfn)
    ∧ quiescent_MixFfnIdeal (hMixFfnIdeal := hMixFfnIdeal)
    ∧ quiescent_MixFfnRefIdeal (hMixFfnRefIdeal := hMixFfnRefIdeal)
    ∧ quiescent_OutFfn (hOutFfn := hOutFfn)
    ∧ quiescent_OutFfnIdeal (hOutFfnIdeal := hOutFfnIdeal)
    ∧ quiescent_OutFfnRefIdeal (hOutFfnRefIdeal := hOutFfnRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Gating (hGating := hGating)
    ∧ quiescent_GatingIdeal (hGatingIdeal := hGatingIdeal)
    ∧ quiescent_GatingRefIdeal (hGatingRefIdeal := hGatingRefIdeal)
    ∧ quiescent_Fourier (hFourier := hFourier)
    ∧ quiescent_FourierIdeal (hFourierIdeal := hFourierIdeal)
    ∧ quiescent_FourierRefIdeal (hFourierRefIdeal := hFourierRefIdeal)
    ∧ quiescent_Twiddle (hTwiddle := hTwiddle)
    ∧ quiescent_TwiddleIdeal (hTwiddleIdeal := hTwiddleIdeal)
    ∧ quiescent_TwiddleRefIdeal (hTwiddleRefIdeal := hTwiddleRefIdeal)
    ∧ preserves_Attention_AttentionIdeal
    ∧ algebraic_AttentionIdeal_AttentionRefIdeal_pre_finite (hAttentionIdeal := hAttentionIdeal) (hAttentionRefIdeal := hAttentionRefIdeal) (hPre_finite := hPre_finite)
    ∧ preserves_Ffn_FfnIdeal
    ∧ algebraic_FfnIdeal_FfnRefIdeal (hFfnIdeal := hFfnIdeal) (hFfnRefIdeal := hFfnRefIdeal)
    ∧ preserves_MixFfn_MixFfnIdeal
    ∧ algebraic_MixFfnIdeal_MixFfnRefIdeal (hMixFfnIdeal := hMixFfnIdeal) (hMixFfnRefIdeal := hMixFfnRefIdeal)
    ∧ preserves_OutFfn_OutFfnIdeal
    ∧ algebraic_OutFfnIdeal_OutFfnRefIdeal (hOutFfnIdeal := hOutFfnIdeal) (hOutFfnRefIdeal := hOutFfnRefIdeal)
    ∧ preserves_Qkv_QkvIdeal
    ∧ algebraic_QkvIdeal_QkvRefIdeal (hQkvIdeal := hQkvIdeal) (hQkvRefIdeal := hQkvRefIdeal)
    ∧ preserves_Gating_GatingIdeal
    ∧ algebraic_GatingIdeal_GatingRefIdeal (hGatingIdeal := hGatingIdeal) (hGatingRefIdeal := hGatingRefIdeal)
    ∧ preserves_Fourier_FourierIdeal
    ∧ algebraic_FourierIdeal_FourierRefIdeal (hFourierIdeal := hFourierIdeal) (hFourierRefIdeal := hFourierRefIdeal)
    ∧ preserves_Twiddle_TwiddleIdeal
    ∧ algebraic_TwiddleIdeal_TwiddleRefIdeal (hTwiddleIdeal := hTwiddleIdeal) (hTwiddleRefIdeal := hTwiddleRefIdeal)
-- ==== Pre_finite.lean ====
abbrev S16384x1024 : Shape := ⟨2, ![16384, 1024]⟩
abbrev S16384x256 : Shape := ⟨2, ![16384, 256]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_

variable [Facts]

def fn {F : FTy → Type} [FloatOps F] (main_arg0 : FVec F S16384x1024 .f32) (main_arg1 : FVec F S16384x256 .f32) (main_arg2 : FVec F S16384x256 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  main_v8
-- ==== Attention.lean ====
abbrev S16384x1024 : Shape := ⟨2, ![16384, 1024]⟩
abbrev S16384x256 : Shape := ⟨2, ![16384, 256]⟩
abbrev S_ : Shape := ⟨0, ![]⟩
abbrev S16384x128 : Shape := ⟨2, ![16384, 128]⟩
abbrev S16384x512 : Shape := ⟨2, ![16384, 512]⟩
abbrev S128x512 : Shape := ⟨2, ![128, 512]⟩
abbrev S512x128 : Shape := ⟨2, ![512, 128]⟩
abbrev S512x256 : Shape := ⟨2, ![512, 256]⟩
abbrev S128x128 : Shape := ⟨2, ![128, 128]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S_, .f32⟩
  | .hbm, ⟨4, _⟩ => ⟨S16384x128, .f32⟩
  | .hbm, ⟨5, _⟩ => ⟨S16384x128, .f32⟩
  | .hbm, ⟨6, _⟩ => ⟨S16384x128, .f32⟩
  | .hbm, ⟨7, _⟩ => ⟨S16384x512, .f32⟩
  | .hbm, ⟨8, _⟩ => ⟨S16384x1024, .bf16⟩
  | .hbm, ⟨9, _⟩ => ⟨S16384x256, .bf16⟩
  | .hbm, ⟨10, _⟩ => ⟨S16384x512, .bf16⟩
  | .hbm, ⟨11, _⟩ => ⟨S16384x1024, .bf16⟩
  | .local _ .vmem, ⟨0, _⟩ => ⟨S128x512, .bf16⟩
  | .local _ .vmem, ⟨1, _⟩ => ⟨S128x512, .bf16⟩
  | .local _ .vmem, ⟨2, _⟩ => ⟨S16384x128, .bf16⟩
  | .local _ .vmem, ⟨3, _⟩ => ⟨S16384x128, .bf16⟩
  | .local _ .vmem, ⟨4, _⟩ => ⟨S16384x256, .bf16⟩
  | .local _ .vmem, ⟨5, _⟩ => ⟨S16384x256, .bf16⟩
  | .local _ .vmem, ⟨6, _⟩ => ⟨S128x512, .bf16⟩
  | .local _ .vmem, ⟨7, _⟩ => ⟨S128x512, .bf16⟩
  | .local _ .vmem, ⟨8, _⟩ => ⟨S512x128, .f32⟩
  | .local _ .vmem, ⟨9, _⟩ => ⟨S512x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 128], ![false, false]⟩

@[reducible] def k0_t1_loop : Scf.Loop 32 :=
  let c0_i32 : BitVec 32 := 0#32
  let c32_i32 : BitVec 32 := 32#32
  let v21 : BitVec 32 := Scalar.addi c0_i32 c32_i32
  let c1_i32 : BitVec 32 := 1#32
  ⟨c0_i32, v21, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c512_i32 : BitVec 32 := 512#32
  let v38 : BitVec 32 := Scalar.muli arg8 c512_i32
  v38
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c512_i32 : BitVec 32 := 512#32
  let v38 : BitVec 32 := Scalar.muli arg8 c512_i32
  let v39 : BitVec 32 := v38
  let v40 : Index := Scalar.indexCast v39
  let c0_21 : Index := 0#32
  ![v40.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c512_i32 : BitVec 32 := 512#32
  let v38 : BitVec 32 := Scalar.muli arg8 c512_i32
  let v39 : BitVec 32 := v38
  let v43 : Index := Scalar.indexCast v39
  let c0_22 : Index := 0#32
  ![v43.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttentionIdeal.lean ====
variable {F : FTy → Type} [FloatOps F] [Named F]
def κ : String → Option EReal := fun
  | "log2e" => some (((Real.log 2)⁻¹ : ℝ) : EReal)
  | "mask" => some ⊥
  | _ => none
-- ==== AttentionRefIdeal.lean ====
abbrev S16384x1024 : Shape := ⟨2, ![16384, 1024]⟩
abbrev S16384x256 : Shape := ⟨2, ![16384, 256]⟩
abbrev S16384x2x4x128 : Shape := ⟨4, ![16384, 2, 4, 128]⟩
abbrev S16384x2x128 : Shape := ⟨3, ![16384, 2, 128]⟩
abbrev S2x16384x16384x4 : Shape := ⟨4, ![2, 16384, 16384, 4]⟩
abbrev S2x4x16384x16384 : Shape := ⟨4, ![2, 4, 16384, 16384]⟩
abbrev S_ : Shape := ⟨0, ![]⟩
abbrev S2x4x16384 : Shape := ⟨3, ![2, 4, 16384]⟩
abbrev S2x4x16384x1 : Shape := ⟨4, ![2, 4, 16384, 1]⟩
abbrev S2x128x4x16384 : Shape := ⟨4, ![2, 128, 4, 16384]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S16384x2x4x128, .f32⟩
  | .hbm, ⟨4, _⟩ => ⟨S16384x2x128, .f32⟩
  | .hbm, ⟨5, _⟩ => ⟨S16384x2x128, .f32⟩
  | .hbm, ⟨6, _⟩ => ⟨S2x16384x16384x4, .f32⟩
  | .hbm, ⟨7, _⟩ => ⟨S2x4x16384x16384, .f32⟩
  | .hbm, ⟨8, _⟩ => ⟨S_, .f32⟩
  | .hbm, ⟨9, _⟩ => ⟨S2x4x16384, .f32⟩
  | .hbm, ⟨10, _⟩ => ⟨S_, .f32⟩
  | .hbm, ⟨11, _⟩ => ⟨S2x4x16384, .f32⟩
  | .hbm, ⟨12, _⟩ => ⟨S2x4x16384, .f32⟩
  | .hbm, ⟨13, _⟩ => ⟨S2x4x16384x1, .f32⟩
  | .hbm, ⟨14, _⟩ => ⟨S2x4x16384x16384, .f32⟩
  | .hbm, ⟨15, _⟩ => ⟨S2x4x16384x16384, .f32⟩
  | .hbm, ⟨16, _⟩ => ⟨S2x4x16384x16384, .f32⟩
  | .hbm, ⟨17, _⟩ => ⟨S_, .f32⟩
  | .hbm, ⟨18, _⟩ => ⟨S2x4x16384, .f32⟩
  | .hbm, ⟨19, _⟩ => ⟨S2x4x16384x1, .f32⟩
  | .hbm, ⟨20, _⟩ => ⟨S2x4x16384x16384, .f32⟩
  | .hbm, ⟨21, _⟩ => ⟨S2x4x16384x16384, .f32⟩
  | .hbm, ⟨22, _⟩ => ⟨S2x128x4x16384, .f32⟩
  | .hbm, ⟨23, _⟩ => ⟨S16384x2x4x128, .f32⟩
  | .hbm, ⟨24, _⟩ => ⟨S16384x1024, .f32⟩
  | .hbm, ⟨25, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 10
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S_, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== MixFfn.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩
abbrev S512x2816 : Shape := ⟨2, ![512, 2816]⟩

abbrev nBuf : Space → Nat
  | .hbm => 16
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024x1024, .bf16⟩
  | .hbm, ⟨9, _⟩ => ⟨S512x1024, .bf16⟩
  | .hbm, ⟨10, _⟩ => ⟨S512x1024, .bf16⟩
  | .hbm, ⟨11, _⟩ => ⟨S1024x2816, .bf16⟩
  | .hbm, ⟨12, _⟩ => ⟨S1024x2816, .bf16⟩
  | .hbm, ⟨13, _⟩ => ⟨S2816x1024, .bf16⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x512, .bf16⟩
  | .local _ .vmem, ⟨6, _⟩ => ⟨S512x512, .bf16⟩
  | .local _ .vmem, ⟨7, _⟩ => ⟨S512x1024, .bf16⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixFfnRefIdeal.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S16384x512, .f32⟩
  | .hbm, ⟨9, _⟩ => ⟨S16384x512, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩

abbrev nD : Nat := 1
abbrev τ : Topo := Topo.v7x

variable {F : FTy → Type} [FloatOps F]
-- ==== OutFfn.lean ====
abbrev S16384x1024 : Shape := ⟨2, ![16384, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 15
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S1024x1024, .bf16⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S1x1024, .f32⟩
  | .hbm, ⟨13, _⟩ => ⟨S1x1024, .f32⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutFfnRefIdeal.lean ====
abbrev S16384x1024 : Shape := ⟨2, ![16384, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S1x1024, .f32⟩
  | .hbm, ⟨58, _⟩ => ⟨S16384x1024, .f32⟩
  | .hbm, ⟨59, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩

abbrev nD : Nat := 1
abbrev τ : Topo := Topo.v7x

variable {F : FTy → Type} [FloatOps F]
-- ==== Qkv.lean ====
abbrev S16384x1024 : Shape := ⟨2, ![16384, 1024]⟩
abbrev S1024 : Shape := ⟨1, ![1024]⟩
abbrev S1024x1536 : Shape := ⟨2, ![1024, 1536]⟩
abbrev S128 : Shape := ⟨1, ![128]⟩
abbrev S16384x64 : Shape := ⟨2, ![16384, 64]⟩
abbrev S1536 : Shape := ⟨1, ![1536]⟩
abbrev S16384x128 : Shape := ⟨2, ![16384, 128]⟩
abbrev S_ : Shape := ⟨0, ![]⟩
abbrev S1536x1 : Shape := ⟨2, ![1536, 1]⟩
abbrev S128x1 : Shape := ⟨2, ![128, 1]⟩
abbrev S1x1024 : Shape := ⟨2, ![1, 1024]⟩
abbrev S1x128 : Shape := ⟨2, ![1, 128]⟩
abbrev S16384x256 : Shape := ⟨2, ![16384, 256]⟩
abbrev S16384x512 : Shape := ⟨2, ![16384, 512]⟩
abbrev S256x1024 : Shape := ⟨2, ![256, 1024]⟩
abbrev S256x128 : Shape := ⟨2, ![256, 128]⟩
abbrev S256x256 : Shape := ⟨2, ![256, 256]⟩
abbrev S256x512 : Shape := ⟨2, ![256, 512]⟩
abbrev S256 : Shape := ⟨1, ![256]⟩
abbrev S256x1 : Shape := ⟨2, ![256, 1]⟩
abbrev S256x1536 : Shape := ⟨2, ![256, 1536]⟩

abbrev nBuf : Space → Nat
  | .hbm => 40
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1536, .f32⟩
  | .hbm, ⟨3, _⟩ => ⟨S128, .f32⟩
  | .hbm, ⟨4, _⟩ => ⟨S128, .f32⟩
  | .hbm, ⟨5, _⟩ => ⟨S16384x64, .f32⟩
  | .hbm, ⟨6, _⟩ => ⟨S16384x64, .f32⟩
  | .hbm, ⟨7, _⟩ => ⟨S1536, .i32⟩
  | .hbm, ⟨8, _⟩ => ⟨S1536, .i1⟩
  | .hbm, ⟨9, _⟩ => ⟨S128, .i32⟩
  | .hbm, ⟨10, _⟩ => ⟨S128, .i1⟩
  | .hbm, ⟨11, _⟩ => ⟨S128, .i1⟩
  | .hbm, ⟨12, _⟩ => ⟨S16384x128, .f32⟩
  | .hbm, ⟨13, _⟩ => ⟨S16384x64, .f32⟩
  | .hbm, ⟨14, _⟩ => ⟨S16384x128, .f32⟩
  | .hbm, ⟨15, _⟩ => ⟨S_, .i32⟩
  | .hbm, ⟨16, _⟩ => ⟨S1536, .i32⟩
  | .hbm, ⟨17, _⟩ => ⟨S1536, .i32⟩
  | .hbm, ⟨18, _⟩ => ⟨S1536, .i32⟩
  | .hbm, ⟨19, _⟩ => ⟨S1536x1, .i32⟩
  | .hbm, ⟨20, _⟩ => ⟨S1024x1536, .f32⟩
  | .hbm, ⟨21, _⟩ => ⟨S1024x1536, .bf16⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S128x1, .i32⟩
  | .hbm, ⟨27, _⟩ => ⟨S128, .f32⟩
  | .hbm, ⟨28, _⟩ => ⟨S_, .i32⟩
  | .hbm, ⟨29, _⟩ => ⟨S128, .i32⟩
  | .hbm, ⟨30, _⟩ => ⟨S128, .i32⟩
  | .hbm, ⟨31, _⟩ => ⟨S128, .i32⟩
  | .hbm, ⟨32, _⟩ => ⟨S128x1, .i32⟩
  | .hbm, ⟨33, _⟩ => ⟨S128, .f32⟩
  | .hbm, ⟨34, _⟩ => ⟨S1x1024, .f32⟩
  | .hbm, ⟨35, _⟩ => ⟨S1x128, .f32⟩
  | .hbm, ⟨36, _⟩ => ⟨S1x128, .f32⟩
  | .hbm, ⟨37, _⟩ => ⟨S16384x1024, .bf16⟩
  | .hbm, ⟨38, _⟩ => ⟨S16384x256, .bf16⟩
  | .hbm, ⟨39, _⟩ => ⟨S16384x512, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1536, .bf16⟩
  | .local _ .vmem, ⟨4, _⟩ => ⟨S1x128, .f32⟩
  | .local _ .vmem, ⟨5, _⟩ => ⟨S1x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x1024, .bf16⟩
  | .local _ .vmem, ⟨11, _⟩ => ⟨S256x1024, .bf16⟩
  | .local _ .vmem, ⟨12, _⟩ => ⟨S256x256, .bf16⟩
  | .local _ .vmem, ⟨13, _⟩ => ⟨S256x256, .bf16⟩
  | .local _ .vmem, ⟨14, _⟩ => ⟨S256x512, .bf16⟩
  | .local _ .vmem, ⟨15, _⟩ => ⟨S256x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_c_3 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c_4 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_6 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22_0 : Ref sig .tc := ⟨.hbm, 37, rfl⟩
abbrev main_v22_1 : Ref sig .tc := ⟨.hbm, 38, rfl⟩
abbrev main_v22_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== QkvRefIdeal.lean ====
abbrev S16384x1024 : Shape := ⟨2, ![16384, 1024]⟩
abbrev S1024 : Shape := ⟨1, ![1024]⟩
abbrev S1024x1536 : Shape := ⟨2, ![1024, 1536]⟩
abbrev S128 : Shape := ⟨1, ![128]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1536 : Shape := ⟨2, ![16384, 1536]⟩
abbrev S16384x8x128 : Shape := ⟨3, ![16384, 8, 128]⟩
abbrev S16384x256 : Shape := ⟨2, ![16384, 256]⟩
abbrev S16384x2x128 : Shape := ⟨3, ![16384, 2, 128]⟩
abbrev S16384x8 : Shape := ⟨2, ![16384, 8]⟩
abbrev S16384x8x1 : Shape := ⟨3, ![16384, 8, 1]⟩
abbrev S1x1x128 : Shape := ⟨3, ![1, 1, 128]⟩
abbrev S16384x8x64x2 : Shape := ⟨4, ![16384, 8, 64, 2]⟩
abbrev S16384x8x64x1 : Shape := ⟨4, ![16384, 8, 64, 1]⟩
abbrev S16384x8x64 : Shape := ⟨3, ![16384, 8, 64]⟩
abbrev S16384x1x64 : Shape := ⟨3, ![16384, 1, 64]⟩
abbrev S16384x2 : Shape := ⟨2, ![16384, 2]⟩
abbrev S16384x2x1 : Shape := ⟨3, ![16384, 2, 1]⟩
abbrev S16384x2x64x2 : Shape := ⟨4, ![16384, 2, 64, 2]⟩
abbrev S16384x2x64x1 : Shape := ⟨4, ![16384, 2, 64, 1]⟩
abbrev S16384x2x64 : Shape := ⟨3, ![16384, 2, 64]⟩
abbrev S16384x2x256 : Shape := ⟨3, ![16384, 2, 256]⟩
abbrev S16384x512 : Shape := ⟨2, ![16384, 512]⟩

abbrev nBuf : Space → Nat
  | .hbm => 110
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1536, .f32⟩
  | .hbm, ⟨3, _⟩ => ⟨S128, .f32⟩
  | .hbm, ⟨4, _⟩ => ⟨S128, .f32⟩
  | .hbm, ⟨5, _⟩ => ⟨S16384x64, .f32⟩
  | .hbm, ⟨6, _⟩ => ⟨S16384x64, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1536, .f32⟩
  | .hbm, ⟨24, _⟩ => ⟨S16384x1024, .f32⟩
  | .hbm, ⟨25, _⟩ => ⟨S16384x8x128, .f32⟩
  | .hbm, ⟨26, _⟩ => ⟨S16384x256, .f32⟩
  | .hbm, ⟨27, _⟩ => ⟨S16384x2x128, .f32⟩
  | .hbm, ⟨28, _⟩ => ⟨S16384x256, .f32⟩
  | .hbm, ⟨29, _⟩ => ⟨S16384x2x128, .f32⟩
  | .hbm, ⟨30, _⟩ => ⟨S16384x8x128, .f32⟩
  | .hbm, ⟨31, _⟩ => ⟨S_, .f32⟩
  | .hbm, ⟨32, _⟩ => ⟨S16384x8, .f32⟩
  | .hbm, ⟨33, _⟩ => ⟨S16384x8x1, .f32⟩
  | .hbm, ⟨34, _⟩ => ⟨S_, .f32⟩
  | .hbm, ⟨35, _⟩ => ⟨S16384x8x1, .f32⟩
  | .hbm, ⟨36, _⟩ => ⟨S16384x8x1, .f32⟩
  | .hbm, ⟨37, _⟩ => ⟨S_, .f32⟩
  | .hbm, ⟨38, _⟩ => ⟨S16384x8x1, .f32⟩
  | .hbm, ⟨39, _⟩ => ⟨S16384x8x1, .f32⟩
  | .hbm, ⟨40, _⟩ => ⟨S16384x8x1, .f32⟩
  | .hbm, ⟨41, _⟩ => ⟨S16384x8x128, .f32⟩
  | .hbm, ⟨42, _⟩ => ⟨S16384x8x128, .f32⟩
  | .hbm, ⟨43, _⟩ => ⟨S1x1x128, .f32⟩
  | .hbm, ⟨44, _⟩ => ⟨S16384x8x128, .f32⟩
  | .hbm, ⟨45, _⟩ => ⟨S16384x8x128, .f32⟩
  | .hbm, ⟨46, _⟩ => ⟨S16384x8x64x2, .f32⟩
  | .hbm, ⟨47, _⟩ => ⟨S16384x8x64x1, .f32⟩
  | .hbm, ⟨48, _⟩ => ⟨S16384x8x64, .f32⟩
  | .hbm, ⟨49, _⟩ => ⟨S16384x8x64x1, .f32⟩
  | .hbm, ⟨50, _⟩ => ⟨S16384x8x64, .f32⟩
  | .hbm, ⟨51, _⟩ => ⟨S16384x1x64, .f32⟩
  | .hbm, ⟨52, _⟩ => ⟨S16384x1x64, .f32⟩
  | .hbm, ⟨53, _⟩ => ⟨S16384x8x64, .f32⟩
  | .hbm, ⟨54, _⟩ => ⟨S16384x8x64, .f32⟩
  | .hbm, ⟨55, _⟩ => ⟨S16384x8x64, .f32⟩
  | .hbm, ⟨56, _⟩ => ⟨S16384x8x64, .f32⟩
  | .hbm, ⟨57, _⟩ => ⟨S16384x8x64, .f32⟩
  | .hbm, ⟨58, _⟩ => ⟨S16384x8x64, .f32⟩
  | .hbm, ⟨59, _⟩ => ⟨S16384x8x64, .f32⟩
  | .hbm, ⟨60, _⟩ => ⟨S16384x8x64, .f32⟩
  | .hbm, ⟨61, _⟩ => ⟨S16384x8x64, .f32⟩
  | .hbm, ⟨62, _⟩ => ⟨S16384x8x64, .f32⟩
  | .hbm, ⟨63, _⟩ => ⟨S16384x8x128, .f32⟩
  | .hbm, ⟨64, _⟩ => ⟨S_, .f32⟩
  | .hbm, ⟨65, _⟩ => ⟨S16384x8x128, .f32⟩
  | .hbm, ⟨66, _⟩ => ⟨S16384x8x128, .f32⟩
  | .hbm, ⟨67, _⟩ => ⟨S16384x2x128, .f32⟩
  | .hbm, ⟨68, _⟩ => ⟨S_, .f32⟩
  | .hbm, ⟨69, _⟩ => ⟨S16384x2, .f32⟩
  | .hbm, ⟨70, _⟩ => ⟨S16384x2x1, .f32⟩
  | .hbm, ⟨71, _⟩ => ⟨S_, .f32⟩
  | .hbm, ⟨72, _⟩ => ⟨S16384x2x1, .f32⟩
  | .hbm, ⟨73, _⟩ => ⟨S16384x2x1, .f32⟩
  | .hbm, ⟨74, _⟩ => ⟨S_, .f32⟩
  | .hbm, ⟨75, _⟩ => ⟨S16384x2x1, .f32⟩
  | .hbm, ⟨76, _⟩ => ⟨S16384x2x1, .f32⟩
  | .hbm, ⟨77, _⟩ => ⟨S16384x2x1, .f32⟩
  | .hbm, ⟨78, _⟩ => ⟨S16384x2x128, .f32⟩
  | .hbm, ⟨79, _⟩ => ⟨S16384x2x128, .f32⟩
  | .hbm, ⟨80, _⟩ => ⟨S1x1x128, .f32⟩
  | .hbm, ⟨81, _⟩ => ⟨S16384x2x128, .f32⟩
  | .hbm, ⟨82, _⟩ => ⟨S16384x2x128, .f32⟩
  | .hbm, ⟨83, _⟩ => ⟨S16384x2x64x2, .f32⟩
  | .hbm, ⟨84, _⟩ => ⟨S16384x2x64x1, .f32⟩
  | .hbm, ⟨85, _⟩ => ⟨S16384x2x64, .f32⟩
  | .hbm, ⟨86, _⟩ => ⟨S16384x2x64x1, .f32⟩
  | .hbm, ⟨87, _⟩ => ⟨S16384x2x64, .f32⟩
  | .hbm, ⟨88, _⟩ => ⟨S16384x1x64, .f32⟩
  | .hbm, ⟨89, _⟩ => ⟨S16384x1x64, .f32⟩
  | .hbm, ⟨90, _⟩ => ⟨S16384x2x64, .f32⟩
  | .hbm, ⟨91, _⟩ => ⟨S16384x2x64, .f32⟩
  | .hbm, ⟨92, _⟩ => ⟨S16384x2x64, .f32⟩
  | .hbm, ⟨93, _⟩ => ⟨S16384x2x64, .f32⟩
  | .hbm, ⟨94, _⟩ => ⟨S16384x2x64, .f32⟩
  | .hbm, ⟨95, _⟩ => ⟨S16384x2x64, .f32⟩
  | .hbm, ⟨96, _⟩ => ⟨S16384x2x64, .f32⟩
  | .hbm, ⟨97, _⟩ => ⟨S16384x2x64, .f32⟩
  | .hbm, ⟨98, _⟩ => ⟨S16384x2x64, .f32⟩
  | .hbm, ⟨99, _⟩ => ⟨S16384x2x64, .f32⟩
  | .hbm, ⟨100, _⟩ => ⟨S16384x2x128, .f32⟩
  | .hbm, ⟨101, _⟩ => ⟨S_, .f32⟩
  | .hbm, ⟨102, _⟩ => ⟨S16384x2x128, .f32⟩
  | .hbm, ⟨103, _⟩ => ⟨S16384x2x256, .f32⟩
  | .hbm, ⟨104, _⟩ => ⟨S16384x1024, .f32⟩
  | .hbm, ⟨105, _⟩ => ⟨S16384x1024, .bf16⟩
  | .hbm, ⟨106, _⟩ => ⟨S16384x256, .f32⟩
  | .hbm, ⟨107, _⟩ => ⟨S16384x256, .bf16⟩
  | .hbm, ⟨108, _⟩ => ⟨S16384x512, .f32⟩
  | .hbm, ⟨109, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_5 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_6 : Ref sig .tc := ⟨.hbm, 68, rfl⟩
abbrev main_v54 : Ref sig .tc := ⟨.hbm, 69, rfl⟩
abbrev main_v55 : Ref sig .tc := ⟨.hbm, 70, rfl⟩
abbrev main_cst_7 : Ref sig .tc := ⟨.hbm, 71, rfl⟩
abbrev main_v56 : Ref sig .tc := ⟨.hbm, 72, rfl⟩
abbrev main_v57 : Ref sig .tc := ⟨.hbm, 73, rfl⟩
abbrev main_cst_8 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_cst_9 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩

abbrev nD : Nat := 1
abbrev τ : Topo := Topo.v7x

variable {F : FTy → Type} [FloatOps F]
-- ==== Gating.lean ====
abbrev S16384x1024 : Shape := ⟨2, ![16384, 1024]⟩
abbrev S1024 : Shape := ⟨1, ![1024]⟩
abbrev S1024x1536 : Shape := ⟨2, ![1024, 1536]⟩
abbrev S128x256 : Shape := ⟨2, ![128, 256]⟩
abbrev S4x128 : Shape := ⟨2, ![4, 128]⟩
abbrev S4x128x128 : Shape := ⟨3, ![4, 128, 128]⟩
abbrev S4x128x1 : Shape := ⟨3, ![4, 128, 1]⟩
abbrev S1x1024 : Shape := ⟨2, ![1, 1024]⟩
abbrev S1x512 : Shape := ⟨2, ![1, 512]⟩
abbrev S2x16384x512 : Shape := ⟨3, ![2, 16384, 512]⟩
abbrev S16384x512 : Shape := ⟨2, ![16384, 512]⟩
abbrev S256x1024 : Shape := ⟨2, ![256, 1024]⟩
abbrev S2x256x512 : Shape := ⟨3, ![2, 256, 512]⟩
abbrev S256x512 : Shape := ⟨2, ![256, 512]⟩
abbrev S256 : Shape := ⟨1, ![256]⟩
abbrev S256x1 : Shape := ⟨2, ![256, 1]⟩
abbrev S256x1536 : Shape := ⟨2, ![256, 1536]⟩
abbrev S256x128 : Shape := ⟨2, ![256, 128]⟩
abbrev S256x256 : Shape := ⟨2, ![256, 256]⟩
abbrev S1x256x128 : Shape := ⟨3, ![1, 256, 128]⟩
abbrev S1x128 : Shape := ⟨2, ![1, 128]⟩
abbrev S1x128x128 : Shape := ⟨3, ![1, 128, 128]⟩
abbrev S128x128 : Shape := ⟨2, ![128, 128]⟩

abbrev nBuf : Space → Nat
  | .hbm => 15
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1536, .f32⟩
  | .hbm, ⟨3, _⟩ => ⟨S128x256, .bf16⟩
  | .hbm, ⟨4, _⟩ => ⟨S4x128, .f32⟩
  | .hbm, ⟨5, _⟩ => ⟨S4x128x128, .f32⟩
  | .hbm, ⟨6, _⟩ => ⟨S4x128, .f32⟩
  | .hbm, ⟨7, _⟩ => ⟨S4x128x1, .f32⟩
  | .hbm, ⟨8, _⟩ => ⟨S4x128x128, .f32⟩
  | .hbm, ⟨9, _⟩ => ⟨S1024x1536, .bf16⟩
  | .hbm, ⟨10, _⟩ => ⟨S4x128x128, .bf16⟩
  | .hbm, ⟨11, _⟩ => ⟨S1x1024, .f32⟩
  | .hbm, ⟨12, _⟩ => ⟨S1x512, .f32⟩
  | .hbm, ⟨13, _⟩ => ⟨S2x16384x512, .bf16⟩
  | .hbm, ⟨14, _⟩ => ⟨S16384x512, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1536, .bf16⟩
  | .local _ .vmem, ⟨4, _⟩ => ⟨S128x256, .bf16⟩
  | .local _ .vmem, ⟨5, _⟩ => ⟨S1x512, .f32⟩
  | .local _ .vmem, ⟨6, _⟩ => ⟨S4x128x128, .bf16⟩
  | .local _ .vmem, ⟨7, _⟩ => ⟨S4x128x128, .f32⟩
  | .local _ .vmem, ⟨8, _⟩ => ⟨S2x256x512, .bf16⟩
  | .local _ .vmem, ⟨9, _⟩ => ⟨S2x256x512, .bf16⟩
  | .local _ .vmem, ⟨10, _⟩ => ⟨S256x512, .bf16⟩
  | .local _ .vmem, ⟨11, _⟩ => ⟨S256x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GatingRefIdeal.lean ====
abbrev S16384x1024 : Shape := ⟨2, ![16384, 1024]⟩
abbrev S1024 : Shape := ⟨1, ![1024]⟩
abbrev S1024x1536 : Shape := ⟨2, ![1024, 1536]⟩
abbrev S128x256 : Shape := ⟨2, ![128, 256]⟩
abbrev S4x128 : Shape := ⟨2, ![4, 128]⟩
abbrev S4x128x128 : Shape := ⟨3, ![4, 128, 128]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1536 : Shape := ⟨2, ![16384, 1536]⟩
abbrev S16384x512 : Shape := ⟨2, ![16384, 512]⟩
abbrev S16384x4x128 : Shape := ⟨3, ![16384, 4, 128]⟩
abbrev S16384x4x256 : Shape := ⟨3, ![16384, 4, 256]⟩
abbrev S1x16384x4x128 : Shape := ⟨4, ![1, 16384, 4, 128]⟩
abbrev S2x16384x4x128 : Shape := ⟨4, ![2, 16384, 4, 128]⟩
abbrev S16384x4 : Shape := ⟨2, ![16384, 4]⟩
abbrev S16384x4x1 : Shape := ⟨3, ![16384, 4, 1]⟩
abbrev S1x4x128 : Shape := ⟨3, ![1, 4, 128]⟩
abbrev S128x128x4x128 : Shape := ⟨4, ![128, 128, 4, 128]⟩
abbrev S4x128x128x128 : Shape := ⟨4, ![4, 128, 128, 128]⟩
abbrev S128x4 : Shape := ⟨2, ![128, 4]⟩
abbrev S1x128x4x1 : Shape := ⟨4, ![1, 128, 4, 1]⟩
abbrev S2x16384x512 : Shape := ⟨3, ![2, 16384, 512]⟩

abbrev nBuf : Space → Nat
  | .hbm => 82
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1536, .f32⟩
  | .hbm, ⟨3, _⟩ => ⟨S128x256, .bf16⟩
  | .hbm, ⟨4, _⟩ => ⟨S4x128, .f32⟩
  | .hbm, ⟨5, _⟩ => ⟨S4x128x128, .f32⟩
  | .hbm, ⟨6, _⟩ => ⟨S4x128, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1536, .f32⟩
  | .hbm, ⟨24, _⟩ => ⟨S16384x512, .f32⟩
  | .hbm, ⟨25, _⟩ => ⟨S16384x4x128, .f32⟩
  | .hbm, ⟨26, _⟩ => ⟨S128x256, .f32⟩
  | .hbm, ⟨27, _⟩ => ⟨S16384x4x256, .f32⟩
  | .hbm, ⟨28, _⟩ => ⟨S16384x4x128, .f32⟩
  | .hbm, ⟨29, _⟩ => ⟨S16384x4x128, .f32⟩
  | .hbm, ⟨30, _⟩ => ⟨S1x16384x4x128, .f32⟩
  | .hbm, ⟨31, _⟩ => ⟨S1x16384x4x128, .f32⟩
  | .hbm, ⟨32, _⟩ => ⟨S2x16384x4x128, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x512, .f32⟩
  | .hbm, ⟨52, _⟩ => ⟨S16384x512, .f32⟩
  | .hbm, ⟨53, _⟩ => ⟨S16384x4x128, .f32⟩
  | .hbm, ⟨54, _⟩ => ⟨S16384x4x128, .f32⟩
  | .hbm, ⟨55, _⟩ => ⟨S_, .f32⟩
  | .hbm, ⟨56, _⟩ => ⟨S16384x4, .f32⟩
  | .hbm, ⟨57, _⟩ => ⟨S16384x4x1, .f32⟩
  | .hbm, ⟨58, _⟩ => ⟨S_, .f32⟩
  | .hbm, ⟨59, _⟩ => ⟨S16384x4x1, .f32⟩
  | .hbm, ⟨60, _⟩ => ⟨S16384x4x1, .f32⟩
  | .hbm, ⟨61, _⟩ => ⟨S_, .f32⟩
  | .hbm, ⟨62, _⟩ => ⟨S16384x4x1, .f32⟩
  | .hbm, ⟨63, _⟩ => ⟨S16384x4x1, .f32⟩
  | .hbm, ⟨64, _⟩ => ⟨S16384x4x1, .f32⟩
  | .hbm, ⟨65, _⟩ => ⟨S16384x4x128, .f32⟩
  | .hbm, ⟨66, _⟩ => ⟨S16384x4x128, .f32⟩
  | .hbm, ⟨67, _⟩ => ⟨S1x4x128, .f32⟩
  | .hbm, ⟨68, _⟩ => ⟨S16384x4x128, .f32⟩
  | .hbm, ⟨69, _⟩ => ⟨S16384x4x128, .f32⟩
  | .hbm, ⟨70, _⟩ => ⟨S128x128x4x128, .f32⟩
  | .hbm, ⟨71, _⟩ => ⟨S4x128x128x128, .f32⟩
  | .hbm, ⟨72, _⟩ => ⟨S128x128x4x128, .f32⟩
  | .hbm, ⟨73, _⟩ => ⟨S128x4, .f32⟩
  | .hbm, ⟨74, _⟩ => ⟨S1x128x4x1, .f32⟩
  | .hbm, ⟨75, _⟩ => ⟨S128x128x4x128, .f32⟩
  | .hbm, ⟨76, _⟩ => ⟨S128x128x4x128, .f32⟩
  | .hbm, ⟨77, _⟩ => ⟨S16384x512, .f32⟩
  | .hbm, ⟨78, _⟩ => ⟨S16384x512, .f32⟩
  | .hbm, ⟨79, _⟩ => ⟨S2x16384x512, .f32⟩
  | .hbm, ⟨80, _⟩ => ⟨S2x16384x512, .bf16⟩
  | .hbm, ⟨81, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]
-- ==== Fourier.lean ====
abbrev S2x16384x512 : Shape := ⟨3, ![2, 16384, 512]⟩
abbrev S128x128 : Shape := ⟨2, ![128, 128]⟩
abbrev S128x256 : Shape := ⟨2, ![128, 256]⟩
abbrev S256x256 : Shape := ⟨2, ![256, 256]⟩
abbrev S256x65536 : Shape := ⟨2, ![256, 65536]⟩
abbrev S256x4096 : Shape := ⟨2, ![256, 4096]⟩

abbrev nBuf : Space → Nat
  | .hbm => 12
  | .vmem => 5
  | .smem => 0
  | _ => 0

abbrev bufTy : (tb : Table) → Fin (tcTables nBuf tb) → BufTy
  | .hbm, ⟨0, _⟩ => ⟨S2x16384x512, .bf16⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x256, .f32⟩
  | .hbm, ⟨5, _⟩ => ⟨S128x128, .f32⟩
  | .hbm, ⟨6, _⟩ => ⟨S128x128, .f32⟩
  | .hbm, ⟨7, _⟩ => ⟨S128x256, .f32⟩
  | .hbm, ⟨8, _⟩ => ⟨S256x256, .f32⟩
  | .hbm, ⟨9, _⟩ => ⟨S256x256, .bf16⟩
  | .hbm, ⟨10, _⟩ => ⟨S256x65536, .bf16⟩
  | .hbm, ⟨11, _⟩ => ⟨S256x65536, .bf16⟩
  | .local _ .vmem, ⟨0, _⟩ => ⟨S256x256, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | _, _ => ⟨S2x16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FourierRefIdeal.lean ====
abbrev S2x16384x512 : Shape := ⟨3, ![2, 16384, 512]⟩
abbrev S128x128 : Shape := ⟨2, ![128, 128]⟩
abbrev S2x128x65536 : Shape := ⟨3, ![2, 128, 65536]⟩
abbrev S1x128x65536 : Shape := ⟨3, ![1, 128, 65536]⟩
abbrev S128x65536 : Shape := ⟨2, ![128, 65536]⟩
abbrev S256x65536 : Shape := ⟨2, ![256, 65536]⟩

abbrev nBuf : Space → Nat
  | .hbm => 23
  | .vmem => 0
  | .smem => 0
  | _ => 0

abbrev bufTy : (tb : Table) → Fin (tcTables nBuf tb) → BufTy
  | .hbm, ⟨0, _⟩ => ⟨S2x16384x512, .bf16⟩
  | .hbm, ⟨1, _⟩ => ⟨S128x128, .f32⟩
  | .hbm, ⟨2, _⟩ => ⟨S128x128, .f32⟩
  | .hbm, ⟨3, _⟩ => ⟨S2x16384x512, .f32⟩
  | .hbm, ⟨4, _⟩ => ⟨S2x128x65536, .f32⟩
  | .hbm, ⟨5, _⟩ => ⟨S1x128x65536, .f32⟩
  | .hbm, ⟨6, _⟩ => ⟨S128x65536, .f32⟩
  | .hbm, ⟨7, _⟩ => ⟨S1x128x65536, .f32⟩
  | .hbm, ⟨8, _⟩ => ⟨S128x65536, .f32⟩
  | .hbm, ⟨9, _⟩ => ⟨S128x65536, .f32⟩
  | .hbm, ⟨10, _⟩ => ⟨S128x128, .f32⟩
  | .hbm, ⟨11, _⟩ => ⟨S128x65536, .f32⟩
  | .hbm, ⟨12, _⟩ => ⟨S128x65536, .f32⟩
  | .hbm, ⟨13, _⟩ => ⟨S128x128, .f32⟩
  | .hbm, ⟨14, _⟩ => ⟨S128x65536, .f32⟩
  | .hbm, ⟨15, _⟩ => ⟨S128x128, .f32⟩
  | .hbm, ⟨16, _⟩ => ⟨S128x65536, .f32⟩
  | .hbm, ⟨17, _⟩ => ⟨S128x65536, .f32⟩
  | .hbm, ⟨18, _⟩ => ⟨S1x128x65536, .f32⟩
  | .hbm, ⟨19, _⟩ => ⟨S1x128x65536, .f32⟩
  | .hbm, ⟨20, _⟩ => ⟨S2x128x65536, .f32⟩
  | .hbm, ⟨21, _⟩ => ⟨S256x65536, .f32⟩
  | .hbm, ⟨22, _⟩ => ⟨S256x65536, .bf16⟩
  | _, _ => ⟨S2x16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== Twiddle.lean ====
abbrev S256x65536 : Shape := ⟨2, ![256, 65536]⟩
abbrev S128x128x128 : Shape := ⟨3, ![128, 128, 128]⟩
abbrev S128x128x256 : Shape := ⟨3, ![128, 128, 256]⟩
abbrev S2x128x128x512 : Shape := ⟨4, ![2, 128, 128, 512]⟩
abbrev S128x65536 : Shape := ⟨2, ![128, 65536]⟩
abbrev S8x128x256 : Shape := ⟨3, ![8, 128, 256]⟩
abbrev S2x8x128x512 : Shape := ⟨4, ![2, 8, 128, 512]⟩
abbrev S128x4096 : Shape := ⟨2, ![128, 4096]⟩
abbrev S1x1x128x512 : Shape := ⟨4, ![1, 1, 128, 512]⟩
abbrev S128x512 : Shape := ⟨2, ![128, 512]⟩
abbrev S256x512 : Shape := ⟨2, ![256, 512]⟩
abbrev S1x128x256 : Shape := ⟨3, ![1, 128, 256]⟩
abbrev S128x256 : Shape := ⟨2, ![128, 256]⟩

abbrev nBuf : Space → Nat
  | .hbm => 7
  | .vmem => 6
  | .smem => 0
  | _ => 0

abbrev bufTy : (tb : Table) → Fin (tcTables nBuf tb) → BufTy
  | .hbm, ⟨0, _⟩ => ⟨S256x65536, .bf16⟩
  | .hbm, ⟨1, _⟩ => ⟨S128x128x128, .f32⟩
  | .hbm, ⟨2, _⟩ => ⟨S128x128x128, .f32⟩
  | .hbm, ⟨3, _⟩ => ⟨S128x128x256, .f32⟩
  | .hbm, ⟨4, _⟩ => ⟨S128x128x256, .bf16⟩
  | .hbm, ⟨5, _⟩ => ⟨S2x128x128x512, .bf16⟩
  | .hbm, ⟨6, _⟩ => ⟨S128x65536, .bf16⟩
  | .local _ .vmem, ⟨0, _⟩ => ⟨S8x128x256, .bf16⟩
  | .local _ .vmem, ⟨1, _⟩ => ⟨S8x128x256, .bf16⟩
  | .local _ .vmem, ⟨2, _⟩ => ⟨S2x8x128x512, .bf16⟩
  | .local _ .vmem, ⟨3, _⟩ => ⟨S2x8x128x512, .bf16⟩
  | .local _ .vmem, ⟨4, _⟩ => ⟨S128x4096, .bf16⟩
  | .local _ .vmem, ⟨5, _⟩ => ⟨S128x4096, .bf16⟩
  | _, _ => ⟨S256x65536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x8x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== TwiddleRefIdeal.lean ====
abbrev S256x65536 : Shape := ⟨2, ![256, 65536]⟩
abbrev S128x128x128 : Shape := ⟨3, ![128, 128, 128]⟩
abbrev S2x128x128x512 : Shape := ⟨4, ![2, 128, 128, 512]⟩
abbrev S1x128x128x512 : Shape := ⟨4, ![1, 128, 128, 512]⟩
abbrev S128x128x512 : Shape := ⟨3, ![128, 128, 512]⟩
abbrev S128x512x128 : Shape := ⟨3, ![128, 512, 128]⟩
abbrev S128x65536 : Shape := ⟨2, ![128, 65536]⟩

abbrev nBuf : Space → Nat
  | .hbm => 16
  | .vmem => 0
  | .smem => 0
  | _ => 0

abbrev bufTy : (tb : Table) → Fin (tcTables nBuf tb) → BufTy
  | .hbm, ⟨0, _⟩ => ⟨S256x65536, .bf16⟩
  | .hbm, ⟨1, _⟩ => ⟨S128x128x128, .f32⟩
  | .hbm, ⟨2, _⟩ => ⟨S128x128x128, .f32⟩
  | .hbm, ⟨3, _⟩ => ⟨S256x65536, .f32⟩
  | .hbm, ⟨4, _⟩ => ⟨S2x128x128x512, .f32⟩
  | .hbm, ⟨5, _⟩ => ⟨S1x128x128x512, .f32⟩
  | .hbm, ⟨6, _⟩ => ⟨S128x128x512, .f32⟩
  | .hbm, ⟨7, _⟩ => ⟨S1x128x128x512, .f32⟩
  | .hbm, ⟨8, _⟩ => ⟨S128x128x512, .f32⟩
  | .hbm, ⟨9, _⟩ => ⟨S128x512x128, .f32⟩
  | .hbm, ⟨10, _⟩ => ⟨S128x128x512, .f32⟩
  | .hbm, ⟨11, _⟩ => ⟨S128x512x128, .f32⟩
  | .hbm, ⟨12, _⟩ => ⟨S128x128x512, .f32⟩
  | .hbm, ⟨13, _⟩ => ⟨S128x128x512, .f32⟩
  | .hbm, ⟨14, _⟩ => ⟨S128x65536, .f32⟩
  | .hbm, ⟨15, _⟩ => ⟨S128x65536, .bf16⟩
  | _, _ => ⟨S256x65536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Proof.RowMath.lean ====
/- The row functions of a feed-forward block, on the extended reals, and how a block of rows computed by vector
   operations reads at one row and column. Both sides of every feed-forward claim meet here. -/
module

public import Idealize.ShloMosaic.Lib.ValueIdx
public import Idealize.ShloMosaic.Lib.MatmulPlain
public import Idealize.ShloMosaic.Lib.Pipeline.Value
public import Idealize.ShloMosaic.PureOps.Ideal.Laws

@[expose] public section

noncomputable section

open Idealize.ShloMosaic Idealize.ShloMosaic.ValueIdx
open scoped BigOperators

namespace RowMath

/-- A row over the root of its mean square (with the small constant added), times the weight row. -/
def rmsRow (x g : Fin 1024 → EReal) : Fin 1024 → EReal := fun k =>
  x k * Ideal.rsqrt (Ideal.div (∑ j, x j * x j) (Ideal.ofBits .f32 0x44800000#32) + Ideal.ofBits .f32 0x358637BD#32) * g k

/-- A row times a matrix. -/
def dotRow {K N : ℕ} (h : Fin K → EReal) (w : Fin K → Fin N → EReal) : Fin N → EReal := fun n => ∑ k, h k * w k n

/-- `a` times its logistic. -/
def swish (a : EReal) : EReal :=
  a * Ideal.div (Ideal.ofBits .f32 0x3F800000#32) (Ideal.ofBits .f32 0x3F800000#32 + Ideal.exp (-a))

/-- The gated hidden row of a normalized row. -/
def hiddenRow (h : Fin 1024 → EReal) (wg wu : Fin 1024 → Fin 2816 → EReal) : Fin 2816 → EReal := fun f =>
  swish (dotRow h wg f) * dotRow h wu f

/-- The feed-forward block on one row: the row plus half of the gated hidden row of its norm times `wd`. -/
def ffnRow (x g : Fin 1024 → EReal) (wg wu : Fin 1024 → Fin 2816 → EReal) (wd : Fin 2816 → Fin 1024 → EReal) :
    Fin 1024 → EReal := fun j =>
  x j + Ideal.ofBits .f32 0x3F000000#32 * dotRow (hiddenRow (rmsRow x g) wg wu) wd j

/-- A product of matrices accumulated from zero, read at a row and a column. -/
theorem mm_apply {M K N : ℕ} {φ₁ φ₂ : FTy} (d : DotDims ⟨2, ![M, K]⟩ ⟨2, ![K, N]⟩ ⟨2, ![M, N]⟩) (hd : d = DotDims.plain M K N)
    (a : FVec Ideal ⟨2, ![M, K]⟩ φ₁) (b : FVec Ideal ⟨2, ![K, N]⟩ φ₂) (r : Fin M) (c : Fin N) :
    matmul d none a b (constant ⟨2, ![M, N]⟩ .f32 0x00000000#32) (ix2 r c)
      = dotRow (fun k => a (ix2 r k)) (fun k n => b (ix2 k n)) c := by
  subst hd
  refine (Ideal.matmul_plain_apply none a b _ r c).trans ?_
  rw [constant_apply]
  show Ideal.ofBits .f32 0x00000000#32 + _ = _
  rw [Ideal.ofBits_zero_f32, zero_add]; rfl

/-- The place a reduction along the second axis reads for row `r` and position `k`. -/
theorem lift_row {M K : ℕ} (h : Shape.Reduces ⟨2, ![M, K]⟩ [1] ⟨1, ![M]⟩) (r : Fin M) (k : Fin K) :
    h.lift (ix1 r) k = ix2 r k := by
  funext a
  match a with
  | ⟨0, _⟩ => exact Fin.ext ((h.lift_val (ix1 r) k _).trans rfl)
  | ⟨1, _⟩ => exact Fin.ext ((h.lift_val (ix1 r) k _).trans rfl)

/-- The sum along the second axis of a matrix, read at a row. -/
theorem rowsum_apply {M K : ℕ} (x : FVec Ideal ⟨2, ![M, K]⟩ .f32) (h : Shape.Reduces ⟨2, ![M, K]⟩ [1] ⟨1, ![M]⟩)
    (hφ : FKind.Formats .f32) (hacc : 0x00000000#32 = FKind.add.neutral .f32 hφ) (r : Fin M) :
    multiReduction .add [1] ⟨1, ![M]⟩ x 0x00000000#32 h hφ hacc (ix1 r) = ∑ k : Fin K, x (ix2 r k) := by
  rw [Ideal.multiReduction_add_single]
  exact Finset.sum_congr rfl fun k _ => congrArg x (lift_row h r k)

/-- A column held as a vector, read as the one column of a matrix. -/
theorem col_apply {M : ℕ} {α : Type} (v : (⟨1, ![M]⟩ : Shape).Idx → α) (h : Shape.ShapeCasts ⟨1, ![M]⟩ ⟨2, ![M, 1]⟩) (r : Fin M)
    (z : Fin 1) : shapeCast ⟨2, ![M, 1]⟩ v h (ix2 r z) = v (ix1 r) := by
  refine shapeCast_apply v h _ _ ?_
  rw [Shape.rowMajor_val_one, Shape.rowMajor_val_two]
  have := z.isLt
  show r.val = r.val * 1 + z.val
  omega

/-- One column repeated along the second axis. -/
theorem bcastCol_apply {M K : ℕ} {α : Type} (v : (⟨2, ![M, 1]⟩ : Shape).Idx → α)
    (h : Shape.Broadcasts ⟨2, ![M, 1]⟩ ⟨2, ![M, K]⟩) (r : Fin M) (k : Fin K) :
    broadcastTo ⟨2, ![M, K]⟩ v h (ix2 r k) = v (ix2 r 0) := by
  refine broadcastTo_apply v h _ _ fun a => ?_
  fin_cases a
  · show r.val = if M = 1 then 0 else r.val
    split
    · have := r.isLt; omega
    · rfl
  · rfl

/-- One row repeated along the first axis. -/
theorem bcastRow_apply {M K : ℕ} {α : Type} (v : (⟨2, ![1, K]⟩ : Shape).Idx → α)
    (h : Shape.Broadcasts ⟨2, ![1, K]⟩ ⟨2, ![M, K]⟩) (r : Fin M) (k : Fin K) :
    broadcastTo ⟨2, ![M, K]⟩ v h (ix2 r k) = v (ix2 0 k) := by
  refine broadcastTo_apply v h _ _ fun a => ?_
  fin_cases a
  · rfl
  · show k.val = if K = 1 then 0 else k.val
    split
    · have := k.isLt; omega
    · rfl

/-- The norm of a block of rows, as the kernel's vector operations compute it, is the norm of each row. -/
theorem rms_apply {M : ℕ} (x : FVec Ideal ⟨2, ![M, 1024]⟩ .f32) (g : FVec Ideal ⟨2, ![1, 1024]⟩ .f32)
    (h : Shape.Reduces ⟨2, ![M, 1024]⟩ [1] ⟨1, ![M]⟩) (hφ : FKind.Formats .f32) (hacc : 0x00000000#32 = FKind.add.neutral .f32 hφ)
    (hs : Shape.ShapeCasts ⟨1, ![M]⟩ ⟨2, ![M, 1]⟩) (hb : Shape.Broadcasts ⟨2, ![M, 1]⟩ ⟨2, ![M, 1024]⟩)
    (hg : Shape.Broadcasts ⟨2, ![1, 1024]⟩ ⟨2, ![M, 1024]⟩) (r : Fin M) (k : Fin 1024) :
    mulf (mulf x (broadcastTo ⟨2, ![M, 1024]⟩ (rsqrt (addf (divf (shapeCast ⟨2, ![M, 1]⟩
        (multiReduction .add [1] ⟨1, ![M]⟩ (mulf x x) 0x00000000#32 h hφ hacc) hs)
        (broadcast ⟨2, ![M, 1]⟩ (Scalar.ofBits .f32 0x44800000#32))) (broadcast ⟨2, ![M, 1]⟩ (Scalar.ofBits .f32 0x358637BD#32)))) hb))
      (broadcastTo ⟨2, ![M, 1024]⟩ g hg) (ix2 r k)
      = rmsRow (fun j => x (ix2 r j)) (fun j => g (ix2 0 j)) k := by
  rw [mulf_apply, mulf_apply, bcastCol_apply, bcastRow_apply]
  show _ * Ideal.rsqrt (Ideal.div (shapeCast _ _ hs (ix2 r 0)) _ + _) * _ = _
  rw [col_apply, rowsum_apply]
  rfl

/-- The gated hidden block, as the kernel's vector operations compute it from the two products. -/
theorem hidden_apply {s : Shape} (a b : FVec Ideal s .f32) (i : s.Idx) :
    mulf (mulf a (divf (broadcast s (Scalar.ofBits .f32 0x3F800000#32))
      (addf (broadcast s (Scalar.ofBits .f32 0x3F800000#32)) (exp (subf (broadcast s (Scalar.ofBits .f32 0x00000000#32)) a))))) b i
      = swish (a i) * b i := by
  show a i * Ideal.div (Ideal.ofBits .f32 0x3F800000#32) (Ideal.ofBits .f32 0x3F800000#32
    + Ideal.exp (Ideal.ofBits .f32 0x00000000#32 - a i)) * b i = _
  rw [Ideal.ofBits_zero_f32, zero_sub]; rfl

/-- Two half rows side by side. -/
def catRow (f g : Fin 512 → EReal) : Fin 1024 → EReal := fun k =>
  if h : k.val < 512 then f ⟨k.val, h⟩ else g ⟨k.val - 512, by omega⟩

/-- A row with another row's product with a matrix added. -/
def addRow {K : ℕ} (x : Fin 1024 → EReal) (o : Fin K → EReal) (w : Fin K → Fin 1024 → EReal) : Fin 1024 → EReal := fun j =>
  x j + dotRow o w j

/-- Row `k` of the upper half of a matrix of 1024 rows. -/
def upper (k : Fin 512) : Fin 1024 := ⟨k.val, by omega⟩
/-- Row `k` of its lower half. -/
def lower (k : Fin 512) : Fin 1024 := ⟨512 + k.val, by omega⟩

/-- Two half rows side by side, times a matrix, are the one half times the upper rows plus the other times the lower. -/
theorem dotRow_catRow {N : ℕ} (f g : Fin 512 → EReal) (w : Fin 1024 → Fin N → EReal) (n : Fin N) :
    dotRow (catRow f g) w n = dotRow f (fun k => w (upper k)) n + dotRow g (fun k => w (lower k)) n := by
  refine (Fin.sum_univ_add (a := 512) (b := 512) (fun k => catRow f g k * w k n)).trans ?_
  refine congrArg₂ (fun a b : EReal => a + b) ?_ ?_
  · refine Finset.sum_congr rfl fun k _ => ?_
    rw [show catRow f g (Fin.castAdd 512 k) = f k from dif_pos k.isLt]; rfl
  · refine Finset.sum_congr rfl fun k _ => ?_
    have hn : ¬ (512 + k.val < 512) := by omega
    rw [show catRow f g (Fin.natAdd 512 k) = g k from (dif_neg hn).trans (congrArg g (Fin.ext (by show 512 + k.val - 512 = k.val; omega)))]
    rfl

end RowMath

end
-- ==== Proof.AttentionLoop.lean ====
/- The attention kernel's loop over the keys, as a recursion on what the two scratch buffers hold. -/
module

public import proofs.«01_k».proof.Proof.Gen.AttentionIdeal.Value
public import proofs.«01_k».proof.Proof.RowMath
public import Idealize.ShloMosaic.Lib.VecWindow

@[expose] public section

set_option maxRecDepth 16384

noncomputable section

open Idealize.ShloMosaic Idealize.ShloMosaic.ValueIdx Idealize.ShloMosaic.TcCoe Idealize.ShloMosaic.Tactic
open Cert.AttentionIdeal Cert.AttentionIdeal.Gen

namespace AttentionLoop

variable {F : FTy → Type} [FloatOps F] [Named F]

/-- Key number `j` of the `n`-th stretch of 512 keys. -/
def keyAt (n : ℕ) (j : Fin 512) : Fin 16384 := ⟨(512 * n + j.val) % 16384, Nat.mod_lt _ (by norm_num)⟩

/-- The keys of the `n`-th stretch. -/
def keyRows (K : Vec F S16384x128 .bf16) (n : ℕ) : Vec F S512x128 .bf16 := fun y => K (ix2 (keyAt n (y 0)) (y 1))

/-- The values of the `n`-th stretch. -/
def valRows (W : Vec F S16384x256 .bf16) (n : ℕ) : Vec F S512x256 .bf16 := fun y => W (ix2 (keyAt n (y 0)) (y 1))

/-- What the scratch buffers hold before trip `n`: the running maxima and the running sums. -/
def state (q0 q1 q2 q3 : Vec F S128x128 .bf16) (K : Vec F S16384x128 .bf16) (W : Vec F S16384x256 .bf16) :
    ℕ → Vec F S512x128 .f32 × Vec F S512x256 .f32
  | 0 => (k0_pay3, k0_pay4)
  | n + 1 =>
    (k0_pay8 q0 q1 q2 q3 (keyRows K n) (state q0 q1 q2 q3 K W n).1,
      k0_pay7 q0 q1 q2 q3 (keyRows K n) (valRows W n) (state q0 q1 q2 q3 K W n).1 (state q0 q1 q2 q3 K W n).2)

/-- Loading 512 rows of the keys at the trip's offset gives the trip's stretch. -/
theorem ld_keys (K : Vec F S16384x128 .bf16) (n : Fin k0_t1_loop.trips) (h) :
    View.ld K (Rect.unit (s := S16384x128) (k0_off1 n) S512x128.size h) = keyRows K n.val := by
  have hn : n.val < 32 := Nat.lt_of_lt_of_le n.isLt k0_t1_abs.2.1
  rw [View.ld_unit]
  refine funext fun y => congrArg K (funext fun a => Fin.ext ?_)
  have e := congrFun (k0_off1_eq n) a
  have hy : (y 0).val < 512 := (y 0).isLt
  match a with
  | ⟨0, _⟩ =>
    show k0_off1 n 0 + (y 0).val = (512 * n.val + (y 0).val) % 16384
    rw [Nat.mod_eq_of_lt (by omega)]
    exact congrArg (· + _) e
  | ⟨1, _⟩ =>
    show k0_off1 n 1 + (y 1).val = (y 1).val
    exact (congrArg (· + _) e).trans (Nat.zero_add _)

/-- Loading 512 rows of the values at the trip's offset gives the trip's stretch. -/
theorem ld_vals (W : Vec F S16384x256 .bf16) (n : Fin k0_t1_loop.trips) (h) :
    View.ld W (Rect.unit (s := S16384x256) (k0_off2 n) S512x256.size h) = valRows W n.val := by
  have hn : n.val < 32 := Nat.lt_of_lt_of_le n.isLt k0_t1_abs.2.1
  rw [View.ld_unit]
  refine funext fun y => congrArg W (funext fun a => Fin.ext ?_)
  have e := congrFun (k0_off2_eq n) a
  have hy : (y 0).val < 512 := (y 0).isLt
  match a with
  | ⟨0, _⟩ =>
    show k0_off2 n 0 + (y 0).val = (512 * n.val + (y 0).val) % 16384
    rw [Nat.mod_eq_of_lt (by omega)]
    exact congrArg (· + _) e
  | ⟨1, _⟩ =>
    show k0_off2 n 1 + (y 1).val = (y 1).val
    exact (congrArg (· + _) e).trans (Nat.zero_add _)

section

variable (𝒱 : Variants) (c : Dev nD) (bd : Option 𝒱.V) (i : grid0.Coords) (arg2 : Memref sig .tc .vmem S128x512 .bf16) (harg2 : arg2.IsWhole)
  (arg3 : Memref sig .tc .vmem S16384x128 .bf16) (harg3 : arg3.IsWhole) (arg4 : Memref sig .tc .vmem S16384x256 .bf16) (harg4 : arg4.IsWhole)
  (arg5 : Memref sig .tc .vmem S128x512 .bf16) (harg5 : arg5.IsWhole) (arg6 : Memref sig .tc .vmem S512x128 .f32) (harg6 : arg6.IsWhole)
  (arg7 : Memref sig .tc .vmem S512x256 .f32) (harg7 : arg7.IsWhole)
  (q0 q1 q2 q3 : Vec F S128x128 .bf16) (X3 : BufTy.Contents (Elt F) arg3.view.ty) (X4 : BufTy.Contents (Elt F) arg4.view.ty)

/-- What one trip stores, from what it finds. -/
theorem trip_eq (k : Fin k0_t1_loop.trips) (f6 : BufTy.Contents (Elt F) arg6.view.ty) (f7 : BufTy.Contents (Elt F) arg7.view.ty) :
    tripL_k0_t1 (F := F) 𝒱 c bd i arg2 harg2 arg3 harg3 arg4 harg4 arg5 harg5 arg6 harg6 arg7 harg7 q0 q1 q2 q3 X3 X4 k f6 f7
      = ([⟨Rect.unit ![0, 0] ![512, 128] inb_S512x128_S512x128_0_0,
            k0_pay8 q0 q1 q2 q3 (keyRows (arg3.view.read (Elt F) X3) k.val) (arg6.view.read (Elt F) f6)⟩],
          [⟨Rect.unit ![0, 0] ![512, 256] inb_S512x256_S512x256_0_0,
            k0_pay7 q0 q1 q2 q3 (keyRows (arg3.view.read (Elt F) X3) k.val) (valRows (arg4.view.read (Elt F) X4) k.val)
              (arg6.view.read (Elt F) f6) (arg7.view.read (Elt F) f7)⟩]) := by
  have e3 : ∀ h, View.readAt (Elt F) arg3.view (Rect.unit (s := S16384x128) (k0_off1 k) S512x128.size h).toLoadRect X3
      = keyRows (arg3.view.read (Elt F) X3) k.val := fun h => ld_keys _ k h
  have e4 : ∀ h, View.readAt (Elt F) arg4.view (Rect.unit (s := S16384x256) (k0_off2 k) S512x256.size h).toLoadRect X4
      = valRows (arg4.view.read (Elt F) X4) k.val := fun h => ld_vals _ k h
  have e6 : View.readAt (Elt F) arg6.view (Rect.unit ![0, 0] ![512, 128] inb_S512x128_S512x128_0_0).toLoadRect f6
      = arg6.view.read (Elt F) f6 := View.readAt_full _ _ _
  have e7 : View.readAt (Elt F) arg7.view (Rect.unit ![0, 0] ![512, 256] inb_S512x256_S512x256_0_0).toLoadRect f7
      = arg7.view.read (Elt F) f7 := View.readAt_full _ _ _
  rw [← e6, ← e7, ← e3 (k0_off1_inb k), ← e4 (k0_off2_inb k)]
  unfold tripL_k0_t1 trip_k0_t1
  rfl

/-- Before trip `n` the scratch buffers hold the recursion's state. -/
theorem before_trip (G6 : BufTy.Contents (Elt F) arg6.view.ty) (G7 : BufTy.Contents (Elt F) arg7.view.ty)
    (h6 : arg6.view.read (Elt F) G6 = k0_pay3) (h7 : arg7.view.read (Elt F) G7 = k0_pay4) (n : ℕ) (hn : n ≤ k0_t1_loop.trips) :
    arg6.view.read (Elt F) (arg6.view.writes (Elt F) G6
        (pb_k0_t1 (F := F) 𝒱 c bd i arg2 harg2 arg3 harg3 arg4 harg4 arg5 harg5 arg6 harg6 arg7 harg7 q0 q1 q2 q3 X3 X4 G6 G7 n).1)
        = (state q0 q1 q2 q3 (arg3.view.read (Elt F) X3) (arg4.view.read (Elt F) X4) n).1
      ∧ arg7.view.read (Elt F) (arg7.view.writes (Elt F) G7
        (pb_k0_t1 (F := F) 𝒱 c bd i arg2 harg2 arg3 harg3 arg4 harg4 arg5 harg5 arg6 harg6 arg7 harg7 q0 q1 q2 q3 X3 X4 G6 G7 n).2)
        = (state q0 q1 q2 q3 (arg3.view.read (Elt F) X3) (arg4.view.read (Elt F) X4) n).2 := by
  induction n with
  | zero => exact ⟨h6, h7⟩
  | succ n ih =>
    obtain ⟨i6, i7⟩ := ih (Nat.le_of_succ_le hn)
    have e := pb_k0_t1_succ (F := F) 𝒱 c bd i arg2 harg2 arg3 harg3 arg4 harg4 arg5 harg5 arg6 harg6 arg7 harg7 q0 q1 q2 q3 X3 X4 G6 G7 ⟨n, hn⟩
    rw [trip_eq] at e
    rw [e]
    constructor
    · refine (View.read_writes_full _ _ _ _ _).trans ?_
      show k0_pay8 q0 q1 q2 q3 _ _ = k0_pay8 q0 q1 q2 q3 _ _
      rw [i6]
    · refine (View.read_writes_full _ _ _ _ _).trans ?_
      show k0_pay7 q0 q1 q2 q3 _ _ _ _ = k0_pay7 q0 q1 q2 q3 _ _ _ _
      rw [i6, i7]

/-- What the second buffer reads as after `n` trips from the starting values. -/
theorem read_after (n : ℕ) (hn : n ≤ k0_t1_loop.trips) :
    View.readCov (Val := Elt F) arg7.view
        ((pb_k0_t1 (F := F) 𝒱 c bd i arg2 harg2 arg3 harg3 arg4 harg4 arg5 harg5 arg6 harg6 arg7 harg7 q0 q1 q2 q3 X3 X4
            (arg6.view.writes (Elt F) arg6.view.junk [⟨Rect.unit ![0, 0] ![512, 128] inb_S512x128_S512x128_0_0, k0_pay3⟩])
            (arg7.view.writes (Elt F) arg7.view.junk [⟨Rect.unit ![0, 0] ![512, 256] inb_S512x256_S512x256_0_0, k0_pay4⟩]) n).2
          ++ [⟨Rect.unit ![0, 0] ![512, 256] inb_S512x256_S512x256_0_0, k0_pay4⟩])
        (Rect.unit ![0, 0] ![512, 256] inb_S512x256_S512x256_0_0).toLoadRect
      = (state q0 q1 q2 q3 (arg3.view.read (Elt F) X3) (arg4.view.read (Elt F) X4) n).2 := by
  refine (View.readAt_full _ _ _).trans ?_
  rw [View.writes_append]
  exact (before_trip 𝒱 c bd i arg2 harg2 arg3 harg3 arg4 harg4 arg5 harg5 arg6 harg6 arg7 harg7 q0 q1 q2 q3 X3 X4 _ _
    (View.read_writes_full _ _ _ _ _) (View.read_writes_full _ _ _ _ _) n hn).2

end

end AttentionLoop

end
-- ==== Proof.OnlineSoftmax.lean ====
/- The softmax taken a stretch of keys at a time, in base two, with a running maximum: its numerator over its
   denominator is the plain softmax's weighted sum. -/
module

public import Idealize.ShloMosaic.Lib.ValueIdx
public import Idealize.ShloMosaic.PureOps.Ideal.Laws

@[expose] public section

noncomputable section

open Idealize.ShloMosaic
open scoped BigOperators

namespace OnlineSoftmax

/-- The largest of finitely many values, `⊥` for none. -/
def top {n : ℕ} (t : Fin n → EReal) : EReal := Finset.univ.fold max ⊥ t

/-- The running maximum after a stretch of scores. -/
def maxNext (t : Fin 512 → EReal) (m : EReal) : EReal := max m (top t)

/-- The running weighted sum after a stretch of scores and values: the old one rescaled, plus the stretch's own. -/
def sumNext (t w : Fin 512 → EReal) (m a : EReal) : EReal :=
  a * Ideal.exp2 (m - maxNext t m) + ∑ j, Ideal.exp2 (t j - maxNext t m) * w j

/-- The running maximum before stretch `n`. -/
def maxAt (t : ℕ → Fin 512 → EReal) : ℕ → EReal
  | 0 => ⊥
  | n + 1 => maxNext (t n) (maxAt t n)

/-- The running weighted sum before stretch `n`. -/
def sumAt (t w : ℕ → Fin 512 → EReal) : ℕ → EReal
  | 0 => 0
  | n + 1 => sumNext (t n) (w n) (maxAt t n) (sumAt t w n)

/-- The plain softmax's weighted sum. -/
def softmaxSum {n : ℕ} (s w : Fin n → EReal) : EReal :=
  ∑ j, w j * Ideal.div (Ideal.exp (s j - top s)) (∑ k, Ideal.exp (s k - top s))

/-- A fold of maxima over real values is `⊥` over nothing and real over something. -/
theorem fold_real {ι : Type} [DecidableEq ι] (t : ι → ℝ) (s : Finset ι) :
    (s = ∅ ∧ s.fold max (⊥ : EReal) (fun i => (t i : EReal)) = ⊥)
      ∨ ∃ M : ℝ, s.fold max (⊥ : EReal) (fun i => (t i : EReal)) = M := by
  induction s using Finset.induction_on with
  | empty => exact .inl ⟨rfl, Finset.fold_empty⟩
  | insert a s ha ih =>
    refine .inr ?_
    rw [Finset.fold_insert ha]
    rcases ih with ⟨_, h⟩ | ⟨M, h⟩
    · exact ⟨t a, by rw [h]; exact max_eq_left bot_le⟩
    · exact ⟨max (t a) M, by rw [h]; exact (EReal.coe_strictMono.monotone.map_max).symm⟩

/-- The largest of real values, some value given, is real. -/
theorem top_real {n : ℕ} [NeZero n] (t : Fin n → ℝ) : ∃ M : ℝ, top (fun i => (t i : EReal)) = M := by
  rcases fold_real t Finset.univ with ⟨h, _⟩ | h
  · exact absurd h (Finset.ne_empty_of_mem (Finset.mem_univ (0 : Fin n)))
  · exact h

/-- A real factor that is not negative goes inside a sum from the right. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => rw [Finset.sum_empty, Finset.sum_empty, zero_mul]
  | insert a s ha ih =>
    rw [Finset.sum_insert ha, Finset.sum_insert ha, ← ih]
    exact EReal.right_distrib_of_nonneg_of_ne_top (EReal.coe_nonneg.mpr hr) (EReal.coe_ne_top r) _ _

/-- A sum of real values is real. -/
theorem coe_sum {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

/-- Before the second stretch and after, the running maximum is real, and each running sum is the weighted sum of what
    has been seen, the weights taken against that maximum. -/
theorem running (t : ℕ → Fin 512 → ℝ) (n : ℕ) :
    ∃ M : ℝ, maxAt (fun b j => (t b j : EReal)) (n + 1) = M ∧ ∀ w : ℕ → Fin 512 → EReal,
      sumAt (fun b j => (t b j : EReal)) w (n + 1)
        = ∑ b ∈ Finset.range (n + 1), ∑ j, (((2 : ℝ) ^ (t b j - M) : ℝ) : EReal) * w b j := by
  have stretch : ∀ (b : ℕ) (M : ℝ) (w : Fin 512 → EReal),
      ∑ j, Ideal.exp2 ((t b j : EReal) - (M : EReal)) * w j = ∑ j, (((2 : ℝ) ^ (t b j - M) : ℝ) : EReal) * w j :=
    fun b M w => Finset.sum_congr rfl fun j _ => by rw [← EReal.coe_sub, Ideal.exp2_coe]; rfl
  induction n with
  | zero =>
    obtain ⟨M, hM⟩ := top_real (t 0)
    have e : maxNext (fun j => (t 0 j : EReal)) ⊥ = M := (max_eq_right bot_le).trans hM
    refine ⟨M, e, fun w => ?_⟩
    show sumNext _ (w 0) ⊥ 0 = _
    unfold sumNext
    rw [e, zero_mul, zero_add, stretch, Finset.sum_range_one]
  | succ n ih =>
    obtain ⟨M, hM, hs⟩ := ih
    obtain ⟨T, hT⟩ := top_real (t (n + 1))
    have e : maxNext (fun j => (t (n + 1) j : EReal)) M = ((max M T : ℝ) : EReal) := by
      unfold maxNext
      rw [hT]
      exact (EReal.coe_strictMono.monotone.map_max).symm
    have e' : maxAt (fun b j => (t b j : EReal)) (n + 1 + 1) = ((max M T : ℝ) : EReal) := by
      show maxNext _ (maxAt _ (n + 1)) = _
      rw [hM, e]
    refine ⟨max M T, e', fun w => ?_⟩
    show sumNext _ (w (n + 1)) (maxAt _ (n + 1)) (sumAt _ w (n + 1)) = _
    unfold sumNext
    rw [hM, e, hs w, stretch, Finset.sum_range_succ _ (n + 1)]
    refine congrArg (· + _) ?_
    rw [← EReal.coe_sub, Ideal.exp2_coe]
    have h2 : (0 : ℝ) ≤ (2 : ℝ) ^ (M - max M T) := Real.rpow_nonneg (by norm_num) _
    refine (sum_mul_coe _ _ h2).trans (Finset.sum_congr rfl fun b _ => ?_)
    refine (sum_mul_coe _ _ h2).trans (Finset.sum_congr rfl fun j _ => ?_)
    rw [mul_right_comm, ← EReal.coe_mul, ← Real.rpow_add (by norm_num)]
    congr 3
    ring

/-- Weights in base two against any real, normalized, are the softmax's. -/
theorem normalized {n : ℕ} [NeZero n] (s : Fin n → ℝ) (w : Fin n → EReal) (M : ℝ) :
    Ideal.div (∑ j, (((2 : ℝ) ^ (s j * (Real.log 2)⁻¹ - M) : ℝ) : EReal) * w j)
        (∑ j, (((2 : ℝ) ^ (s j * (Real.log 2)⁻¹ - M) : ℝ) : EReal) * 1)
      = softmaxSum (fun j => (s j : EReal)) w := by
  obtain ⟨S, hS⟩ := top_real s
  have h2 : Real.log 2 ≠ 0 := (Real.log_pos (by norm_num)).ne'
  have weight : ∀ j, (2 : ℝ) ^ (s j * (Real.log 2)⁻¹ - M) = Real.exp (s j - S) * Real.exp (S - Real.log 2 * M) := fun j => by
    rw [Real.rpow_def_of_pos (by norm_num), ← Real.exp_add]
    congr 1
    field_simp
    ring
  have pos : 0 < ∑ j, Real.exp (s j - S) := Finset.sum_pos (fun j _ => Real.exp_pos _) ⟨0, Finset.mem_univ _⟩
  have hc : 0 < Real.exp (S - Real.log 2 * M) := Real.exp_pos _
  unfold softmaxSum
  rw [hS]
  have den : ∑ j, (((2 : ℝ) ^ (s j * (Real.log 2)⁻¹ - M) : ℝ) : EReal) * 1
      = (((∑ j, Real.exp (s j - S)) * Real.exp (S - Real.log 2 * M) : ℝ) : EReal) := by
    rw [Finset.sum_mul, ← coe_sum]
    exact Finset.sum_congr rfl fun j _ => by rw [mul_one, weight]
  have den' : ∑ j, Ideal.exp ((s j : EReal) - (S : EReal)) = ((∑ j, Real.exp (s j - S) : ℝ) : EReal) := by
    rw [← coe_sum]
    exact Finset.sum_congr rfl fun j _ => by rw [← EReal.coe_sub, Ideal.exp_coe]
  rw [den, den', Ideal.div_coe (mul_pos pos hc).ne']
  refine (sum_mul_coe _ _ (by positivity)).trans (Finset.sum_congr rfl fun j _ => ?_)
  rw [← EReal.coe_sub, Ideal.exp_coe, Ideal.div_coe pos.ne', weight, mul_right_comm, ← EReal.coe_mul, ← EReal.coe_mul, mul_comm]
  congr 2
  field_simp

end OnlineSoftmax

end
-- ==== Proof.AttentionBlock.lean ====
/- One block of the attention kernel, 128 queries of four heads against every key: what its recursion leaves, row by row. -/
module

public import proofs.«01_k».proof.Proof.AttentionLoop
public import proofs.«01_k».proof.Proof.OnlineSoftmax

@[expose] public section

set_option maxRecDepth 16384

noncomputable section

open Idealize.ShloMosaic Idealize.ShloMosaic.ValueIdx Idealize.ShloMosaic.TcCoe RowMath
open scoped BigOperators

namespace AttentionBlock

open Cert.AttentionIdeal Cert.AttentionIdeal.Gen AttentionLoop OnlineSoftmax

/-- The factor that turns scores into powers of two. -/
def perLog2 : EReal := (((Real.log 2)⁻¹ : ℝ) : EReal)

/-- The `g`-th of four heads. -/
def pick {α : Type} (q0 q1 q2 q3 : α) (g : Fin 4) : α := ![q0, q1, q2, q3] g

/-- Row `r` of four stacked blocks of 128 rows. -/
def stackRow (q0 q1 q2 q3 : Vec Ideal S128x128 .bf16) (r : Fin 512) (d : Fin 128) : EReal :=
  pick q0 q1 q2 q3 ⟨r.val / 128, by omega⟩ (ix2 (⟨r.val % 128, by omega⟩ : Fin 128) d)

/-- Stacking four blocks, read at a row and a column. -/
theorem stack_apply (q0 q1 q2 q3 : Vec Ideal S128x128 .bf16) (r : Fin 512) (d : Fin 128) :
    concatenate S512x128 0 [⟨S128x128, q0⟩, ⟨S128x128, q1⟩, ⟨S128x128, q2⟩, ⟨S128x128, q3⟩]
      concatenates_S128x128_S128x128_S128x128_S128x128_S512x128_d0 (ix2 r d) = stackRow q0 q1 q2 q3 r d := by
  refine concatenate_ofFn_apply (t := S512x128) (s₁ := S128x128) 0 (fun g : Fin 4 => pick q0 q1 q2 q3 g) _ rfl 128 rfl (ix2 r d)
    ⟨r.val / 128, by omega⟩ rfl (ix2 (⟨r.val % 128, by omega⟩ : Fin 128) d) rfl fun b hb => ?_
  match b with
  | ⟨0, _⟩ => exact absurd rfl hb
  | ⟨1, _⟩ => rfl

/-- Four copies of a block side by side, read at a row and a column. -/
theorem wide4_apply (x : Vec Ideal S512x128 .f32) (r j : Fin 512) :
    concatenate S512x512 1 [⟨S512x128, x⟩, ⟨S512x128, x⟩, ⟨S512x128, x⟩, ⟨S512x128, x⟩]
      concatenates_S512x128_S512x128_S512x128_S512x128_S512x512_d1 (ix2 r j) = x (ix2 r (⟨j.val % 128, by omega⟩ : Fin 128)) := by
  refine concatenate_replicate_apply (t := S512x512) (s₁ := S512x128) 1 4 x _ rfl (ix2 r j) _ rfl fun b hb => ?_
  match b with
  | ⟨0, _⟩ => rfl
  | ⟨1, _⟩ => exact absurd rfl hb

/-- Two copies of a block side by side, read at a row and a column. -/
theorem wide2_apply (x : Vec Ideal S512x128 .f32) (r : Fin 512) (j : Fin 256) :
    concatenate S512x256 1 [⟨S512x128, x⟩, ⟨S512x128, x⟩]
      concatenates_S512x128_S512x128_S512x256_d1 (ix2 r j) = x (ix2 r (⟨j.val % 128, by omega⟩ : Fin 128)) := by
  refine concatenate_replicate_apply (t := S512x256) (s₁ := S512x128) 1 2 x _ rfl (ix2 r j) _ rfl fun b hb => ?_
  match b with
  | ⟨0, _⟩ => rfl
  | ⟨1, _⟩ => exact absurd rfl hb

/-- The score of a row of queries, already scaled, against a key. -/
def scaled (q k : Fin 128 → EReal) : EReal := ∑ d, q d * perLog2 * k d

/-- The scores the body computes for a stretch of keys. -/
theorem scores_apply (q0 q1 q2 q3 : Vec Ideal S128x128 .bf16) (K : Vec Ideal S512x128 .bf16) (r j : Fin 512) :
    k0_pay5 (F := Ideal) q0 q1 q2 q3 K (ix2 r j) = scaled (stackRow q0 q1 q2 q3 r) (fun d => K (ix2 j d)) := by
  unfold k0_pay5
  simp only [shapeCast_self]
  refine (Ideal.matmul_transposedRhs_apply (M := 512) (K := 128) (N := 512) none _ _ _ r j).trans ?_
  rw [constant_apply]
  show Ideal.ofBits .f32 0x00000000#32 + _ = _
  rw [Ideal.ofBits_zero_f32, zero_add]
  refine Finset.sum_congr rfl fun d _ => congrArg (· * K (ix2 j d)) ?_
  refine congrArg₂ (fun a b : EReal => a * b) ?_ ?_
  · rw [extf_apply]
    simp only [shapeCast_self]
    exact stack_apply q0 q1 q2 q3 r d
  exact IdealRules.named_const.ideal_named_scalar _ _ _ _ rfl

/-- The largest along the second axis of a matrix, read at a row. -/
theorem rowmax_apply {M N : ℕ} (x : FVec Ideal ⟨2, ![M, N]⟩ .f32) (h : Shape.Reduces ⟨2, ![M, N]⟩ [1] ⟨1, ![M]⟩)
    (hφ : FKind.Formats .f32) (hacc : 0xFF800000#32 = FKind.maximumf.neutral .f32 hφ) (r : Fin M) :
    multiReduction .maximumf [1] ⟨1, ![M]⟩ x 0xFF800000#32 h hφ hacc (ix1 r) = top (fun j : Fin N => x (ix2 r j)) := by
  rw [Ideal.multiReduction_maximumf_single]
  have hb : (FloatOps.ofBits .f32 0xFF800000#32 : Ideal .f32) = (⊥ : EReal) := by
    show Ideal.ofBits .f32 0xFF800000#32 = ⊥
    simp [Ideal.ofBits, Ideal.ieee]
  rw [hb]
  exact congrArg (fun f => Finset.fold max (⊥ : EReal) f Finset.univ) (funext fun j => congrArg x (lift_row h r j))

/-- The running maximum the body computes. -/
theorem max_apply (q0 q1 q2 q3 : Vec Ideal S128x128 .bf16) (K : Vec Ideal S512x128 .bf16) (m : Vec Ideal S512x128 .f32)
    (r : Fin 512) (l : Fin 128) :
    k0_pay6 (F := Ideal) q0 q1 q2 q3 K m (ix2 r l)
      = maxNext (fun j => scaled (stackRow q0 q1 q2 q3 r) (fun d => K (ix2 j d))) (m (ix2 r l)) := by
  unfold k0_pay6
  show max (m (ix2 r l)) _ = max _ _
  refine congrArg (max _) ?_
  refine (bcastCol_apply _ _ r l).trans ?_
  refine (col_apply _ _ r 0).trans ?_
  refine (rowmax_apply _ _ _ _ r).trans ?_
  exact congrArg top (funext fun j => scores_apply q0 q1 q2 q3 K r j)

/-- The running sum the body computes, where the running maximum is the same in every column. -/
theorem sum_apply (q0 q1 q2 q3 : Vec Ideal S128x128 .bf16) (K : Vec Ideal S512x128 .bf16) (W : Vec Ideal S512x256 .bf16)
    (m : Vec Ideal S512x128 .f32) (a : Vec Ideal S512x256 .f32) (r : Fin 512) (M : EReal) (hM : ∀ l, m (ix2 r l) = M) (c : Fin 256) :
    k0_pay7 (F := Ideal) q0 q1 q2 q3 K W m a (ix2 r c)
      = sumNext (fun j => scaled (stackRow q0 q1 q2 q3 r) (fun d => K (ix2 j d))) (fun j => W (ix2 j c)) M (a (ix2 r c)) := by
  unfold k0_pay7
  simp only [shapeCast_self]
  refine (addf_apply _ _ _).trans ?_
  unfold sumNext
  refine congrArg₂ (fun x y : EReal => x + y) ?_ ?_
  · refine congrArg (fun y : EReal => a (ix2 r c) * y) ((wide2_apply _ r c).trans ?_)
    show Ideal.exp2 (m _ - k0_pay6 (F := Ideal) q0 q1 q2 q3 K m _) = _
    rw [max_apply, hM]
  · refine (mm_apply dot_S512x512_S512x256_S512x256_1_0_0_1_n_n rfl _ _ r c).trans ?_
    refine Finset.sum_congr rfl fun j _ => congrArg (· * W (ix2 j c)) ?_
    show Ideal.exp2 (k0_pay5 (F := Ideal) q0 q1 q2 q3 K _ - concatenate _ _ _ _ (ix2 r j)) = _
    rw [scores_apply, wide4_apply, max_apply, hM]

/-- Before trip `n`, each row's running maximum and sums are those of its own scores. -/
theorem state_apply (q0 q1 q2 q3 : Vec Ideal S128x128 .bf16) (K : Vec Ideal S16384x128 .bf16) (W : Vec Ideal S16384x256 .bf16)
    (r : Fin 512) (n : ℕ) :
    (∀ l, (state (F := Ideal) q0 q1 q2 q3 K W n).1 (ix2 r l)
      = maxAt (fun b j => scaled (stackRow q0 q1 q2 q3 r) (fun d => K (ix2 (keyAt b j) d))) n)
    ∧ ∀ c, (state (F := Ideal) q0 q1 q2 q3 K W n).2 (ix2 r c)
      = sumAt (fun b j => scaled (stackRow q0 q1 q2 q3 r) (fun d => K (ix2 (keyAt b j) d))) (fun b j => W (ix2 (keyAt b j) c)) n := by
  induction n with
  | zero =>
    constructor
    · intro l
      show k0_pay3 (F := Ideal) (ix2 r l) = ⊥
      unfold k0_pay3
      rw [shapeCast_self]
      exact IdealRules.named_const.ideal_named_scalar _ _ _ _ rfl
    · intro c
      show k0_pay4 (F := Ideal) (ix2 r c) = 0
      unfold k0_pay4
      rw [shapeCast_self]
      exact Ideal.ofBits_zero_f32
  | succ n ih =>
    obtain ⟨hm, hs⟩ := ih
    constructor
    · intro l
      show k0_pay8 (F := Ideal) q0 q1 q2 q3 _ _ (ix2 r l) = maxNext _ _
      unfold k0_pay8
      rw [shapeCast_self, max_apply, hm]
      rfl
    · intro c
      show k0_pay7 (F := Ideal) q0 q1 q2 q3 _ _ _ _ (ix2 r c) = sumNext _ _ _ _
      rw [sum_apply q0 q1 q2 q3 _ _ _ _ r _ hm, hs]
      rfl

/-- Summing over the 32 stretches of 512 keys is summing over the keys. -/
theorem sum_keys (f : Fin 16384 → EReal) : ∑ b ∈ Finset.range 32, ∑ j : Fin 512, f (keyAt b j) = ∑ s, f s := by
  rw [Finset.sum_range (fun b => ∑ j : Fin 512, f (keyAt b j))]
  rw [← Fintype.sum_prod_type' (fun (b : Fin 32) (j : Fin 512) => f (keyAt b.val j))]
  refine Fintype.sum_equiv (finProdFinEquiv (m := 32) (n := 512)) _ _ fun x => congrArg f (Fin.ext ?_)
  have h0 := x.1.isLt
  have h1 := x.2.isLt
  show (512 * x.1.val + x.2.val) % 16384 = x.2.val + 512 * x.1.val
  rw [Nat.mod_eq_of_lt (by omega)]
  omega

/-- The score of a row of queries against a key. -/
def score (q k : Fin 128 → EReal) : EReal := ∑ d, q d * k d

/-- After the last trip, with the queries and keys real and ones beside the values, each quotient is the softmax's
    weighted sum. -/
theorem quotient_apply (q0 q1 q2 q3 : Vec Ideal S128x128 .bf16) (K : Vec Ideal S16384x128 .bf16) (W : Vec Ideal S16384x256 .bf16)
    (r : Fin 512) (d : Fin 128) (hq : ∃ q : Fin 128 → ℝ, stackRow q0 q1 q2 q3 r = fun e => (q e : EReal))
    (hk : ∃ k : Fin 16384 → Fin 128 → ℝ, ∀ s e, K (ix2 s e) = (k s e : EReal))
    (hw : ∀ s, W (ix2 s (⟨128 + d.val, by omega⟩ : Fin 256)) = 1) :
    k0_pay9 (F := Ideal) (state (F := Ideal) q0 q1 q2 q3 K W 32).2 (ix2 r d)
      = softmaxSum (fun s => score (stackRow q0 q1 q2 q3 r) (fun e => K (ix2 s e)))
          (fun s => W (ix2 s (⟨d.val, by omega⟩ : Fin 256))) := by
  obtain ⟨q, hq⟩ := hq
  obtain ⟨k, hk⟩ := hk
  have hs : ∀ s, score (stackRow q0 q1 q2 q3 r) (fun e => K (ix2 s e)) = ((∑ e, q e * k s e : ℝ) : EReal) := fun s => by
    unfold score
    rw [hq, ← coe_sum]
    exact Finset.sum_congr rfl fun e _ => by beta_reduce; rw [hk, EReal.coe_mul]
  have ht : ∀ s, scaled (stackRow q0 q1 q2 q3 r) (fun e => K (ix2 s e))
      = (((∑ e, q e * k s e) * (Real.log 2)⁻¹ : ℝ) : EReal) := fun s => by
    unfold scaled perLog2
    rw [hq, Finset.sum_mul, ← coe_sum]
    exact Finset.sum_congr rfl fun e _ => by beta_reduce; rw [hk, mul_right_comm, EReal.coe_mul, EReal.coe_mul]
  obtain ⟨M, -, hsum⟩ := running (fun b j => (∑ e, q e * k (keyAt b j) e) * (Real.log 2)⁻¹) 31
  have col : ∀ c : Fin 256, (state (F := Ideal) q0 q1 q2 q3 K W 32).2 (ix2 r c)
      = ∑ s, (((2 : ℝ) ^ ((∑ e, q e * k s e) * (Real.log 2)⁻¹ - M) : ℝ) : EReal) * W (ix2 s c) := fun c => by
    rw [(state_apply q0 q1 q2 q3 K W r 32).2 c, ← sum_keys]
    simp only [ht]
    exact hsum _
  unfold k0_pay9
  refine (congrArg₂ Ideal.div
    ((extractStridedSlice_apply _ _ _ _ (ix2 r (⟨d.val, by omega⟩ : Fin 256)) fun a => ?_).trans (col _))
    ((extractStridedSlice_apply _ _ _ _ (ix2 r (⟨128 + d.val, by omega⟩ : Fin 256)) fun a => ?_).trans (col _))).trans ?_
  · match a with
    | ⟨0, _⟩ => exact (Nat.zero_add _).symm
    | ⟨1, _⟩ => exact (Nat.zero_add _).symm
  · match a with
    | ⟨0, _⟩ => exact (Nat.zero_add _).symm
    | ⟨1, _⟩ => rfl
  · simp only [hw, hs]
    exact normalized (fun s => ∑ e, q e * k s e) _ M

end AttentionBlock

end
-- ==== Proof.AttentionArray.lean ====
/- What the attention kernel's result array holds after a run. -/
module

public import proofs.«01_k».proof.Proof.AttentionBlock

@[expose] public section

set_option maxRecDepth 16384

noncomputable section

open Idealize.ShloMosaic Idealize.ShloMosaic.ValueIdx Idealize.ShloMosaic.TcCoe Idealize.ShloMosaic.Tactic Idealize.SL.Sem RowMath
open Idealize.ShloMosaic.Pipeline (Dat)

namespace AttentionArray

open Cert.AttentionIdeal Cert.AttentionIdeal.Gen Cert.AttentionIdeal.Value AttentionLoop AttentionBlock OnlineSoftmax

variable (m : (ℓ : Loc nD τ sig) → Buf (Elt Ideal) ℓ)

/-- The four heads' queries in a point's block. -/
def headBlock (x : Vec Ideal S128x512 .bf16) : Fin 4 → Vec Ideal S128x128 .bf16 :=
  pick (View.ld x (Rect.unit (s := S128x512) ![0, 0] S128x128.size inb_S128x512_S128x128_0_0))
    (View.ld x (Rect.unit (s := S128x512) ![0, 128] S128x128.size inb_S128x512_S128x128_0_128))
    (View.ld x (Rect.unit (s := S128x512) ![0, 256] S128x128.size inb_S128x512_S128x128_0_256))
    (View.ld x (Rect.unit (s := S128x512) ![0, 384] S128x128.size inb_S128x512_S128x128_0_384))

/-- What the running sums are after a point's last trip. -/
def sums (x : Vec Ideal S128x512 .bf16) (K : Vec Ideal S16384x128 .bf16) (W : Vec Ideal S16384x256 .bf16) : Vec Ideal S512x256 .f32 :=
  (state (F := Ideal) (headBlock x 0) (headBlock x 1) (headBlock x 2) (headBlock x 3) K W 32).2

/-- What a point leaves in the result's block: four pieces, one per head. -/
theorem outs_eq (c : Dev nD) (t : Fin cfg0.N) : outsAt0 (F := Ideal) m c t
    = View.canon (Val := Elt Ideal) [⟨Rect.unit (s := S128x512) ![0, 384] ![128, 128] inb_S128x512_S128x128_0_384, k0_pay2 (k0_pay9 (sums (iblk m c 0 t) (iblk m c 1 t) (iblk m c 2 t)))⟩,
       ⟨Rect.unit (s := S128x512) ![0, 256] ![128, 128] inb_S128x512_S128x128_0_256, k0_pay1 (k0_pay9 (sums (iblk m c 0 t) (iblk m c 1 t) (iblk m c 2 t)))⟩,
       ⟨Rect.unit (s := S128x512) ![0, 128] ![128, 128] inb_S128x512_S128x128_0_128, k0_pay11 (sums (iblk m c 0 t) (iblk m c 1 t) (iblk m c 2 t))⟩,
       ⟨Rect.unit (s := S128x512) ![0, 0] ![128, 128] inb_S128x512_S128x128_0_0, k0_pay10 (sums (iblk m c 0 t) (iblk m c 1 t) (iblk m c 2 t))⟩] := by
  unfold outsAt0 out0_A_3
  rw [View.read_writes_eq_canon _ _ _ (cover0_A_3 c _ _ _ _ _ _ _ _ _ _ _ _ _ _ _ _)]
  unfold kernelRun0_A
  dsimp only
  sl_unfold_words
  simp only [View.readAt_eq_ld, (hs0_0 t).read_unread, (hs0_1 t).read_unread, (hs0_2 t).read_unread]
  have e := read_after (F := Ideal) Variants.none c none (grid0.coords t) (ms0_0 t) (hs0_0 t) (ms0_1 t) (hs0_1 t) (ms0_2 t) (hs0_2 t)
    (ms0_3 t) (hs0_3 t) scM0_0 (Memref.isWhole_whole _) scM0_1 (Memref.isWhole_whole _)
    (headBlock (iblk m c 0 t) 0) (headBlock (iblk m c 0 t) 1) (headBlock (iblk m c 0 t) 2) (headBlock (iblk m c 0 t) 3)
    ((hs0_1 t).unread (iblk m c 1 t)) ((hs0_2 t).unread (iblk m c 2 t)) (Scf.trips 0#32 (Scalar.addi 0#32 32#32) 1#32) (le_refl _)
  rw [(hs0_1 t).read_unread, (hs0_2 t).read_unread] at e
  have e' := e.trans (show _ = sums (iblk m c 0 t) (iblk m c 1 t) (iblk m c 2 t) from rfl)
  rw [← e']
  rfl

/-- Column `d` of head `g` in a block of four heads. -/
def headCol (g : Fin 4) (d : Fin 128) : Fin 512 := ⟨128 * g.val + d.val, by omega⟩

/-- A place of a piece of 128 columns from column `o`. -/
theorem emb_piece (o : ℕ) (inb : ∀ a, (![0, o] : Fin 2 → ℕ) a + S128x128.size a ≤ S128x512.size a) (i d : Fin 128) (h : o + d.val < 512) :
    (Rect.unit (s := S128x512) ![0, o] S128x128.size inb).emb (ix2 i d) = ix2 i (⟨o + d.val, h⟩ : Fin 512) := by
  refine funext fun a => Fin.ext ?_
  match a with
  | ⟨0, _⟩ => exact (congrArg (0 + ·) (Nat.one_mul i.val)).trans (Nat.zero_add _)
  | ⟨1, _⟩ => exact congrArg (o + ·) (Nat.one_mul d.val)

/-- The queries of one head, read at a row and a column. -/
theorem headBlock_apply (x : Vec Ideal S128x512 .bf16) (g : Fin 4) (i d : Fin 128) :
    headBlock x g (ix2 i d) = x (ix2 i (headCol g d)) := by
  match g with
  | ⟨0, _⟩ => exact congrArg x (emb_piece 0 inb_S128x512_S128x128_0_0 i d (by omega))
  | ⟨1, _⟩ => exact congrArg x (emb_piece 128 inb_S128x512_S128x128_0_128 i d (by omega))
  | ⟨2, _⟩ => exact congrArg x (emb_piece 256 inb_S128x512_S128x128_0_256 i d (by omega))
  | ⟨3, _⟩ => exact congrArg x (emb_piece 384 inb_S128x512_S128x128_0_384 i d (by omega))

/-- Row `r` of the four stacked heads. -/
theorem stackRow_heads (x : Vec Ideal S128x512 .bf16) (g : Fin 4) (i d : Fin 128) :
    stackRow (headBlock x 0) (headBlock x 1) (headBlock x 2) (headBlock x 3) (headCol g i) d = x (ix2 i (headCol g d)) := by
  have e : ∀ g : Fin 4, pick (headBlock x 0) (headBlock x 1) (headBlock x 2) (headBlock x 3) g = headBlock x g := fun g => by
    fin_cases g <;> rfl
  unfold stackRow
  rw [e, headBlock_apply]
  have h0 : (headCol g i).val = 128 * g.val + i.val := rfl
  refine congrArg₂ (fun (a : Fin 128) (b : Fin 4) => x (ix2 a (headCol b d))) (Fin.ext ?_) (Fin.ext ?_)
  · show (headCol g i).val % 128 = i.val
    omega
  · show (headCol g i).val / 128 = g.val
    omega

/-- A place left of a piece reads what was written before the piece. -/
theorem skip_piece (o : ℕ) (inb : ∀ a, (![0, o] : Fin 2 → ℕ) a + (![128, 128] : Fin 2 → ℕ) a ≤ S128x512.size a)
    (w : (Rect.unit (s := S128x512) ![0, o] ![128, 128] inb).shape.Idx → Elt Ideal .bf16) (L : List (View.Piece (Elt Ideal) S128x512 .bf16))
    (i : Fin 128) (g : Fin 4) (d : Fin 128) (ho : 128 * g.val + 128 ≤ o) :
    View.canon (⟨Rect.unit (s := S128x512) ![0, o] ![128, 128] inb, w⟩ :: L) (ix2 i (headCol g d)) = View.canon L (ix2 i (headCol g d)) := by
  refine View.canon_cons_of_not_mem _ L fun hm => ?_
  have h := ((Rect.mem_set_unit (inb := inb)).mp hm 1).1
  have h' : o ≤ 128 * g.val + d.val := h
  have := d.isLt
  omega

/-- A place of the last piece reads the piece. -/
theorem take_piece (o : ℕ) (inb : ∀ a, (![0, o] : Fin 2 → ℕ) a + (![128, 128] : Fin 2 → ℕ) a ≤ S128x512.size a)
    (w : (Rect.unit (s := S128x512) ![0, o] ![128, 128] inb).shape.Idx → Elt Ideal .bf16) (L : List (View.Piece (Elt Ideal) S128x512 .bf16))
    (i : Fin 128) (g : Fin 4) (d : Fin 128) (ho : o = 128 * g.val) :
    View.canon (⟨Rect.unit (s := S128x512) ![0, o] ![128, 128] inb, w⟩ :: L) (ix2 i (headCol g d)) = w (ix2 i d) := by
  subst ho
  rw [show ix2 i (headCol g d) = (Rect.unit (s := S128x512) ![0, 128 * g.val] ![128, 128] inb).emb (ix2 i d) from
    (emb_piece (128 * g.val) inb i d (headCol g d).isLt).symm]
  exact View.canon_cons_emb _ w L _

/-- A slice of 128 rows, read at a row and a column. -/
theorem slice_apply (o : ℕ) (g : Fin 4) (ho : o = 128 * g.val) (x : Vec Ideal S512x128 .f32) (h : Shape.Slices S512x128 ![o, 0] S128x128)
    (i d : Fin 128) : extractStridedSlice S128x128 ![o, 0] x h (ix2 i d) = x (ix2 (headCol g i) d) :=
  extractStridedSlice_apply _ x h (ix2 i d) (ix2 (headCol g i) d) fun a => match a with
    | ⟨0, _⟩ => by subst ho; rfl
    | ⟨1, _⟩ => (Nat.zero_add _).symm

/-- The four pieces are the four heads' rows of the quotients. -/
theorem piece0_apply (R : Vec Ideal S512x256 .f32) (i d : Fin 128) :
    k0_pay10 (F := Ideal) R (ix2 i d) = k0_pay9 (F := Ideal) R (ix2 (headCol 0 i) d) := by
  unfold k0_pay10
  exact slice_apply 0 0 rfl (k0_pay9 (F := Ideal) R) slices_S512x128_o0_0_S128x128 i d

/-- The second head's part of the block's rows. -/
theorem piece1_apply (R : Vec Ideal S512x256 .f32) (i d : Fin 128) :
    k0_pay11 (F := Ideal) R (ix2 i d) = k0_pay9 (F := Ideal) R (ix2 (headCol 1 i) d) := by
  unfold k0_pay11
  exact slice_apply 128 1 rfl (k0_pay9 (F := Ideal) R) slices_S512x128_o128_0_S128x128 i d

/-- The third head's part of the block's rows. -/
theorem piece2_apply (R : Vec Ideal S512x256 .f32) (i d : Fin 128) :
    k0_pay1 (F := Ideal) (k0_pay9 (F := Ideal) R) (ix2 i d) = k0_pay9 (F := Ideal) R (ix2 (headCol 2 i) d) := by
  unfold k0_pay1
  exact slice_apply 256 2 rfl (k0_pay9 (F := Ideal) R) slices_S512x128_o256_0_S128x128 i d

/-- The fourth head's part of the block's rows. -/
theorem piece3_apply (R : Vec Ideal S512x256 .f32) (i d : Fin 128) :
    k0_pay2 (F := Ideal) (k0_pay9 (F := Ideal) R) (ix2 i d) = k0_pay9 (F := Ideal) R (ix2 (headCol 3 i) d) := by
  unfold k0_pay2
  exact slice_apply 384 3 rfl (k0_pay9 (F := Ideal) R) slices_S512x128_o384_0_S128x128 i d

/-- The result's block at a row, a head and a column. -/
theorem outs_apply (c : Dev nD) (t : Fin cfg0.N) (i : Fin 128) (g : Fin 4) (d : Fin 128) :
    outsAt0 (F := Ideal) m c t (ix2 i (headCol g d))
      = k0_pay9 (F := Ideal) (sums (iblk m c 0 t) (iblk m c 1 t) (iblk m c 2 t)) (ix2 (headCol g i) d) := by
  rw [outs_eq]
  generalize sums (iblk m c 0 t) (iblk m c 1 t) (iblk m c 2 t) = R
  match g with
  | ⟨0, _⟩ =>
    refine (skip_piece 384 inb_S128x512_S128x128_0_384 _ _ i _ d (by norm_num)).trans ?_
    refine (skip_piece 256 inb_S128x512_S128x128_0_256 _ _ i _ d (by norm_num)).trans ?_
    refine (skip_piece 128 inb_S128x512_S128x128_0_128 _ _ i _ d (by norm_num)).trans ?_
    exact (take_piece 0 inb_S128x512_S128x128_0_0 _ _ i _ d rfl).trans (piece0_apply R i d)
  | ⟨1, _⟩ =>
    refine (skip_piece 384 inb_S128x512_S128x128_0_384 _ _ i _ d (by norm_num)).trans ?_
    refine (skip_piece 256 inb_S128x512_S128x128_0_256 _ _ i _ d (by norm_num)).trans ?_
    exact (take_piece 128 inb_S128x512_S128x128_0_128 _ _ i _ d rfl).trans (piece1_apply R i d)
  | ⟨2, _⟩ =>
    refine (skip_piece 384 inb_S128x512_S128x128_0_384 _ _ i _ d (by norm_num)).trans ?_
    exact (take_piece 256 inb_S128x512_S128x128_0_256 _ _ i _ d rfl).trans (piece2_apply R i d)
  | ⟨3, _⟩ =>
    exact (take_piece 384 inb_S128x512_S128x128_0_384 _ _ i _ d rfl).trans (piece3_apply R i d)

/-- The blocks' places: the queries' and the result's block is rows `t % 128` and heads `t / 128`, the keys' and the
    values' block is every row and head group `t / 128`. -/
theorem idx_facts : ∀ t : Fin cfg0.N, (win0_0.index t 0 = t.val % 128 ∧ win0_0.index t 1 = t.val / 128)
    ∧ (win0_1.index t 0 = 0 ∧ win0_1.index t 1 = t.val / 128) ∧ (win0_2.index t 0 = 0 ∧ win0_2.index t 1 = t.val / 128)
    ∧ (win0_3.index t 0 = t.val % 128 ∧ win0_3.index t 1 = t.val / 128) :=
  (by decide +kernel : ∀ t : Fin grid0.N, (win0_0.index t 0 = t.val % 128 ∧ win0_0.index t 1 = t.val / 128)
    ∧ (win0_1.index t 0 = 0 ∧ win0_1.index t 1 = t.val / 128) ∧ (win0_2.index t 0 = 0 ∧ win0_2.index t 1 = t.val / 128)
    ∧ (win0_3.index t 0 = t.val % 128 ∧ win0_3.index t 1 = t.val / 128))

/-- The group of heads point `t` works on. -/
def group (t : Fin cfg0.N) : Fin 2 := ⟨t.val / 128, by have h : t.val < 256 := t.isLt; omega⟩

/-- Row `i` of point `t`'s queries. -/
def rowAt (t : Fin cfg0.N) (i : Fin 128) : Fin 16384 := ⟨t.val % 128 * 128 + i.val, by have := i.isLt; omega⟩

/-- Column `j` of group `h` of four heads. -/
def wideCol (h : Fin 2) (j : Fin 512) : Fin 1024 := ⟨h.val * 512 + j.val, by omega⟩

/-- Column `d` of the keys and values of group `h`. -/
def keyCol (h : Fin 2) (d : Fin 128) : Fin 256 := ⟨h.val * 128 + d.val, by omega⟩

/-- The queries the kernel is handed are the argument (a change of format is no change of the number). -/
theorem V_queries (c : Dev nD) : V m c main_v4 = m ((c : Thread nD τ).loc main_arg0) := by
  simp only [V, hostOps0]; after_results <;> rfl

/-- The keys the kernel is handed are the argument (a change of format is no change of the number). -/
theorem V_keys (c : Dev nD) : V m c main_v5 = m ((c : Thread nD τ).loc main_arg1) := by
  simp only [V, hostOps0]; after_results <;> rfl

/-- The values the kernel is handed are each group's columns of the argument followed by as many columns of ones. -/
theorem V_vals (c : Dev nD) : V m c main_v6 = concatenate S16384x512 1
    [⟨S16384x128, extractStridedSlice S16384x128 ![0, 0] (m ((c : Thread nD τ).loc main_arg2) : S16384x256.Idx → EReal) slices_S16384x256_S16384x128_0_0⟩,
      ⟨S16384x128, fun _ => Ideal.ofBits .f32 0x3F800000#32⟩,
      ⟨S16384x128, extractStridedSlice S16384x128 ![0, 128] (m ((c : Thread nD τ).loc main_arg2) : S16384x256.Idx → EReal) slices_S16384x256_S16384x128_0_128⟩,
      ⟨S16384x128, fun _ => Ideal.ofBits .f32 0x3F800000#32⟩] concatenates_S16384x128_S16384x128_S16384x128_S16384x128_S16384x512_d1 := by
  simp only [V, hostOps0]; after_results <;> rfl

/-- The queries' block at point `t`, read at a row and a column. -/
theorem queries_apply (c : Dev nD) (t : Fin cfg0.N) (i : Fin 128) (j : Fin 512) :
    iblk m c 0 t (ix2 i j) = m ((c : Thread nD τ).loc main_arg0) (ix2 (rowAt t i) (wideCol (group t) j)) := by
  show V m c main_v4 ((win0_0.rect t).emb (ix2 i j)) = _
  rw [V_queries]
  refine congrArg (m ((c : Thread nD τ).loc main_arg0)) (funext fun a => Fin.ext ?_)
  refine (Pipeline.Window.rect_emb_val win0_0 t (ix2 i j) a).trans ?_
  match a with
  | ⟨0, _⟩ => exact congrArg (· * 128 + i.val) (idx_facts t).1.1
  | ⟨1, _⟩ => exact congrArg (· * 512 + j.val) (idx_facts t).1.2

/-- The keys' block at point `t`. -/
theorem keys_apply (c : Dev nD) (t : Fin cfg0.N) (s : Fin 16384) (d : Fin 128) :
    iblk m c 1 t (ix2 s d) = m ((c : Thread nD τ).loc main_arg1) (ix2 s (keyCol (group t) d)) := by
  show V m c main_v5 ((win0_1.rect t).emb (ix2 s d)) = _
  rw [V_keys]
  refine congrArg (m ((c : Thread nD τ).loc main_arg1)) (funext fun a => Fin.ext ?_)
  match a with
  | ⟨0, _⟩ => exact Pipeline.Window.rect_emb_val_of_index_zero win0_1 t 0 (idx_facts t).2.1.1 (ix2 s d)
  | ⟨1, _⟩ => exact (Pipeline.Window.rect_emb_val win0_1 t (ix2 s d) 1).trans (congrArg (· * 128 + d.val) (idx_facts t).2.1.2)

/-- A place of the values' block in its array. -/
theorem emb_vals (t : Fin cfg0.N) (s : Fin 16384) (j : Fin 256) :
    (win0_2.rect t).emb (ix2 s j) = ix2 s (⟨(group t).val * 256 + j.val, by have := (group t).isLt; omega⟩ : Fin 512) := by
  refine funext fun a => Fin.ext ?_
  match a with
  | ⟨0, _⟩ => exact Pipeline.Window.rect_emb_val_of_index_zero win0_2 t 0 (idx_facts t).2.2.1.1 (ix2 s j)
  | ⟨1, _⟩ => exact (Pipeline.Window.rect_emb_val win0_2 t (ix2 s j) 1).trans (congrArg (· * 256 + j.val) (idx_facts t).2.2.1.2)

/-- Columns of the first and of the second group of values, each with ones after it, side by side. -/
def vExt (v : S16384x256.Idx → EReal) : S16384x512.Idx → EReal := concatenate S16384x512 1
  [⟨S16384x128, extractStridedSlice S16384x128 ![0, 0] v slices_S16384x256_S16384x128_0_0⟩,
    ⟨S16384x128, fun _ => Ideal.ofBits .f32 0x3F800000#32⟩,
    ⟨S16384x128, extractStridedSlice S16384x128 ![0, 128] v slices_S16384x256_S16384x128_0_128⟩,
    ⟨S16384x128, fun _ => Ideal.ofBits .f32 0x3F800000#32⟩] concatenates_S16384x128_S16384x128_S16384x128_S16384x128_S16384x512_d1

/-- The four pieces of it, by number. -/
def vPiece (v : S16384x256.Idx → EReal) : Fin 4 → S16384x128.Idx → EReal :=
  pick (extractStridedSlice S16384x128 ![0, 0] v slices_S16384x256_S16384x128_0_0) (fun _ => Ideal.ofBits .f32 0x3F800000#32)
    (extractStridedSlice S16384x128 ![0, 128] v slices_S16384x256_S16384x128_0_128) (fun _ => Ideal.ofBits .f32 0x3F800000#32)

/-- Column `d` of piece `p`. -/
theorem vExt_apply (v : S16384x256.Idx → EReal) (s : Fin 16384) (p : Fin 4) (d : Fin 128) :
    vExt v (ix2 s (headCol p d)) = vPiece v p (ix2 s d) := by
  have hc : (headCol p d).val = 128 * p.val + d.val := rfl
  refine concatenate_ofFn_apply (t := S16384x512) (s₁ := S16384x128) 1 (vPiece v) _ rfl 128 rfl (ix2 s (headCol p d)) p ?_ (ix2 s d) ?_ fun b hb => ?_
  · show (headCol p d).val / 128 = p.val
    omega
  · show d.val = (headCol p d).val % 128
    omega
  · match b with
    | ⟨0, _⟩ => rfl
    | ⟨1, _⟩ => exact absurd rfl hb

/-- The literal one. -/
theorem one_eq : Ideal.ofBits .f32 0x3F800000#32 = 1 := by
  simp [Ideal.ofBits, Ideal.ieee, -EReal.coe_mul]; norm_num

/-- The first half of a group's columns is the group's values. -/
theorem vExt_vals (v : S16384x256.Idx → EReal) (s : Fin 16384) (h : Fin 2) (d : Fin 128) :
    vExt v (ix2 s (⟨h.val * 256 + d.val, by omega⟩ : Fin 512)) = v (ix2 s (keyCol h d)) := by
  match h with
  | ⟨0, _⟩ =>
    refine (congrArg (fun j : Fin 512 => vExt v (ix2 s j)) (Fin.ext ?_)).trans ((vExt_apply v s 0 d).trans ?_)
    · show 0 * 256 + d.val = 128 * 0 + d.val
      omega
    · exact extractStridedSlice_apply _ v slices_S16384x256_S16384x128_0_0 _ _ fun a => match a with
        | ⟨0, _⟩ => (Nat.zero_add _).symm
        | ⟨1, _⟩ => rfl
  | ⟨1, _⟩ =>
    refine (congrArg (fun j : Fin 512 => vExt v (ix2 s j)) (Fin.ext ?_)).trans ((vExt_apply v s 2 d).trans ?_)
    · show 1 * 256 + d.val = 128 * 2 + d.val
      omega
    · exact extractStridedSlice_apply _ v slices_S16384x256_S16384x128_0_128 _ _ fun a => match a with
        | ⟨0, _⟩ => (Nat.zero_add _).symm
        | ⟨1, _⟩ => rfl

/-- The second half of a group's columns is ones. -/
theorem vExt_ones (v : S16384x256.Idx → EReal) (s : Fin 16384) (h : Fin 2) (d : Fin 128) :
    vExt v (ix2 s (⟨h.val * 256 + (128 + d.val), by omega⟩ : Fin 512)) = 1 := by
  match h with
  | ⟨0, _⟩ =>
    refine (congrArg (fun j : Fin 512 => vExt v (ix2 s j)) (Fin.ext ?_)).trans ((vExt_apply v s 1 d).trans one_eq)
    show 0 * 256 + (128 + d.val) = 128 * 1 + d.val
    omega
  | ⟨1, _⟩ =>
    refine (congrArg (fun j : Fin 512 => vExt v (ix2 s j)) (Fin.ext ?_)).trans ((vExt_apply v s 3 d).trans one_eq)
    show 1 * 256 + (128 + d.val) = 128 * 3 + d.val
    omega

/-- The values' block at point `t`: the group's values. -/
theorem vals_apply (c : Dev nD) (t : Fin cfg0.N) (s : Fin 16384) (d : Fin 128) :
    iblk m c 2 t (ix2 s (⟨d.val, by omega⟩ : Fin 256)) = m ((c : Thread nD τ).loc main_arg2) (ix2 s (keyCol (group t) d)) := by
  show V m c main_v6 ((win0_2.rect t).emb (ix2 s (⟨d.val, by omega⟩ : Fin 256))) = _
  rw [V_vals, emb_vals]
  exact vExt_vals _ s (group t) d

/-- The values' block at point `t`: the ones beside them. -/
theorem ones_apply (c : Dev nD) (t : Fin cfg0.N) (s : Fin 16384) (d : Fin 128) :
    iblk m c 2 t (ix2 s (⟨128 + d.val, by omega⟩ : Fin 256)) = (1 : EReal) := by
  show V m c main_v6 ((win0_2.rect t).emb (ix2 s (⟨128 + d.val, by omega⟩ : Fin 256))) = _
  rw [V_vals, emb_vals]
  exact vExt_ones _ s (group t) d

/-- Attention of query row `i`, group `h`, head `g` at column `d`: the softmax of its scores against the group's keys,
    weighing the group's values. -/
def attention (q : S16384x1024.Idx → EReal) (k v : S16384x256.Idx → EReal) (i : Fin 16384) (h : Fin 2) (g : Fin 4) (d : Fin 128) : EReal :=
  softmaxSum (fun s : Fin 16384 => score (fun e => q (ix2 i (wideCol h (headCol g e)))) (fun e => k (ix2 s (keyCol h e))))
    (fun s => v (ix2 s (keyCol h d)))

/-- The whole result array as one function. -/
def G (c : Dev nD) : S16384x1024.Idx → EReal := fun x =>
  attention (m ((c : Thread nD τ).loc main_arg0)) (m ((c : Thread nD τ).loc main_arg1)) (m ((c : Thread nD τ).loc main_arg2)) (x 0)
    ⟨(x 1).val / 512, by have h : (x 1).val < 1024 := (x 1).isLt; omega⟩ ⟨(x 1).val % 512 / 128, by omega⟩ ⟨(x 1).val % 128, by omega⟩

/-- It at a row, a group, a head and a column. -/
theorem G_apply (c : Dev nD) (i : Fin 16384) (h : Fin 2) (g : Fin 4) (d : Fin 128) : G m c (ix2 i (wideCol h (headCol g d)))
    = attention (m ((c : Thread nD τ).loc main_arg0)) (m ((c : Thread nD τ).loc main_arg1)) (m ((c : Thread nD τ).loc main_arg2)) i h g d := by
  have e : (wideCol h (headCol g d)).val = h.val * 512 + (128 * g.val + d.val) := rfl
  unfold G
  congr 1
  · refine Fin.ext ?_
    show (wideCol h (headCol g d)).val / 512 = h.val
    omega
  · refine Fin.ext ?_
    show (wideCol h (headCol g d)).val % 512 / 128 = g.val
    omega
  · refine Fin.ext ?_
    show (wideCol h (headCol g d)).val % 128 = d.val
    omega

/-- A place of the result's block `t` in the array. -/
theorem emb_out (t : Fin cfg0.N) (i : Fin 128) (j : Fin 512) : (win0_3.rect t).emb (ix2 i j) = ix2 (rowAt t i) (wideCol (group t) j) := by
  refine funext fun a => Fin.ext ?_
  refine (Pipeline.Window.rect_emb_val win0_3 t (ix2 i j) a).trans ?_
  match a with
  | ⟨0, _⟩ => exact congrArg (· * 128 + i.val) (idx_facts t).2.2.2.1
  | ⟨1, _⟩ => exact congrArg (· * 512 + j.val) (idx_facts t).2.2.2.2

/-- With the queries and keys real, what point `t` leaves in its block at a row, a head and a column. -/
theorem point_apply (c : Dev nD) (t : Fin cfg0.N) (hq : ∃ q : S16384x1024.Idx → ℝ, ∀ x, m ((c : Thread nD τ).loc main_arg0) x = (q x : EReal))
    (hk : ∃ k : S16384x256.Idx → ℝ, ∀ x, m ((c : Thread nD τ).loc main_arg1) x = (k x : EReal)) (i : Fin 128) (g : Fin 4) (d : Fin 128) :
    outsAt0 (F := Ideal) m c t (ix2 i (headCol g d)) = attention (m ((c : Thread nD τ).loc main_arg0)) (m ((c : Thread nD τ).loc main_arg1))
      (m ((c : Thread nD τ).loc main_arg2)) (rowAt t i) (group t) g d := by
  obtain ⟨q, hq⟩ := hq
  obtain ⟨k, hk⟩ := hk
  have row : ∀ e, stackRow (headBlock (iblk m c 0 t) 0) (headBlock (iblk m c 0 t) 1) (headBlock (iblk m c 0 t) 2) (headBlock (iblk m c 0 t) 3)
      (headCol g i) e = m ((c : Thread nD τ).loc main_arg0) (ix2 (rowAt t i) (wideCol (group t) (headCol g e))) := fun e =>
    (stackRow_heads (iblk m c 0 t) g i e).trans (queries_apply m c t i (headCol g e))
  rw [outs_apply]
  refine (quotient_apply _ _ _ _ _ _ (headCol g i) d ⟨_, funext fun e => (row e).trans (hq _)⟩
    ⟨_, fun s e => (keys_apply m c t s e).trans (hk _)⟩ fun s => ones_apply m c t s d).trans ?_
  unfold attention
  refine congrArg₂ softmaxSum (funext fun s => ?_) (funext fun s => vals_apply m c t s d)
  exact congrArg₂ score (funext row) (funext fun e => keys_apply m c t s e)

/-- With the queries and keys real, what point `t` writes back is block `t` of that function. -/
theorem flushed_eq (c : Dev nD) (t : Fin cfg0.N) (hq : ∃ q : S16384x1024.Idx → ℝ, ∀ x, m ((c : Thread nD τ).loc main_arg0) x = (q x : EReal))
    (hk : ∃ k : S16384x256.Idx → ℝ, ∀ x, m ((c : Thread nD τ).loc main_arg1) x = (k x : EReal)) :
    (dats m 0 c).flushed 3 t = ((cfg0.win 3).blk t).view.read (Elt Ideal) (G m c) := by
  rw [flushed3]
  refine funext fun (y : S128x512.Idx) => ?_
  obtain ⟨i, g, d, rfl⟩ : ∃ (i : Fin 128) (g : Fin 4) (d : Fin 128), y = ix2 i (headCol g d) := by
    have h1 : (y 1).val < 512 := (y 1).isLt
    refine ⟨y 0, ⟨(y 1).val / 128, by omega⟩, ⟨(y 1).val % 128, by omega⟩, (eq_ix2 y).trans (congrArg (ix2 (y 0)) (Fin.ext ?_))⟩
    show (y 1).val = 128 * ((y 1).val / 128) + (y 1).val % 128
    omega
  have cut : ∀ (X : Vec Ideal S128x512 .bf16) (y : S128x512.Idx), (cfg0.win 3).cut (grid0.coords t) X y = X y := fun _ _ => rfl
  have place : ∀ (W : S16384x1024.Idx → EReal) (y : S128x512.Idx),
      ((cfg0.win 3).blk t).view.read (Elt Ideal) W y = W ((win0_3.rect t).emb y) := fun _ _ => rfl
  have value : G m c ((win0_3.rect t).emb (ix2 i (headCol g d))) = attention (m ((c : Thread nD τ).loc main_arg0))
      (m ((c : Thread nD τ).loc main_arg1)) (m ((c : Thread nD τ).loc main_arg2)) (rowAt t i) (group t) g d := by
    rw [emb_out]
    exact G_apply m c (rowAt t i) (group t) g d
  refine (cut (outsAt0 (F := Ideal) m c t) (ix2 i (headCol g d))).trans ?_
  refine Eq.trans ?_ (place (G m c) (ix2 i (headCol g d))).symm
  exact (point_apply m c t hq hk i g d).trans value.symm

/-- Every place of the array lies in some point's block. -/
theorem cover (x : S16384x1024.Idx) : ∃ t : Fin cfg0.N, (cfg0.win 3).flush t = true ∧ x ∈ ((cfg0.win 3).blk t).view.set := by
  have h0 : (x 0).val < 16384 := (x 0).isLt
  have h1 : (x 1).val < 1024 := (x 1).isLt
  have ht : (x 1).val / 512 * 128 + (x 0).val / 128 < 256 := by omega
  refine ⟨⟨(x 1).val / 512 * 128 + (x 0).val / 128, ht⟩, flush0_3 _, ?_⟩
  have e := ((cfg0.win 3).blk ⟨(x 1).val / 512 * 128 + (x 0).val / 128, ht⟩).view.emb_mem_set
    (ix2 (⟨(x 0).val % 128, Nat.mod_lt _ (by norm_num)⟩ : Fin 128) (⟨(x 1).val % 512, Nat.mod_lt _ (by norm_num)⟩ : Fin 512))
  refine (congrArg (· ∈ _) ?_).mp e
  refine (emb_out _ _ _).trans ?_
  refine (congrArg₂ ix2 (Fin.ext ?_) (Fin.ext ?_)).trans (eq_ix2 x).symm
  · show ((x 1).val / 512 * 128 + (x 0).val / 128) % 128 * 128 + (x 0).val % 128 = (x 0).val
    omega
  · show ((x 1).val / 512 * 128 + (x 0).val / 128) / 128 * 512 + (x 1).val % 512 = (x 1).val
    omega

/-- With the queries and keys real, the result array after the run. -/
theorem final (c : Dev nD) (hq : ∃ q : S16384x1024.Idx → ℝ, ∀ x, m ((c : Thread nD τ).loc main_arg0) x = (q x : EReal))
    (hk : ∃ k : S16384x256.Idx → ℝ, ∀ x, m ((c : Thread nD τ).loc main_arg1) x = (k x : EReal)) :
    (dats m 0 c).arrAt 3 cfg0.N = G m c :=
  (dats m 0 c).arrAt_eq_of_cover 3 (G m c) (fun t _ => flushed_eq m c t hq hk) cover

end AttentionArray

end
-- ==== Proof.AttentionRead.lean ====
/- What the attention reference computes: at each row, group, head and column the softmax of the row's scores against the
   group's keys, weighing the group's values. -/
module

public import proofs.«01_k».proof.Proof.Gen.AttentionRefIdeal.Read
public import proofs.«01_k».proof.Proof.AttentionArray

@[expose] public section

set_option maxRecDepth 16384

noncomputable section

open Idealize.ShloMosaic Idealize.ShloMosaic.ValueIdx RowMath
open scoped BigOperators

namespace AttentionRead

open Cert.AttentionRefIdeal Cert.AttentionRefIdeal.Read OnlineSoftmax
open AttentionBlock (score)
open AttentionArray (headCol wideCol keyCol attention)

variable (x0 : (⟨S16384x1024, .f32⟩ : BufTy).Contents (Elt Ideal)) (x1 x2 : (⟨S16384x256, .f32⟩ : BufTy).Contents (Elt Ideal))

/-- The queries by group and head. -/
theorem queries_apply (i : Fin 16384) (h : Fin 2) (g : Fin 4) (e : Fin 128) :
    val_main_v0 (F := Ideal) x0 (ix4 i h g e) = x0 (ix2 i (wideCol h (headCol g e))) := by
  have := h.isLt; have := g.isLt; have := e.isLt
  rw [val_main_v0_apply]
  refine congrArg x0 (funext fun a => Fin.ext ?_)
  match a with
  | ⟨0, _⟩ =>
    show (((i.val * 2 + h.val) * 4 + g.val) * 128 + e.val) / 1024 = i.val
    omega
  | ⟨1, _⟩ =>
    show (((i.val * 2 + h.val) * 4 + g.val) * 128 + e.val) % 1024 = h.val * 512 + (128 * g.val + e.val)
    omega

/-- The keys by group. -/
theorem keys_apply (s : Fin 16384) (h : Fin 2) (e : Fin 128) : val_main_v1 (F := Ideal) x1 (ix3 s h e) = x1 (ix2 s (keyCol h e)) := by
  have := h.isLt; have := e.isLt
  rw [val_main_v1_apply]
  refine congrArg x1 (funext fun a => Fin.ext ?_)
  match a with
  | ⟨0, _⟩ =>
    show ((s.val * 2 + h.val) * 128 + e.val) / 256 = s.val
    omega
  | ⟨1, _⟩ =>
    show ((s.val * 2 + h.val) * 128 + e.val) % 256 = h.val * 128 + e.val
    omega

/-- The values by group. -/
theorem vals_apply (s : Fin 16384) (h : Fin 2) (e : Fin 128) : val_main_v2 (F := Ideal) x2 (ix3 s h e) = x2 (ix2 s (keyCol h e)) := by
  have := h.isLt; have := e.isLt
  rw [val_main_v2_apply]
  refine congrArg x2 (funext fun a => Fin.ext ?_)
  match a with
  | ⟨0, _⟩ =>
    show ((s.val * 2 + h.val) * 128 + e.val) / 256 = s.val
    omega
  | ⟨1, _⟩ =>
    show ((s.val * 2 + h.val) * 128 + e.val) % 256 = h.val * 128 + e.val
    omega

/-- The scores. -/
theorem scores_apply (h : Fin 2) (g : Fin 4) (i s : Fin 16384) :
    val_main_v4 (F := Ideal) x0 x1 (ix4 h g i s)
      = score (fun e => x0 (ix2 i (wideCol h (headCol g e)))) (fun e => x1 (ix2 s (keyCol h e))) := by
  rw [val_main_v4_apply, val_main_v3_apply]
  refine Finset.sum_congr rfl fun e _ => ?_
  rw [show lidx_main_v3 (idx_main_v4 (ix4 h g i s)) e = ix3 s h e from
      funext fun a => match a with | ⟨0, _⟩ => rfl | ⟨1, _⟩ => rfl | ⟨2, _⟩ => rfl,
    show ridx_main_v3 (idx_main_v4 (ix4 h g i s)) e = ix4 i h g e from
      funext fun a => match a with | ⟨0, _⟩ => rfl | ⟨1, _⟩ => rfl | ⟨2, _⟩ => rfl | ⟨3, _⟩ => rfl,
    queries_apply, keys_apply, mul_comm]

/-- The literal minus infinity. -/
theorem bot_eq : Ideal.ofBits .f32 0xFF800000#32 = ⊥ := by simp [Ideal.ofBits, Ideal.ieee]

/-- The largest score of a row. -/
theorem top_apply (h : Fin 2) (g : Fin 4) (i : Fin 16384) :
    val_main_v7 (F := Ideal) x0 x1 (ix3 h g i)
      = top (fun s : Fin 16384 => score (fun e => x0 (ix2 i (wideCol h (headCol g e)))) (fun e => x1 (ix2 s (keyCol h e)))) := by
  rw [val_main_v7_apply, val_main_v6_apply]
  show max (Ideal.ofBits .f32 0xFF800000#32) (val_main_v5 (F := Ideal) x0 x1 (ix3 h g i)) = _
  rw [bot_eq, max_eq_right bot_le]
  unfold val_main_v5
  have hr : Shape.Reduces S2x4x16384x16384 [3] S2x4x16384 := by decide
  rw [Host.reduce_eq_fold_single FloatOps.maximumf _ _ _ hr _]
  show Finset.fold max (Ideal.ofBits .f32 0xFF800000#32) _ _ = _
  rw [bot_eq]
  unfold top
  refine congrArg (fun f => Finset.fold max (⊥ : EReal) f Finset.univ) (funext fun s : Fin 16384 => ?_)
  refine Eq.trans (congrArg (val_main_v4 (F := Ideal) x0 x1) ?_) (scores_apply x0 x1 h g i s)
  funext a
  refine Fin.ext ((hr.lift_val (ix3 h g i) s _).trans ?_)
  match a with
  | ⟨0, _⟩ => rfl
  | ⟨1, _⟩ => rfl
  | ⟨2, _⟩ => rfl
  | ⟨3, _⟩ => rfl

/-- The exponentials of a row. -/
theorem exp_apply (h : Fin 2) (g : Fin 4) (i s : Fin 16384) :
    val_main_v11 (F := Ideal) x0 x1 (ix4 h g i s)
      = Ideal.exp (score (fun e => x0 (ix2 i (wideCol h (headCol g e)))) (fun e => x1 (ix2 s (keyCol h e)))
        - top (fun s : Fin 16384 => score (fun e => x0 (ix2 i (wideCol h (headCol g e)))) (fun e => x1 (ix2 s (keyCol h e))))) := by
  rw [val_main_v11_apply, val_main_v10_apply, val_main_v9_apply, val_main_v8_apply,
    show idx_main_v8 (idx_main_v9 (ix4 h g i s)) = ix3 h g i from
      funext fun a => match a with | ⟨0, _⟩ => rfl | ⟨1, _⟩ => rfl | ⟨2, _⟩ => rfl,
    top_apply, scores_apply]
  rfl

/-- Their sum. -/
theorem sum_apply (h : Fin 2) (g : Fin 4) (i : Fin 16384) :
    val_main_v12 (F := Ideal) x0 x1 (ix3 h g i)
      = ∑ s : Fin 16384, Ideal.exp (score (fun e => x0 (ix2 i (wideCol h (headCol g e)))) (fun e => x1 (ix2 s (keyCol h e)))
        - top (fun s : Fin 16384 => score (fun e => x0 (ix2 i (wideCol h (headCol g e)))) (fun e => x1 (ix2 s (keyCol h e))))) := by
  rw [val_main_v12_apply]
  show Ideal.ofBits .f32 0x00000000#32 + _ = _
  rw [Ideal.ofBits_zero_f32, zero_add]
  refine Finset.sum_congr rfl fun s _ => ?_
  rw [show idx_main_v12 (ix3 h g i) s = ix4 h g i s from
      funext fun a => match a with | ⟨0, _⟩ => rfl | ⟨1, _⟩ => rfl | ⟨2, _⟩ => rfl | ⟨3, _⟩ => rfl, exp_apply]

/-- The weighted sum of the values. -/
theorem weighted_apply (i : Fin 16384) (h : Fin 2) (g : Fin 4) (d : Fin 128) :
    val_main_v16 (F := Ideal) x0 x1 x2 (ix4 h d g i) = attention x0 x1 x2 i h g d := by
  rw [val_main_v16_apply]
  unfold attention softmaxSum
  refine Finset.sum_congr rfl fun s _ => ?_
  rw [show lidx_main_v16 (ix4 h d g i) s = ix3 s h d from
      funext fun a => match a with | ⟨0, _⟩ => rfl | ⟨1, _⟩ => rfl | ⟨2, _⟩ => rfl,
    show ridx_main_v16 (ix4 h d g i) s = ix4 h g i s from
      funext fun a => match a with | ⟨0, _⟩ => rfl | ⟨1, _⟩ => rfl | ⟨2, _⟩ => rfl | ⟨3, _⟩ => rfl,
    vals_apply, val_main_v15_apply, val_main_v14_apply, val_main_v13_apply,
    show idx_main_v13 (idx_main_v14 (ix4 h g i s)) = ix3 h g i from
      funext fun a => match a with | ⟨0, _⟩ => rfl | ⟨1, _⟩ => rfl | ⟨2, _⟩ => rfl,
    exp_apply, sum_apply]
  rfl

/-- The reference's result at a row, a group, a head and a column. -/
theorem result_apply (i : Fin 16384) (h : Fin 2) (g : Fin 4) (d : Fin 128) :
    val_main_v19 (F := Ideal) x0 x1 x2 (ix2 i (wideCol h (headCol g d))) = attention x0 x1 x2 i h g d := by
  have := h.isLt; have := g.isLt; have := d.isLt
  rw [val_main_v19_apply]
  refine Eq.trans ?_ (weighted_apply x0 x1 x2 i h g d)
  refine (val_main_v18_apply (F := Ideal) x0 x1 x2 _).trans ((val_main_v17_apply (F := Ideal) x0 x1 x2 _).trans ?_)
  refine congrArg (val_main_v16 (F := Ideal) x0 x1 x2) (funext fun a => Fin.ext ?_)
  match a with
  | ⟨0, _⟩ =>
    show (i.val * 1024 + (h.val * 512 + (128 * g.val + d.val))) / 512 % 2 = h.val
    omega
  | ⟨1, _⟩ =>
    show (i.val * 1024 + (h.val * 512 + (128 * g.val + d.val))) % 128 = d.val
    omega
  | ⟨2, _⟩ =>
    show (i.val * 1024 + (h.val * 512 + (128 * g.val + d.val))) / 128 % 4 = g.val
    omega
  | ⟨3, _⟩ =>
    show (i.val * 1024 + (h.val * 512 + (128 * g.val + d.val))) / 1024 = i.val
    omega

end AttentionRead

end
-- ==== Proof.AttentionClaim.lean ====
/- The attention call: where the queries and keys are finite, its kernel and its reference end with the same array. -/
module

public import proofs.«01_k».proof.Defs
public import proofs.«01_k».proof.Proof.AttentionArray
public import proofs.«01_k».proof.Proof.AttentionRead
public import proofs.«01_k».proof.Proof.Gen.AttentionRefIdeal.Run
public import proofs.«01_k».proof.Proof.Gen.Pre_finite
public import Idealize.ShloMosaic.Lib.ReduceAll
public import Idealize.ShloMosaic.Lib.Affine

@[expose] public section

noncomputable section

open Idealize.ShloMosaic Idealize.ShloMosaic.ValueIdx Idealize.ShloMosaic.TcCoe Idealize.SL.Sem RowMath

namespace AttentionClaim

local instance : Cert.AttentionIdeal.Facts := Cert.AttentionIdeal.Gen.facts
local instance : Cert.AttentionRefIdeal.Facts := Cert.AttentionRefIdeal.Gen.facts
local instance : Cert.Pre_finite.Facts := Cert.Pre_finite.Gen.facts

/-- The literal infinity. -/
theorem inf_eq : Ideal.ofBits .f32 0x7F800000#32 = ⊤ := by simp [Ideal.ofBits, Ideal.ieee]

/-- A value whose magnitude lies below infinity is real. -/
theorem real_of_lt {x : EReal} (h : Ideal.cmp .olt (max x (-x)) (Ideal.ofBits .f32 0x7F800000#32) = 1#1) : x = (x.toReal : EReal) := by
  rw [inf_eq] at h
  have lt : max x (-x) < (⊤ : EReal) := by
    by_contra e
    simp [Ideal.cmp, e] at h
  refine (EReal.coe_toReal ?_ ?_).symm
  · rintro rfl
    simp at lt
  · rintro rfl
    simp at lt

/-- The precondition makes every query and key real. -/
theorem reals (q : Cert.Pre_finite.S16384x1024.Idx → EReal) (k v : Cert.Pre_finite.S16384x256.Idx → EReal)
    (h : Cert.Pre_finite.fn (F := Ideal) q k v = fun _ => 1#1) :
    (∃ q' : Cert.Pre_finite.S16384x1024.Idx → ℝ, ∀ x, q x = (q' x : EReal))
      ∧ ∃ k' : Cert.Pre_finite.S16384x256.Idx → ℝ, ∀ x, k x = (k' x : EReal) := by
  have e := congrFun h ix0
  dsimp only [Cert.Pre_finite.fn] at e
  obtain ⟨hq, hk⟩ := IntOp.andi_eq_one.mp e
  exact ⟨⟨fun x => (q x).toReal, fun x => real_of_lt (Host.reduce_andi_all _ _ _ _ _ hq x)⟩,
    ⟨fun x => (k x).toReal, fun x => real_of_lt (Host.reduce_andi_all _ _ _ _ _ hk x)⟩⟩

/-- The reference runs, leaves its arguments as they were and declares no semaphore. -/
theorem frame_reference : Cert.quiescent_AttentionRefIdeal := fun m g _ =>
  (θ_run Cert.AttentionRefIdeal.defs _ _).mono (fun r h => ⟨fun c => (h c).2, sem_eq_zero_of_no_sems (by decide) r.2⟩)
    (Cert.AttentionRefIdeal.Value.run m g)

/-- So also under the precondition. -/
theorem frame_reference_pre : Cert.quiescent_AttentionRefIdeal_pre_finite := fun m g _ => frame_reference m g trivial

/-- What idealizing changed: the factor 1/ln 2 and the mask minus infinity take the values their names state. -/
theorem preserves : Cert.preserves_Attention_AttentionIdeal :=
  ⟨IdealRules.named_const.statement Cert.AttentionIdeal.κ "log2e" .f32 0x3FB8AA3B#32 (((Real.log 2)⁻¹ : ℝ) : EReal) rfl,
    IdealRules.named_const.statement Cert.AttentionIdeal.κ "mask" .f32 0xF149F2CA#32 ⊥ rfl⟩

/-- On equal arguments the reference's value is the array the kernel's blocks make up. -/
theorem reference_eq (m : (ℓ : Loc Cert.AttentionIdeal.nD Cert.AttentionIdeal.τ Cert.AttentionIdeal.sig) → Buf (Elt Ideal) ℓ)
    (m' : (ℓ : Loc Cert.AttentionRefIdeal.nD Cert.AttentionRefIdeal.τ Cert.AttentionRefIdeal.sig) → Buf (Elt Ideal) ℓ)
    (c : Dev Cert.AttentionIdeal.nD)
    (h : m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)) :
    Cert.AttentionRefIdeal.Read.val_main_v19 (F := Ideal) (m' ((c.tc : Thread Cert.AttentionRefIdeal.nD Cert.AttentionRefIdeal.τ).loc Cert.AttentionRefIdeal.main_arg0)) (m' ((c.tc : Thread Cert.AttentionRefIdeal.nD Cert.AttentionRefIdeal.τ).loc Cert.AttentionRefIdeal.main_arg1)) (m' ((c.tc : Thread Cert.AttentionRefIdeal.nD Cert.AttentionRefIdeal.τ).loc Cert.AttentionRefIdeal.main_arg2)) = AttentionArray.G m c := by
  obtain ⟨h0, h1, h2⟩ := h
  rw [h0, h1, h2]
  refine funext fun y => ?_
  have h1 : (y 1).val < 1024 := (y 1).isLt
  obtain ⟨i, h, g, d, rfl⟩ : ∃ (i : Fin 16384) (h : Fin 2) (g : Fin 4) (d : Fin 128),
      y = ix2 i (AttentionArray.wideCol h (AttentionArray.headCol g d)) := by
    refine ⟨y 0, ⟨(y 1).val / 512, by omega⟩, ⟨(y 1).val % 512 / 128, by omega⟩, ⟨(y 1).val % 128, by omega⟩,
      (eq_ix2 y).trans (congrArg (ix2 (y 0)) (Fin.ext ?_))⟩
    show (y 1).val = (y 1).val / 512 * 512 + (128 * ((y 1).val % 512 / 128) + (y 1).val % 128)
    omega
  exact (AttentionRead.result_apply _ _ _ i h g d).trans (AttentionArray.G_apply m c i h g d).symm

/-- Where the queries and keys are finite, the kernel and its reference end with equal results. -/
theorem algebraic : Cert.algebraic_AttentionIdeal_AttentionRefIdeal_pre_finite := fun m g m' g' hpre hargs =>
  ⟨fun c => AttentionArray.G m c,
    (θ_run Cert.AttentionIdeal.defs _ _).mono (fun _ h c => ⟨(h c).1.trans (AttentionArray.final m c (reals _ _ _ (hpre c)).1 (reals _ _ _ (hpre c)).2), (h c).2⟩)
      (Cert.AttentionIdeal.Value.run_blocks m g),
    (θ_run Cert.AttentionRefIdeal.defs _ _).mono
      (fun _ h c => ⟨((h c).1.trans (Cert.AttentionRefIdeal.Read.val_main_v19_eq _ _ _)).trans (reference_eq m m' c (hargs c)), (h c).2⟩)
      (Cert.AttentionRefIdeal.Value.run m' g')⟩

end AttentionClaim

end
-- ==== Proof.FfnBlock.lean ====
/- One block of 512 rows of the feed-forward kernel: what the body computes at a row and a column. -/
module

public import proofs.«01_k».proof.Proof.Gen.FfnIdeal.Value
public import proofs.«01_k».proof.Proof.RowMath

@[expose] public section

noncomputable section

open Idealize.ShloMosaic Idealize.ShloMosaic.ValueIdx Idealize.ShloMosaic.TcCoe RowMath

namespace FfnBlock

open Cert.FfnIdeal Cert.FfnIdeal.Gen Cert.FfnIdeal.Value

/-- The body's result at row `r` and column `j` is the feed-forward function of row `r`. -/
theorem payload_apply (x : Vec Ideal S512x1024 .f32) (g : Vec Ideal S1x1024 .f32) (wg wu : Vec Ideal S1024x2816 .bf16)
    (wd : Vec Ideal S2816x1024 .bf16) (r : Fin 512) (j : Fin 1024) :
    k0_pay1 (F := Ideal) x g wg wu wd (ix2 r j)
      = ffnRow (fun k => x (ix2 r k)) (fun k => g (ix2 0 k)) (fun k f => wg (ix2 k f)) (fun k f => wu (ix2 k f))
          (fun f k => wd (ix2 f k)) j := by
  unfold k0_pay1
  dsimp only
  simp only [shapeCast_self]
  refine (addf_apply _ _ _).trans ?_
  refine congrArg (fun y => x (ix2 r j) + Ideal.ofBits .f32 0x3F000000#32 * y) ?_
  refine (mm_apply dot_S512x2816_S2816x1024_S512x1024_1_0_0_1_n_n rfl _ _ r j).trans ?_
  refine congrArg (fun y => dotRow y _ j) (funext fun f => ?_)
  refine (hidden_apply _ _ (ix2 r f)).trans ?_
  rw [mm_apply dot_S512x1024_S1024x2816_S512x2816_1_0_0_1_n_n rfl, mm_apply dot_S512x1024_S1024x2816_S512x2816_1_0_0_1_n_n rfl]
  exact congrArg (fun h => swish (dotRow h (fun k f => wg (ix2 k f)) f) * dotRow h (fun k f => wu (ix2 k f)) f)
    (funext fun k => rms_apply x g _ _ _ _ _ _ r k)

/-- The zero offsets of the body's loads and store, as a function. -/
theorem offsets_zero : (![0, 0] : Fin 2 → Nat) = fun _ => 0 := funext fun a => by fin_cases a <;> rfl

/-- What the body leaves in the output block at a row and a column. -/
theorem out_apply (x : Vec Ideal S512x1024 .f32) (g : Vec Ideal S1x1024 .f32) (wg wu : Vec Ideal S1024x2816 .bf16)
    (wd : Vec Ideal S2816x1024 .bf16) (r : Fin 512) (j : Fin 1024) :
    out0_5 (F := Ideal) x g wg wu wd (ix2 r j)
      = ffnRow (fun k => x (ix2 r k)) (fun k => g (ix2 0 k)) (fun k f => wg (ix2 k f)) (fun k f => wu (ix2 k f))
          (fun f k => wd (ix2 f k)) j := by
  unfold out0_5
  refine (congrFun (View.canon_unit_zero (Val := Elt Ideal) offsets_zero inb_S512x1024_S512x1024_0_0 _) (ix2 r j)).trans ?_
  rw [show View.ld x r0_0 = x from View.ld_unit_zero (Val := Elt Ideal) offsets_zero _ x,
    show View.ld g r0_1 = g from View.ld_unit_zero (Val := Elt Ideal) offsets_zero _ g,
    show View.ld wg r0_2 = wg from View.ld_unit_zero (Val := Elt Ideal) offsets_zero _ wg,
    show View.ld wu r0_2 = wu from View.ld_unit_zero (Val := Elt Ideal) offsets_zero _ wu,
    show View.ld wd r0_3 = wd from View.ld_unit_zero (Val := Elt Ideal) offsets_zero _ wd]
  exact payload_apply x g wg wu wd r j

end FfnBlock

end
-- ==== Proof.FfnArray.lean ====
/- What the feed-forward kernel's result array holds after a run: at each row and column the feed-forward function of
   that row of the argument. -/
module

public import proofs.«01_k».proof.Proof.FfnBlock

@[expose] public section

noncomputable section

open Idealize.ShloMosaic Idealize.ShloMosaic.ValueIdx Idealize.ShloMosaic.TcCoe Idealize.SL.Sem RowMath
open Idealize.ShloMosaic.Pipeline (Dat)

namespace FfnArray

open Cert.FfnIdeal Cert.FfnIdeal.Gen Cert.FfnIdeal.Value

variable (m : (ℓ : Loc nD τ sig) → Buf (Elt Ideal) ℓ)

/-- The blocks' places: the rows' and the result's block `t` is block `t` of rows, every other block is its whole array. -/
theorem idx_facts : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0))

/-- Row `r` of block `t` as a row of the array. -/
def rowAt (t : Fin cfg0.N) (r : Fin 512) : Fin 16384 :=
  ⟨t.val * 512 + r.val, by have h : t.val < 32 := t.isLt; have := r.isLt; omega⟩

/-- The weights the kernel is handed are the arguments (a change of format is no change of the number). -/
theorem V_gate (c : Dev nD) : V m c main_v0 = m ((c : Thread nD τ).loc main_arg2) := by
  simp only [V, hostOps0]; after_results <;> rfl
theorem V_up (c : Dev nD) : V m c main_v1 = m ((c : Thread nD τ).loc main_arg3) := by
  simp only [V, hostOps0]; after_results <;> rfl
theorem V_down (c : Dev nD) : V m c main_v2 = m ((c : Thread nD τ).loc main_arg4) := by
  simp only [V, hostOps0]; after_results <;> rfl
/-- The norm's weights are handed over as one row. -/
theorem V_norm (c : Dev nD) : V m c main_v3
    = shapeCast S1x1024 (m ((c : Thread nD τ).loc main_arg1) : S1024.Idx → EReal) shapeCasts_S1024_S1x1024 := by
  simp only [V, hostOps0]; after_results <;> rfl

/-- The rows' block at point `t`, read at a row and a column. -/
theorem rows_apply (c : Dev nD) (t : Fin cfg0.N) (r : Fin 512) (k : Fin 1024) :
    iblk m c 0 t (ix2 r k) = m ((c : Thread nD τ).loc main_arg0) (ix2 (rowAt t r) k) := by
  show V m c main_arg0 ((win0_0.rect t).emb (ix2 r k)) = _
  rw [V_main_arg0]
  refine congrArg (m ((c : Thread nD τ).loc main_arg0)) (funext fun a => Fin.ext ?_)
  refine (Pipeline.Window.rect_emb_val win0_0 t (ix2 r k) a).trans ?_
  match a with
  | ⟨0, _⟩ => exact congrArg (· * 512 + r.val) (idx_facts t).1.1
  | ⟨1, _⟩ => exact (congrArg (· * 1024 + k.val) (idx_facts t).1.2).trans (by show 0 * 1024 + k.val = k.val; omega)

/-- The norm weights' block is the argument. -/
theorem norm_apply (c : Dev nD) (t : Fin cfg0.N) (k : Fin 1024) :
    iblk m c 1 t (ix2 0 k) = m ((c : Thread nD τ).loc main_arg1) (ix1 k) := by
  show V m c main_v3 ((win0_1.rect t).emb (ix2 0 k)) = _
  rw [V_norm]
  refine shapeCast_apply _ _ _ (ix1 k) ?_
  rw [Shape.rowMajor_val_one, Shape.rowMajor_val_two]
  have h0 := Pipeline.Window.rect_emb_val_of_index_zero win0_1 t 0 (idx_facts t).2.1.1 (ix2 0 k)
  have h1 := Pipeline.Window.rect_emb_val_of_index_zero win0_1 t 1 (idx_facts t).2.1.2 (ix2 0 k)
  exact (show k.val = 0 * 1024 + k.val by omega).trans (congrArg₂ (fun a b => a * 1024 + b) h0 h1).symm

/-- The gate weights' block is the argument. -/
theorem gate_apply (c : Dev nD) (t : Fin cfg0.N) (k : Fin 1024) (f : Fin 2816) :
    iblk m c 2 t (ix2 k f) = m ((c : Thread nD τ).loc main_arg2) (ix2 k f) := by
  show V m c main_v0 ((win0_2.rect t).emb (ix2 k f)) = _
  rw [V_gate]
  refine congrArg (m ((c : Thread nD τ).loc main_arg2)) (funext fun a => Fin.ext ?_)
  match a with
  | ⟨0, _⟩ => exact Pipeline.Window.rect_emb_val_of_index_zero win0_2 t 0 (idx_facts t).2.2.1.1 (ix2 k f)
  | ⟨1, _⟩ => exact Pipeline.Window.rect_emb_val_of_index_zero win0_2 t 1 (idx_facts t).2.2.1.2 (ix2 k f)

/-- The up weights' block is the argument. -/
theorem up_apply (c : Dev nD) (t : Fin cfg0.N) (k : Fin 1024) (f : Fin 2816) :
    iblk m c 3 t (ix2 k f) = m ((c : Thread nD τ).loc main_arg3) (ix2 k f) := by
  show V m c main_v1 ((win0_3.rect t).emb (ix2 k f)) = _
  rw [V_up]
  refine congrArg (m ((c : Thread nD τ).loc main_arg3)) (funext fun a => Fin.ext ?_)
  match a with
  | ⟨0, _⟩ => exact Pipeline.Window.rect_emb_val_of_index_zero win0_3 t 0 (idx_facts t).2.2.2.1.1 (ix2 k f)
  | ⟨1, _⟩ => exact Pipeline.Window.rect_emb_val_of_index_zero win0_3 t 1 (idx_facts t).2.2.2.1.2 (ix2 k f)

/-- The down weights' block is the argument. -/
theorem down_apply (c : Dev nD) (t : Fin cfg0.N) (f : Fin 2816) (k : Fin 1024) :
    iblk m c 4 t (ix2 f k) = m ((c : Thread nD τ).loc main_arg4) (ix2 f k) := by
  show V m c main_v2 ((win0_4.rect t).emb (ix2 f k)) = _
  rw [V_down]
  refine congrArg (m ((c : Thread nD τ).loc main_arg4)) (funext fun a => Fin.ext ?_)
  match a with
  | ⟨0, _⟩ => exact Pipeline.Window.rect_emb_val_of_index_zero win0_4 t 0 (idx_facts t).2.2.2.2.1.1 (ix2 f k)
  | ⟨1, _⟩ => exact Pipeline.Window.rect_emb_val_of_index_zero win0_4 t 1 (idx_facts t).2.2.2.2.1.2 (ix2 f k)

/-- The feed-forward function of row `i` of the arguments. -/
def value (c : Dev nD) (i : Fin 16384) : Fin 1024 → EReal :=
  ffnRow (fun k => m ((c : Thread nD τ).loc main_arg0) (ix2 i k)) (fun k => m ((c : Thread nD τ).loc main_arg1) (ix1 k))
    (fun k f => m ((c : Thread nD τ).loc main_arg2) (ix2 k f)) (fun k f => m ((c : Thread nD τ).loc main_arg3) (ix2 k f))
    (fun f k => m ((c : Thread nD τ).loc main_arg4) (ix2 f k))

/-- The whole result array as one function. -/
def G (c : Dev nD) : S16384x1024.Idx → EReal := fun i => value m c (i 0) (i 1)

/-- A place of the result's block `t` in the array. -/
theorem emb_out (t : Fin cfg0.N) (r : Fin 512) (j : Fin 1024) : (win0_5.rect t).emb (ix2 r j) = ix2 (rowAt t r) j := by
  refine funext fun a => Fin.ext ?_
  refine (Pipeline.Window.rect_emb_val win0_5 t (ix2 r j) a).trans ?_
  match a with
  | ⟨0, _⟩ => exact congrArg (· * 512 + r.val) (idx_facts t).2.2.2.2.2.1
  | ⟨1, _⟩ => exact (congrArg (· * 1024 + j.val) (idx_facts t).2.2.2.2.2.2).trans (by show 0 * 1024 + j.val = j.val; omega)

/-- What point `t` writes back is block `t` of that function. -/
theorem flushed_eq (c : Dev nD) (t : Fin cfg0.N) :
    (dats m 0 c).flushed 5 t = ((cfg0.win 5).blk t).view.read (Elt Ideal) (G m c) := by
  rw [flushed5]
  refine funext fun (y : S512x1024.Idx) => ?_
  obtain ⟨r, j, rfl⟩ : ∃ (r : Fin 512) (j : Fin 1024), y = ix2 r j := ⟨y 0, y 1, eq_ix2 y⟩
  show out0_5 (F := Ideal) _ _ _ _ _ (ix2 r j) = G m c ((win0_5.rect t).emb (ix2 r j))
  rw [emb_out, FfnBlock.out_apply]
  show _ = value m c (rowAt t r) j
  unfold value
  refine congrFun ?_ j
  congr 1
  · exact funext fun k => rows_apply m c t r k
  · exact funext fun k => norm_apply m c t k
  · exact funext fun k => funext fun f => gate_apply m c t k f
  · exact funext fun k => funext fun f => up_apply m c t k f
  · exact funext fun f => funext fun k => down_apply m c t f k

/-- Every place of the array lies in some point's block. -/
theorem cover (i : S16384x1024.Idx) : ∃ t : Fin cfg0.N, (cfg0.win 5).flush t = true ∧ i ∈ ((cfg0.win 5).blk t).view.set := by
  have h0 : (i 0).val < 16384 := (i 0).isLt
  refine ⟨⟨(i 0).val / 512, by show _ < 32; omega⟩, flush0_5 _, ?_⟩
  have e := ((cfg0.win 5).blk ⟨(i 0).val / 512, by show _ < 32; omega⟩).view.emb_mem_set
    (ix2 (⟨(i 0).val % 512, Nat.mod_lt _ (by norm_num)⟩ : Fin 512) (i 1))
  refine (congrArg (· ∈ _) ?_).mp e
  refine (emb_out _ _ (i 1)).trans ?_
  refine (congrArg (ix2 · (i 1)) (Fin.ext ?_)).trans (eq_ix2 i).symm
  show (i 0).val / 512 * 512 + (i 0).val % 512 = (i 0).val
  omega

/-- The result array after the run. -/
theorem final (c : Dev nD) : (dats m 0 c).arrAt 5 cfg0.N = G m c :=
  (dats m 0 c).arrAt_eq_of_cover 5 (G m c) (fun t _ => flushed_eq m c t) cover

end FfnArray

end
-- ==== Proof.FfnRead.lean ====
/- What the feed-forward reference computes: at each row and column the feed-forward function of that row. -/
module

public import proofs.«01_k».proof.Proof.Gen.FfnRefIdeal.Read
public import proofs.«01_k».proof.Proof.RowMath

@[expose] public section

noncomputable section

open Idealize.ShloMosaic Idealize.ShloMosaic.ValueIdx RowMath

namespace FfnRead

open Cert.FfnRefIdeal Cert.FfnRefIdeal.Read

variable (x0 : (⟨S16384x1024, .f32⟩ : BufTy).Contents (Elt Ideal)) (x1 : (⟨S1024, .f32⟩ : BufTy).Contents (Elt Ideal))
  (x2 x3 : (⟨S1024x2816, .f32⟩ : BufTy).Contents (Elt Ideal)) (x4 : (⟨S2816x1024, .f32⟩ : BufTy).Contents (Elt Ideal))

/-- The sum of a row's squares. -/
theorem squares_apply (i : Fin 16384) (z : Fin 1) :
    val_main_v2 (F := Ideal) x0 (ix2 i z) = ∑ k : Fin 1024, x0 (ix2 i k) * x0 (ix2 i k) := by
  rw [val_main_v2_apply, val_main_v1_apply]
  show Ideal.ofBits .f32 0x00000000#32 + _ = _
  rw [Ideal.ofBits_zero_f32, zero_add]
  refine Finset.sum_congr rfl fun k _ => ?_
  rw [val_main_v0_apply, show idx_main_v1 (idx_main_v2 (ix2 i z)) k = ix2 i k from
    funext fun a => match a with | ⟨0, _⟩ => rfl | ⟨1, _⟩ => rfl]
  rfl

/-- The normalized row. -/
theorem norm_apply (i : Fin 16384) (k : Fin 1024) :
    val_main_v12 (F := Ideal) x0 x1 (ix2 i k) = rmsRow (fun j => x0 (ix2 i j)) (fun j => x1 (ix1 j)) k := by
  rw [val_main_v12_apply, val_main_v9_apply, val_main_v8_apply, val_main_v7_apply, val_main_v6_apply, val_main_v4_apply,
    val_main_v3_apply, val_main_v5_apply, val_main_v11_apply, val_main_v10_apply, val_main_cst_0_apply, val_main_cst_1_apply,
    show idx_main_v8 (ix2 i k) = ix2 i 0 from funext fun a => match a with | ⟨0, _⟩ => rfl | ⟨1, _⟩ => rfl,
    squares_apply,
    show idx_main_v10 (idx_main_v11 (ix2 i k)) = ix1 k from funext fun a => match a with | ⟨0, _⟩ => rfl]
  rfl

/-- The gate's product. -/
theorem gate_apply (i : Fin 16384) (f : Fin 2816) :
    val_main_v13 (F := Ideal) x0 x1 x2 (ix2 i f)
      = dotRow (rmsRow (fun j => x0 (ix2 i j)) (fun j => x1 (ix1 j))) (fun k f => x2 (ix2 k f)) f := by
  rw [val_main_v13_apply]
  refine Finset.sum_congr rfl fun k _ => ?_
  rw [show lidx_main_v13 (ix2 i f) k = ix2 i k from funext fun a => match a with | ⟨0, _⟩ => rfl | ⟨1, _⟩ => rfl,
    show ridx_main_v13 (ix2 i f) k = ix2 k f from funext fun a => match a with | ⟨0, _⟩ => rfl | ⟨1, _⟩ => rfl,
    norm_apply]

/-- The other product of the hidden row. -/
theorem up_apply (i : Fin 16384) (f : Fin 2816) :
    val_main_v15 (F := Ideal) x0 x1 x3 (ix2 i f)
      = dotRow (rmsRow (fun j => x0 (ix2 i j)) (fun j => x1 (ix1 j))) (fun k f => x3 (ix2 k f)) f := by
  rw [val_main_v15_apply]
  refine Finset.sum_congr rfl fun k _ => ?_
  rw [show lidx_main_v15 (ix2 i f) k = ix2 i k from funext fun a => match a with | ⟨0, _⟩ => rfl | ⟨1, _⟩ => rfl,
    show ridx_main_v15 (ix2 i f) k = ix2 k f from funext fun a => match a with | ⟨0, _⟩ => rfl | ⟨1, _⟩ => rfl,
    norm_apply]

/-- The gated hidden row. -/
theorem hidden_apply (i : Fin 16384) (f : Fin 2816) :
    val_main_v16 (F := Ideal) x0 x1 x2 x3 (ix2 i f)
      = hiddenRow (rmsRow (fun j => x0 (ix2 i j)) (fun j => x1 (ix1 j))) (fun k f => x2 (ix2 k f)) (fun k f => x3 (ix2 k f)) f := by
  rw [val_main_v16_apply, val_main_v14_apply, val_main_call0_v5_apply, val_main_call0_v4_apply, val_main_call0_v3_apply,
    val_main_call0_v2_apply, val_main_call0_v1_apply, val_main_call0_v0_apply, val_main_call0_cst_apply,
    val_main_call0_cst_0_apply, gate_apply, up_apply]
  rfl

/-- The reference's result at a row and a column. -/
theorem result_apply (i : Fin 16384) (j : Fin 1024) :
    val_main_v20 (F := Ideal) x0 x1 x2 x3 x4 (ix2 i j)
      = ffnRow (fun k => x0 (ix2 i k)) (fun k => x1 (ix1 k)) (fun k f => x2 (ix2 k f)) (fun k f => x3 (ix2 k f))
          (fun f k => x4 (ix2 f k)) j := by
  rw [val_main_v20_apply, val_main_v19_apply, val_main_v18_apply, val_main_cst_2_apply, val_main_v17_apply]
  refine congrArg (fun y => x0 (ix2 i j) + Ideal.ofBits .f32 0x3F000000#32 * y) (Finset.sum_congr rfl fun f _ => ?_)
  rw [show lidx_main_v17 (ix2 i j) f = ix2 i f from funext fun a => match a with | ⟨0, _⟩ => rfl | ⟨1, _⟩ => rfl,
    show ridx_main_v17 (ix2 i j) f = ix2 f j from funext fun a => match a with | ⟨0, _⟩ => rfl | ⟨1, _⟩ => rfl,
    hidden_apply]

end FfnRead

end
-- ==== Proof.FfnClaim.lean ====
/- The feed-forward call: its kernel and its reference end with the same array. -/
module

public import proofs.«01_k».proof.Defs
public import proofs.«01_k».proof.Proof.FfnArray
public import proofs.«01_k».proof.Proof.FfnRead
public import proofs.«01_k».proof.Proof.Gen.FfnRefIdeal.Run

@[expose] public section

noncomputable section

open Idealize.ShloMosaic Idealize.ShloMosaic.ValueIdx Idealize.ShloMosaic.TcCoe Idealize.SL.Sem RowMath

namespace FfnClaim

local instance : Cert.FfnIdeal.Facts := Cert.FfnIdeal.Gen.facts
local instance : Cert.FfnRefIdeal.Facts := Cert.FfnRefIdeal.Gen.facts

/-- The reference runs, leaves its arguments as they were and declares no semaphore. -/
theorem frame_reference : Cert.quiescent_FfnRefIdeal := fun m g _ =>
  (θ_run Cert.FfnRefIdeal.defs _ _).mono (fun r h => ⟨fun c => (h c).2, sem_eq_zero_of_no_sems (by decide) r.2⟩)
    (Cert.FfnRefIdeal.Value.run m g)

/-- On equal arguments the reference's value is the array the kernel's blocks make up. -/
theorem reference_eq (m : (ℓ : Loc Cert.FfnIdeal.nD Cert.FfnIdeal.τ Cert.FfnIdeal.sig) → Buf (Elt Ideal) ℓ)
    (m' : (ℓ : Loc Cert.FfnRefIdeal.nD Cert.FfnRefIdeal.τ Cert.FfnRefIdeal.sig) → Buf (Elt Ideal) ℓ)
    (c : Dev Cert.FfnIdeal.nD)
    (h : m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) :
    Cert.FfnRefIdeal.Read.val_main_v20 (F := Ideal) (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1)) (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3)) (m' ((c.tc : Thread Cert.FfnRefIdeal.nD Cert.FfnRefIdeal.τ).loc Cert.FfnRefIdeal.main_arg4)) = FfnArray.G m c := by
  obtain ⟨h0, h1, h2, h3, h4⟩ := h
  rw [h0, h1, h2, h3, h4]
  refine funext fun y => ?_
  obtain ⟨i, j, rfl⟩ : ∃ (i : Fin 16384) (j : Fin 1024), y = ix2 i j := ⟨y 0, y 1, eq_ix2 y⟩
  exact FfnRead.result_apply _ _ _ _ _ i j

/-- The kernel and its reference end with equal results. -/
theorem algebraic : Cert.algebraic_FfnIdeal_FfnRefIdeal := fun m g m' g' _ hargs =>
  ⟨fun c => FfnArray.G m c,
    (θ_run Cert.FfnIdeal.defs _ _).mono (fun _ h c => ⟨(h c).1.trans (FfnArray.final m c), (h c).2⟩)
      (Cert.FfnIdeal.Value.run_blocks m g),
    (θ_run Cert.FfnRefIdeal.defs _ _).mono
      (fun _ h c => ⟨((h c).1.trans (Cert.FfnRefIdeal.Read.val_main_v20_eq _ _ _ _ _)).trans (reference_eq m m' c (hargs c)), (h c).2⟩)
      (Cert.FfnRefIdeal.Value.run m' g')⟩

end FfnClaim

end
-- ==== Proof.MixFfnBlock.lean ====
/- One block of 512 rows of the kernel that mixes two half rows into the stream and runs the feed-forward block: what the
   body computes at a row and a column. -/
module

public import proofs.«01_k».proof.Proof.Gen.MixFfnIdeal.Value
public import proofs.«01_k».proof.Proof.RowMath

@[expose] public section

noncomputable section

open Idealize.ShloMosaic Idealize.ShloMosaic.ValueIdx Idealize.ShloMosaic.TcCoe RowMath

namespace MixFfnBlock

open Cert.MixFfnIdeal Cert.MixFfnIdeal.Gen Cert.MixFfnIdeal.Value

/-- The stream with the two half rows' products added, at a row and a column. -/
theorem mix_apply (x : Vec Ideal S512x1024 .f32) (f : Vec Ideal S512x512 .bf16) (w₁ : Vec Ideal S512x1024 .bf16)
    (h : Vec Ideal S512x512 .bf16) (w₂ : Vec Ideal S512x1024 .bf16) (r : Fin 512) (j : Fin 1024) :
    k0_pay2 (F := Ideal) x f w₁ h w₂ (ix2 r j)
      = x (ix2 r j) + dotRow (fun k => f (ix2 r k)) (fun k n => w₁ (ix2 k n)) j
          + dotRow (fun k => h (ix2 r k)) (fun k n => w₂ (ix2 k n)) j := by
  unfold k0_pay2
  simp only [shapeCast_self]
  rw [addf_apply, addf_apply, mm_apply dot_S512x512_S512x1024_S512x1024_1_0_0_1_n_n rfl,
    mm_apply dot_S512x512_S512x1024_S512x1024_1_0_0_1_n_n rfl]

/-- The body's result at row `r` and column `j` is the feed-forward function of the mixed row `r`. -/
theorem payload_apply (x : Vec Ideal S512x1024 .f32) (f : Vec Ideal S512x512 .bf16) (w₁ : Vec Ideal S512x1024 .bf16) (h : Vec Ideal S512x512 .bf16)
    (w₂ : Vec Ideal S512x1024 .bf16) (g : Vec Ideal S1x1024 .f32) (wg wu : Vec Ideal S1024x2816 .bf16) (wd : Vec Ideal S2816x1024 .bf16)
    (r : Fin 512) (j : Fin 1024) :
    k0_pay1 (F := Ideal) (k0_pay2 x f w₁ h w₂) (k0_pay4 x f w₁ h w₂ g wg) (k0_pay5 x f w₁ h w₂ g wu) (k0_pay6 x f w₁ h w₂ g wg) wd
        (ix2 r j)
      = ffnRow (fun j => x (ix2 r j) + dotRow (fun k => f (ix2 r k)) (fun k n => w₁ (ix2 k n)) j
            + dotRow (fun k => h (ix2 r k)) (fun k n => w₂ (ix2 k n)) j)
          (fun k => g (ix2 0 k)) (fun k f => wg (ix2 k f)) (fun k f => wu (ix2 k f)) (fun f k => wd (ix2 f k)) j := by
  refine Eq.trans ?_ (congrArg (fun y => ffnRow y (fun k => g (ix2 0 k)) (fun k f => wg (ix2 k f)) (fun k f => wu (ix2 k f)) (fun f k => wd (ix2 f k)) j)
    (funext fun j => mix_apply x f w₁ h w₂ r j))
  unfold k0_pay1 k0_pay6 k0_pay4 k0_pay5 k0_pay3
  generalize k0_pay2 (F := Ideal) x f w₁ h w₂ = y
  dsimp only
  simp only [shapeCast_self]
  refine (addf_apply _ _ _).trans ?_
  refine congrArg (fun z => y (ix2 r j) + Ideal.ofBits .f32 0x3F000000#32 * z) ?_
  refine (mm_apply dot_S512x2816_S2816x1024_S512x1024_1_0_0_1_n_n rfl _ _ r j).trans ?_
  refine congrArg (fun z => dotRow z _ j) (funext fun f => ?_)
  refine (hidden_apply _ _ (ix2 r f)).trans ?_
  rw [mm_apply dot_S512x1024_S1024x2816_S512x2816_1_0_0_1_n_n rfl, mm_apply dot_S512x1024_S1024x2816_S512x2816_1_0_0_1_n_n rfl]
  exact congrArg (fun h => swish (dotRow h (fun k f => wg (ix2 k f)) f) * dotRow h (fun k f => wu (ix2 k f)) f)
    (funext fun k => rms_apply y g _ _ _ _ _ _ r k)

/-- The zero offsets of the body's loads and store, as a function. -/
theorem offsets_zero : (![0, 0] : Fin 2 → Nat) = fun _ => 0 := funext fun a => by fin_cases a <;> rfl

/-- What the body leaves in the output block at a row and a column. -/
theorem out_apply (x : Vec Ideal S512x1024 .f32) (f : Vec Ideal S512x512 .bf16) (w₁ : Vec Ideal S512x1024 .bf16) (h : Vec Ideal S512x512 .bf16)
    (w₂ : Vec Ideal S512x1024 .bf16) (g : Vec Ideal S1x1024 .f32) (wg wu : Vec Ideal S1024x2816 .bf16) (wd : Vec Ideal S2816x1024 .bf16)
    (r : Fin 512) (j : Fin 1024) :
    out0_9 (F := Ideal) x f w₁ h w₂ g wg wu wd (ix2 r j)
      = ffnRow (fun j => x (ix2 r j) + dotRow (fun k => f (ix2 r k)) (fun k n => w₁ (ix2 k n)) j
            + dotRow (fun k => h (ix2 r k)) (fun k n => w₂ (ix2 k n)) j)
          (fun k => g (ix2 0 k)) (fun k f => wg (ix2 k f)) (fun k f => wu (ix2 k f)) (fun f k => wd (ix2 f k)) j := by
  unfold out0_9
  refine (congrFun (View.canon_unit_zero (Val := Elt Ideal) offsets_zero inb_S512x1024_S512x1024_0_0 _) (ix2 r j)).trans ?_
  rw [show View.ld x r0_0 = x from View.ld_unit_zero (Val := Elt Ideal) offsets_zero _ x,
    show View.ld f r0_1 = f from View.ld_unit_zero (Val := Elt Ideal) offsets_zero _ f,
    show View.ld w₁ r0_0 = w₁ from View.ld_unit_zero (Val := Elt Ideal) offsets_zero _ w₁,
    show View.ld h r0_1 = h from View.ld_unit_zero (Val := Elt Ideal) offsets_zero _ h,
    show View.ld w₂ r0_0 = w₂ from View.ld_unit_zero (Val := Elt Ideal) offsets_zero _ w₂,
    show View.ld g r0_2 = g from View.ld_unit_zero (Val := Elt Ideal) offsets_zero _ g,
    show View.ld wg r0_3 = wg from View.ld_unit_zero (Val := Elt Ideal) offsets_zero _ wg,
    show View.ld wu r0_3 = wu from View.ld_unit_zero (Val := Elt Ideal) offsets_zero _ wu,
    show View.ld wd r0_4 = wd from View.ld_unit_zero (Val := Elt Ideal) offsets_zero _ wd]
  exact payload_apply x f w₁ h w₂ g wg wu wd r j

end MixFfnBlock

end
-- ==== Proof.MixFfnArray.lean ====
/- What the mixing kernel's result array holds after a run: at each row and column the feed-forward function of the stream's
   row with the product of the two half rows, side by side, added. -/
module

public import proofs.«01_k».proof.Proof.MixFfnBlock

@[expose] public section

noncomputable section

open Idealize.ShloMosaic Idealize.ShloMosaic.ValueIdx Idealize.ShloMosaic.TcCoe Idealize.SL.Sem RowMath
open Idealize.ShloMosaic.Pipeline (Dat)

namespace MixFfnArray

open Cert.MixFfnIdeal Cert.MixFfnIdeal.Gen Cert.MixFfnIdeal.Value

variable (m : (ℓ : Loc nD τ sig) → Buf (Elt Ideal) ℓ)

/-- The blocks' places: the rows' and the result's block `t` is block `t` of rows, every other block is its whole array. -/
theorem idx_facts : ∀ t : Fin cfg0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = t.val ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = t.val ∧ win0_9.index t 1 = 0) :=
  (by decide +kernel : ∀ t : Fin grid0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = t.val ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = t.val ∧ win0_9.index t 1 = 0))

/-- Row `r` of block `t` as a row of the array. -/
def rowAt (t : Fin cfg0.N) (r : Fin 512) : Fin 16384 :=
  ⟨t.val * 512 + r.val, by have h : t.val < 32 := t.isLt; have := r.isLt; omega⟩

/-- The weights the kernel is handed are the arguments (a change of format is no change of the number). -/
theorem V_gate (c : Dev nD) : V m c main_v3 = m ((c : Thread nD τ).loc main_arg5) := by
  simp only [V, hostOps0]; after_results <;> rfl
theorem V_up (c : Dev nD) : V m c main_v4 = m ((c : Thread nD τ).loc main_arg6) := by
  simp only [V, hostOps0]; after_results <;> rfl
theorem V_down (c : Dev nD) : V m c main_v5 = m ((c : Thread nD τ).loc main_arg7) := by
  simp only [V, hostOps0]; after_results <;> rfl
/-- The mixing weights are handed over as their upper rows and their lower rows. -/
theorem V_upper (c : Dev nD) : V m c main_v1 = extractStridedSlice S512x1024 ![0, 0]
    (m ((c : Thread nD τ).loc main_arg3) : S1024x1024.Idx → EReal) slices_S1024x1024_S512x1024_0_0 := by
  simp only [V, hostOps0]; after_results <;> rfl
theorem V_lower (c : Dev nD) : V m c main_v2 = extractStridedSlice S512x1024 ![512, 0]
    (m ((c : Thread nD τ).loc main_arg3) : S1024x1024.Idx → EReal) slices_S1024x1024_S512x1024_512_0 := by
  simp only [V, hostOps0]; after_results <;> rfl
/-- The norm's weights are handed over as one row. -/
theorem V_norm (c : Dev nD) : V m c main_v6
    = shapeCast S1x1024 (m ((c : Thread nD τ).loc main_arg4) : S1024.Idx → EReal) shapeCasts_S1024_S1x1024 := by
  simp only [V, hostOps0]; after_results <;> rfl

/-- The stream's block at point `t`, read at a row and a column. -/
theorem stream_apply (c : Dev nD) (t : Fin cfg0.N) (r : Fin 512) (k : Fin 1024) :
    iblk m c 0 t (ix2 r k) = m ((c : Thread nD τ).loc main_arg0) (ix2 (rowAt t r) k) := by
  show V m c main_arg0 ((win0_0.rect t).emb (ix2 r k)) = _
  rw [V_main_arg0]
  refine congrArg (m ((c : Thread nD τ).loc main_arg0)) (funext fun a => Fin.ext ?_)
  refine (Pipeline.Window.rect_emb_val win0_0 t (ix2 r k) a).trans ?_
  match a with
  | ⟨0, _⟩ => exact congrArg (· * 512 + r.val) (idx_facts t).1.1
  | ⟨1, _⟩ => exact (congrArg (· * 1024 + k.val) (idx_facts t).1.2).trans (by show 0 * 1024 + k.val = k.val; omega)

/-- The first half rows' block. -/
theorem first_apply (c : Dev nD) (t : Fin cfg0.N) (r : Fin 512) (k : Fin 512) :
    iblk m c 1 t (ix2 r k) = m ((c : Thread nD τ).loc main_arg1) (ix2 (rowAt t r) k) := by
  show V m c main_arg1 ((win0_1.rect t).emb (ix2 r k)) = _
  rw [V_main_arg1]
  refine congrArg (m ((c : Thread nD τ).loc main_arg1)) (funext fun a => Fin.ext ?_)
  refine (Pipeline.Window.rect_emb_val win0_1 t (ix2 r k) a).trans ?_
  match a with
  | ⟨0, _⟩ => exact congrArg (· * 512 + r.val) (idx_facts t).2.1.1
  | ⟨1, _⟩ => exact (congrArg (· * 512 + k.val) (idx_facts t).2.1.2).trans (by show 0 * 512 + k.val = k.val; omega)

/-- The second half rows' block. -/
theorem second_apply (c : Dev nD) (t : Fin cfg0.N) (r : Fin 512) (k : Fin 512) :
    iblk m c 3 t (ix2 r k) = m ((c : Thread nD τ).loc main_arg2) (ix2 (rowAt t r) k) := by
  show V m c main_arg2 ((win0_3.rect t).emb (ix2 r k)) = _
  rw [V_main_arg2]
  refine congrArg (m ((c : Thread nD τ).loc main_arg2)) (funext fun a => Fin.ext ?_)
  refine (Pipeline.Window.rect_emb_val win0_3 t (ix2 r k) a).trans ?_
  match a with
  | ⟨0, _⟩ => exact congrArg (· * 512 + r.val) (idx_facts t).2.2.2.1.1
  | ⟨1, _⟩ => exact (congrArg (· * 512 + k.val) (idx_facts t).2.2.2.1.2).trans (by show 0 * 512 + k.val = k.val; omega)

/-- The upper mixing weights' block is the upper rows of the argument. -/
theorem upper_apply (c : Dev nD) (t : Fin cfg0.N) (k : Fin 512) (n : Fin 1024) :
    iblk m c 2 t (ix2 k n) = m ((c : Thread nD τ).loc main_arg3) (ix2 (upper k) n) := by
  show V m c main_v1 ((win0_2.rect t).emb (ix2 k n)) = _
  rw [V_upper]
  refine extractStridedSlice_apply _ _ _ _ (ix2 (upper k) n) fun a => ?_
  match a with
  | ⟨0, _⟩ => exact (show k.val = 0 + k.val by omega).trans (congrArg (0 + ·)
        (Pipeline.Window.rect_emb_val_of_index_zero win0_2 t 0 (idx_facts t).2.2.1.1 (ix2 k n)).symm)
  | ⟨1, _⟩ => exact (show n.val = 0 + n.val by omega).trans (congrArg (0 + ·)
        (Pipeline.Window.rect_emb_val_of_index_zero win0_2 t 1 (idx_facts t).2.2.1.2 (ix2 k n)).symm)

/-- The lower mixing weights' block is the lower rows of the argument. -/
theorem lower_apply (c : Dev nD) (t : Fin cfg0.N) (k : Fin 512) (n : Fin 1024) :
    iblk m c 4 t (ix2 k n) = m ((c : Thread nD τ).loc main_arg3) (ix2 (lower k) n) := by
  show V m c main_v2 ((win0_4.rect t).emb (ix2 k n)) = _
  rw [V_lower]
  refine extractStridedSlice_apply _ _ _ _ (ix2 (lower k) n) fun a => ?_
  match a with
  | ⟨0, _⟩ => exact (congrArg (512 + ·)
      (Pipeline.Window.rect_emb_val_of_index_zero win0_4 t 0 (idx_facts t).2.2.2.2.1.1 (ix2 k n)).symm)
  | ⟨1, _⟩ => exact (show n.val = 0 + n.val by omega).trans (congrArg (0 + ·)
        (Pipeline.Window.rect_emb_val_of_index_zero win0_4 t 1 (idx_facts t).2.2.2.2.1.2 (ix2 k n)).symm)

/-- The norm weights' block is the argument. -/
theorem norm_apply (c : Dev nD) (t : Fin cfg0.N) (k : Fin 1024) :
    iblk m c 5 t (ix2 0 k) = m ((c : Thread nD τ).loc main_arg4) (ix1 k) := by
  show V m c main_v6 ((win0_5.rect t).emb (ix2 0 k)) = _
  rw [V_norm]
  refine shapeCast_apply _ _ _ (ix1 k) ?_
  rw [Shape.rowMajor_val_one, Shape.rowMajor_val_two]
  have h0 := Pipeline.Window.rect_emb_val_of_index_zero win0_5 t 0 (idx_facts t).2.2.2.2.2.1.1 (ix2 0 k)
  have h1 := Pipeline.Window.rect_emb_val_of_index_zero win0_5 t 1 (idx_facts t).2.2.2.2.2.1.2 (ix2 0 k)
  exact (show k.val = 0 * 1024 + k.val by omega).trans (congrArg₂ (fun a b => a * 1024 + b) h0 h1).symm

/-- The gate weights' block is the argument. -/
theorem gate_apply (c : Dev nD) (t : Fin cfg0.N) (k : Fin 1024) (f : Fin 2816) :
    iblk m c 6 t (ix2 k f) = m ((c : Thread nD τ).loc main_arg5) (ix2 k f) := by
  show V m c main_v3 ((win0_6.rect t).emb (ix2 k f)) = _
  rw [V_gate]
  refine congrArg (m ((c : Thread nD τ).loc main_arg5)) (funext fun a => Fin.ext ?_)
  match a with
  | ⟨0, _⟩ => exact Pipeline.Window.rect_emb_val_of_index_zero win0_6 t 0 (idx_facts t).2.2.2.2.2.2.1.1 (ix2 k f)
  | ⟨1, _⟩ => exact Pipeline.Window.rect_emb_val_of_index_zero win0_6 t 1 (idx_facts t).2.2.2.2.2.2.1.2 (ix2 k f)

/-- The up weights' block is the argument. -/
theorem up_apply (c : Dev nD) (t : Fin cfg0.N) (k : Fin 1024) (f : Fin 2816) :
    iblk m c 7 t (ix2 k f) = m ((c : Thread nD τ).loc main_arg6) (ix2 k f) := by
  show V m c main_v4 ((win0_7.rect t).emb (ix2 k f)) = _
  rw [V_up]
  refine congrArg (m ((c : Thread nD τ).loc main_arg6)) (funext fun a => Fin.ext ?_)
  match a with
  | ⟨0, _⟩ => exact Pipeline.Window.rect_emb_val_of_index_zero win0_7 t 0 (idx_facts t).2.2.2.2.2.2.2.1.1 (ix2 k f)
  | ⟨1, _⟩ => exact Pipeline.Window.rect_emb_val_of_index_zero win0_7 t 1 (idx_facts t).2.2.2.2.2.2.2.1.2 (ix2 k f)

/-- The down weights' block is the argument. -/
theorem down_apply (c : Dev nD) (t : Fin cfg0.N) (f : Fin 2816) (k : Fin 1024) :
    iblk m c 8 t (ix2 f k) = m ((c : Thread nD τ).loc main_arg7) (ix2 f k) := by
  show V m c main_v5 ((win0_8.rect t).emb (ix2 f k)) = _
  rw [V_down]
  refine congrArg (m ((c : Thread nD τ).loc main_arg7)) (funext fun a => Fin.ext ?_)
  match a with
  | ⟨0, _⟩ => exact Pipeline.Window.rect_emb_val_of_index_zero win0_8 t 0 (idx_facts t).2.2.2.2.2.2.2.2.1.1 (ix2 f k)
  | ⟨1, _⟩ => exact Pipeline.Window.rect_emb_val_of_index_zero win0_8 t 1 (idx_facts t).2.2.2.2.2.2.2.2.1.2 (ix2 f k)

/-- The feed-forward function of the mixed row `i` of the arguments. -/
def value (c : Dev nD) (i : Fin 16384) : Fin 1024 → EReal :=
  ffnRow (addRow (fun k => m ((c : Thread nD τ).loc main_arg0) (ix2 i k)) (catRow (fun q => m ((c : Thread nD τ).loc main_arg1) (ix2 i q)) (fun q => m ((c : Thread nD τ).loc main_arg2) (ix2 i q)))
      (fun q n => m ((c : Thread nD τ).loc main_arg3) (ix2 q n)))
    (fun k => m ((c : Thread nD τ).loc main_arg4) (ix1 k))
    (fun k f => m ((c : Thread nD τ).loc main_arg5) (ix2 k f)) (fun k f => m ((c : Thread nD τ).loc main_arg6) (ix2 k f)) (fun f k => m ((c : Thread nD τ).loc main_arg7) (ix2 f k))

/-- The whole result array as one function. -/
def G (c : Dev nD) : S16384x1024.Idx → EReal := fun i => value m c (i 0) (i 1)

/-- A place of the result's block `t` in the array. -/
theorem emb_out (t : Fin cfg0.N) (r : Fin 512) (j : Fin 1024) : (win0_9.rect t).emb (ix2 r j) = ix2 (rowAt t r) j := by
  refine funext fun a => Fin.ext ?_
  refine (Pipeline.Window.rect_emb_val win0_9 t (ix2 r j) a).trans ?_
  match a with
  | ⟨0, _⟩ => exact congrArg (· * 512 + r.val) (idx_facts t).2.2.2.2.2.2.2.2.2.1
  | ⟨1, _⟩ => exact (congrArg (· * 1024 + j.val) (idx_facts t).2.2.2.2.2.2.2.2.2.2).trans (by show 0 * 1024 + j.val = j.val; omega)

/-- What point `t` writes back is block `t` of that function. -/
theorem flushed_eq (c : Dev nD) (t : Fin cfg0.N) :
    (dats m 0 c).flushed 9 t = ((cfg0.win 9).blk t).view.read (Elt Ideal) (G m c) := by
  rw [flushed9]
  refine funext fun (y : S512x1024.Idx) => ?_
  obtain ⟨r, j, rfl⟩ : ∃ (r : Fin 512) (j : Fin 1024), y = ix2 r j := ⟨y 0, y 1, eq_ix2 y⟩
  show out0_9 (F := Ideal) _ _ _ _ _ _ _ _ _ (ix2 r j) = G m c ((win0_9.rect t).emb (ix2 r j))
  rw [emb_out, MixFfnBlock.out_apply]
  show _ = value m c (rowAt t r) j
  unfold value
  refine congrFun ?_ j
  congr 1
  · funext k
    unfold addRow
    rw [dotRow_catRow]
    refine (congrArg₂ (fun a b : EReal => a + b) (congrArg₂ (fun a b : EReal => a + b) (stream_apply m c t r k) ?_) ?_).trans (add_assoc _ _ _)
    · exact Finset.sum_congr rfl fun q _ => congrArg₂ (fun a b : EReal => a * b) (first_apply m c t r q) (upper_apply m c t q k)
    · exact Finset.sum_congr rfl fun q _ => congrArg₂ (fun a b : EReal => a * b) (second_apply m c t r q) (lower_apply m c t q k)
  · exact funext fun k => norm_apply m c t k
  · exact funext fun k => funext fun f => gate_apply m c t k f
  · exact funext fun k => funext fun f => up_apply m c t k f
  · exact funext fun f => funext fun k => down_apply m c t f k

/-- Every place of the array lies in some point's block. -/
theorem cover (i : S16384x1024.Idx) : ∃ t : Fin cfg0.N, (cfg0.win 9).flush t = true ∧ i ∈ ((cfg0.win 9).blk t).view.set := by
  have h0 : (i 0).val < 16384 := (i 0).isLt
  refine ⟨⟨(i 0).val / 512, by show _ < 32; omega⟩, flush0_9 _, ?_⟩
  have e := ((cfg0.win 9).blk ⟨(i 0).val / 512, by show _ < 32; omega⟩).view.emb_mem_set
    (ix2 (⟨(i 0).val % 512, Nat.mod_lt _ (by norm_num)⟩ : Fin 512) (i 1))
  refine (congrArg (· ∈ _) ?_).mp e
  refine (emb_out _ _ (i 1)).trans ?_
  refine (congrArg (ix2 · (i 1)) (Fin.ext ?_)).trans (eq_ix2 i).symm
  show (i 0).val / 512 * 512 + (i 0).val % 512 = (i 0).val
  omega

/-- The result array after the run. -/
theorem final (c : Dev nD) : (dats m 0 c).arrAt 9 cfg0.N = G m c :=
  (dats m 0 c).arrAt_eq_of_cover 9 (G m c) (fun t _ => flushed_eq m c t) cover

end MixFfnArray

end
-- ==== Proof.MixFfnRead.lean ====
/- What the mixing reference computes: at each row and column the feed-forward function of the stream's row with the product
   of the two half rows, side by side, added. -/
module

public import proofs.«01_k».proof.Proof.Gen.MixFfnRefIdeal.Read
public import proofs.«01_k».proof.Proof.RowMath

@[expose] public section

noncomputable section

open Idealize.ShloMosaic Idealize.ShloMosaic.ValueIdx RowMath

namespace MixFfnRead

open Cert.MixFfnRefIdeal Cert.MixFfnRefIdeal.Read

variable (x0 : (⟨S16384x1024, .f32⟩ : BufTy).Contents (Elt Ideal)) (x1 x2 : (⟨S16384x512, .bf16⟩ : BufTy).Contents (Elt Ideal))
  (x3 : (⟨S1024x1024, .f32⟩ : BufTy).Contents (Elt Ideal)) (x4 : (⟨S1024, .f32⟩ : BufTy).Contents (Elt Ideal))
  (x5 x6 : (⟨S1024x2816, .f32⟩ : BufTy).Contents (Elt Ideal)) (x7 : (⟨S2816x1024, .f32⟩ : BufTy).Contents (Elt Ideal))

/-- The two half rows side by side. -/
theorem cat_apply (i : Fin 16384) (k : Fin 1024) :
    val_main_v2 (F := Ideal) x1 x2 (ix2 i k) = catRow (fun q => x1 (ix2 i q)) (fun q => x2 (ix2 i q)) k := by
  unfold val_main_v2 catRow
  split
  · next h =>
    refine concatenate_pair_apply_left (s₁ := S16384x512) (s₂ := S16384x512) 1 _ _ _ (ix2 i k) rfl (ix2 i (⟨k.val, h⟩ : Fin 512)) fun b => ?_
    match b with
    | ⟨0, _⟩ => rfl
    | ⟨1, _⟩ => rfl
  · next h =>
    refine concatenate_pair_apply_right (s₁ := S16384x512) (s₂ := S16384x512) 1 _ _ _ (ix2 i k) rfl rfl (ix2 i (⟨k.val - 512, by omega⟩ : Fin 512)) (fun b hb => ?_) ?_
    · match b with
      | ⟨0, _⟩ => rfl
      | ⟨1, _⟩ => exact absurd rfl hb
    · show k.val - 512 + 512 = k.val
      omega

/-- The product of the two half rows with the mixing weights. -/
theorem product_apply (i : Fin 16384) (f : Fin 1024) :
    val_main_v3 (F := Ideal) x1 x2 x3 (ix2 i f) = dotRow (catRow (fun q => x1 (ix2 i q)) (fun q => x2 (ix2 i q))) (fun k f => x3 (ix2 k f)) f := by
  rw [val_main_v3_apply]
  refine Finset.sum_congr rfl fun k _ => ?_
  rw [show lidx_main_v3 (ix2 i f) k = ix2 i k from funext fun a => match a with | ⟨0, _⟩ => rfl | ⟨1, _⟩ => rfl,
    show ridx_main_v3 (ix2 i f) k = ix2 k f from funext fun a => match a with | ⟨0, _⟩ => rfl | ⟨1, _⟩ => rfl,
    cat_apply]

/-- The mixed row. -/
theorem mix_apply (i : Fin 16384) (j : Fin 1024) :
    val_main_v4 (F := Ideal) x0 x1 x2 x3 (ix2 i j)
      = addRow (fun k => x0 (ix2 i k)) (catRow (fun q => x1 (ix2 i q)) (fun q => x2 (ix2 i q))) (fun q n => x3 (ix2 q n)) j := by
  rw [val_main_v4_apply, product_apply]
  rfl

/-- The sum of the squares of the mixed row. -/
theorem squares_apply (i : Fin 16384) (z : Fin 1) :
    val_main_v7 (F := Ideal) x0 x1 x2 x3 (ix2 i z) = ∑ k : Fin 1024, (addRow (fun k => x0 (ix2 i k)) (catRow (fun q => x1 (ix2 i q)) (fun q => x2 (ix2 i q))) (fun q n => x3 (ix2 q n)) k) * (addRow (fun k => x0 (ix2 i k)) (catRow (fun q => x1 (ix2 i q)) (fun q => x2 (ix2 i q))) (fun q n => x3 (ix2 q n)) k) := by
  rw [val_main_v7_apply, val_main_v6_apply]
  show Ideal.ofBits .f32 0x00000000#32 + _ = _
  rw [Ideal.ofBits_zero_f32, zero_add]
  refine Finset.sum_congr rfl fun k _ => ?_
  rw [val_main_v5_apply, show idx_main_v6 (idx_main_v7 (ix2 i z)) k = ix2 i k from funext fun a => match a with | ⟨0, _⟩ => rfl | ⟨1, _⟩ => rfl,
    mix_apply]
  rfl

/-- The norm of the mixed row. -/
theorem norm_apply (i : Fin 16384) (k : Fin 1024) :
    val_main_v17 (F := Ideal) x0 x1 x2 x3 x4 (ix2 i k) = rmsRow (fun j => (addRow (fun k => x0 (ix2 i k)) (catRow (fun q => x1 (ix2 i q)) (fun q => x2 (ix2 i q))) (fun q n => x3 (ix2 q n)) j)) (fun j => x4 (ix1 j)) k := by
  rw [val_main_v17_apply, val_main_v14_apply, val_main_v13_apply, val_main_v12_apply, val_main_v11_apply,
    val_main_v9_apply, val_main_v8_apply, val_main_v10_apply, val_main_v16_apply, val_main_v15_apply,
    val_main_cst_0_apply, val_main_cst_1_apply,
    show idx_main_v13 (ix2 i k) = ix2 i 0 from funext fun a => match a with | ⟨0, _⟩ => rfl | ⟨1, _⟩ => rfl,
    squares_apply, mix_apply,
    show idx_main_v15 (idx_main_v16 (ix2 i k)) = ix1 k from funext fun a => match a with | ⟨0, _⟩ => rfl]
  rfl

/-- The gate's product. -/
theorem gate_apply (i : Fin 16384) (f : Fin 2816) :
    val_main_v18 (F := Ideal) x0 x1 x2 x3 x4 x5 (ix2 i f) = dotRow (rmsRow (addRow (fun k => x0 (ix2 i k)) (catRow (fun q => x1 (ix2 i q)) (fun q => x2 (ix2 i q))) (fun q n => x3 (ix2 q n))) (fun j => x4 (ix1 j))) (fun k f => x5 (ix2 k f)) f := by
  rw [val_main_v18_apply]
  refine Finset.sum_congr rfl fun k _ => ?_
  rw [show lidx_main_v18 (ix2 i f) k = ix2 i k from funext fun a => match a with | ⟨0, _⟩ => rfl | ⟨1, _⟩ => rfl,
    show ridx_main_v18 (ix2 i f) k = ix2 k f from funext fun a => match a with | ⟨0, _⟩ => rfl | ⟨1, _⟩ => rfl,
    norm_apply]

/-- The other product of the hidden row. -/
theorem up_apply (i : Fin 16384) (f : Fin 2816) :
    val_main_v20 (F := Ideal) x0 x1 x2 x3 x4 x6 (ix2 i f) = dotRow (rmsRow (addRow (fun k => x0 (ix2 i k)) (catRow (fun q => x1 (ix2 i q)) (fun q => x2 (ix2 i q))) (fun q n => x3 (ix2 q n))) (fun j => x4 (ix1 j))) (fun k f => x6 (ix2 k f)) f := by
  rw [val_main_v20_apply]
  refine Finset.sum_congr rfl fun k _ => ?_
  rw [show lidx_main_v20 (ix2 i f) k = ix2 i k from funext fun a => match a with | ⟨0, _⟩ => rfl | ⟨1, _⟩ => rfl,
    show ridx_main_v20 (ix2 i f) k = ix2 k f from funext fun a => match a with | ⟨0, _⟩ => rfl | ⟨1, _⟩ => rfl,
    norm_apply]

/-- The gated hidden row. -/
theorem hidden_apply (i : Fin 16384) (f : Fin 2816) :
    val_main_v21 (F := Ideal) x0 x1 x2 x3 x4 x5 x6 (ix2 i f)
      = hiddenRow (rmsRow (addRow (fun k => x0 (ix2 i k)) (catRow (fun q => x1 (ix2 i q)) (fun q => x2 (ix2 i q))) (fun q n => x3 (ix2 q n))) (fun j => x4 (ix1 j))) (fun k f => x5 (ix2 k f)) (fun k f => x6 (ix2 k f)) f := by
  rw [val_main_v21_apply, val_main_v19_apply, val_main_call0_v5_apply, val_main_call0_v4_apply, val_main_call0_v3_apply,
    val_main_call0_v2_apply, val_main_call0_v1_apply, val_main_call0_v0_apply, val_main_call0_cst_apply,
    val_main_call0_cst_0_apply, gate_apply, up_apply]
  rfl

/-- The reference's result at a row and a column. -/
theorem result_apply (i : Fin 16384) (j : Fin 1024) :
    val_main_v25 (F := Ideal) x0 x1 x2 x3 x4 x5 x6 x7 (ix2 i j)
      = ffnRow (addRow (fun k => x0 (ix2 i k)) (catRow (fun q => x1 (ix2 i q)) (fun q => x2 (ix2 i q))) (fun q n => x3 (ix2 q n)))
          (fun k => x4 (ix1 k)) (fun k f => x5 (ix2 k f)) (fun k f => x6 (ix2 k f)) (fun f k => x7 (ix2 f k)) j := by
  rw [val_main_v25_apply, val_main_v24_apply, val_main_v23_apply, val_main_cst_2_apply, val_main_v22_apply, mix_apply]
  refine congrArg (fun y => addRow (fun k => x0 (ix2 i k)) (catRow (fun q => x1 (ix2 i q)) (fun q => x2 (ix2 i q))) (fun q n => x3 (ix2 q n)) j
    + Ideal.ofBits .f32 0x3F000000#32 * y) (Finset.sum_congr rfl fun f _ => ?_)
  rw [show lidx_main_v22 (ix2 i j) f = ix2 i f from funext fun a => match a with | ⟨0, _⟩ => rfl | ⟨1, _⟩ => rfl,
    show ridx_main_v22 (ix2 i j) f = ix2 f j from funext fun a => match a with | ⟨0, _⟩ => rfl | ⟨1, _⟩ => rfl,
    hidden_apply]

end MixFfnRead

end
-- ==== Proof.MixFfnClaim.lean ====
/- The mixing projection and the feed-forward network after it: kernel and reference end with the same array. -/
module

public import proofs.«01_k».proof.Defs
public import proofs.«01_k».proof.Proof.MixFfnArray
public import proofs.«01_k».proof.Proof.MixFfnRead
public import proofs.«01_k».proof.Proof.Gen.MixFfnRefIdeal.Run

@[expose] public section

noncomputable section

open Idealize.ShloMosaic Idealize.ShloMosaic.ValueIdx Idealize.ShloMosaic.TcCoe Idealize.SL.Sem RowMath

namespace MixFfnClaim

local instance : Cert.MixFfnIdeal.Facts := Cert.MixFfnIdeal.Gen.facts
local instance : Cert.MixFfnRefIdeal.Facts := Cert.MixFfnRefIdeal.Gen.facts

/-- The reference runs, leaves its arguments as they were and declares no semaphore. -/
theorem frame_reference : Cert.quiescent_MixFfnRefIdeal := fun m g _ =>
  (θ_run Cert.MixFfnRefIdeal.defs _ _).mono (fun r h => ⟨fun c => (h c).2, sem_eq_zero_of_no_sems (by decide) r.2⟩)
    (Cert.MixFfnRefIdeal.Value.run m g)

/-- On equal arguments the reference's value is the array the kernel's blocks make up. -/
theorem reference_eq (m : (ℓ : Loc Cert.MixFfnIdeal.nD Cert.MixFfnIdeal.τ Cert.MixFfnIdeal.sig) → Buf (Elt Ideal) ℓ)
    (m' : (ℓ : Loc Cert.MixFfnRefIdeal.nD Cert.MixFfnRefIdeal.τ Cert.MixFfnRefIdeal.sig) → Buf (Elt Ideal) ℓ)
    (c : Dev Cert.MixFfnIdeal.nD)
    (h : m' ((c.tc : Thread Cert.MixFfnRefIdeal.nD Cert.MixFfnRefIdeal.τ).loc Cert.MixFfnRefIdeal.main_arg0) = m ((c.tc : Thread Cert.MixFfnIdeal.nD Cert.MixFfnIdeal.τ).loc Cert.MixFfnIdeal.main_arg0)
      ∧ m' ((c.tc : Thread Cert.MixFfnRefIdeal.nD Cert.MixFfnRefIdeal.τ).loc Cert.MixFfnRefIdeal.main_arg1) = m ((c.tc : Thread Cert.MixFfnIdeal.nD Cert.MixFfnIdeal.τ).loc Cert.MixFfnIdeal.main_arg1)
      ∧ m' ((c.tc : Thread Cert.MixFfnRefIdeal.nD Cert.MixFfnRefIdeal.τ).loc Cert.MixFfnRefIdeal.main_arg2) = m ((c.tc : Thread Cert.MixFfnIdeal.nD Cert.MixFfnIdeal.τ).loc Cert.MixFfnIdeal.main_arg2)
      ∧ m' ((c.tc : Thread Cert.MixFfnRefIdeal.nD Cert.MixFfnRefIdeal.τ).loc Cert.MixFfnRefIdeal.main_arg3) = m ((c.tc : Thread Cert.MixFfnIdeal.nD Cert.MixFfnIdeal.τ).loc Cert.MixFfnIdeal.main_arg3)
      ∧ m' ((c.tc : Thread Cert.MixFfnRefIdeal.nD Cert.MixFfnRefIdeal.τ).loc Cert.MixFfnRefIdeal.main_arg4) = m ((c.tc : Thread Cert.MixFfnIdeal.nD Cert.MixFfnIdeal.τ).loc Cert.MixFfnIdeal.main_arg4)
      ∧ m' ((c.tc : Thread Cert.MixFfnRefIdeal.nD Cert.MixFfnRefIdeal.τ).loc Cert.MixFfnRefIdeal.main_arg5) = m ((c.tc : Thread Cert.MixFfnIdeal.nD Cert.MixFfnIdeal.τ).loc Cert.MixFfnIdeal.main_arg5)
      ∧ m' ((c.tc : Thread Cert.MixFfnRefIdeal.nD Cert.MixFfnRefIdeal.τ).loc Cert.MixFfnRefIdeal.main_arg6) = m ((c.tc : Thread Cert.MixFfnIdeal.nD Cert.MixFfnIdeal.τ).loc Cert.MixFfnIdeal.main_arg6)
      ∧ m' ((c.tc : Thread Cert.MixFfnRefIdeal.nD Cert.MixFfnRefIdeal.τ).loc Cert.MixFfnRefIdeal.main_arg7) = m ((c.tc : Thread Cert.MixFfnIdeal.nD Cert.MixFfnIdeal.τ).loc Cert.MixFfnIdeal.main_arg7)) :
    Cert.MixFfnRefIdeal.Read.val_main_v25 (F := Ideal) (m' ((c.tc : Thread Cert.MixFfnRefIdeal.nD Cert.MixFfnRefIdeal.τ).loc Cert.MixFfnRefIdeal.main_arg0)) (m' ((c.tc : Thread Cert.MixFfnRefIdeal.nD Cert.MixFfnRefIdeal.τ).loc Cert.MixFfnRefIdeal.main_arg1)) (m' ((c.tc : Thread Cert.MixFfnRefIdeal.nD Cert.MixFfnRefIdeal.τ).loc Cert.MixFfnRefIdeal.main_arg2)) (m' ((c.tc : Thread Cert.MixFfnRefIdeal.nD Cert.MixFfnRefIdeal.τ).loc Cert.MixFfnRefIdeal.main_arg3)) (m' ((c.tc : Thread Cert.MixFfnRefIdeal.nD Cert.MixFfnRefIdeal.τ).loc Cert.MixFfnRefIdeal.main_arg4)) (m' ((c.tc : Thread Cert.MixFfnRefIdeal.nD Cert.MixFfnRefIdeal.τ).loc Cert.MixFfnRefIdeal.main_arg5)) (m' ((c.tc : Thread Cert.MixFfnRefIdeal.nD Cert.MixFfnRefIdeal.τ).loc Cert.MixFfnRefIdeal.main_arg6)) (m' ((c.tc : Thread Cert.MixFfnRefIdeal.nD Cert.MixFfnRefIdeal.τ).loc Cert.MixFfnRefIdeal.main_arg7)) = MixFfnArray.G m c := by
  obtain ⟨h0, h1, h2, h3, h4, h5, h6, h7⟩ := h
  rw [h0, h1, h2, h3, h4, h5, h6, h7]
  refine funext fun y => ?_
  obtain ⟨i, j, rfl⟩ : ∃ (i : Fin 16384) (j : Fin 1024), y = ix2 i j := ⟨y 0, y 1, eq_ix2 y⟩
  exact MixFfnRead.result_apply _ _ _ _ _ _ _ _ i j

/-- The kernel and its reference end with equal results. -/
theorem algebraic : Cert.algebraic_MixFfnIdeal_MixFfnRefIdeal := fun m g m' g' _ hargs =>
  ⟨fun c => MixFfnArray.G m c,
    (θ_run Cert.MixFfnIdeal.defs _ _).mono (fun _ h c => ⟨(h c).1.trans (MixFfnArray.final m c), (h c).2⟩)
      (Cert.MixFfnIdeal.Value.run_blocks m g),
    (θ_run Cert.MixFfnRefIdeal.defs _ _).mono
      (fun _ h c => ⟨((h c).1.trans (Cert.MixFfnRefIdeal.Read.val_main_v25_eq m' c)).trans (reference_eq m m' c (hargs c)), (h c).2⟩)
      (Cert.MixFfnRefIdeal.Value.run m' g')⟩

end MixFfnClaim

end
-- ==== Proof.OutFfnBlock.lean ====
/- One block of 512 rows of the kernel that adds the attention's output product to the stream, runs the feed-forward block
   and the last norm: what the body computes at a row and a column. -/
module

public import proofs.«01_k».proof.Proof.Gen.OutFfnIdeal.Value
public import proofs.«01_k».proof.Proof.RowMath

@[expose] public section

noncomputable section

open Idealize.ShloMosaic Idealize.ShloMosaic.ValueIdx Idealize.ShloMosaic.TcCoe RowMath

namespace OutFfnBlock

open Cert.OutFfnIdeal Cert.OutFfnIdeal.Gen Cert.OutFfnIdeal.Value

/-- The stream with the attention's output product added, at a row and a column. -/
theorem add_apply (x : Vec Ideal S512x1024 .f32) (o : Vec Ideal S512x1024 .bf16) (wo : Vec Ideal S1024x1024 .bf16)
    (r : Fin 512) (j : Fin 1024) :
    k0_pay2 (F := Ideal) x o wo (ix2 r j)
      = x (ix2 r j) + dotRow (fun k => o (ix2 r k)) (fun k n => wo (ix2 k n)) j := by
  unfold k0_pay2
  simp only [shapeCast_self]
  rw [addf_apply, mm_apply dot_S512x1024_S1024x1024_S512x1024_1_0_0_1_n_n rfl]

/-- The stream after the feed-forward block, at a row and a column. -/
theorem ffn_apply (y : FVec Ideal S512x1024 .f32) (g : FVec Ideal S1x1024 .f32) (wg wu : FVec Ideal S1024x2816 .bf16)
    (wd : FVec Ideal S2816x1024 .bf16) (hr : Shape.Reduces S512x1024 [1] S512) (hφ : FKind.Formats .f32)
    (hacc : 0x00000000#32 = FKind.add.neutral .f32 hφ) (r : Fin 512) (j : Fin 1024) :
    addf y (mulf (broadcast S512x1024 (Scalar.ofBits .f32 0x3F000000#32))
      (matmul dot_S512x2816_S2816x1024_S512x1024_1_0_0_1_n_n none
        (let h := (truncf .bf16 (mulf (mulf y (broadcastTo S512x1024 (rsqrt (addf (divf (shapeCast S512x1
            (multiReduction .add [1] S512 (mulf y y) 0x00000000#32 hr hφ hacc) shapeCasts_S512_S512x1)
            (broadcast S512x1 (Scalar.ofBits .f32 0x44800000#32))) (broadcast S512x1 (Scalar.ofBits .f32 0x358637BD#32))))
            broadcasts_S512x1_S512x1024)) (broadcastTo S512x1024 g broadcasts_S1x1024_S512x1024)) bitsLt_bf16_f32 : FVec Ideal S512x1024 .bf16)
         let a := matmul dot_S512x1024_S1024x2816_S512x2816_1_0_0_1_n_n none h wg (constant S512x2816 .f32 0x00000000#32)
         (truncf .bf16 (mulf (mulf a (divf (broadcast S512x2816 (Scalar.ofBits .f32 0x3F800000#32))
            (addf (broadcast S512x2816 (Scalar.ofBits .f32 0x3F800000#32)) (exp (subf (broadcast S512x2816 (Scalar.ofBits .f32 0x00000000#32)) a)))))
            (matmul dot_S512x1024_S1024x2816_S512x2816_1_0_0_1_n_n none h wu (constant S512x2816 .f32 0x00000000#32))) bitsLt_bf16_f32
            : FVec Ideal S512x2816 .bf16))
        wd (constant S512x1024 .f32 0x00000000#32))) (ix2 r j)
      = ffnRow (fun k => y (ix2 r k)) (fun k => g (ix2 0 k)) (fun k f => wg (ix2 k f)) (fun k f => wu (ix2 k f)) (fun f k => wd (ix2 f k)) j := by
  dsimp only
  refine (addf_apply _ _ _).trans ?_
  refine congrArg (fun z => y (ix2 r j) + Ideal.ofBits .f32 0x3F000000#32 * z) ?_
  refine (mm_apply dot_S512x2816_S2816x1024_S512x1024_1_0_0_1_n_n rfl _ _ r j).trans ?_
  refine congrArg (fun z => dotRow z _ j) (funext fun f => ?_)
  refine (hidden_apply _ _ (ix2 r f)).trans ?_
  rw [mm_apply dot_S512x1024_S1024x2816_S512x2816_1_0_0_1_n_n rfl, mm_apply dot_S512x1024_S1024x2816_S512x2816_1_0_0_1_n_n rfl]
  exact congrArg (fun h => swish (dotRow h (fun k f => wg (ix2 k f)) f) * dotRow h (fun k f => wu (ix2 k f)) f)
    (funext fun k => rms_apply y g _ _ _ _ _ _ r k)

/-- The body's result at row `r` and column `j` is the last norm of the feed-forward function of row `r`. -/
theorem payload_apply (x : Vec Ideal S512x1024 .f32) (o : Vec Ideal S512x1024 .bf16) (wo : Vec Ideal S1024x1024 .bf16) (g : Vec Ideal S1x1024 .f32)
    (wg wu : Vec Ideal S1024x2816 .bf16) (wd : Vec Ideal S2816x1024 .bf16) (gf : Vec Ideal S1x1024 .f32)
    (r : Fin 512) (j : Fin 1024) :
    k0_pay1 (F := Ideal) (k0_pay2 x o wo) (k0_pay3 x o wo g wg wu) wd gf (ix2 r j)
      = rmsRow (ffnRow (fun j => x (ix2 r j) + dotRow (fun k => o (ix2 r k)) (fun k n => wo (ix2 k n)) j)
          (fun k => g (ix2 0 k)) (fun k f => wg (ix2 k f)) (fun k f => wu (ix2 k f)) (fun f k => wd (ix2 f k))) (fun k => gf (ix2 0 k)) j := by
  refine Eq.trans ?_ (congrArg (fun y => rmsRow (ffnRow y (fun k => g (ix2 0 k)) (fun k f => wg (ix2 k f)) (fun k f => wu (ix2 k f)) (fun f k => wd (ix2 f k)))
    (fun k => gf (ix2 0 k)) j) (funext fun j => add_apply x o wo r j))
  unfold k0_pay1 k0_pay3
  generalize k0_pay2 (F := Ideal) x o wo = y
  dsimp only
  simp only [shapeCast_self]
  refine (rms_apply _ gf _ _ _ _ _ _ r j).trans ?_
  exact congrArg (fun z => rmsRow z (fun k => gf (ix2 0 k)) j) (funext fun k => ffn_apply y g wg wu wd _ _ _ r k)

/-- The zero offsets of the body's loads and store, as a function. -/
theorem offsets_zero : (![0, 0] : Fin 2 → Nat) = fun _ => 0 := funext fun a => by fin_cases a <;> rfl

/-- What the body leaves in the output block at a row and a column. -/
theorem out_apply (x : Vec Ideal S512x1024 .f32) (o : Vec Ideal S512x1024 .bf16) (wo : Vec Ideal S1024x1024 .bf16) (g : Vec Ideal S1x1024 .f32)
    (wg wu : Vec Ideal S1024x2816 .bf16) (wd : Vec Ideal S2816x1024 .bf16) (gf : Vec Ideal S1x1024 .f32)
    (r : Fin 512) (j : Fin 1024) :
    out0_8 (F := Ideal) x o wo g wg wu wd gf (ix2 r j)
      = rmsRow (ffnRow (fun j => x (ix2 r j) + dotRow (fun k => o (ix2 r k)) (fun k n => wo (ix2 k n)) j)
          (fun k => g (ix2 0 k)) (fun k f => wg (ix2 k f)) (fun k f => wu (ix2 k f)) (fun f k => wd (ix2 f k))) (fun k => gf (ix2 0 k)) j := by
  unfold out0_8
  refine (congrFun (View.canon_unit_zero (Val := Elt Ideal) offsets_zero inb_S512x1024_S512x1024_0_0 _) (ix2 r j)).trans ?_
  rw [show View.ld x r0_0 = x from View.ld_unit_zero (Val := Elt Ideal) offsets_zero _ x,
    show View.ld o r0_0 = o from View.ld_unit_zero (Val := Elt Ideal) offsets_zero _ o,
    show View.ld wo r0_1 = wo from View.ld_unit_zero (Val := Elt Ideal) offsets_zero _ wo,
    show View.ld g r0_2 = g from View.ld_unit_zero (Val := Elt Ideal) offsets_zero _ g,
    show View.ld wg r0_3 = wg from View.ld_unit_zero (Val := Elt Ideal) offsets_zero _ wg,
    show View.ld wu r0_3 = wu from View.ld_unit_zero (Val := Elt Ideal) offsets_zero _ wu,
    show View.ld wd r0_4 = wd from View.ld_unit_zero (Val := Elt Ideal) offsets_zero _ wd,
    show View.ld gf r0_2 = gf from View.ld_unit_zero (Val := Elt Ideal) offsets_zero _ gf]
  exact payload_apply x o wo g wg wu wd gf r j

end OutFfnBlock

end
-- ==== Proof.OutFfnArray.lean ====
/- What the last kernel's result array holds after a run: at each row and column the last norm of the feed-forward function
   of the stream's row with the attention's output product added. -/
module

public import proofs.«01_k».proof.Proof.OutFfnBlock

@[expose] public section

noncomputable section

open Idealize.ShloMosaic Idealize.ShloMosaic.ValueIdx Idealize.ShloMosaic.TcCoe Idealize.SL.Sem RowMath
open Idealize.ShloMosaic.Pipeline (Dat)

namespace OutFfnArray

open Cert.OutFfnIdeal Cert.OutFfnIdeal.Gen Cert.OutFfnIdeal.Value

variable (m : (ℓ : Loc nD τ sig) → Buf (Elt Ideal) ℓ)

/-- The blocks' places: the rows' and the result's block `t` is block `t` of rows, every other block is its whole array. -/
theorem idx_facts : ∀ t : Fin cfg0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = t.val ∧ win0_8.index t 1 = 0) :=
  (by decide +kernel : ∀ t : Fin grid0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = t.val ∧ win0_8.index t 1 = 0))

/-- Row `r` of block `t` as a row of the array. -/
def rowAt (t : Fin cfg0.N) (r : Fin 512) : Fin 16384 :=
  ⟨t.val * 512 + r.val, by have h : t.val < 32 := t.isLt; have := r.isLt; omega⟩

/-- The weights the kernel is handed are the arguments (a change of format is no change of the number). -/
theorem V_out (c : Dev nD) : V m c main_v0 = m ((c : Thread nD τ).loc main_arg2) := by
  simp only [V, hostOps0]; after_results <;> rfl
theorem V_gate (c : Dev nD) : V m c main_v1 = m ((c : Thread nD τ).loc main_arg4) := by
  simp only [V, hostOps0]; after_results <;> rfl
theorem V_up (c : Dev nD) : V m c main_v2 = m ((c : Thread nD τ).loc main_arg5) := by
  simp only [V, hostOps0]; after_results <;> rfl
theorem V_down (c : Dev nD) : V m c main_v3 = m ((c : Thread nD τ).loc main_arg6) := by
  simp only [V, hostOps0]; after_results <;> rfl
/-- The norms' weights are handed over as one row each. -/
theorem V_norm (c : Dev nD) : V m c main_v4
    = shapeCast S1x1024 (m ((c : Thread nD τ).loc main_arg3) : S1024.Idx → EReal) shapeCasts_S1024_S1x1024 := by
  simp only [V, hostOps0]; after_results <;> rfl
theorem V_last (c : Dev nD) : V m c main_v5
    = shapeCast S1x1024 (m ((c : Thread nD τ).loc main_arg7) : S1024.Idx → EReal) shapeCasts_S1024_S1x1024 := by
  simp only [V, hostOps0]; after_results <;> rfl

/-- The stream's block at point `t`, read at a row and a column. -/
theorem stream_apply (c : Dev nD) (t : Fin cfg0.N) (r : Fin 512) (k : Fin 1024) :
    iblk m c 0 t (ix2 r k) = m ((c : Thread nD τ).loc main_arg0) (ix2 (rowAt t r) k) := by
  show V m c main_arg0 ((win0_0.rect t).emb (ix2 r k)) = _
  rw [V_main_arg0]
  refine congrArg (m ((c : Thread nD τ).loc main_arg0)) (funext fun a => Fin.ext ?_)
  refine (Pipeline.Window.rect_emb_val win0_0 t (ix2 r k) a).trans ?_
  match a with
  | ⟨0, _⟩ => exact congrArg (· * 512 + r.val) (idx_facts t).1.1
  | ⟨1, _⟩ => exact (congrArg (· * 1024 + k.val) (idx_facts t).1.2).trans (by show 0 * 1024 + k.val = k.val; omega)

/-- The attention output's block. -/
theorem attn_apply (c : Dev nD) (t : Fin cfg0.N) (r : Fin 512) (k : Fin 1024) :
    iblk m c 1 t (ix2 r k) = m ((c : Thread nD τ).loc main_arg1) (ix2 (rowAt t r) k) := by
  show V m c main_arg1 ((win0_1.rect t).emb (ix2 r k)) = _
  rw [V_main_arg1]
  refine congrArg (m ((c : Thread nD τ).loc main_arg1)) (funext fun a => Fin.ext ?_)
  refine (Pipeline.Window.rect_emb_val win0_1 t (ix2 r k) a).trans ?_
  match a with
  | ⟨0, _⟩ => exact congrArg (· * 512 + r.val) (idx_facts t).2.1.1
  | ⟨1, _⟩ => exact (congrArg (· * 1024 + k.val) (idx_facts t).2.1.2).trans (by show 0 * 1024 + k.val = k.val; omega)

/-- The output weights' block is the argument. -/
theorem out_apply (c : Dev nD) (t : Fin cfg0.N) (q : Fin 1024) (k : Fin 1024) :
    iblk m c 2 t (ix2 q k) = m ((c : Thread nD τ).loc main_arg2) (ix2 q k) := by
  show V m c main_v0 ((win0_2.rect t).emb (ix2 q k)) = _
  rw [V_out]
  refine congrArg (m ((c : Thread nD τ).loc main_arg2)) (funext fun a => Fin.ext ?_)
  match a with
  | ⟨0, _⟩ => exact Pipeline.Window.rect_emb_val_of_index_zero win0_2 t 0 (idx_facts t).2.2.1.1 (ix2 q k)
  | ⟨1, _⟩ => exact Pipeline.Window.rect_emb_val_of_index_zero win0_2 t 1 (idx_facts t).2.2.1.2 (ix2 q k)

/-- The norm weights' block is the argument. -/
theorem norm_apply (c : Dev nD) (t : Fin cfg0.N) (k : Fin 1024) :
    iblk m c 3 t (ix2 0 k) = m ((c : Thread nD τ).loc main_arg3) (ix1 k) := by
  show V m c main_v4 ((win0_3.rect t).emb (ix2 0 k)) = _
  rw [V_norm]
  refine shapeCast_apply _ _ _ (ix1 k) ?_
  rw [Shape.rowMajor_val_one, Shape.rowMajor_val_two]
  have h0 := Pipeline.Window.rect_emb_val_of_index_zero win0_3 t 0 (idx_facts t).2.2.2.1.1 (ix2 0 k)
  have h1 := Pipeline.Window.rect_emb_val_of_index_zero win0_3 t 1 (idx_facts t).2.2.2.1.2 (ix2 0 k)
  exact (show k.val = 0 * 1024 + k.val by omega).trans (congrArg₂ (fun a b => a * 1024 + b) h0 h1).symm

/-- The gate weights' block is the argument. -/
theorem gate_apply (c : Dev nD) (t : Fin cfg0.N) (k : Fin 1024) (f : Fin 2816) :
    iblk m c 4 t (ix2 k f) = m ((c : Thread nD τ).loc main_arg4) (ix2 k f) := by
  show V m c main_v1 ((win0_4.rect t).emb (ix2 k f)) = _
  rw [V_gate]
  refine congrArg (m ((c : Thread nD τ).loc main_arg4)) (funext fun a => Fin.ext ?_)
  match a with
  | ⟨0, _⟩ => exact Pipeline.Window.rect_emb_val_of_index_zero win0_4 t 0 (idx_facts t).2.2.2.2.1.1 (ix2 k f)
  | ⟨1, _⟩ => exact Pipeline.Window.rect_emb_val_of_index_zero win0_4 t 1 (idx_facts t).2.2.2.2.1.2 (ix2 k f)

/-- The up weights' block is the argument. -/
theorem up_apply (c : Dev nD) (t : Fin cfg0.N) (k : Fin 1024) (f : Fin 2816) :
    iblk m c 5 t (ix2 k f) = m ((c : Thread nD τ).loc main_arg5) (ix2 k f) := by
  show V m c main_v2 ((win0_5.rect t).emb (ix2 k f)) = _
  rw [V_up]
  refine congrArg (m ((c : Thread nD τ).loc main_arg5)) (funext fun a => Fin.ext ?_)
  match a with
  | ⟨0, _⟩ => exact Pipeline.Window.rect_emb_val_of_index_zero win0_5 t 0 (idx_facts t).2.2.2.2.2.1.1 (ix2 k f)
  | ⟨1, _⟩ => exact Pipeline.Window.rect_emb_val_of_index_zero win0_5 t 1 (idx_facts t).2.2.2.2.2.1.2 (ix2 k f)

/-- The down weights' block is the argument. -/
theorem down_apply (c : Dev nD) (t : Fin cfg0.N) (f : Fin 2816) (k : Fin 1024) :
    iblk m c 6 t (ix2 f k) = m ((c : Thread nD τ).loc main_arg6) (ix2 f k) := by
  show V m c main_v3 ((win0_6.rect t).emb (ix2 f k)) = _
  rw [V_down]
  refine congrArg (m ((c : Thread nD τ).loc main_arg6)) (funext fun a => Fin.ext ?_)
  match a with
  | ⟨0, _⟩ => exact Pipeline.Window.rect_emb_val_of_index_zero win0_6 t 0 (idx_facts t).2.2.2.2.2.2.1.1 (ix2 f k)
  | ⟨1, _⟩ => exact Pipeline.Window.rect_emb_val_of_index_zero win0_6 t 1 (idx_facts t).2.2.2.2.2.2.1.2 (ix2 f k)

/-- The last norm weights' block is the argument. -/
theorem last_apply (c : Dev nD) (t : Fin cfg0.N) (k : Fin 1024) :
    iblk m c 7 t (ix2 0 k) = m ((c : Thread nD τ).loc main_arg7) (ix1 k) := by
  show V m c main_v5 ((win0_7.rect t).emb (ix2 0 k)) = _
  rw [V_last]
  refine shapeCast_apply _ _ _ (ix1 k) ?_
  rw [Shape.rowMajor_val_one, Shape.rowMajor_val_two]
  have h0 := Pipeline.Window.rect_emb_val_of_index_zero win0_7 t 0 (idx_facts t).2.2.2.2.2.2.2.1.1 (ix2 0 k)
  have h1 := Pipeline.Window.rect_emb_val_of_index_zero win0_7 t 1 (idx_facts t).2.2.2.2.2.2.2.1.2 (ix2 0 k)
  exact (show k.val = 0 * 1024 + k.val by omega).trans (congrArg₂ (fun a b => a * 1024 + b) h0 h1).symm

/-- The last norm of the feed-forward function of row `i` of the arguments. -/
def value (c : Dev nD) (i : Fin 16384) : Fin 1024 → EReal :=
  rmsRow (ffnRow (addRow (fun k => m ((c : Thread nD τ).loc main_arg0) (ix2 i k)) (fun q => m ((c : Thread nD τ).loc main_arg1) (ix2 i q)) (fun q n => m ((c : Thread nD τ).loc main_arg2) (ix2 q n)))
      (fun k => m ((c : Thread nD τ).loc main_arg3) (ix1 k))
      (fun k f => m ((c : Thread nD τ).loc main_arg4) (ix2 k f)) (fun k f => m ((c : Thread nD τ).loc main_arg5) (ix2 k f)) (fun f k => m ((c : Thread nD τ).loc main_arg6) (ix2 f k)))
    (fun k => m ((c : Thread nD τ).loc main_arg7) (ix1 k))

/-- The whole result array as one function. -/
def G (c : Dev nD) : S16384x1024.Idx → EReal := fun i => value m c (i 0) (i 1)

/-- A place of the result's block `t` in the array. -/
theorem emb_out (t : Fin cfg0.N) (r : Fin 512) (j : Fin 1024) : (win0_8.rect t).emb (ix2 r j) = ix2 (rowAt t r) j := by
  refine funext fun a => Fin.ext ?_
  refine (Pipeline.Window.rect_emb_val win0_8 t (ix2 r j) a).trans ?_
  match a with
  | ⟨0, _⟩ => exact congrArg (· * 512 + r.val) (idx_facts t).2.2.2.2.2.2.2.2.1
  | ⟨1, _⟩ => exact (congrArg (· * 1024 + j.val) (idx_facts t).2.2.2.2.2.2.2.2.2).trans (by show 0 * 1024 + j.val = j.val; omega)

/-- What point `t` writes back is block `t` of that function. -/
theorem flushed_eq (c : Dev nD) (t : Fin cfg0.N) :
    (dats m 0 c).flushed 8 t = ((cfg0.win 8).blk t).view.read (Elt Ideal) (G m c) := by
  rw [flushed8]
  refine funext fun (y : S512x1024.Idx) => ?_
  obtain ⟨r, j, rfl⟩ : ∃ (r : Fin 512) (j : Fin 1024), y = ix2 r j := ⟨y 0, y 1, eq_ix2 y⟩
  show out0_8 (F := Ideal) _ _ _ _ _ _ _ _ (ix2 r j) = G m c ((win0_8.rect t).emb (ix2 r j))
  rw [emb_out, OutFfnBlock.out_apply]
  show _ = value m c (rowAt t r) j
  unfold value
  refine congrFun ?_ j
  refine congrArg₂ rmsRow ?_ (funext fun k => last_apply m c t k)
  congr 1
  · funext k
    refine congrArg₂ (fun a b : EReal => a + b) (stream_apply m c t r k) ?_
    exact Finset.sum_congr rfl fun q _ => congrArg₂ (fun a b : EReal => a * b) (attn_apply m c t r q) (out_apply m c t q k)
  · exact funext fun k => norm_apply m c t k
  · exact funext fun k => funext fun f => gate_apply m c t k f
  · exact funext fun k => funext fun f => up_apply m c t k f
  · exact funext fun f => funext fun k => down_apply m c t f k

/-- Every place of the array lies in some point's block. -/
theorem cover (i : S16384x1024.Idx) : ∃ t : Fin cfg0.N, (cfg0.win 8).flush t = true ∧ i ∈ ((cfg0.win 8).blk t).view.set := by
  have h0 : (i 0).val < 16384 := (i 0).isLt
  refine ⟨⟨(i 0).val / 512, by show _ < 32; omega⟩, flush0_8 _, ?_⟩
  have e := ((cfg0.win 8).blk ⟨(i 0).val / 512, by show _ < 32; omega⟩).view.emb_mem_set
    (ix2 (⟨(i 0).val % 512, Nat.mod_lt _ (by norm_num)⟩ : Fin 512) (i 1))
  refine (congrArg (· ∈ _) ?_).mp e
  refine (emb_out _ _ (i 1)).trans ?_
  refine (congrArg (ix2 · (i 1)) (Fin.ext ?_)).trans (eq_ix2 i).symm
  show (i 0).val / 512 * 512 + (i 0).val % 512 = (i 0).val
  omega

/-- The result array after the run. -/
theorem final (c : Dev nD) : (dats m 0 c).arrAt 8 cfg0.N = G m c :=
  (dats m 0 c).arrAt_eq_of_cover 8 (G m c) (fun t _ => flushed_eq m c t) cover

end OutFfnArray

end
-- ==== Proof.OutFfnRead.lean ====
/- What the last reference computes: at each row and column the last norm of the feed-forward function of the stream's row
   with the attention's output product added. -/
module

public import proofs.«01_k».proof.Proof.Gen.OutFfnRefIdeal.Read
public import proofs.«01_k».proof.Proof.RowMath

@[expose] public section

noncomputable section

open Idealize.ShloMosaic Idealize.ShloMosaic.ValueIdx RowMath

namespace OutFfnRead

open Cert.OutFfnRefIdeal Cert.OutFfnRefIdeal.Read

variable (x0 : (⟨S16384x1024, .f32⟩ : BufTy).Contents (Elt Ideal)) (x1 : (⟨S16384x1024, .bf16⟩ : BufTy).Contents (Elt Ideal))
  (x2 : (⟨S1024x1024, .f32⟩ : BufTy).Contents (Elt Ideal)) (x3 : (⟨S1024, .f32⟩ : BufTy).Contents (Elt Ideal))
  (x4 x5 : (⟨S1024x2816, .f32⟩ : BufTy).Contents (Elt Ideal)) (x6 : (⟨S2816x1024, .f32⟩ : BufTy).Contents (Elt Ideal))
  (x7 : (⟨S1024, .f32⟩ : BufTy).Contents (Elt Ideal))

/-- A change of format is no change of the number. -/
theorem attn_apply (i : Fin 16384) (k : Fin 1024) : val_main_v0 (F := Ideal) x1 (ix2 i k) = x1 (ix2 i k) := rfl

/-- The attention's output product. -/
theorem product_apply (i : Fin 16384) (f : Fin 1024) :
    val_main_v1 (F := Ideal) x1 x2 (ix2 i f) = dotRow (fun q => x1 (ix2 i q)) (fun k f => x2 (ix2 k f)) f := by
  rw [val_main_v1_apply]
  refine Finset.sum_congr rfl fun k _ => ?_
  rw [show lidx_main_v1 (ix2 i f) k = ix2 i k from funext fun a => match a with | ⟨0, _⟩ => rfl | ⟨1, _⟩ => rfl,
    show ridx_main_v1 (ix2 i f) k = ix2 k f from funext fun a => match a with | ⟨0, _⟩ => rfl | ⟨1, _⟩ => rfl,
    attn_apply]

/-- The row with the product added. -/
theorem add_apply (i : Fin 16384) (j : Fin 1024) :
    val_main_v2 (F := Ideal) x0 x1 x2 (ix2 i j)
      = addRow (fun k => x0 (ix2 i k)) (fun q => x1 (ix2 i q)) (fun q n => x2 (ix2 q n)) j := by
  rw [val_main_v2_apply, product_apply]
  rfl

/-- The sum of the squares of the row with the product added. -/
theorem squares_apply (i : Fin 16384) (z : Fin 1) :
    val_main_v5 (F := Ideal) x0 x1 x2 (ix2 i z) = ∑ k : Fin 1024, (addRow (fun k => x0 (ix2 i k)) (fun q => x1 (ix2 i q)) (fun q n => x2 (ix2 q n)) k) * (addRow (fun k => x0 (ix2 i k)) (fun q => x1 (ix2 i q)) (fun q n => x2 (ix2 q n)) k) := by
  rw [val_main_v5_apply, val_main_v4_apply]
  show Ideal.ofBits .f32 0x00000000#32 + _ = _
  rw [Ideal.ofBits_zero_f32, zero_add]
  refine Finset.sum_congr rfl fun k _ => ?_
  rw [val_main_v3_apply, show idx_main_v4 (idx_main_v5 (ix2 i z)) k = ix2 i k from funext fun a => match a with | ⟨0, _⟩ => rfl | ⟨1, _⟩ => rfl,
    add_apply]
  rfl

/-- The norm of the row with the product added. -/
theorem norm_apply (i : Fin 16384) (k : Fin 1024) :
    val_main_v15 (F := Ideal) x0 x1 x2 x3 (ix2 i k) = rmsRow (fun j => (addRow (fun k => x0 (ix2 i k)) (fun q => x1 (ix2 i q)) (fun q n => x2 (ix2 q n)) j)) (fun j => x3 (ix1 j)) k := by
  rw [val_main_v15_apply, val_main_v12_apply, val_main_v11_apply, val_main_v10_apply, val_main_v9_apply,
    val_main_v7_apply, val_main_v6_apply, val_main_v8_apply, val_main_v14_apply, val_main_v13_apply,
    val_main_cst_0_apply, val_main_cst_1_apply,
    show idx_main_v11 (ix2 i k) = ix2 i 0 from funext fun a => match a with | ⟨0, _⟩ => rfl | ⟨1, _⟩ => rfl,
    squares_apply, add_apply,
    show idx_main_v13 (idx_main_v14 (ix2 i k)) = ix1 k from funext fun a => match a with | ⟨0, _⟩ => rfl]
  rfl

/-- The gate's product. -/
theorem gate_apply (i : Fin 16384) (f : Fin 2816) :
    val_main_v16 (F := Ideal) x0 x1 x2 x3 x4 (ix2 i f) = dotRow (rmsRow (addRow (fun k => x0 (ix2 i k)) (fun q => x1 (ix2 i q)) (fun q n => x2 (ix2 q n))) (fun j => x3 (ix1 j))) (fun k f => x4 (ix2 k f)) f := by
  rw [val_main_v16_apply]
  refine Finset.sum_congr rfl fun k _ => ?_
  rw [show lidx_main_v16 (ix2 i f) k = ix2 i k from funext fun a => match a with | ⟨0, _⟩ => rfl | ⟨1, _⟩ => rfl,
    show ridx_main_v16 (ix2 i f) k = ix2 k f from funext fun a => match a with | ⟨0, _⟩ => rfl | ⟨1, _⟩ => rfl,
    norm_apply]

/-- The other product of the hidden row. -/
theorem up_apply (i : Fin 16384) (f : Fin 2816) :
    val_main_v18 (F := Ideal) x0 x1 x2 x3 x5 (ix2 i f) = dotRow (rmsRow (addRow (fun k => x0 (ix2 i k)) (fun q => x1 (ix2 i q)) (fun q n => x2 (ix2 q n))) (fun j => x3 (ix1 j))) (fun k f => x5 (ix2 k f)) f := by
  rw [val_main_v18_apply]
  refine Finset.sum_congr rfl fun k _ => ?_
  rw [show lidx_main_v18 (ix2 i f) k = ix2 i k from funext fun a => match a with | ⟨0, _⟩ => rfl | ⟨1, _⟩ => rfl,
    show ridx_main_v18 (ix2 i f) k = ix2 k f from funext fun a => match a with | ⟨0, _⟩ => rfl | ⟨1, _⟩ => rfl,
    norm_apply]

/-- The gated hidden row. -/
theorem hidden_apply (i : Fin 16384) (f : Fin 2816) :
    val_main_v19 (F := Ideal) x0 x1 x2 x3 x4 x5 (ix2 i f)
      = hiddenRow (rmsRow (addRow (fun k => x0 (ix2 i k)) (fun q => x1 (ix2 i q)) (fun q n => x2 (ix2 q n))) (fun j => x3 (ix1 j))) (fun k f => x4 (ix2 k f)) (fun k f => x5 (ix2 k f)) f := by
  rw [val_main_v19_apply, val_main_v17_apply, val_main_call0_v5_apply, val_main_call0_v4_apply, val_main_call0_v3_apply,
    val_main_call0_v2_apply, val_main_call0_v1_apply, val_main_call0_v0_apply, val_main_call0_cst_apply,
    val_main_call0_cst_0_apply, gate_apply, up_apply]
  rfl

/-- The row after the feed-forward block. -/
theorem ffn_apply (i : Fin 16384) (j : Fin 1024) :
    val_main_v23 (F := Ideal) x0 x1 x2 x3 x4 x5 x6 (ix2 i j)
      = ffnRow (addRow (fun k => x0 (ix2 i k)) (fun q => x1 (ix2 i q)) (fun q n => x2 (ix2 q n)))
          (fun k => x3 (ix1 k)) (fun k f => x4 (ix2 k f)) (fun k f => x5 (ix2 k f)) (fun f k => x6 (ix2 f k)) j := by
  rw [val_main_v23_apply, val_main_v22_apply, val_main_v21_apply, val_main_cst_2_apply, val_main_v20_apply, add_apply]
  refine congrArg (fun y => addRow (fun k => x0 (ix2 i k)) (fun q => x1 (ix2 i q)) (fun q n => x2 (ix2 q n)) j
    + Ideal.ofBits .f32 0x3F000000#32 * y) (Finset.sum_congr rfl fun f _ => ?_)
  rw [show lidx_main_v20 (ix2 i j) f = ix2 i f from funext fun a => match a with | ⟨0, _⟩ => rfl | ⟨1, _⟩ => rfl,
    show ridx_main_v20 (ix2 i j) f = ix2 f j from funext fun a => match a with | ⟨0, _⟩ => rfl | ⟨1, _⟩ => rfl,
    hidden_apply]

/-- The sum of the squares of the row after the feed-forward block. -/
theorem last_squares_apply (i : Fin 16384) (z : Fin 1) :
    val_main_v26 (F := Ideal) x0 x1 x2 x3 x4 x5 x6 (ix2 i z) = ∑ k : Fin 1024, (ffnRow (addRow (fun k => x0 (ix2 i k)) (fun q => x1 (ix2 i q)) (fun q n => x2 (ix2 q n)))
          (fun k => x3 (ix1 k)) (fun k f => x4 (ix2 k f)) (fun k f => x5 (ix2 k f)) (fun f k => x6 (ix2 f k)) k) * (ffnRow (addRow (fun k => x0 (ix2 i k)) (fun q => x1 (ix2 i q)) (fun q n => x2 (ix2 q n)))
          (fun k => x3 (ix1 k)) (fun k f => x4 (ix2 k f)) (fun k f => x5 (ix2 k f)) (fun f k => x6 (ix2 f k)) k) := by
  rw [val_main_v26_apply, val_main_v25_apply]
  show Ideal.ofBits .f32 0x00000000#32 + _ = _
  rw [Ideal.ofBits_zero_f32, zero_add]
  refine Finset.sum_congr rfl fun k _ => ?_
  rw [val_main_v24_apply, show idx_main_v25 (idx_main_v26 (ix2 i z)) k = ix2 i k from funext fun a => match a with | ⟨0, _⟩ => rfl | ⟨1, _⟩ => rfl,
    ffn_apply]
  rfl

/-- The norm of the row after the feed-forward block. -/
theorem last_norm_apply (i : Fin 16384) (k : Fin 1024) :
    val_main_v36 (F := Ideal) x0 x1 x2 x3 x4 x5 x6 x7 (ix2 i k) = rmsRow (fun j => (ffnRow (addRow (fun k => x0 (ix2 i k)) (fun q => x1 (ix2 i q)) (fun q n => x2 (ix2 q n)))
          (fun k => x3 (ix1 k)) (fun k f => x4 (ix2 k f)) (fun k f => x5 (ix2 k f)) (fun f k => x6 (ix2 f k)) j)) (fun j => x7 (ix1 j)) k := by
  rw [val_main_v36_apply, val_main_v33_apply, val_main_v32_apply, val_main_v31_apply, val_main_v30_apply,
    val_main_v28_apply, val_main_v27_apply, val_main_v29_apply, val_main_v35_apply, val_main_v34_apply,
    val_main_cst_4_apply, val_main_cst_5_apply,
    show idx_main_v32 (ix2 i k) = ix2 i 0 from funext fun a => match a with | ⟨0, _⟩ => rfl | ⟨1, _⟩ => rfl,
    last_squares_apply, ffn_apply,
    show idx_main_v34 (idx_main_v35 (ix2 i k)) = ix1 k from funext fun a => match a with | ⟨0, _⟩ => rfl]
  rfl

end OutFfnRead

end
-- ==== Proof.OutFfnClaim.lean ====
/- The attention output's projection, the feed-forward network and the last normalization: kernel and reference end with the same array. -/
module

public import proofs.«01_k».proof.Defs
public import proofs.«01_k».proof.Proof.OutFfnArray
public import proofs.«01_k».proof.Proof.OutFfnRead
public import proofs.«01_k».proof.Proof.Gen.OutFfnRefIdeal.Run

@[expose] public section

noncomputable section

open Idealize.ShloMosaic Idealize.ShloMosaic.ValueIdx Idealize.ShloMosaic.TcCoe Idealize.SL.Sem RowMath

namespace OutFfnClaim

local instance : Cert.OutFfnIdeal.Facts := Cert.OutFfnIdeal.Gen.facts
local instance : Cert.OutFfnRefIdeal.Facts := Cert.OutFfnRefIdeal.Gen.facts

/-- The reference runs, leaves its arguments as they were and declares no semaphore. -/
theorem frame_reference : Cert.quiescent_OutFfnRefIdeal := fun m g _ =>
  (θ_run Cert.OutFfnRefIdeal.defs _ _).mono (fun r h => ⟨fun c => (h c).2, sem_eq_zero_of_no_sems (by decide) r.2⟩)
    (Cert.OutFfnRefIdeal.Value.run m g)

/-- On equal arguments the reference's value is the array the kernel's blocks make up. -/
theorem reference_eq (m : (ℓ : Loc Cert.OutFfnIdeal.nD Cert.OutFfnIdeal.τ Cert.OutFfnIdeal.sig) → Buf (Elt Ideal) ℓ)
    (m' : (ℓ : Loc Cert.OutFfnRefIdeal.nD Cert.OutFfnRefIdeal.τ Cert.OutFfnRefIdeal.sig) → Buf (Elt Ideal) ℓ)
    (c : Dev Cert.OutFfnIdeal.nD)
    (h : m' ((c.tc : Thread Cert.OutFfnRefIdeal.nD Cert.OutFfnRefIdeal.τ).loc Cert.OutFfnRefIdeal.main_arg0) = m ((c.tc : Thread Cert.OutFfnIdeal.nD Cert.OutFfnIdeal.τ).loc Cert.OutFfnIdeal.main_arg0)
      ∧ m' ((c.tc : Thread Cert.OutFfnRefIdeal.nD Cert.OutFfnRefIdeal.τ).loc Cert.OutFfnRefIdeal.main_arg1) = m ((c.tc : Thread Cert.OutFfnIdeal.nD Cert.OutFfnIdeal.τ).loc Cert.OutFfnIdeal.main_arg1)
      ∧ m' ((c.tc : Thread Cert.OutFfnRefIdeal.nD Cert.OutFfnRefIdeal.τ).loc Cert.OutFfnRefIdeal.main_arg2) = m ((c.tc : Thread Cert.OutFfnIdeal.nD Cert.OutFfnIdeal.τ).loc Cert.OutFfnIdeal.main_arg2)
      ∧ m' ((c.tc : Thread Cert.OutFfnRefIdeal.nD Cert.OutFfnRefIdeal.τ).loc Cert.OutFfnRefIdeal.main_arg3) = m ((c.tc : Thread Cert.OutFfnIdeal.nD Cert.OutFfnIdeal.τ).loc Cert.OutFfnIdeal.main_arg3)
      ∧ m' ((c.tc : Thread Cert.OutFfnRefIdeal.nD Cert.OutFfnRefIdeal.τ).loc Cert.OutFfnRefIdeal.main_arg4) = m ((c.tc : Thread Cert.OutFfnIdeal.nD Cert.OutFfnIdeal.τ).loc Cert.OutFfnIdeal.main_arg4)
      ∧ m' ((c.tc : Thread Cert.OutFfnRefIdeal.nD Cert.OutFfnRefIdeal.τ).loc Cert.OutFfnRefIdeal.main_arg5) = m ((c.tc : Thread Cert.OutFfnIdeal.nD Cert.OutFfnIdeal.τ).loc Cert.OutFfnIdeal.main_arg5)
      ∧ m' ((c.tc : Thread Cert.OutFfnRefIdeal.nD Cert.OutFfnRefIdeal.τ).loc Cert.OutFfnRefIdeal.main_arg6) = m ((c.tc : Thread Cert.OutFfnIdeal.nD Cert.OutFfnIdeal.τ).loc Cert.OutFfnIdeal.main_arg6)
      ∧ m' ((c.tc : Thread Cert.OutFfnRefIdeal.nD Cert.OutFfnRefIdeal.τ).loc Cert.OutFfnRefIdeal.main_arg7) = m ((c.tc : Thread Cert.OutFfnIdeal.nD Cert.OutFfnIdeal.τ).loc Cert.OutFfnIdeal.main_arg7)) :
    Cert.OutFfnRefIdeal.Read.val_main_v36 (F := Ideal) (m' ((c.tc : Thread Cert.OutFfnRefIdeal.nD Cert.OutFfnRefIdeal.τ).loc Cert.OutFfnRefIdeal.main_arg0)) (m' ((c.tc : Thread Cert.OutFfnRefIdeal.nD Cert.OutFfnRefIdeal.τ).loc Cert.OutFfnRefIdeal.main_arg1)) (m' ((c.tc : Thread Cert.OutFfnRefIdeal.nD Cert.OutFfnRefIdeal.τ).loc Cert.OutFfnRefIdeal.main_arg2)) (m' ((c.tc : Thread Cert.OutFfnRefIdeal.nD Cert.OutFfnRefIdeal.τ).loc Cert.OutFfnRefIdeal.main_arg3)) (m' ((c.tc : Thread Cert.OutFfnRefIdeal.nD Cert.OutFfnRefIdeal.τ).loc Cert.OutFfnRefIdeal.main_arg4)) (m' ((c.tc : Thread Cert.OutFfnRefIdeal.nD Cert.OutFfnRefIdeal.τ).loc Cert.OutFfnRefIdeal.main_arg5)) (m' ((c.tc : Thread Cert.OutFfnRefIdeal.nD Cert.OutFfnRefIdeal.τ).loc Cert.OutFfnRefIdeal.main_arg6)) (m' ((c.tc : Thread Cert.OutFfnRefIdeal.nD Cert.OutFfnRefIdeal.τ).loc Cert.OutFfnRefIdeal.main_arg7)) = OutFfnArray.G m c := by
  obtain ⟨h0, h1, h2, h3, h4, h5, h6, h7⟩ := h
  rw [h0, h1, h2, h3, h4, h5, h6, h7]
  refine funext fun y => ?_
  obtain ⟨i, j, rfl⟩ : ∃ (i : Fin 16384) (j : Fin 1024), y = ix2 i j := ⟨y 0, y 1, eq_ix2 y⟩
  exact OutFfnRead.last_norm_apply _ _ _ _ _ _ _ _ i j

/-- The kernel and its reference end with equal results. -/
theorem algebraic : Cert.algebraic_OutFfnIdeal_OutFfnRefIdeal := fun m g m' g' _ hargs =>
  ⟨fun c => OutFfnArray.G m c,
    (θ_run Cert.OutFfnIdeal.defs _ _).mono (fun _ h c => ⟨(h c).1.trans (OutFfnArray.final m c), (h c).2⟩)
      (Cert.OutFfnIdeal.Value.run_blocks m g),
    (θ_run Cert.OutFfnRefIdeal.defs _ _).mono
      (fun _ h c => ⟨((h c).1.trans (Cert.OutFfnRefIdeal.Read.val_main_v36_eq m' c)).trans (reference_eq m m' c (hargs c)), (h c).2⟩)
      (Cert.OutFfnRefIdeal.Value.run m' g')⟩

end OutFfnClaim

end
-- ==== Proof.RotaryMath.lean ====
/- The rows of the projection to queries, keys and values, on the extended reals: the norm of a head, its rotation in pairs,
   and the same rotation of the row whose even places come first and its odd places after. -/
module

public import proofs.«01_k».proof.Proof.RowMath

@[expose] public section

noncomputable section

open Idealize.ShloMosaic Idealize.ShloMosaic.ValueIdx RowMath
open scoped BigOperators

namespace RotaryMath

/-- A head's row over the root of its mean square (with the small constant added), times the weight row. -/
def headNorm (x g : Fin 128 → EReal) : Fin 128 → EReal := fun k =>
  x k * Ideal.rsqrt (Ideal.div (∑ j, x j * x j) (Ideal.ofBits .f32 0x43000000#32) + Ideal.ofBits .f32 0x358637BD#32) * g k

/-- The place of the original row that place `j` of the reordered row holds: the even places first, then the odd ones. -/
def half (j : Fin 128) : Fin 128 :=
  if h : j.val < 64 then ⟨2 * j.val, by omega⟩ else ⟨2 * (j.val - 64) + 1, by have := j.isLt; omega⟩

/-- Where place `k` of the original row stands in the reordered one. -/
def unhalf (k : Fin 128) : Fin 128 :=
  if k.val % 2 = 0 then ⟨k.val / 2, by have := k.isLt; omega⟩ else ⟨64 + k.val / 2, by have := k.isLt; omega⟩

/-- The reordering is a bijection of the places. -/
def halves : Fin 128 ≃ Fin 128 where
  toFun := half
  invFun := unhalf
  left_inv := by decide +kernel
  right_inv := by decide +kernel

/-- The first place of pair `p`. -/
def fst (p : Fin 64) : Fin 128 := ⟨2 * p.val, by omega⟩
/-- The second place of pair `p`. -/
def snd (p : Fin 64) : Fin 128 := ⟨2 * p.val + 1, by omega⟩
/-- The pair place `j` of the reordered row belongs to. -/
def pairOf (j : Fin 128) : Fin 64 := ⟨j.val % 64, Nat.mod_lt _ (by norm_num)⟩
/-- The place half a row before, around the end. -/
def across (j : Fin 128) : Fin 128 := ⟨(j.val + 64) % 128, Nat.mod_lt _ (by norm_num)⟩

/-- Each pair of a row turned by its angle (cosine `c`, sine `s`): the pairs' first places, then their second places. -/
def turn (y : Fin 128 → EReal) (c s : Fin 64 → EReal) : Fin 128 → EReal := fun j =>
  if j.val < 64 then y (fst (pairOf j)) * c (pairOf j) - y (snd (pairOf j)) * s (pairOf j)
  else y (fst (pairOf j)) * s (pairOf j) + y (snd (pairOf j)) * c (pairOf j)

/-- The cosines, once for each half of the row. -/
def cosRow (c : Fin 64 → EReal) : Fin 128 → EReal := fun j => c (pairOf j)
/-- The sines, negated for the first half of the row. -/
def sinRow (s : Fin 64 → EReal) : Fin 128 → EReal := fun j => if j.val < 64 then -s (pairOf j) else s (pairOf j)

/-- A row's norm, each place times its factor plus the place across times its own, all times a scale. -/
def rotated (x g c s : Fin 128 → EReal) (b : EReal) : Fin 128 → EReal := fun j =>
  (headNorm x g j * c j + headNorm x g (across j) * s j) * b

/-- The norm of the reordered row is the norm of the row, reordered. -/
theorem headNorm_half (x g : Fin 128 → EReal) (j : Fin 128) :
    headNorm (fun k => x (half k)) (fun k => g (half k)) j = headNorm x g (half j) := by
  unfold headNorm
  have hs : (∑ k, x (half k) * x (half k)) = ∑ k, x k * x k := Equiv.sum_comp halves fun k => x k * x k
  rw [hs]

theorem half_first : ∀ j : Fin 128, j.val < 64 → half j = fst (pairOf j) ∧ half (across j) = snd (pairOf j) := by decide +kernel
theorem half_second : ∀ j : Fin 128, ¬ j.val < 64 → half j = snd (pairOf j) ∧ half (across j) = fst (pairOf j) := by decide +kernel

/-- Rotating the reordered row is turning the row's pairs. -/
theorem rotated_half (x g : Fin 128 → EReal) (c s : Fin 64 → EReal) (b : EReal) (j : Fin 128) :
    rotated (fun k => x (half k)) (fun k => g (half k)) (cosRow c) (sinRow s) b j = turn (headNorm x g) c s j * b := by
  unfold rotated turn cosRow sinRow
  rw [headNorm_half, headNorm_half]
  by_cases h : j.val < 64
  · rw [if_pos h, if_pos h, (half_first j h).1, (half_first j h).2, mul_neg, sub_eq_add_neg]
  · rw [if_neg h, if_neg h, (half_second j h).1, (half_second j h).2, add_comm]

/-- The column of the projection that place `k` of the head of query column `n` comes from. -/
def qCol (n : Fin 1024) (k : Fin 128) : Fin 1536 := ⟨n.val / 128 * 128 + k.val, by have := n.isLt; have := k.isLt; omega⟩
/-- The same for key column `n`: the keys come after the eight query heads. -/
def kCol (n : Fin 256) (k : Fin 128) : Fin 1536 := ⟨1024 + n.val / 128 * 128 + k.val, by have := n.isLt; have := k.isLt; omega⟩
/-- The column of the projection that column `n` of the widened values comes from: the values come after the keys. -/
def vCol (n : Fin 512) : Fin 1536 := ⟨1280 + n.val / 256 * 128 + n.val % 128, by have := n.isLt; omega⟩
/-- A column's place in its head. -/
def place {N : ℕ} (n : Fin N) : Fin 128 := ⟨n.val % 128, Nat.mod_lt _ (by norm_num)⟩

/-- The reordering of the projection's columns: every query and key head reordered, the values as they are. -/
def col (n : Fin 1536) : Fin 1536 :=
  if h : n.val < 1280 then ⟨n.val / 128 * 128 + (half (place n)).val, by have := (half (place n)).isLt; omega⟩ else n

theorem col_qCol (n : Fin 1024) (k : Fin 128) : col (qCol n k) = qCol n (half k) := by
  have hn := n.isLt
  have hk := k.isLt
  have h1 : (qCol n k).val < 1280 := by show n.val / 128 * 128 + k.val < 1280; omega
  have h2 : place (qCol n k) = k := Fin.ext (by show (n.val / 128 * 128 + k.val) % 128 = k.val; omega)
  refine (dif_pos h1).trans (Fin.ext ?_)
  show (n.val / 128 * 128 + k.val) / 128 * 128 + (half (place (qCol n k))).val = n.val / 128 * 128 + (half k).val
  rw [h2]; omega

theorem col_kCol (n : Fin 256) (k : Fin 128) : col (kCol n k) = kCol n (half k) := by
  have hn := n.isLt
  have hk := k.isLt
  have h1 : (kCol n k).val < 1280 := by show 1024 + n.val / 128 * 128 + k.val < 1280; omega
  have h2 : place (kCol n k) = k := Fin.ext (by show (1024 + n.val / 128 * 128 + k.val) % 128 = k.val; omega)
  refine (dif_pos h1).trans (Fin.ext ?_)
  show (1024 + n.val / 128 * 128 + k.val) / 128 * 128 + (half (place (kCol n k))).val = 1024 + n.val / 128 * 128 + (half k).val
  rw [h2]; omega

theorem col_vCol (n : Fin 512) : col (vCol n) = vCol n :=
  dif_neg (by show ¬ 1280 + n.val / 256 * 128 + n.val % 128 < 1280; omega)

end RotaryMath

end
-- ==== Proof.QkvBlock.lean ====
/- One block of 256 rows of the projection to queries, keys and values: what the body computes at a row and a column. -/
module

public import proofs.«01_k».proof.Proof.Gen.QkvIdeal.Value
public import proofs.«01_k».proof.Proof.RotaryMath
public import Idealize.ShloMosaic.Lib.KernelVsHost
public import Idealize.ShloMosaic.Lib.IdealHost

@[expose] public section

noncomputable section

open Idealize.ShloMosaic Idealize.ShloMosaic.ValueIdx Idealize.ShloMosaic.TcCoe RowMath RotaryMath

namespace QkvBlock

open Cert.QkvIdeal Cert.QkvIdeal.Gen Cert.QkvIdeal.Value

/-- The norm of a block of heads' rows, as the kernel's vector operations compute it. -/
def normVec (x : FVec Ideal S256x128 .f32) (g : FVec Ideal S1x128 .f32) : FVec Ideal S256x128 .f32 :=
  mulf (mulf x (broadcastTo S256x128 (rsqrt (addf (divf (shapeCast S256x1
      (multiReduction .add [1] S256 (mulf x x) 0x00000000#32 reduces_S256x128_S256 (.inl rfl) rfl) shapeCasts_S256_S256x1)
      (broadcast S256x1 (Scalar.ofBits .f32 0x43000000#32))) (broadcast S256x1 (Scalar.ofBits .f32 0x358637BD#32))))
      broadcasts_S256x1_S256x128)) (broadcastTo S256x128 g broadcasts_S1x128_S256x128)

/-- A block of one head's rows: the norm, rotated by half a row against the tables, and scaled. -/
def headVec (x : FVec Ideal S256x128 .f32) (g : FVec Ideal S1x128 .f32) (c s : FVec Ideal S256x128 .f32) (b : BitVec 32) :
    FVec Ideal S256x128 .bf16 :=
  truncf .bf16 (mulf (addf (mulf (normVec x g) c) (mulf (dynamicRotate 1 64#32 none (normVec x g) rotates_S256x128_d1) s))
    (broadcast S256x128 (Scalar.ofBits .f32 b))) bitsLt_bf16_f32

/-- The norm of a block of rows of 128, as the kernel's vector operations compute it, is the norm of each row. -/
theorem norm128_apply {M : ℕ} (x : FVec Ideal ⟨2, ![M, 128]⟩ .f32) (g : FVec Ideal ⟨2, ![1, 128]⟩ .f32)
    (h : Shape.Reduces ⟨2, ![M, 128]⟩ [1] ⟨1, ![M]⟩) (hφ : FKind.Formats .f32) (hacc : 0x00000000#32 = FKind.add.neutral .f32 hφ)
    (hs : Shape.ShapeCasts ⟨1, ![M]⟩ ⟨2, ![M, 1]⟩) (hb : Shape.Broadcasts ⟨2, ![M, 1]⟩ ⟨2, ![M, 128]⟩)
    (hg : Shape.Broadcasts ⟨2, ![1, 128]⟩ ⟨2, ![M, 128]⟩) (r : Fin M) (k : Fin 128) :
    mulf (mulf x (broadcastTo ⟨2, ![M, 128]⟩ (rsqrt (addf (divf (shapeCast ⟨2, ![M, 1]⟩
        (multiReduction .add [1] ⟨1, ![M]⟩ (mulf x x) 0x00000000#32 h hφ hacc) hs)
        (broadcast ⟨2, ![M, 1]⟩ (Scalar.ofBits .f32 0x43000000#32))) (broadcast ⟨2, ![M, 1]⟩ (Scalar.ofBits .f32 0x358637BD#32)))) hb))
      (broadcastTo ⟨2, ![M, 128]⟩ g hg) (ix2 r k)
      = headNorm (fun j => x (ix2 r j)) (fun j => g (ix2 0 j)) k := by
  rw [mulf_apply, mulf_apply, bcastCol_apply, bcastRow_apply]
  show _ * Ideal.rsqrt (Ideal.div (shapeCast _ _ hs (ix2 r 0)) _ + _) * _ = _
  rw [col_apply, rowsum_apply]
  rfl

/-- The norm of a block of one head's rows. -/
theorem normVec_apply (x : FVec Ideal S256x128 .f32) (g : FVec Ideal S1x128 .f32) (r : Fin 256) (k : Fin 128) :
    normVec x g (ix2 r k) = headNorm (fun j => x (ix2 r j)) (fun j => g (ix2 0 j)) k :=
  norm128_apply x g _ _ _ _ _ _ r k

/-- A block of rows turned by half a row reads the place across. -/
theorem rotate_apply (x : FVec Ideal S256x128 .f32) (r : Fin 256) (j : Fin 128) :
    dynamicRotate 1 64#32 none x rotates_S256x128_d1 (ix2 r j) = x (ix2 r (across j)) := by
  refine dynamicRotate_apply (1 : Fin 2) 64#32 x _ (ix2 r j) (ix2 r (across j)) fun b => ?_
  match b with
  | ⟨0, _⟩ => rfl
  | ⟨1, _⟩ =>
    show (j.val + 64) % 128 = (j.val + 128 - 64 % 128) % 128
    omega

/-- A block of one head's rows at a row and a place. -/
theorem headVec_apply (x : FVec Ideal S256x128 .f32) (g : FVec Ideal S1x128 .f32) (c s : FVec Ideal S256x128 .f32) (b : BitVec 32)
    (r : Fin 256) (j : Fin 128) :
    headVec x g c s b (ix2 r j)
      = rotated (fun k => x (ix2 r k)) (fun k => g (ix2 0 k)) (fun k => c (ix2 r k)) (fun k => s (ix2 r k)) (Ideal.ofBits .f32 b) j := by
  show (normVec x g (ix2 r j) * c (ix2 r j) + dynamicRotate 1 64#32 none (normVec x g) rotates_S256x128_d1 (ix2 r j) * s (ix2 r j))
    * Ideal.ofBits .f32 b = _
  rw [rotate_apply, normVec_apply, normVec_apply]
  rfl

/-- The projection at a row and a column. -/
theorem proj_apply (x : Vec Ideal S256x1024 .f32) (g : Vec Ideal S1x1024 .f32) (w : Vec Ideal S1024x1536 .bf16) (r : Fin 256) (n : Fin 1536) :
    k0_pay4 (F := Ideal) x g w (ix2 r n)
      = dotRow (rmsRow (fun k => x (ix2 r k)) (fun k => g (ix2 0 k))) (fun k n => w (ix2 k n)) n := by
  unfold k0_pay4
  dsimp only
  simp only [shapeCast_self]
  refine (mm_apply dot_S256x1024_S1024x1536_S256x1536_1_0_0_1_n_n rfl _ _ r n).trans ?_
  exact congrArg (fun h => dotRow h (fun k n => w (ix2 k n)) n) (funext fun k => rms_apply x g _ _ _ _ _ _ r k)

section Pieces
variable (v : FVec Ideal S256x1536 .f32) (c s : FVec Ideal S256x128 .f32) (g : FVec Ideal S1x128 .f32)

/-- Every query head's block, and every key head's, is the same function of its columns of the projection. -/
theorem head1 : k0_pay10 v c s g = headVec (extractStridedSlice S256x128 ![0, 128] v slices_S256x1536_o0_128_S256x128) g c s 0x3DB504F3#32 := by
  unfold k0_pay10; simp only [shapeCast_self]; rfl
theorem head2 : k0_pay14 c s (k0_pay11 g) (k0_pay12 v) (k0_pay13 v)
    = headVec (extractStridedSlice S256x128 ![0, 256] v slices_S256x1536_o0_256_S256x128) g c s 0x3DB504F3#32 := by
  unfold k0_pay14 k0_pay11 k0_pay13 k0_pay12; simp only [shapeCast_self]; rfl
theorem head3 : k0_pay15 v c s g = headVec (extractStridedSlice S256x128 ![0, 384] v slices_S256x1536_o0_384_S256x128) g c s 0x3DB504F3#32 := by
  unfold k0_pay15; simp only [shapeCast_self]; rfl
theorem head4 : k0_pay19 c s (k0_pay16 g) (k0_pay17 v) (k0_pay18 v) (Scalar.ofBits .f32 0x43000000#32)
    = headVec (extractStridedSlice S256x128 ![0, 512] v slices_S256x1536_o0_512_S256x128) g c s 0x3DB504F3#32 := by
  unfold k0_pay19 k0_pay16 k0_pay18 k0_pay17; simp only [shapeCast_self]; rfl
theorem head5 : k0_pay20 v c s g = headVec (extractStridedSlice S256x128 ![0, 640] v slices_S256x1536_o0_640_S256x128) g c s 0x3DB504F3#32 := by
  unfold k0_pay20; simp only [shapeCast_self]; rfl
theorem head6 : k0_pay22 v c s (k0_pay21 g) = headVec (extractStridedSlice S256x128 ![0, 768] v slices_S256x1536_o0_768_S256x128) g c s 0x3DB504F3#32 := by
  unfold k0_pay22 k0_pay21; simp only [shapeCast_self]; rfl
theorem head7 : k0_pay23 v c s g = headVec (extractStridedSlice S256x128 ![0, 896] v slices_S256x1536_o0_896_S256x128) g c s 0x3DB504F3#32 := by
  unfold k0_pay23; simp only [shapeCast_self]; rfl
theorem key0 : k0_pay24 v c s g = headVec (extractStridedSlice S256x128 ![0, 1024] v slices_S256x1536_o0_1024_S256x128) g c s 0x3F800000#32 := by
  unfold k0_pay24; simp only [shapeCast_self]; rfl
theorem key1 : k0_pay1 c s (k0_pay27 g) (k0_pay28 v) (k0_pay29 v) (Scalar.ofBits .f32 0x358637BD#32)
    = headVec (extractStridedSlice S256x128 ![0, 1152] v slices_S256x1536_o0_1152_S256x128) g c s 0x3F800000#32 := by
  unfold k0_pay1 k0_pay27 k0_pay29 k0_pay28; simp only [shapeCast_self]; rfl
/-- The first query head's block, which the body computes in three steps from the loaded blocks. -/
theorem head0 (x : Vec Ideal S256x1024 .f32) (gx : Vec Ideal S1x1024 .f32) (w : Vec Ideal S1024x1536 .bf16) :
    k0_pay9 s (k0_pay7 x gx w g) (k0_pay8 x gx w c g) 64#32
      = headVec (extractStridedSlice S256x128 ![0, 0] (k0_pay4 x gx w) slices_S256x1536_o0_0_S256x128) g c s 0x3DB504F3#32 := by
  unfold k0_pay9 k0_pay8 k0_pay7 k0_pay5
  generalize k0_pay4 (F := Ideal) x gx w = v
  simp only [shapeCast_self]; rfl

/-- The values are stored as they come. -/
theorem val0 : k0_pay25 v = truncf .bf16 (extractStridedSlice S256x128 ![0, 1280] v slices_S256x1536_o0_1280_S256x128) bitsLt_bf16_f32 := by
  unfold k0_pay25; simp only [shapeCast_self]
theorem val1 : k0_pay2 v = truncf .bf16 (extractStridedSlice S256x128 ![0, 1408] v slices_S256x1536_o0_1408_S256x128) bitsLt_bf16_f32 := by
  unfold k0_pay2; simp only [shapeCast_self]

end Pieces

/-- What the query block holds at a place, from the projection's block. -/
def qPlace (P : S256x1536.Idx → EReal) (g : S1x128.Idx → EReal) (c s : S256x128.Idx → EReal) : S256x1024.Idx → EReal := fun i =>
  rotated (fun k => P (ix2 (i 0) (qCol (i 1) k))) (fun k => g (ix2 0 k)) (fun k => c (ix2 (i 0) k)) (fun k => s (ix2 (i 0) k))
    (Ideal.ofBits .f32 0x3DB504F3#32) (place (N := 1024) (i 1))

/-- What the key block holds at a place. -/
def kPlace (P : S256x1536.Idx → EReal) (g : S1x128.Idx → EReal) (c s : S256x128.Idx → EReal) : S256x256.Idx → EReal := fun i =>
  rotated (fun k => P (ix2 (i 0) (kCol (i 1) k))) (fun k => g (ix2 0 k)) (fun k => c (ix2 (i 0) k)) (fun k => s (ix2 (i 0) k))
    (Ideal.ofBits .f32 0x3F800000#32) (place (N := 256) (i 1))

/-- What the value block holds at a place: the values of a head, then as many ones. -/
def vPlace (P : S256x1536.Idx → EReal) : S256x512.Idx → EReal := fun i =>
  if (i 1).val % 256 < 128 then P (ix2 (i 0) (vCol (i 1))) else 1

/-- A slice of 128 columns of the projection. -/
theorem slice_apply (o : ℕ) (P : S256x1536.Idx → EReal) (h : Shape.Slices S256x1536 ![0, o] S256x128) (r : Fin 256) (k : Fin 128)
    (n : Fin 1536) (hn : n.val = o + k.val) : extractStridedSlice S256x128 ![0, o] P h (ix2 r k) = P (ix2 r n) :=
  extractStridedSlice_apply _ P h (ix2 r k) (ix2 r n) fun a => match a with
    | ⟨0, _⟩ => by show r.val = 0 + r.val; omega
    | ⟨1, _⟩ => hn

/-- The place of a piece's row and column in the block. -/
theorem emb_piece (N o : ℕ) (inb : ∀ a, (![0, o] : Fin 2 → ℕ) a + S256x128.size a ≤ (⟨2, ![256, N]⟩ : Shape).size a) (r : Fin 256) (j : Fin 128)
    (h : o + j.val < N) :
    (Rect.unit (s := ⟨2, ![256, N]⟩) ![0, o] S256x128.size inb).emb (ix2 r j) = ix2 r (⟨o + j.val, h⟩ : Fin N) :=
  funext fun a => Fin.ext (match a with
    | ⟨0, _⟩ => (congrArg (0 + ·) (Nat.one_mul r.val)).trans (Nat.zero_add _)
    | ⟨1, _⟩ => congrArg (o + ·) (Nat.one_mul j.val))

/-- A query head's piece is its part of the query block. -/
theorem q_piece (o : ℕ) (ho : o % 128 = 0) (hl : o + 128 ≤ 1024) (P : FVec Ideal S256x1536 .f32) (g : FVec Ideal S1x128 .f32)
    (c s : FVec Ideal S256x128 .f32) (h : Shape.Slices S256x1536 ![0, o] S256x128)
    (inb : ∀ a, (![0, o] : Fin 2 → ℕ) a + S256x128.size a ≤ S256x1024.size a) (y : S256x128.Idx) :
    headVec (extractStridedSlice S256x128 ![0, o] P h) g c s 0x3DB504F3#32 y
      = qPlace P g c s ((Rect.unit (s := S256x1024) ![0, o] S256x128.size inb).emb y) := by
  obtain ⟨r, j, rfl⟩ : ∃ (r : Fin 256) (j : Fin 128), y = ix2 r j := ⟨y 0, y 1, eq_ix2 y⟩
  have hj := j.isLt
  rw [headVec_apply, emb_piece 1024 o inb r j (by omega)]
  show _ = rotated _ _ _ _ _ (place (⟨o + j.val, _⟩ : Fin 1024))
  rw [show place (⟨o + j.val, by omega⟩ : Fin 1024) = j from Fin.ext (by show (o + j.val) % 128 = j.val; omega)]
  refine congrArg (fun f => rotated f (fun k => g (ix2 0 k)) (fun k => c (ix2 r k)) (fun k => s (ix2 r k)) _ j) (funext fun k => ?_)
  exact slice_apply o P h r k _ (by show (o + j.val) / 128 * 128 + k.val = o + k.val; omega)

/-- A key head's piece is its part of the key block. -/
theorem k_piece (o : ℕ) (ho : o % 128 = 0) (hl : o + 128 ≤ 256) (P : FVec Ideal S256x1536 .f32) (g : FVec Ideal S1x128 .f32)
    (c s : FVec Ideal S256x128 .f32) (h : Shape.Slices S256x1536 ![0, 1024 + o] S256x128)
    (inb : ∀ a, (![0, o] : Fin 2 → ℕ) a + S256x128.size a ≤ S256x256.size a) (y : S256x128.Idx) :
    headVec (extractStridedSlice S256x128 ![0, 1024 + o] P h) g c s 0x3F800000#32 y
      = kPlace P g c s ((Rect.unit (s := S256x256) ![0, o] S256x128.size inb).emb y) := by
  obtain ⟨r, j, rfl⟩ : ∃ (r : Fin 256) (j : Fin 128), y = ix2 r j := ⟨y 0, y 1, eq_ix2 y⟩
  have hj := j.isLt
  rw [headVec_apply, emb_piece 256 o inb r j (by omega)]
  show _ = rotated _ _ _ _ _ (place (⟨o + j.val, _⟩ : Fin 256))
  rw [show place (⟨o + j.val, by omega⟩ : Fin 256) = j from Fin.ext (by show (o + j.val) % 128 = j.val; omega)]
  refine congrArg (fun f => rotated f (fun k => g (ix2 0 k)) (fun k => c (ix2 r k)) (fun k => s (ix2 r k)) _ j) (funext fun k => ?_)
  exact slice_apply (1024 + o) P h r k _ (by show 1024 + (o + j.val) / 128 * 128 + k.val = 1024 + o + k.val; omega)

/-- A head's values are their part of the value block. -/
theorem v_piece (o : ℕ) (ho : o % 256 = 0) (hl : o + 256 ≤ 512) (P : FVec Ideal S256x1536 .f32) (p : ℕ) (hp : p = 1280 + o / 2)
    (h : Shape.Slices S256x1536 ![0, p] S256x128)
    (inb : ∀ a, (![0, o] : Fin 2 → ℕ) a + S256x128.size a ≤ S256x512.size a) (y : S256x128.Idx) :
    extractStridedSlice S256x128 ![0, p] P h y
      = vPlace P ((Rect.unit (s := S256x512) ![0, o] S256x128.size inb).emb y) := by
  obtain ⟨r, j, rfl⟩ : ∃ (r : Fin 256) (j : Fin 128), y = ix2 r j := ⟨y 0, y 1, eq_ix2 y⟩
  have hj := j.isLt
  rw [emb_piece 512 o inb r j (by omega)]
  refine Eq.trans ?_ (if_pos (show (o + j.val) % 256 < 128 by omega)).symm
  exact slice_apply p P h r j _ (by show 1280 + (o + j.val) / 256 * 128 + (o + j.val) % 128 = p + j.val; omega)

/-- The ones are their part of the value block. -/
theorem one_piece (o : ℕ) (ho : o % 256 = 128) (hl : o + 128 ≤ 512) (P : FVec Ideal S256x1536 .f32)
    (inb : ∀ a, (![0, o] : Fin 2 → ℕ) a + S256x128.size a ≤ S256x512.size a) (y : S256x128.Idx) :
    (1 : EReal) = vPlace P ((Rect.unit (s := S256x512) ![0, o] S256x128.size inb).emb y) := by
  obtain ⟨r, j, rfl⟩ : ∃ (r : Fin 256) (j : Fin 128), y = ix2 r j := ⟨y 0, y 1, eq_ix2 y⟩
  have hj := j.isLt
  rw [emb_piece 512 o inb r j (by omega)]
  exact (if_neg (show ¬ (o + j.val) % 256 < 128 by omega)).symm

theorem offsets_zero : (![0, 0] : Fin 2 → Nat) = fun _ => 0 := funext fun a => by fin_cases a <;> rfl

section Out
variable (x : Vec Ideal S256x1024 .f32) (gx : Vec Ideal S1x1024 .f32) (w : Vec Ideal S1024x1536 .bf16) (gq gk : Vec Ideal S1x128 .f32)
  (c s : Vec Ideal S256x128 .f32)

/-- The blocks the body loads are the windows' blocks. -/
theorem load_proj : k0_pay30 x gx w gq gk c s = k0_pay4 x gx w := by
  unfold k0_pay30
  rw [show View.ld x r0_0 = x from View.ld_unit_zero (Val := Elt Ideal) offsets_zero _ x,
    show View.ld gx r0_1 = gx from View.ld_unit_zero (Val := Elt Ideal) offsets_zero _ gx,
    show View.ld w r0_2 = w from View.ld_unit_zero (Val := Elt Ideal) offsets_zero _ w]
theorem load_cos : k0_pay31 x gx w gq gk c s = c := by
  unfold k0_pay31 k0_pay5
  rw [show View.ld c r0_3 = c from View.ld_unit_zero (Val := Elt Ideal) offsets_zero _ c, shapeCast_self]
theorem load_sin : k0_pay32 x gx w gq gk c s = s := by
  unfold k0_pay32 k0_pay6
  rw [show View.ld s r0_3 = s from View.ld_unit_zero (Val := Elt Ideal) offsets_zero _ s, shapeCast_self]

/-- The query block the body leaves. -/
theorem q_apply (i : S256x1024.Idx) : out0_7 x gx w gq gk c s i = qPlace (k0_pay4 x gx w) gq c s i := by
  unfold out0_7
  refine View.canon_apply_of_pieces (Val := Elt Ideal) (e := .bf16) (qPlace (k0_pay4 x gx w) gq c s) _ ?_ i (cover0_7 _ _ _ _ _ _ _ _ i)
  rw [load_proj, load_cos, load_sin, show View.ld gq r0_4 = gq from View.ld_unit_zero (Val := Elt Ideal) offsets_zero _ gq,
    show View.ld x r0_0 = x from View.ld_unit_zero (Val := Elt Ideal) offsets_zero _ x,
    show View.ld gx r0_1 = gx from View.ld_unit_zero (Val := Elt Ideal) offsets_zero _ gx,
    show View.ld w r0_2 = w from View.ld_unit_zero (Val := Elt Ideal) offsets_zero _ w,
    show View.ld c r0_3 = c from View.ld_unit_zero (Val := Elt Ideal) offsets_zero _ c,
    head0, head1, head2, head3, head4, head5, head6, head7]
  intro p hp
  simp only [List.mem_cons, List.not_mem_nil, or_false] at hp
  rcases hp with rfl | rfl | rfl | rfl | rfl | rfl | rfl | rfl
  · exact q_piece 896 (by norm_num) (by norm_num) _ _ _ _ _ inb_S256x1024_S256x128_0_896
  · exact q_piece 768 (by norm_num) (by norm_num) _ _ _ _ _ inb_S256x1024_S256x128_0_768
  · exact q_piece 640 (by norm_num) (by norm_num) _ _ _ _ _ inb_S256x1024_S256x128_0_640
  · exact q_piece 512 (by norm_num) (by norm_num) _ _ _ _ _ inb_S256x1024_S256x128_0_512
  · exact q_piece 384 (by norm_num) (by norm_num) _ _ _ _ _ inb_S256x1024_S256x128_0_384
  · exact q_piece 256 (by norm_num) (by norm_num) _ _ _ _ _ inb_S256x1024_S256x128_0_256
  · exact q_piece 128 (by norm_num) (by norm_num) _ _ _ _ _ inb_S256x1024_S256x128_0_128
  · exact q_piece 0 (by norm_num) (by norm_num) _ _ _ _ _ inb_S256x1024_S256x128_0_0

/-- The key block the body leaves. -/
theorem k_apply (i : S256x256.Idx) : out0_8 x gx w gq gk c s i = kPlace (k0_pay4 x gx w) gk c s i := by
  unfold out0_8
  refine View.canon_apply_of_pieces (Val := Elt Ideal) (e := .bf16) (kPlace (k0_pay4 x gx w) gk c s) _ ?_ i (cover0_8 _ _ i)
  rw [load_proj, load_cos, load_sin, show View.ld gk r0_4 = gk from View.ld_unit_zero (Val := Elt Ideal) offsets_zero _ gk, key0, key1]
  intro p hp
  simp only [List.mem_cons, List.not_mem_nil, or_false] at hp
  rcases hp with rfl | rfl
  · exact k_piece 128 (by norm_num) (by norm_num) _ _ _ _ _ inb_S256x256_S256x128_0_128
  · exact k_piece 0 (by norm_num) (by norm_num) _ _ _ _ _ inb_S256x256_S256x128_0_0

/-- The value block the body leaves. -/
theorem v_apply (i : S256x512.Idx) : out0_9 x gx w gq gk c s i = vPlace (k0_pay4 x gx w) i := by
  unfold out0_9
  refine View.canon_apply_of_pieces (Val := Elt Ideal) (e := .bf16) (vPlace (k0_pay4 x gx w)) _ ?_ i (cover0_9 _ _ _ _ i)
  rw [load_proj, val0, val1]
  intro p hp
  simp only [List.mem_cons, List.not_mem_nil, or_false] at hp
  rcases hp with rfl | rfl | rfl | rfl
  · exact fun y => Ideal.ofBits_one_bf16.trans (one_piece 384 (by norm_num) (by norm_num) _ inb_S256x512_S256x128_0_384 y)
  · exact v_piece 256 (by norm_num) (by norm_num) (k0_pay4 x gx w) 1408 (by norm_num) slices_S256x1536_o0_1408_S256x128 inb_S256x512_S256x128_0_256
  · exact fun y => Ideal.ofBits_one_bf16.trans (one_piece 128 (by norm_num) (by norm_num) _ inb_S256x512_S256x128_0_128 y)
  · exact v_piece 0 (by norm_num) (by norm_num) (k0_pay4 x gx w) 1280 (by norm_num) slices_S256x1536_o0_1280_S256x128 inb_S256x512_S256x128_0_0

end Out

end QkvBlock

end
-- ==== Proof.QkvHost.lean ====
/- What the host hands the projection's kernel: the weights' columns and the heads' norm weights reordered, and the two tables
   widened to a whole row. -/
module

public import proofs.«01_k».proof.Proof.QkvBlock
public import Idealize.ShloMosaic.Lib.StableHlo.Predicate

@[expose] public section

noncomputable section

open Idealize.ShloMosaic Idealize.ShloMosaic.ValueIdx Idealize.ShloMosaic.TcCoe RowMath RotaryMath

namespace QkvHost

open Cert.QkvIdeal Cert.QkvIdeal.Gen Cert.QkvIdeal.Value

variable (m : (ℓ : Loc nD τ sig) → Buf (Elt Ideal) ℓ)

/-- The column numbers the weights are read at, as the host computes them. -/
def colIdx : IVec S1536x1 32 :=
  broadcastInDim S1536x1 ![0] bcast_S1536_S1536x1_0 (select (constantI S1536 1 0#1)
    (addi (fun i => lit0 (S1536.rowMajor i)) (broadcastInDim S1536 ![] bcast_S_S1536 (constantI S_ 32 1536#32)))
    (fun i => lit0 (S1536.rowMajor i)))

/-- The places the heads' norm weights are read at. -/
def placeIdx : IVec S128x1 32 :=
  broadcastInDim S128x1 ![0] bcast_S128_S128x1_0 (select (constantI S128 1 0#1)
    (addi (fun i => lit1 (S128.rowMajor i)) (broadcastInDim S128 ![] bcast_S_S128 (constantI S_ 32 128#32)))
    (fun i => lit1 (S128.rowMajor i)))

theorem lit0_eq : ∀ n : Fin 1536, (lit0 n).toInt.toNat = (col n).val := by decide +kernel
theorem lit1_eq : ∀ k : Fin 128, (lit1 k).toInt.toNat = (half k).val := by decide +kernel

/-- Choosing a table's numbers, as the host does, where no choice falls on the shifted ones. -/
theorem pick (s : Shape) (l x : IVec s 32) (i : s.Idx) : select (constantI s 1 0#1) x l i = l i :=
  if_neg (t := x i) (e := l i) (show ¬ (0#1 : BitVec 1) = 1#1 by decide)

theorem colIdx_apply (n : Fin 1536) (z : Fin 1) : colIdx (ix2 n z) = lit0 n := by
  unfold colIdx
  generalize hl : (lit0 : Fin 1536 → BitVec 32) = l
  refine (broadcastInDim_apply _ _ _ (ix2 n z) (ix1 n) fun a => match a with | ⟨0, _⟩ => rfl).trans ?_
  rw [pick]
  exact congrArg l (Fin.ext (Shape.rowMajor_val_one _))

theorem placeIdx_apply (k : Fin 128) (z : Fin 1) : placeIdx (ix2 k z) = lit1 k := by
  unfold placeIdx
  generalize hl : (lit1 : Fin 128 → BitVec 32) = l
  refine (broadcastInDim_apply _ _ _ (ix2 k z) (ix1 k) fun a => match a with | ⟨0, _⟩ => rfl).trans ?_
  rw [pick]
  exact congrArg l (Fin.ext (Shape.rowMajor_val_one _))

/-- Reading the weights at the column numbers. -/
theorem takeCols_apply (x : S1024x1536.Idx → EReal) (q : Fin 1024) (n : Fin 1536) :
    Host.gather gather_S1024x1536_S1536x1_S1024x1536_0_1_n_n_1_1_10241 x colIdx (ix2 q n) = x (ix2 q (col n)) := by
  unfold Host.gather
  refine congrArg x (funext fun a => Fin.ext ?_)
  show (gather_S1024x1536_S1536x1_S1024x1536_0_1_n_n_1_1_10241).start (ix2 q n) colIdx a
    + (gather_S1024x1536_S1536x1_S1024x1536_0_1_n_n_1_1_10241).batchCoord (ix2 q n) a
    + (gather_S1024x1536_S1536x1_S1024x1536_0_1_n_n_1_1_10241).offCoord (ix2 q n) a = _
  rw [GatherDims.batchCoord_eq_zero _ _ _ (fun h => by exact (List.not_mem_nil h))]
  have h01 : a = 0 ∨ a = 1 := by
    match a with
    | ⟨0, _⟩ => exact Or.inl rfl
    | ⟨1, _⟩ => exact Or.inr rfl
  rcases h01 with rfl | rfl
  · have hs : (gather_S1024x1536_S1536x1_S1024x1536_0_1_n_n_1_1_10241).start (ix2 q n) colIdx 0 = 0 := by
      unfold GatherDims.start
      exact dif_neg (show ¬ (0 : Fin 2) ∈ [(1 : Fin 2)] by decide)
    have ho : (gather_S1024x1536_S1536x1_S1024x1536_0_1_n_n_1_1_10241).offCoord (ix2 q n) 0 = q.val := by
      unfold GatherDims.offCoord
      exact dif_pos ((GatherDims.mem_sKept _ _).mpr ⟨by show ¬ (0 : Fin 2) ∈ [(1 : Fin 2)]; decide, List.not_mem_nil⟩)
    rw [hs, ho]
    show 0 + 0 + q.val = q.val
    omega
  · rw [GatherDims.offCoord_eq_zero _ _ _ (fun h => ((GatherDims.mem_sKept _ _).mp h).1 (List.mem_singleton.mpr rfl))]
    have hsi : (gather_S1024x1536_S1536x1_S1024x1536_0_1_n_n_1_1_10241).siIdx (ix2 q n)
        ⟨List.idxOf (1 : Fin 2) (gather_S1024x1536_S1536x1_S1024x1536_0_1_n_n_1_1_10241).startIndexMap,
          List.idxOf_lt_length_iff.2 (List.mem_singleton.mpr rfl)⟩ = ix2 n 0 := by
      funext b; refine Fin.ext ?_
      match b with
      | ⟨0, _⟩ => rfl
      | ⟨1, _⟩ => rfl
    have hs : (gather_S1024x1536_S1536x1_S1024x1536_0_1_n_n_1_1_10241).start (ix2 q n) colIdx 1
        = min (colIdx (ix2 n 0)).toInt.toNat 1535 := by
      unfold GatherDims.start
      rw [dif_pos (show (1 : Fin 2) ∈ (gather_S1024x1536_S1536x1_S1024x1536_0_1_n_n_1_1_10241).startIndexMap from List.mem_singleton.mpr rfl), hsi]
      rfl
    rw [hs, colIdx_apply, lit0_eq]
    have := (col n).isLt
    show min (col n).val 1535 + 0 + 0 = (col n).val
    omega

/-- Reading a head's norm weights at the places. -/
theorem takePlaces_apply (x : S128.Idx → EReal) (k : Fin 128) :
    Host.gather gather_S128_S128x1_S128_n_0_n_n_0_1_1 x placeIdx (ix1 k) = x (ix1 (half k)) := by
  have e : ∀ n : Fin 128, (Shape.Idx.ofFin n : S128.Idx) = ix1 n := fun n => funext fun a => match a with | ⟨0, _⟩ => rfl
  rw [← e]
  refine (StableHlo.Predicate.gather_take (N := 128) (n := 128) _ rfl rfl rfl rfl x placeIdx k (by norm_num)).trans ?_
  rw [e]
  refine congrArg x (congrArg ix1 (Fin.ext ?_))
  have hp : placeIdx (StableHlo.Predicate.ixP k) = lit1 k := (congrArg placeIdx (funext fun a => match a with | ⟨0, _⟩ => rfl | ⟨1, _⟩ => rfl)).trans (placeIdx_apply k 0)
  show min (placeIdx (StableHlo.Predicate.ixP k)).toInt.toNat (128 - 1) = (half k).val
  rw [hp, lit1_eq]
  have := (half k).isLt
  omega

/-- A table negated. -/
def neg (x : S16384x64.Idx → EReal) : S16384x64.Idx → EReal := fun i => -x i

/-- The weights the kernel is handed. -/
theorem V_w (c : Dev nD) : V m c main_v8 = Host.gather gather_S1024x1536_S1536x1_S1024x1536_0_1_n_n_1_1_10241
    (m ((c : Thread nD τ).loc main_arg2) : S1024x1536.Idx → EReal) colIdx := by
  simp only [V, hostOps0]; after_results <;> rfl
/-- The norm's weights as one row. -/
theorem V_norm (c : Dev nD) : V m c main_v19
    = shapeCast S1x1024 (m ((c : Thread nD τ).loc main_arg1) : S1024.Idx → EReal) shapeCasts_S1024_S1x1024 := by
  simp only [V, hostOps0]; after_results <;> rfl
/-- The heads' norm weights as one row each. -/
theorem V_qn (c : Dev nD) : V m c main_v20 = shapeCast S1x128 (Host.gather gather_S128_S128x1_S128_n_0_n_n_0_1_1
    (m ((c : Thread nD τ).loc main_arg3) : S128.Idx → EReal) placeIdx) shapeCasts_S128_S1x128 := by
  simp only [V, hostOps0]; after_results <;> rfl
theorem V_kn (c : Dev nD) : V m c main_v21 = shapeCast S1x128 (Host.gather gather_S128_S128x1_S128_n_0_n_n_0_1_1
    (m ((c : Thread nD τ).loc main_arg4) : S128.Idx → EReal) placeIdx) shapeCasts_S128_S1x128 := by
  simp only [V, hostOps0]; after_results <;> rfl
/-- The tables, twice the cosines and the sines with the first half negated. -/
theorem V_cos (c : Dev nD) : V m c main_v0 = concatenate S16384x128 1
    [⟨S16384x64, (m ((c : Thread nD τ).loc main_arg5) : S16384x64.Idx → EReal)⟩, ⟨S16384x64, m ((c : Thread nD τ).loc main_arg5)⟩]
    concatenates_S16384x64_S16384x64_S16384x128_d1 := by
  simp only [V, hostOps0]; after_results <;> rfl
theorem V_sin (c : Dev nD) : V m c main_v2 = concatenate S16384x128 1
    [⟨S16384x64, neg (m ((c : Thread nD τ).loc main_arg6))⟩, ⟨S16384x64, m ((c : Thread nD τ).loc main_arg6)⟩]
    concatenates_S16384x64_S16384x64_S16384x128_d1 := by
  simp only [V, hostOps0]; after_results <;> rfl

/-- Two tables side by side, read in the first half of a row and in the second. -/
theorem cat_apply (x y : S16384x64.Idx → EReal) (i : Fin 16384) (j : Fin 128) :
    concatenate S16384x128 1 [⟨S16384x64, x⟩, ⟨S16384x64, y⟩] concatenates_S16384x64_S16384x64_S16384x128_d1 (ix2 i j)
      = if j.val < 64 then x (ix2 i (pairOf j)) else y (ix2 i (pairOf j)) := by
  have hj := j.isLt
  by_cases h : j.val < 64
  · rw [if_pos h]
    refine concatenate_pair_apply_left (1 : Fin 2) x y _ (ix2 i j) rfl (ix2 i (pairOf j)) fun b => ?_
    match b with
    | ⟨0, _⟩ => rfl
    | ⟨1, _⟩ => show j.val % 64 = j.val; omega
  · rw [if_neg h]
    refine concatenate_pair_apply_right (1 : Fin 2) x y _ (ix2 i j) rfl rfl (ix2 i (pairOf j)) (fun b hb => ?_) ?_
    · match b with
      | ⟨0, _⟩ => rfl
      | ⟨1, _⟩ => exact absurd rfl hb
    · show j.val % 64 + 64 = j.val
      omega

theorem cos_row (x : S16384x64.Idx → EReal) (i : Fin 16384) (j : Fin 128) :
    concatenate S16384x128 1 [⟨S16384x64, x⟩, ⟨S16384x64, x⟩] concatenates_S16384x64_S16384x64_S16384x128_d1 (ix2 i j)
      = cosRow (fun p => x (ix2 i p)) j :=
  (cat_apply x x i j).trans (ite_self _)

theorem sin_row (x : S16384x64.Idx → EReal) (i : Fin 16384) (j : Fin 128) :
    concatenate S16384x128 1 [⟨S16384x64, neg x⟩, ⟨S16384x64, x⟩] concatenates_S16384x64_S16384x64_S16384x128_d1 (ix2 i j)
      = sinRow (fun p => x (ix2 i p)) j :=
  cat_apply _ x i j

end QkvHost

end
-- ==== Proof.QkvArray.lean ====
/- What the projection kernel's three result arrays hold after a run: each head's queries and keys normed and rotated, and the
   values with their columns of ones. -/
module

public import proofs.«01_k».proof.Proof.QkvHost

@[expose] public section

noncomputable section

open Idealize.ShloMosaic Idealize.ShloMosaic.ValueIdx Idealize.ShloMosaic.TcCoe Idealize.SL.Sem RowMath RotaryMath
open Idealize.ShloMosaic.Pipeline (Dat)

namespace QkvArray

open Cert.QkvIdeal Cert.QkvIdeal.Gen Cert.QkvIdeal.Value QkvHost QkvBlock

variable (m : (ℓ : Loc nD τ sig) → Buf (Elt Ideal) ℓ)

/-- The blocks' places: the rows', the tables' and the results' block `t` is block `t` of rows, every other block is its whole array. -/
theorem idx_facts : ∀ t : Fin cfg0.N, (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ (win0_9.index t 0 = t.val ∧ win0_9.index t 1 = 0) :=
  (by decide +kernel : ∀ t : Fin grid0.N, (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ (win0_9.index t 0 = t.val ∧ win0_9.index t 1 = 0))

/-- Row `r` of block `t` as a row of the array. -/
def rowAt (t : Fin cfg0.N) (r : Fin 256) : Fin 16384 :=
  ⟨t.val * 256 + r.val, by have h : t.val < 64 := t.isLt; have := r.isLt; omega⟩

/-- The stream's block at point `t`, read at a row and a column. -/
theorem stream_apply (c : Dev nD) (t : Fin cfg0.N) (r : Fin 256) (k : Fin 1024) :
    iblk m c 0 t (ix2 r k) = m ((c : Thread nD τ).loc main_arg0) (ix2 (rowAt t r) k) := by
  show V m c main_arg0 ((win0_0.rect t).emb (ix2 r k)) = _
  rw [V_main_arg0]
  refine congrArg (m ((c : Thread nD τ).loc main_arg0)) (funext fun a => Fin.ext ?_)
  refine (Pipeline.Window.rect_emb_val win0_0 t (ix2 r k) a).trans ?_
  match a with
  | ⟨0, _⟩ => exact congrArg (· * 256 + r.val) (idx_facts t).1.1
  | ⟨1, _⟩ => exact (congrArg (· * 1024 + k.val) (idx_facts t).1.2).trans (by show 0 * 1024 + k.val = k.val; omega)

/-- The norm weights' block is the argument. -/
theorem norm_apply (c : Dev nD) (t : Fin cfg0.N) (k : Fin 1024) :
    iblk m c 1 t (ix2 0 k) = m ((c : Thread nD τ).loc main_arg1) (ix1 k) := by
  show V m c main_v19 ((win0_1.rect t).emb (ix2 0 k)) = _
  rw [V_norm]
  refine shapeCast_apply _ _ _ (ix1 k) ?_
  rw [Shape.rowMajor_val_one, Shape.rowMajor_val_two]
  have h0 := Pipeline.Window.rect_emb_val_of_index_zero win0_1 t 0 (idx_facts t).2.1.1 (ix2 0 k)
  have h1 := Pipeline.Window.rect_emb_val_of_index_zero win0_1 t 1 (idx_facts t).2.1.2 (ix2 0 k)
  exact (show k.val = 0 * 1024 + k.val by omega).trans (congrArg₂ (fun a b => a * 1024 + b) h0 h1).symm

/-- The weights' block is the argument with its columns reordered. -/
theorem weight_apply (c : Dev nD) (t : Fin cfg0.N) (q : Fin 1024) (n : Fin 1536) :
    iblk m c 2 t (ix2 q n) = m ((c : Thread nD τ).loc main_arg2) (ix2 q (col n)) := by
  show V m c main_v8 ((win0_2.rect t).emb (ix2 q n)) = _
  rw [V_w]
  have e : (win0_2.rect t).emb (ix2 q n) = ix2 q n := funext fun a => Fin.ext (match a with
    | ⟨0, _⟩ => Pipeline.Window.rect_emb_val_of_index_zero win0_2 t 0 (idx_facts t).2.2.1.1 (ix2 q n)
    | ⟨1, _⟩ => Pipeline.Window.rect_emb_val_of_index_zero win0_2 t 1 (idx_facts t).2.2.1.2 (ix2 q n))
  exact (congrArg _ e).trans (takeCols_apply _ q n)

/-- The heads' norm weights' blocks are the arguments reordered. -/
theorem qn_apply (c : Dev nD) (t : Fin cfg0.N) (k : Fin 128) :
    iblk m c 3 t (ix2 0 k) = m ((c : Thread nD τ).loc main_arg3) (ix1 (half k)) := by
  show V m c main_v20 ((win0_3.rect t).emb (ix2 0 k)) = _
  rw [V_qn]
  refine (shapeCast_apply _ _ _ (ix1 k) ?_).trans (takePlaces_apply _ k)
  rw [Shape.rowMajor_val_one, Shape.rowMajor_val_two]
  have h0 := Pipeline.Window.rect_emb_val_of_index_zero win0_3 t 0 (idx_facts t).2.2.2.1.1 (ix2 0 k)
  have h1 := Pipeline.Window.rect_emb_val_of_index_zero win0_3 t 1 (idx_facts t).2.2.2.1.2 (ix2 0 k)
  exact (show k.val = 0 * 128 + k.val by omega).trans (congrArg₂ (fun a b => a * 128 + b) h0 h1).symm
theorem kn_apply (c : Dev nD) (t : Fin cfg0.N) (k : Fin 128) :
    iblk m c 4 t (ix2 0 k) = m ((c : Thread nD τ).loc main_arg4) (ix1 (half k)) := by
  show V m c main_v21 ((win0_4.rect t).emb (ix2 0 k)) = _
  rw [V_kn]
  refine (shapeCast_apply _ _ _ (ix1 k) ?_).trans (takePlaces_apply _ k)
  rw [Shape.rowMajor_val_one, Shape.rowMajor_val_two]
  have h0 := Pipeline.Window.rect_emb_val_of_index_zero win0_4 t 0 (idx_facts t).2.2.2.2.1.1 (ix2 0 k)
  have h1 := Pipeline.Window.rect_emb_val_of_index_zero win0_4 t 1 (idx_facts t).2.2.2.2.1.2 (ix2 0 k)
  exact (show k.val = 0 * 128 + k.val by omega).trans (congrArg₂ (fun a b => a * 128 + b) h0 h1).symm

/-- The tables' blocks, read at a row and a place. -/
theorem cos_apply (c : Dev nD) (t : Fin cfg0.N) (r : Fin 256) (k : Fin 128) :
    iblk m c 5 t (ix2 r k) = cosRow (fun p => m ((c : Thread nD τ).loc main_arg5) (ix2 (rowAt t r) p)) k := by
  show V m c main_v0 ((win0_5.rect t).emb (ix2 r k)) = _
  rw [V_cos]
  have e : (win0_5.rect t).emb (ix2 r k) = ix2 (rowAt t r) k := funext fun a => Fin.ext
    ((Pipeline.Window.rect_emb_val win0_5 t (ix2 r k) a).trans (match a with
    | ⟨0, _⟩ => congrArg (· * 256 + r.val) (idx_facts t).2.2.2.2.2.1.1
    | ⟨1, _⟩ => (congrArg (· * 128 + k.val) (idx_facts t).2.2.2.2.2.1.2).trans (by show 0 * 128 + k.val = k.val; omega)))
  exact (congrArg _ e).trans (cos_row _ (rowAt t r) k)
theorem sin_apply (c : Dev nD) (t : Fin cfg0.N) (r : Fin 256) (k : Fin 128) :
    iblk m c 6 t (ix2 r k) = sinRow (fun p => m ((c : Thread nD τ).loc main_arg6) (ix2 (rowAt t r) p)) k := by
  show V m c main_v2 ((win0_6.rect t).emb (ix2 r k)) = _
  rw [V_sin]
  have e : (win0_6.rect t).emb (ix2 r k) = ix2 (rowAt t r) k := funext fun a => Fin.ext
    ((Pipeline.Window.rect_emb_val win0_6 t (ix2 r k) a).trans (match a with
    | ⟨0, _⟩ => congrArg (· * 256 + r.val) (idx_facts t).2.2.2.2.2.2.1.1
    | ⟨1, _⟩ => (congrArg (· * 128 + k.val) (idx_facts t).2.2.2.2.2.2.1.2).trans (by show 0 * 128 + k.val = k.val; omega)))
  exact (congrArg _ e).trans (sin_row _ (rowAt t r) k)

/-- Row `i` of the projection of the arguments. -/
def projRow (c : Dev nD) (i : Fin 16384) : Fin 1536 → EReal :=
  dotRow (rmsRow (fun k => m ((c : Thread nD τ).loc main_arg0) (ix2 i k)) (fun k => m ((c : Thread nD τ).loc main_arg1) (ix1 k)))
    (fun k n => m ((c : Thread nD τ).loc main_arg2) (ix2 k n))

/-- The queries, the keys and the values at a row and a column. -/
def qVal (c : Dev nD) (i : Fin 16384) (n : Fin 1024) : EReal :=
  turn (headNorm (fun k => projRow m c i (qCol n k)) (fun k => m ((c : Thread nD τ).loc main_arg3) (ix1 k)))
    (fun p => m ((c : Thread nD τ).loc main_arg5) (ix2 i p)) (fun p => m ((c : Thread nD τ).loc main_arg6) (ix2 i p)) (place n)
    * Ideal.ofBits .f32 0x3DB504F3#32
def kVal (c : Dev nD) (i : Fin 16384) (n : Fin 256) : EReal :=
  turn (headNorm (fun k => projRow m c i (kCol n k)) (fun k => m ((c : Thread nD τ).loc main_arg4) (ix1 k)))
    (fun p => m ((c : Thread nD τ).loc main_arg5) (ix2 i p)) (fun p => m ((c : Thread nD τ).loc main_arg6) (ix2 i p)) (place n)
def vVal (c : Dev nD) (i : Fin 16384) (n : Fin 512) : EReal :=
  if n.val % 256 < 128 then projRow m c i (vCol n) else 1

/-- A block's projection is the reordered projection of its rows. -/
theorem proj_block (c : Dev nD) (t : Fin cfg0.N) (r : Fin 256) (n : Fin 1536) :
    k0_pay4 (F := Ideal) (iblk m c 0 t) (iblk m c 1 t) (iblk m c 2 t) (ix2 r n) = projRow m c (rowAt t r) (col n) := by
  refine (QkvBlock.proj_apply _ _ _ r n).trans ?_
  unfold projRow
  show (∑ k, _ * _) = ∑ k, _ * _
  refine Finset.sum_congr rfl fun k _ => congrArg₂ (fun a b : EReal => a * b) ?_ (weight_apply m c t k n)
  exact congrFun (congrArg₂ rmsRow (funext fun k => stream_apply m c t r k) (funext fun k => norm_apply m c t k)) k

/-- The query block's places are the queries of the rows. -/
theorem q_block (c : Dev nD) (t : Fin cfg0.N) (r : Fin 256) (n : Fin 1024) :
    qPlace (k0_pay4 (F := Ideal) (iblk m c 0 t) (iblk m c 1 t) (iblk m c 2 t)) (iblk m c 3 t) (iblk m c 5 t) (iblk m c 6 t) (ix2 r n)
      = qVal m c (rowAt t r) n := by
  have h1 : (fun k => k0_pay4 (F := Ideal) (iblk m c 0 t) (iblk m c 1 t) (iblk m c 2 t) (ix2 r (qCol n k)))
      = fun k => projRow m c (rowAt t r) (qCol n (half k)) :=
    funext fun k => (proj_block m c t r (qCol n k)).trans (congrArg _ (col_qCol n k))
  have h2 := funext fun k => qn_apply m c t k
  have h3 := funext fun k => cos_apply m c t r k
  have h4 := funext fun k => sin_apply m c t r k
  refine Eq.trans ?_ (rotated_half (fun k => projRow m c (rowAt t r) (qCol n k)) (fun k => m ((c : Thread nD τ).loc main_arg3) (ix1 k))
    (fun p => m ((c : Thread nD τ).loc main_arg5) (ix2 (rowAt t r) p)) (fun p => m ((c : Thread nD τ).loc main_arg6) (ix2 (rowAt t r) p)) _ _)
  show rotated _ _ _ _ _ _ = _
  exact congrFun (congr (congr (congr (congr (congrArg rotated h1) h2) h3) h4) rfl) _

/-- The key block's places are the keys of the rows. -/
theorem k_block (c : Dev nD) (t : Fin cfg0.N) (r : Fin 256) (n : Fin 256) :
    kPlace (k0_pay4 (F := Ideal) (iblk m c 0 t) (iblk m c 1 t) (iblk m c 2 t)) (iblk m c 4 t) (iblk m c 5 t) (iblk m c 6 t) (ix2 r n)
      = kVal m c (rowAt t r) n := by
  have h1 : (fun k => k0_pay4 (F := Ideal) (iblk m c 0 t) (iblk m c 1 t) (iblk m c 2 t) (ix2 r (kCol n k)))
      = fun k => projRow m c (rowAt t r) (kCol n (half k)) :=
    funext fun k => (proj_block m c t r (kCol n k)).trans (congrArg _ (col_kCol n k))
  have h2 := funext fun k => kn_apply m c t k
  have h3 := funext fun k => cos_apply m c t r k
  have h4 := funext fun k => sin_apply m c t r k
  refine Eq.trans ?_ ((rotated_half (fun k => projRow m c (rowAt t r) (kCol n k)) (fun k => m ((c : Thread nD τ).loc main_arg4) (ix1 k))
    (fun p => m ((c : Thread nD τ).loc main_arg5) (ix2 (rowAt t r) p)) (fun p => m ((c : Thread nD τ).loc main_arg6) (ix2 (rowAt t r) p))
    (Ideal.ofBits .f32 0x3F800000#32) _).trans ((congrArg (_ * ·) Ideal.ofBits_one_f32).trans (mul_one _)))
  show rotated _ _ _ _ _ _ = _
  exact congrFun (congr (congr (congr (congr (congrArg rotated h1) h2) h3) h4) rfl) _

/-- The value block's places are the values of the rows. -/
theorem v_block (c : Dev nD) (t : Fin cfg0.N) (r : Fin 256) (n : Fin 512) :
    vPlace (k0_pay4 (F := Ideal) (iblk m c 0 t) (iblk m c 1 t) (iblk m c 2 t)) (ix2 r n) = vVal m c (rowAt t r) n := by
  unfold vVal
  show (if n.val % 256 < 128 then _ else _) = _
  rw [show k0_pay4 (F := Ideal) (iblk m c 0 t) (iblk m c 1 t) (iblk m c 2 t) (ix2 ((ix2 r n : S256x512.Idx) 0) (vCol ((ix2 r n : S256x512.Idx) 1)))
    = projRow m c (rowAt t r) (vCol n) from (proj_block m c t r (vCol n)).trans (congrArg _ (col_vCol n))]

/-- The whole result arrays as functions. -/
def GQ (c : Dev nD) : S16384x1024.Idx → EReal := fun i => qVal m c (i 0) (i 1)
def GK (c : Dev nD) : S16384x256.Idx → EReal := fun i => kVal m c (i 0) (i 1)
def GV (c : Dev nD) : S16384x512.Idx → EReal := fun i => vVal m c (i 0) (i 1)

/-- A place of the results' blocks `t` in their arrays. -/
theorem emb_q (t : Fin cfg0.N) (r : Fin 256) (j : Fin 1024) : (win0_7.rect t).emb (ix2 r j) = ix2 (rowAt t r) j := by
  refine funext fun a => Fin.ext ?_
  refine (Pipeline.Window.rect_emb_val win0_7 t (ix2 r j) a).trans ?_
  match a with
  | ⟨0, _⟩ => exact congrArg (· * 256 + r.val) (idx_facts t).2.2.2.2.2.2.2.1.1
  | ⟨1, _⟩ => exact (congrArg (· * 1024 + j.val) (idx_facts t).2.2.2.2.2.2.2.1.2).trans (by show 0 * 1024 + j.val = j.val; omega)
theorem emb_k (t : Fin cfg0.N) (r : Fin 256) (j : Fin 256) : (win0_8.rect t).emb (ix2 r j) = ix2 (rowAt t r) j := by
  refine funext fun a => Fin.ext ?_
  refine (Pipeline.Window.rect_emb_val win0_8 t (ix2 r j) a).trans ?_
  match a with
  | ⟨0, _⟩ => exact congrArg (· * 256 + r.val) (idx_facts t).2.2.2.2.2.2.2.2.1.1
  | ⟨1, _⟩ => exact (congrArg (· * 256 + j.val) (idx_facts t).2.2.2.2.2.2.2.2.1.2).trans (by show 0 * 256 + j.val = j.val; omega)
theorem emb_v (t : Fin cfg0.N) (r : Fin 256) (j : Fin 512) : (win0_9.rect t).emb (ix2 r j) = ix2 (rowAt t r) j := by
  refine funext fun a => Fin.ext ?_
  refine (Pipeline.Window.rect_emb_val win0_9 t (ix2 r j) a).trans ?_
  match a with
  | ⟨0, _⟩ => exact congrArg (· * 256 + r.val) (idx_facts t).2.2.2.2.2.2.2.2.2.1
  | ⟨1, _⟩ => exact (congrArg (· * 512 + j.val) (idx_facts t).2.2.2.2.2.2.2.2.2.2).trans (by show 0 * 512 + j.val = j.val; omega)

/-- What point `t` writes back is block `t` of those functions. -/
theorem flushed_q (c : Dev nD) (t : Fin cfg0.N) :
    (dats m 0 c).flushed 7 t = ((cfg0.win 7).blk t).view.read (Elt Ideal) (GQ m c) := by
  rw [flushed7]
  refine funext fun (y : S256x1024.Idx) => ?_
  obtain ⟨r, j, rfl⟩ : ∃ (r : Fin 256) (j : Fin 1024), y = ix2 r j := ⟨y 0, y 1, eq_ix2 y⟩
  have cut : ∀ (X : S256x1024.Idx → EReal) (y : S256x1024.Idx), (cfg0.win 7).cut (grid0.coords t) X y = X y := fun _ _ => rfl
  have get : ∀ (W : S16384x1024.Idx → EReal) (y : S256x1024.Idx), ((cfg0.win 7).blk t).view.read (Elt Ideal) W y = W ((win0_7.rect t).emb y) := fun _ _ => rfl
  refine (cut _ (ix2 r j)).trans ?_
  refine Eq.trans ?_ ((get (GQ m c) (ix2 r j)).trans (congrArg (GQ m c) (emb_q t r j))).symm
  exact (QkvBlock.q_apply _ _ _ _ _ _ _ (ix2 r j)).trans (q_block m c t r j)
theorem flushed_k (c : Dev nD) (t : Fin cfg0.N) :
    (dats m 0 c).flushed 8 t = ((cfg0.win 8).blk t).view.read (Elt Ideal) (GK m c) := by
  rw [flushed8]
  refine funext fun (y : S256x256.Idx) => ?_
  obtain ⟨r, j, rfl⟩ : ∃ (r : Fin 256) (j : Fin 256), y = ix2 r j := ⟨y 0, y 1, eq_ix2 y⟩
  have cut : ∀ (X : S256x256.Idx → EReal) (y : S256x256.Idx), (cfg0.win 8).cut (grid0.coords t) X y = X y := fun _ _ => rfl
  have get : ∀ (W : S16384x256.Idx → EReal) (y : S256x256.Idx), ((cfg0.win 8).blk t).view.read (Elt Ideal) W y = W ((win0_8.rect t).emb y) := fun _ _ => rfl
  refine (cut _ (ix2 r j)).trans ?_
  refine Eq.trans ?_ ((get (GK m c) (ix2 r j)).trans (congrArg (GK m c) (emb_k t r j))).symm
  exact (QkvBlock.k_apply _ _ _ _ _ _ _ (ix2 r j)).trans (k_block m c t r j)
theorem flushed_v (c : Dev nD) (t : Fin cfg0.N) :
    (dats m 0 c).flushed 9 t = ((cfg0.win 9).blk t).view.read (Elt Ideal) (GV m c) := by
  rw [flushed9]
  refine funext fun (y : S256x512.Idx) => ?_
  obtain ⟨r, j, rfl⟩ : ∃ (r : Fin 256) (j : Fin 512), y = ix2 r j := ⟨y 0, y 1, eq_ix2 y⟩
  have cut : ∀ (X : S256x512.Idx → EReal) (y : S256x512.Idx), (cfg0.win 9).cut (grid0.coords t) X y = X y := fun _ _ => rfl
  have get : ∀ (W : S16384x512.Idx → EReal) (y : S256x512.Idx), ((cfg0.win 9).blk t).view.read (Elt Ideal) W y = W ((win0_9.rect t).emb y) := fun _ _ => rfl
  refine (cut _ (ix2 r j)).trans ?_
  refine Eq.trans ?_ ((get (GV m c) (ix2 r j)).trans (congrArg (GV m c) (emb_v t r j))).symm
  exact (QkvBlock.v_apply _ _ _ _ _ _ _ (ix2 r j)).trans (v_block m c t r j)

/-- The block a row lies in, and its row there. -/
def blockOf (i : Fin 16384) : Fin cfg0.N := ⟨i.val / 256, by have := i.isLt; show _ < 64; omega⟩
def inBlock (i : Fin 16384) : Fin 256 := ⟨i.val % 256, Nat.mod_lt _ (by norm_num)⟩
theorem rowAt_blockOf (i : Fin 16384) : rowAt (blockOf i) (inBlock i) = i :=
  Fin.ext (by show i.val / 256 * 256 + i.val % 256 = i.val; omega)

/-- Every place of the arrays lies in some point's block. -/
theorem cover_q (i : S16384x1024.Idx) : ∃ t : Fin cfg0.N, (cfg0.win 7).flush t = true ∧ i ∈ ((cfg0.win 7).blk t).view.set := by
  refine ⟨blockOf (i 0), flush0_7 _, ?_⟩
  have e := ((cfg0.win 7).blk (blockOf (i 0))).view.emb_mem_set (ix2 (inBlock (i 0)) (i 1))
  refine (congrArg (· ∈ _) ?_).mp e
  exact (emb_q _ _ (i 1)).trans ((congrArg (ix2 · (i 1)) (rowAt_blockOf (i 0))).trans (eq_ix2 i).symm)
theorem cover_k (i : S16384x256.Idx) : ∃ t : Fin cfg0.N, (cfg0.win 8).flush t = true ∧ i ∈ ((cfg0.win 8).blk t).view.set := by
  refine ⟨blockOf (i 0), flush0_8 _, ?_⟩
  have e := ((cfg0.win 8).blk (blockOf (i 0))).view.emb_mem_set (ix2 (inBlock (i 0)) (i 1))
  refine (congrArg (· ∈ _) ?_).mp e
  exact (emb_k _ _ (i 1)).trans ((congrArg (ix2 · (i 1)) (rowAt_blockOf (i 0))).trans (eq_ix2 i).symm)
theorem cover_v (i : S16384x512.Idx) : ∃ t : Fin cfg0.N, (cfg0.win 9).flush t = true ∧ i ∈ ((cfg0.win 9).blk t).view.set := by
  refine ⟨blockOf (i 0), flush0_9 _, ?_⟩
  have e := ((cfg0.win 9).blk (blockOf (i 0))).view.emb_mem_set (ix2 (inBlock (i 0)) (i 1))
  refine (congrArg (· ∈ _) ?_).mp e
  exact (emb_v _ _ (i 1)).trans ((congrArg (ix2 · (i 1)) (rowAt_blockOf (i 0))).trans (eq_ix2 i).symm)

/-- The result arrays after the run. -/
theorem final_q (c : Dev nD) : (dats m 0 c).arrAt 7 cfg0.N = GQ m c :=
  (dats m 0 c).arrAt_eq_of_cover 7 (GQ m c) (fun t _ => flushed_q m c t) cover_q
theorem final_k (c : Dev nD) : (dats m 0 c).arrAt 8 cfg0.N = GK m c :=
  (dats m 0 c).arrAt_eq_of_cover 8 (GK m c) (fun t _ => flushed_k m c t) cover_k
theorem final_v (c : Dev nD) : (dats m 0 c).arrAt 9 cfg0.N = GV m c :=
  (dats m 0 c).arrAt_eq_of_cover 9 (GV m c) (fun t _ => flushed_v m c t) cover_v

end QkvArray

end
-- ==== Proof.QkvRead.lean ====
/- What the projection's reference computes: each head's queries and keys normed, their pairs turned, and the values with their
   columns of ones. -/
module

public import proofs.«01_k».proof.Proof.Gen.QkvRefIdeal.Read
public import proofs.«01_k».proof.Proof.RotaryMath
public import Idealize.ShloMosaic.Lib.IdealHost

@[expose] public section

noncomputable section

open Idealize.ShloMosaic Idealize.ShloMosaic.ValueIdx RowMath RotaryMath

namespace QkvRead

open Cert.QkvRefIdeal Cert.QkvRefIdeal.Read

variable (x0 : (⟨S16384x1024, .f32⟩ : BufTy).Contents (Elt Ideal)) (x1 : (⟨S1024, .f32⟩ : BufTy).Contents (Elt Ideal))
  (x2 : (⟨S1024x1536, .f32⟩ : BufTy).Contents (Elt Ideal)) (x3 x4 : (⟨S128, .f32⟩ : BufTy).Contents (Elt Ideal))
  (x5 x6 : (⟨S16384x64, .f32⟩ : BufTy).Contents (Elt Ideal))

/-- Row `i` of the projection. -/
def projRow (i : Fin 16384) : Fin 1536 → EReal :=
  dotRow (rmsRow (fun k => x0 (ix2 i k)) (fun k => x1 (ix1 k))) (fun k n => x2 (ix2 k n))

/-- The sum of a row's squares. -/
theorem squares_apply (i : Fin 16384) (z : Fin 1) :
    val_main_v2 (F := Ideal) x0 (ix2 i z) = ∑ k : Fin 1024, x0 (ix2 i k) * x0 (ix2 i k) := by
  rw [val_main_v2_apply, val_main_v1_apply]
  show Ideal.ofBits .f32 0x00000000#32 + _ = _
  rw [Ideal.ofBits_zero_f32, zero_add]
  refine Finset.sum_congr rfl fun k _ => ?_
  rw [val_main_v0_apply, show idx_main_v1 (idx_main_v2 (ix2 i z)) k = ix2 i k from
    funext fun a => match a with | ⟨0, _⟩ => rfl | ⟨1, _⟩ => rfl]
  rfl

/-- The normalized row. -/
theorem norm_apply (i : Fin 16384) (k : Fin 1024) :
    val_main_v12 (F := Ideal) x0 x1 (ix2 i k) = rmsRow (fun j => x0 (ix2 i j)) (fun j => x1 (ix1 j)) k := by
  rw [val_main_v12_apply, val_main_v9_apply, val_main_v8_apply, val_main_v7_apply, val_main_v6_apply, val_main_v4_apply,
    val_main_v3_apply, val_main_v5_apply, val_main_v11_apply, val_main_v10_apply, val_main_cst_0_apply, val_main_cst_1_apply,
    show idx_main_v8 (ix2 i k) = ix2 i 0 from funext fun a => match a with | ⟨0, _⟩ => rfl | ⟨1, _⟩ => rfl,
    squares_apply,
    show idx_main_v10 (idx_main_v11 (ix2 i k)) = ix1 k from funext fun a => match a with | ⟨0, _⟩ => rfl]
  rfl

/-- The projection. -/
theorem proj_apply (i : Fin 16384) (n : Fin 1536) : val_main_v13 (F := Ideal) x0 x1 x2 (ix2 i n) = projRow x0 x1 x2 i n := by
  rw [val_main_v13_apply]
  unfold projRow
  refine Finset.sum_congr rfl fun k _ => ?_
  rw [show lidx_main_v13 (ix2 i n) k = ix2 i k from funext fun a => match a with | ⟨0, _⟩ => rfl | ⟨1, _⟩ => rfl,
    show ridx_main_v13 (ix2 i n) k = ix2 k n from funext fun a => match a with | ⟨0, _⟩ => rfl | ⟨1, _⟩ => rfl,
    norm_apply]

/-- Column `k` of query head `h`, of key head `h`, and of value head `h`, in the projection. -/
def qHead (h : Fin 8) (k : Fin 128) : Fin 1536 := ⟨h.val * 128 + k.val, by have := h.isLt; have := k.isLt; omega⟩
def kHead (h : Fin 2) (k : Fin 128) : Fin 1536 := ⟨1024 + (h.val * 128 + k.val), by have := h.isLt; have := k.isLt; omega⟩
def vHead (h : Fin 2) (k : Fin 128) : Fin 1536 := ⟨1280 + (h.val * 128 + k.val), by have := h.isLt; have := k.isLt; omega⟩

/-- The queries by head. -/
theorem q_apply (i : Fin 16384) (h : Fin 8) (k : Fin 128) :
    val_main_v15 (F := Ideal) x0 x1 x2 (ix3 i h k) = projRow x0 x1 x2 i (qHead h k) := by
  have hi := i.isLt
  have hh := h.isLt
  have hk := k.isLt
  rw [val_main_v15_apply, val_main_v14_apply, show idx_main_v14 (idx_main_v15 (ix3 i h k)) = ix2 i (qHead h k) from
    funext fun a => match a with
      | ⟨0, _⟩ => Fin.ext (by show ((i.val * 8 + h.val) * 128 + k.val) / 1024 = i.val; omega)
      | ⟨1, _⟩ => Fin.ext (by show ((i.val * 8 + h.val) * 128 + k.val) % 1024 = h.val * 128 + k.val; omega), proj_apply]

/-- The sum of the squares of a query head's row. -/
theorem q_squares (i : Fin 16384) (h : Fin 8) (z : Fin 1) :
    val_main_v22 (F := Ideal) x0 x1 x2 (ix3 i h z)
      = ∑ k : Fin 128, projRow x0 x1 x2 i (qHead h k) * projRow x0 x1 x2 i (qHead h k) := by
  rw [val_main_v22_apply, val_main_v21_apply]
  show Ideal.ofBits .f32 0x00000000#32 + _ = _
  rw [Ideal.ofBits_zero_f32, zero_add]
  refine Finset.sum_congr rfl fun k _ => ?_
  rw [val_main_v20_apply, show idx_main_v21 (idx_main_v22 (ix3 i h z)) k = ix3 i h k from
    funext fun a => match a with | ⟨0, _⟩ => rfl | ⟨1, _⟩ => rfl | ⟨2, _⟩ => rfl, q_apply]
  rfl

/-- A query head's row normed. -/
theorem q_norm (i : Fin 16384) (h : Fin 8) (k : Fin 128) :
    val_main_v32 (F := Ideal) x0 x1 x2 x3 (ix3 i h k)
      = headNorm (fun k => projRow x0 x1 x2 i (qHead h k)) (fun k => x3 (ix1 k)) k := by
  rw [val_main_v32_apply, val_main_v29_apply, val_main_v28_apply, val_main_v27_apply, val_main_v26_apply, val_main_v24_apply,
    val_main_v23_apply, val_main_v25_apply, val_main_v31_apply, val_main_v30_apply, val_main_cst_3_apply, val_main_cst_4_apply,
    show idx_main_v28 (ix3 i h k) = ix3 i h 0 from funext fun a => match a with | ⟨0, _⟩ => rfl | ⟨1, _⟩ => rfl | ⟨2, _⟩ => rfl,
    q_squares, q_apply,
    show idx_main_v30 (idx_main_v31 (ix3 i h k)) = ix1 k from funext fun a => match a with | ⟨0, _⟩ => rfl]
  rfl

/-- The first and the second place of each pair. -/
theorem q_first (i : Fin 16384) (h : Fin 8) (p : Fin 64) :
    val_main_v35 (F := Ideal) x0 x1 x2 x3 (ix3 i h p) = val_main_v32 (F := Ideal) x0 x1 x2 x3 (ix3 i h (fst p)) := by
  have hi := i.isLt
  have hh := h.isLt
  have hp := p.isLt
  rw [val_main_v35_apply, val_main_v34_apply, show idx_main_v34 (idx_main_v35 (ix3 i h p)) = ix4 i h p 0 from
    funext fun a => match a with
      | ⟨0, _⟩ => Fin.ext (by show ((i.val * 8 + h.val) * 64 + p.val) / 512 = i.val; omega)
      | ⟨1, _⟩ => Fin.ext (by show ((i.val * 8 + h.val) * 64 + p.val) / 64 % 8 = h.val; omega)
      | ⟨2, _⟩ => Fin.ext (by show ((i.val * 8 + h.val) * 64 + p.val) / 1 % 64 = p.val; omega)
      | ⟨3, _⟩ => rfl,
    val_main_v33_apply, show idx_main_v33 (ix4 i h p 0) = ix3 i h (fst p) from
    funext fun a => match a with
      | ⟨0, _⟩ => Fin.ext (by show (((i.val * 8 + h.val) * 64 + p.val) * 2 + 0) / 1024 = i.val; omega)
      | ⟨1, _⟩ => Fin.ext (by show (((i.val * 8 + h.val) * 64 + p.val) * 2 + 0) / 128 % 8 = h.val; omega)
      | ⟨2, _⟩ => Fin.ext (by show (((i.val * 8 + h.val) * 64 + p.val) * 2 + 0) % 128 = 2 * p.val; omega)]
theorem q_second (i : Fin 16384) (h : Fin 8) (p : Fin 64) :
    val_main_v37 (F := Ideal) x0 x1 x2 x3 (ix3 i h p) = val_main_v32 (F := Ideal) x0 x1 x2 x3 (ix3 i h (snd p)) := by
  have hi := i.isLt
  have hh := h.isLt
  have hp := p.isLt
  rw [val_main_v37_apply, val_main_v36_apply, show idx_main_v36 (idx_main_v37 (ix3 i h p)) = ix4 i h p 1 from
    funext fun a => match a with
      | ⟨0, _⟩ => Fin.ext (by show ((i.val * 8 + h.val) * 64 + p.val) / 512 = i.val; omega)
      | ⟨1, _⟩ => Fin.ext (by show ((i.val * 8 + h.val) * 64 + p.val) / 64 % 8 = h.val; omega)
      | ⟨2, _⟩ => Fin.ext (by show ((i.val * 8 + h.val) * 64 + p.val) / 1 % 64 = p.val; omega)
      | ⟨3, _⟩ => rfl,
    val_main_v33_apply, show idx_main_v33 (ix4 i h p 1) = ix3 i h (snd p) from
    funext fun a => match a with
      | ⟨0, _⟩ => Fin.ext (by show (((i.val * 8 + h.val) * 64 + p.val) * 2 + 1) / 1024 = i.val; omega)
      | ⟨1, _⟩ => Fin.ext (by show (((i.val * 8 + h.val) * 64 + p.val) * 2 + 1) / 128 % 8 = h.val; omega)
      | ⟨2, _⟩ => Fin.ext (by show (((i.val * 8 + h.val) * 64 + p.val) * 2 + 1) % 128 = 2 * p.val + 1; omega)]

/-- The pairs turned: the first places, and the second. -/
theorem q_turn_first (i : Fin 16384) (h : Fin 8) (p : Fin 64) :
    val_main_v44 (F := Ideal) x0 x1 x2 x3 x5 x6 (ix3 i h p)
      = val_main_v32 (F := Ideal) x0 x1 x2 x3 (ix3 i h (fst p)) * x5 (ix2 i p)
        - val_main_v32 (F := Ideal) x0 x1 x2 x3 (ix3 i h (snd p)) * x6 (ix2 i p) := by
  rw [val_main_v44_apply, val_main_v41_apply, val_main_v43_apply, q_first, q_second, val_main_v40_apply, val_main_v42_apply,
    val_main_v38_apply, val_main_v39_apply,
    show idx_main_v38 (idx_main_v40 (ix3 i h p)) = ix2 i p from funext fun a => match a with | ⟨0, _⟩ => rfl | ⟨1, _⟩ => rfl,
    show idx_main_v39 (idx_main_v42 (ix3 i h p)) = ix2 i p from funext fun a => match a with | ⟨0, _⟩ => rfl | ⟨1, _⟩ => rfl]
  rfl
theorem q_turn_second (i : Fin 16384) (h : Fin 8) (p : Fin 64) :
    val_main_v49 (F := Ideal) x0 x1 x2 x3 x5 x6 (ix3 i h p)
      = val_main_v32 (F := Ideal) x0 x1 x2 x3 (ix3 i h (fst p)) * x6 (ix2 i p)
        + val_main_v32 (F := Ideal) x0 x1 x2 x3 (ix3 i h (snd p)) * x5 (ix2 i p) := by
  rw [val_main_v49_apply, val_main_v46_apply, val_main_v48_apply, q_first, q_second, val_main_v45_apply, val_main_v47_apply,
    val_main_v38_apply, val_main_v39_apply,
    show idx_main_v39 (idx_main_v45 (ix3 i h p)) = ix2 i p from funext fun a => match a with | ⟨0, _⟩ => rfl | ⟨1, _⟩ => rfl,
    show idx_main_v38 (idx_main_v47 (ix3 i h p)) = ix2 i p from funext fun a => match a with | ⟨0, _⟩ => rfl | ⟨1, _⟩ => rfl]
  rfl

/-- A query head's row with its pairs turned. -/
theorem q_turn (i : Fin 16384) (h : Fin 8) (j : Fin 128) :
    val_main_v50 (F := Ideal) x0 x1 x2 x3 x5 x6 (ix3 i h j)
      = turn (headNorm (fun k => projRow x0 x1 x2 i (qHead h k)) (fun k => x3 (ix1 k)))
          (fun p => x5 (ix2 i p)) (fun p => x6 (ix2 i p)) j := by
  have hj := j.isLt
  unfold val_main_v50 turn
  by_cases hl : j.val < 64
  · rw [if_pos hl]
    refine (concatenate_pair_apply_left (t := S16384x8x128) (s₁ := S16384x8x64) (s₂ := S16384x8x64) (2 : Fin 3) _ _ _ (ix3 i h j) rfl (ix3 i h (pairOf j) : S16384x8x64.Idx) fun b => ?_).trans ?_
    · match b with
      | ⟨0, _⟩ => rfl
      | ⟨1, _⟩ => rfl
      | ⟨2, _⟩ => show j.val % 64 = j.val; omega
    · rw [q_turn_first, q_norm, q_norm]
  · rw [if_neg hl]
    refine (concatenate_pair_apply_right (t := S16384x8x128) (s₁ := S16384x8x64) (s₂ := S16384x8x64) (2 : Fin 3) _ _ _ (ix3 i h j) rfl rfl (ix3 i h (pairOf j) : S16384x8x64.Idx) (fun b hb => ?_) ?_).trans ?_
    · match b with
      | ⟨0, _⟩ => rfl
      | ⟨1, _⟩ => rfl
      | ⟨2, _⟩ => exact absurd rfl hb
    · show j.val % 64 + 64 = j.val
      omega
    · rw [q_turn_second, q_norm, q_norm]

/-- The queries. -/
theorem q_result (i : Fin 16384) (n : Fin 1024) :
    val_main_v87 (F := Ideal) x0 x1 x2 x3 x5 x6 (ix2 i n)
      = turn (headNorm (fun k => projRow x0 x1 x2 i (qCol n k)) (fun k => x3 (ix1 k)))
          (fun p => x5 (ix2 i p)) (fun p => x6 (ix2 i p)) (place n) * Ideal.ofBits .f32 0x3DB504F3#32 := by
  have hi := i.isLt
  have hn := n.isLt
  rw [val_main_v87_apply, val_main_v86_apply,
    show idx_main_v86 (ix2 i n) = ix3 i (⟨n.val / 128, by omega⟩ : Fin 8) (place n) from
    funext fun a => match a with
      | ⟨0, _⟩ => Fin.ext (by show (i.val * 1024 + n.val) / 1024 = i.val; omega)
      | ⟨1, _⟩ => Fin.ext (by show (i.val * 1024 + n.val) / 128 % 8 = n.val / 128; omega)
      | ⟨2, _⟩ => Fin.ext (by show (i.val * 1024 + n.val) % 128 = n.val % 128; omega),
    val_main_v52_apply, q_turn, val_main_v51_apply, val_main_cst_5_apply]
  rfl

/-- The keys by head. -/
theorem k_apply (i : Fin 16384) (h : Fin 2) (k : Fin 128) :
    val_main_v17 (F := Ideal) x0 x1 x2 (ix3 i h k) = projRow x0 x1 x2 i (kHead h k) := by
  have hi := i.isLt
  have hh := h.isLt
  have hk := k.isLt
  rw [val_main_v17_apply, val_main_v16_apply, show idx_main_v16 (idx_main_v17 (ix3 i h k)) = ix2 i (kHead h k) from
    funext fun a => match a with
      | ⟨0, _⟩ => Fin.ext (by show ((i.val * 2 + h.val) * 128 + k.val) / 256 = i.val; omega)
      | ⟨1, _⟩ => Fin.ext (by show 1024 + (((i.val * 2 + h.val) * 128 + k.val) % 256) = 1024 + (h.val * 128 + k.val); omega), proj_apply]

/-- The sum of the squares of a key head's row. -/
theorem k_squares (i : Fin 16384) (h : Fin 2) (z : Fin 1) :
    val_main_v55 (F := Ideal) x0 x1 x2 (ix3 i h z)
      = ∑ k : Fin 128, projRow x0 x1 x2 i (kHead h k) * projRow x0 x1 x2 i (kHead h k) := by
  rw [val_main_v55_apply, val_main_v54_apply]
  show Ideal.ofBits .f32 0x00000000#32 + _ = _
  rw [Ideal.ofBits_zero_f32, zero_add]
  refine Finset.sum_congr rfl fun k _ => ?_
  rw [val_main_v53_apply, show idx_main_v54 (idx_main_v55 (ix3 i h z)) k = ix3 i h k from
    funext fun a => match a with | ⟨0, _⟩ => rfl | ⟨1, _⟩ => rfl | ⟨2, _⟩ => rfl, k_apply]
  rfl

/-- A key head's row normed. -/
theorem k_norm (i : Fin 16384) (h : Fin 2) (k : Fin 128) :
    val_main_v65 (F := Ideal) x0 x1 x2 x4 (ix3 i h k)
      = headNorm (fun k => projRow x0 x1 x2 i (kHead h k)) (fun k => x4 (ix1 k)) k := by
  rw [val_main_v65_apply, val_main_v62_apply, val_main_v61_apply, val_main_v60_apply, val_main_v59_apply, val_main_v57_apply,
    val_main_v56_apply, val_main_v58_apply, val_main_v64_apply, val_main_v63_apply, val_main_cst_7_apply, val_main_cst_8_apply,
    show idx_main_v61 (ix3 i h k) = ix3 i h 0 from funext fun a => match a with | ⟨0, _⟩ => rfl | ⟨1, _⟩ => rfl | ⟨2, _⟩ => rfl,
    k_squares, k_apply,
    show idx_main_v63 (idx_main_v64 (ix3 i h k)) = ix1 k from funext fun a => match a with | ⟨0, _⟩ => rfl]
  rfl

/-- The first and the second place of each pair. -/
theorem k_first (i : Fin 16384) (h : Fin 2) (p : Fin 64) :
    val_main_v68 (F := Ideal) x0 x1 x2 x4 (ix3 i h p) = val_main_v65 (F := Ideal) x0 x1 x2 x4 (ix3 i h (fst p)) := by
  have hi := i.isLt
  have hh := h.isLt
  have hp := p.isLt
  rw [val_main_v68_apply, val_main_v67_apply, show idx_main_v67 (idx_main_v68 (ix3 i h p)) = ix4 i h p 0 from
    funext fun a => match a with
      | ⟨0, _⟩ => Fin.ext (by show ((i.val * 2 + h.val) * 64 + p.val) / 128 = i.val; omega)
      | ⟨1, _⟩ => Fin.ext (by show ((i.val * 2 + h.val) * 64 + p.val) / 64 % 2 = h.val; omega)
      | ⟨2, _⟩ => Fin.ext (by show ((i.val * 2 + h.val) * 64 + p.val) / 1 % 64 = p.val; omega)
      | ⟨3, _⟩ => rfl,
    val_main_v66_apply, show idx_main_v66 (ix4 i h p 0) = ix3 i h (fst p) from
    funext fun a => match a with
      | ⟨0, _⟩ => Fin.ext (by show (((i.val * 2 + h.val) * 64 + p.val) * 2 + 0) / 256 = i.val; omega)
      | ⟨1, _⟩ => Fin.ext (by show (((i.val * 2 + h.val) * 64 + p.val) * 2 + 0) / 128 % 2 = h.val; omega)
      | ⟨2, _⟩ => Fin.ext (by show (((i.val * 2 + h.val) * 64 + p.val) * 2 + 0) % 128 = 2 * p.val; omega)]
theorem k_second (i : Fin 16384) (h : Fin 2) (p : Fin 64) :
    val_main_v70 (F := Ideal) x0 x1 x2 x4 (ix3 i h p) = val_main_v65 (F := Ideal) x0 x1 x2 x4 (ix3 i h (snd p)) := by
  have hi := i.isLt
  have hh := h.isLt
  have hp := p.isLt
  rw [val_main_v70_apply, val_main_v69_apply, show idx_main_v69 (idx_main_v70 (ix3 i h p)) = ix4 i h p 1 from
    funext fun a => match a with
      | ⟨0, _⟩ => Fin.ext (by show ((i.val * 2 + h.val) * 64 + p.val) / 128 = i.val; omega)
      | ⟨1, _⟩ => Fin.ext (by show ((i.val * 2 + h.val) * 64 + p.val) / 64 % 2 = h.val; omega)
      | ⟨2, _⟩ => Fin.ext (by show ((i.val * 2 + h.val) * 64 + p.val) / 1 % 64 = p.val; omega)
      | ⟨3, _⟩ => rfl,
    val_main_v66_apply, show idx_main_v66 (ix4 i h p 1) = ix3 i h (snd p) from
    funext fun a => match a with
      | ⟨0, _⟩ => Fin.ext (by show (((i.val * 2 + h.val) * 64 + p.val) * 2 + 1) / 256 = i.val; omega)
      | ⟨1, _⟩ => Fin.ext (by show (((i.val * 2 + h.val) * 64 + p.val) * 2 + 1) / 128 % 2 = h.val; omega)
      | ⟨2, _⟩ => Fin.ext (by show (((i.val * 2 + h.val) * 64 + p.val) * 2 + 1) % 128 = 2 * p.val + 1; omega)]

/-- The pairs turned: the first places, and the second. -/
theorem k_turn_first (i : Fin 16384) (h : Fin 2) (p : Fin 64) :
    val_main_v77 (F := Ideal) x0 x1 x2 x4 x5 x6 (ix3 i h p)
      = val_main_v65 (F := Ideal) x0 x1 x2 x4 (ix3 i h (fst p)) * x5 (ix2 i p)
        - val_main_v65 (F := Ideal) x0 x1 x2 x4 (ix3 i h (snd p)) * x6 (ix2 i p) := by
  rw [val_main_v77_apply, val_main_v74_apply, val_main_v76_apply, k_first, k_second, val_main_v73_apply, val_main_v75_apply,
    val_main_v71_apply, val_main_v72_apply,
    show idx_main_v71 (idx_main_v73 (ix3 i h p)) = ix2 i p from funext fun a => match a with | ⟨0, _⟩ => rfl | ⟨1, _⟩ => rfl,
    show idx_main_v72 (idx_main_v75 (ix3 i h p)) = ix2 i p from funext fun a => match a with | ⟨0, _⟩ => rfl | ⟨1, _⟩ => rfl]
  rfl
theorem k_turn_second (i : Fin 16384) (h : Fin 2) (p : Fin 64) :
    val_main_v82 (F := Ideal) x0 x1 x2 x4 x5 x6 (ix3 i h p)
      = val_main_v65 (F := Ideal) x0 x1 x2 x4 (ix3 i h (fst p)) * x6 (ix2 i p)
        + val_main_v65 (F := Ideal) x0 x1 x2 x4 (ix3 i h (snd p)) * x5 (ix2 i p) := by
  rw [val_main_v82_apply, val_main_v79_apply, val_main_v81_apply, k_first, k_second, val_main_v78_apply, val_main_v80_apply,
    val_main_v71_apply, val_main_v72_apply,
    show idx_main_v72 (idx_main_v78 (ix3 i h p)) = ix2 i p from funext fun a => match a with | ⟨0, _⟩ => rfl | ⟨1, _⟩ => rfl,
    show idx_main_v71 (idx_main_v80 (ix3 i h p)) = ix2 i p from funext fun a => match a with | ⟨0, _⟩ => rfl | ⟨1, _⟩ => rfl]
  rfl

/-- A key head's row with its pairs turned. -/
theorem k_turn (i : Fin 16384) (h : Fin 2) (j : Fin 128) :
    val_main_v83 (F := Ideal) x0 x1 x2 x4 x5 x6 (ix3 i h j)
      = turn (headNorm (fun k => projRow x0 x1 x2 i (kHead h k)) (fun k => x4 (ix1 k)))
          (fun p => x5 (ix2 i p)) (fun p => x6 (ix2 i p)) j := by
  have hj := j.isLt
  unfold val_main_v83 turn
  by_cases hl : j.val < 64
  · rw [if_pos hl]
    refine (concatenate_pair_apply_left (t := S16384x2x128) (s₁ := S16384x2x64) (s₂ := S16384x2x64) (2 : Fin 3) _ _ _ (ix3 i h j) rfl (ix3 i h (pairOf j) : S16384x2x64.Idx) fun b => ?_).trans ?_
    · match b with
      | ⟨0, _⟩ => rfl
      | ⟨1, _⟩ => rfl
      | ⟨2, _⟩ => show j.val % 64 = j.val; omega
    · rw [k_turn_first, k_norm, k_norm]
  · rw [if_neg hl]
    refine (concatenate_pair_apply_right (t := S16384x2x128) (s₁ := S16384x2x64) (s₂ := S16384x2x64) (2 : Fin 3) _ _ _ (ix3 i h j) rfl rfl (ix3 i h (pairOf j) : S16384x2x64.Idx) (fun b hb => ?_) ?_).trans ?_
    · match b with
      | ⟨0, _⟩ => rfl
      | ⟨1, _⟩ => rfl
      | ⟨2, _⟩ => exact absurd rfl hb
    · show j.val % 64 + 64 = j.val
      omega
    · rw [k_turn_second, k_norm, k_norm]

/-- The keys. -/
theorem k_result (i : Fin 16384) (n : Fin 256) :
    val_main_v89 (F := Ideal) x0 x1 x2 x4 x5 x6 (ix2 i n)
      = turn (headNorm (fun k => projRow x0 x1 x2 i (kCol n k)) (fun k => x4 (ix1 k)))
          (fun p => x5 (ix2 i p)) (fun p => x6 (ix2 i p)) (place n) := by
  have hi := i.isLt
  have hn := n.isLt
  rw [val_main_v89_apply, val_main_v88_apply,
    show idx_main_v88 (ix2 i n) = ix3 i (⟨n.val / 128, by omega⟩ : Fin 2) (place n) from
    funext fun a => match a with
      | ⟨0, _⟩ => Fin.ext (by show (i.val * 256 + n.val) / 256 = i.val; omega)
      | ⟨1, _⟩ => Fin.ext (by show (i.val * 256 + n.val) / 128 % 2 = n.val / 128; omega)
      | ⟨2, _⟩ => Fin.ext (by show (i.val * 256 + n.val) % 128 = n.val % 128; omega),
    k_turn]
  have e : (fun k => projRow x0 x1 x2 i (kHead (⟨n.val / 128, by omega⟩ : Fin 2) k)) = fun k => projRow x0 x1 x2 i (kCol n k) :=
    funext fun k => congrArg (projRow x0 x1 x2 i) (Fin.ext (by show 1024 + (n.val / 128 * 128 + k.val) = 1024 + n.val / 128 * 128 + k.val; omega))
  show turn _ _ _ _ = _
  rw [e]

/-- The values by head. -/
theorem v_apply (i : Fin 16384) (h : Fin 2) (k : Fin 128) :
    val_main_v19 (F := Ideal) x0 x1 x2 (ix3 i h k) = projRow x0 x1 x2 i (vHead h k) := by
  have hi := i.isLt
  have hh := h.isLt
  have hk := k.isLt
  rw [val_main_v19_apply, val_main_v18_apply, show idx_main_v18 (idx_main_v19 (ix3 i h k)) = ix2 i (vHead h k) from
    funext fun a => match a with
      | ⟨0, _⟩ => Fin.ext (by show ((i.val * 2 + h.val) * 128 + k.val) / 256 = i.val; omega)
      | ⟨1, _⟩ => Fin.ext (by show 1280 + ((i.val * 2 + h.val) * 128 + k.val) % 256 = 1280 + (h.val * 128 + k.val); omega), proj_apply]

/-- The values, and the ones beside them, by head. -/
theorem v_wide (i : Fin 16384) (h : Fin 2) (j : Fin 256) :
    val_main_v85 (F := Ideal) x0 x1 x2 (ix3 i h j)
      = if j.val < 128 then projRow x0 x1 x2 i (vHead h (place j)) else 1 := by
  have hj := j.isLt
  unfold val_main_v85
  by_cases hl : j.val < 128
  · rw [if_pos hl]
    refine (concatenate_pair_apply_left (t := S16384x2x256) (s₁ := S16384x2x128) (s₂ := S16384x2x128) (2 : Fin 3) _ _ _ (ix3 i h j) rfl (ix3 i h (place j) : S16384x2x128.Idx) fun b => ?_).trans (v_apply x0 x1 x2 i h (place j))
    match b with
    | ⟨0, _⟩ => rfl
    | ⟨1, _⟩ => rfl
    | ⟨2, _⟩ => show j.val % 128 = j.val; omega
  · rw [if_neg hl]
    refine (concatenate_pair_apply_right (t := S16384x2x256) (s₁ := S16384x2x128) (s₂ := S16384x2x128) (2 : Fin 3) _ _ _ (ix3 i h j) rfl rfl (ix3 i h (place j) : S16384x2x128.Idx) (fun b hb => ?_) ?_).trans ?_
    · match b with
      | ⟨0, _⟩ => rfl
      | ⟨1, _⟩ => rfl
      | ⟨2, _⟩ => exact absurd rfl hb
    · show j.val % 128 + 128 = j.val
      omega
    · rw [val_main_v84_apply, val_main_cst_9_apply]
      exact Ideal.ofBits_one_f32

/-- The values with their columns of ones. -/
theorem v_result (i : Fin 16384) (n : Fin 512) :
    val_main_v91 (F := Ideal) x0 x1 x2 (ix2 i n) = if n.val % 256 < 128 then projRow x0 x1 x2 i (vCol n) else 1 := by
  have hi := i.isLt
  have hn := n.isLt
  rw [val_main_v91_apply, val_main_v90_apply,
    show idx_main_v90 (ix2 i n) = ix3 i (⟨n.val / 256, by omega⟩ : Fin 2) (⟨n.val % 256, by omega⟩ : Fin 256) from
    funext fun a => match a with
      | ⟨0, _⟩ => Fin.ext (by show (i.val * 512 + n.val) / 512 = i.val; omega)
      | ⟨1, _⟩ => Fin.ext (by show (i.val * 512 + n.val) / 256 % 2 = n.val / 256; omega)
      | ⟨2, _⟩ => Fin.ext (by show (i.val * 512 + n.val) % 256 = n.val % 256; omega),
    v_wide]
  have e : vHead (⟨n.val / 256, by omega⟩ : Fin 2) (place (⟨n.val % 256, by omega⟩ : Fin 256)) = vCol n :=
    Fin.ext (by show 1280 + (n.val / 256 * 128 + n.val % 256 % 128) = 1280 + n.val / 256 * 128 + n.val % 128; omega)
  rw [e]
  rfl

end QkvRead

end
-- ==== Proof.QkvClaim.lean ====
/- The call of queries, keys and values: its kernel and its reference end with the same three arrays. -/
module

public import proofs.«01_k».proof.Defs
public import proofs.«01_k».proof.Proof.QkvArray
public import proofs.«01_k».proof.Proof.QkvRead
public import proofs.«01_k».proof.Proof.Gen.QkvRefIdeal.Run

@[expose] public section

noncomputable section

open Idealize.ShloMosaic Idealize.ShloMosaic.ValueIdx Idealize.ShloMosaic.TcCoe Idealize.SL.Sem RowMath

namespace QkvClaim

local instance : Cert.QkvIdeal.Facts := Cert.QkvIdeal.Gen.facts
local instance : Cert.QkvRefIdeal.Facts := Cert.QkvRefIdeal.Gen.facts

/-- The reference runs, leaves its arguments as they were and declares no semaphore. -/
theorem frame_reference : Cert.quiescent_QkvRefIdeal := fun m g _ =>
  (θ_run Cert.QkvRefIdeal.defs _ _).mono (fun r h => ⟨fun c => (h c).2.2.2, sem_eq_zero_of_no_sems (by decide) r.2⟩)
    (Cert.QkvRefIdeal.Value.run m g)

/-- The two programs start from equal arguments. -/
def Args (m : (ℓ : Loc Cert.QkvIdeal.nD Cert.QkvIdeal.τ Cert.QkvIdeal.sig) → Buf (Elt Ideal) ℓ)
    (m' : (ℓ : Loc Cert.QkvRefIdeal.nD Cert.QkvRefIdeal.τ Cert.QkvRefIdeal.sig) → Buf (Elt Ideal) ℓ) (c : Dev Cert.QkvIdeal.nD) : Prop :=
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0) ∧
      m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1) ∧
      m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2) ∧
      m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3) ∧
      m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4) ∧
      m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5) ∧
      m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)

/-- On equal arguments the reference's queries are those the kernel's blocks make up. -/
theorem reference_q (m : (ℓ : Loc Cert.QkvIdeal.nD Cert.QkvIdeal.τ Cert.QkvIdeal.sig) → Buf (Elt Ideal) ℓ)
    (m' : (ℓ : Loc Cert.QkvRefIdeal.nD Cert.QkvRefIdeal.τ Cert.QkvRefIdeal.sig) → Buf (Elt Ideal) ℓ)
    (c : Dev Cert.QkvIdeal.nD) (h : Args m m' c) :
    Cert.QkvRefIdeal.Read.val_main_v87 (F := Ideal) (m' ((c.tc : Thread Cert.QkvRefIdeal.nD Cert.QkvRefIdeal.τ).loc Cert.QkvRefIdeal.main_arg0))
      (m' ((c.tc : Thread Cert.QkvRefIdeal.nD Cert.QkvRefIdeal.τ).loc Cert.QkvRefIdeal.main_arg1))
      (m' ((c.tc : Thread Cert.QkvRefIdeal.nD Cert.QkvRefIdeal.τ).loc Cert.QkvRefIdeal.main_arg2))
      (m' ((c.tc : Thread Cert.QkvRefIdeal.nD Cert.QkvRefIdeal.τ).loc Cert.QkvRefIdeal.main_arg3))
      (m' ((c.tc : Thread Cert.QkvRefIdeal.nD Cert.QkvRefIdeal.τ).loc Cert.QkvRefIdeal.main_arg5))
      (m' ((c.tc : Thread Cert.QkvRefIdeal.nD Cert.QkvRefIdeal.τ).loc Cert.QkvRefIdeal.main_arg6))
      = QkvArray.GQ m c := by
  obtain ⟨h0, h1, h2, h3, h4, h5, h6⟩ := h
  rw [h0, h1, h2, h3, h5, h6]
  refine funext fun y => ?_
  obtain ⟨i, j, rfl⟩ : ∃ (i : Fin 16384) (j : Fin 1024), y = ix2 i j := ⟨y 0, y 1, eq_ix2 y⟩
  exact QkvRead.q_result _ _ _ _ _ _ i j

/-- On equal arguments the reference's keys are those the kernel's blocks make up. -/
theorem reference_k (m : (ℓ : Loc Cert.QkvIdeal.nD Cert.QkvIdeal.τ Cert.QkvIdeal.sig) → Buf (Elt Ideal) ℓ)
    (m' : (ℓ : Loc Cert.QkvRefIdeal.nD Cert.QkvRefIdeal.τ Cert.QkvRefIdeal.sig) → Buf (Elt Ideal) ℓ)
    (c : Dev Cert.QkvIdeal.nD) (h : Args m m' c) :
    Cert.QkvRefIdeal.Read.val_main_v89 (F := Ideal) (m' ((c.tc : Thread Cert.QkvRefIdeal.nD Cert.QkvRefIdeal.τ).loc Cert.QkvRefIdeal.main_arg0))
      (m' ((c.tc : Thread Cert.QkvRefIdeal.nD Cert.QkvRefIdeal.τ).loc Cert.QkvRefIdeal.main_arg1))
      (m' ((c.tc : Thread Cert.QkvRefIdeal.nD Cert.QkvRefIdeal.τ).loc Cert.QkvRefIdeal.main_arg2))
      (m' ((c.tc : Thread Cert.QkvRefIdeal.nD Cert.QkvRefIdeal.τ).loc Cert.QkvRefIdeal.main_arg4))
      (m' ((c.tc : Thread Cert.QkvRefIdeal.nD Cert.QkvRefIdeal.τ).loc Cert.QkvRefIdeal.main_arg5))
      (m' ((c.tc : Thread Cert.QkvRefIdeal.nD Cert.QkvRefIdeal.τ).loc Cert.QkvRefIdeal.main_arg6))
      = QkvArray.GK m c := by
  obtain ⟨h0, h1, h2, h3, h4, h5, h6⟩ := h
  rw [h0, h1, h2, h4, h5, h6]
  refine funext fun y => ?_
  obtain ⟨i, j, rfl⟩ : ∃ (i : Fin 16384) (j : Fin 256), y = ix2 i j := ⟨y 0, y 1, eq_ix2 y⟩
  exact QkvRead.k_result _ _ _ _ _ _ i j

/-- On equal arguments the reference's values, with their columns of ones, are those the kernel's blocks make up. -/
theorem reference_v (m : (ℓ : Loc Cert.QkvIdeal.nD Cert.QkvIdeal.τ Cert.QkvIdeal.sig) → Buf (Elt Ideal) ℓ)
    (m' : (ℓ : Loc Cert.QkvRefIdeal.nD Cert.QkvRefIdeal.τ Cert.QkvRefIdeal.sig) → Buf (Elt Ideal) ℓ)
    (c : Dev Cert.QkvIdeal.nD) (h : Args m m' c) :
    Cert.QkvRefIdeal.Read.val_main_v91 (F := Ideal) (m' ((c.tc : Thread Cert.QkvRefIdeal.nD Cert.QkvRefIdeal.τ).loc Cert.QkvRefIdeal.main_arg0))
      (m' ((c.tc : Thread Cert.QkvRefIdeal.nD Cert.QkvRefIdeal.τ).loc Cert.QkvRefIdeal.main_arg1))
      (m' ((c.tc : Thread Cert.QkvRefIdeal.nD Cert.QkvRefIdeal.τ).loc Cert.QkvRefIdeal.main_arg2))
      = QkvArray.GV m c := by
  obtain ⟨h0, h1, h2, h3, h4, h5, h6⟩ := h
  rw [h0, h1, h2]
  refine funext fun y => ?_
  obtain ⟨i, j, rfl⟩ : ∃ (i : Fin 16384) (j : Fin 512), y = ix2 i j := ⟨y 0, y 1, eq_ix2 y⟩
  exact QkvRead.v_result _ _ _ i j

/-- On equal arguments the two programs end with the same queries, keys and values. -/
theorem algebraic : Cert.algebraic_QkvIdeal_QkvRefIdeal := fun m g m' g' _ hargs =>
  ⟨fun c => QkvArray.GQ m c, fun c => QkvArray.GK m c, fun c => QkvArray.GV m c,
    (θ_run Cert.QkvIdeal.defs _ _).mono
      (fun _ h c => ⟨(h c).1.trans (QkvArray.final_q m c), (h c).2.1.trans (QkvArray.final_k m c),
        (h c).2.2.1.trans (QkvArray.final_v m c), (h c).2.2.2⟩)
      (Cert.QkvIdeal.Value.run_blocks m g),
    (θ_run Cert.QkvRefIdeal.defs _ _).mono
      (fun _ h c => ⟨((h c).1.trans (Cert.QkvRefIdeal.Read.val_main_v87_eq m' c)).trans (reference_q m m' c (hargs c)),
        ((h c).2.1.trans (Cert.QkvRefIdeal.Read.val_main_v89_eq m' c)).trans (reference_k m m' c (hargs c)),
        ((h c).2.2.1.trans (Cert.QkvRefIdeal.Read.val_main_v91_eq _ _ _)).trans (reference_v m m' c (hargs c)), (h c).2.2.2⟩)
      (Cert.QkvRefIdeal.Value.run m' g')⟩

end QkvClaim

end
-- ==== Proof.GatingMath.lean ====
/- The first projection of a mixing layer, on the extended reals: its half that is transformed along the channels of each group, and
   its half that is gated by a mixture of the rows of a chunk. -/
module

public import proofs.«01_k».proof.Proof.RotaryMath

@[expose] public section

noncomputable section

open Idealize.ShloMosaic Idealize.ShloMosaic.ValueIdx RowMath RotaryMath
open scoped BigOperators

namespace GatingMath

/-- The smooth gate by a hyperbolic tangent. -/
def gelu (a : EReal) : EReal :=
  a * (Ideal.ofBits .f32 0x3F000000#32 * (Ideal.ofBits .f32 0x3F800000#32
    + Ideal.tanh (Ideal.ofBits .f32 0x3F4C422A#32 * (a + Ideal.ofBits .f32 0x3D372713#32 * (a * a * a)))))

/-- The group of column `n`. -/
def group (n : Fin 512) : Fin 4 := ⟨n.val / 128, by have := n.isLt; omega⟩
/-- Column `k` of the group of column `n`: of the transformed part, of the mixed part once gated, and of the group's weights. -/
def fCol (n : Fin 512) (k : Fin 128) : Fin 1536 := ⟨n.val / 128 * 128 + k.val, by have := n.isLt; have := k.isLt; omega⟩
def mCol (n : Fin 512) (k : Fin 128) : Fin 1024 := ⟨512 + n.val / 128 * 128 + k.val, by have := n.isLt; have := k.isLt; omega⟩
def gCol (n : Fin 512) (k : Fin 128) : Fin 512 := ⟨n.val / 128 * 128 + k.val, by have := n.isLt; have := k.isLt; omega⟩
/-- The column that is gated by the mixture. -/
def uCol (n : Fin 512) : Fin 1024 := ⟨n.val, by have := n.isLt; omega⟩
/-- The columns of the projection that go through the smooth gate. -/
def late (j : Fin 1024) : Fin 1536 := ⟨512 + j.val, by have := j.isLt; omega⟩
/-- The column of the table that column `n` of part `a` of the transform is a product with. -/
def tableCol (a : Fin 2) (n : Fin 512) : Fin 256 := ⟨a.val * 128 + n.val % 128, by have := a.isLt; omega⟩

/-- Row `q` of the chunk of 128 rows that row `r` lies in: in a block, and in the whole array. -/
def chunk (r : Fin 256) (q : Fin 128) : Fin 256 := ⟨r.val / 128 * 128 + q.val, by have := r.isLt; have := q.isLt; omega⟩
def chunkRow (i : Fin 16384) (q : Fin 128) : Fin 16384 := ⟨i.val / 128 * 128 + q.val, by have := i.isLt; have := q.isLt; omega⟩

/-- A gated value: the weighted sum over the chunk's rows and the offset, times the value that is gated. -/
def gated (u : EReal) (w v : Fin 128 → EReal) (b : EReal) : EReal := u * ((∑ q, w q * v q) + b)

/-- Part `a` of the transform at a row and a column, from the row of the projection. -/
def zVal (P : Fin 1536 → EReal) (w : Fin 128 → Fin 256 → EReal) (a : Fin 2) (n : Fin 512) : EReal :=
  dotRow (fun k => P (fCol n k)) w (tableCol a n)

/-- A slice of a matrix. -/
theorem cut_apply {M N A B : ℕ} {α : Type} (o p : ℕ) (x : (⟨2, ![M, N]⟩ : Shape).Idx → α)
    (h : Shape.Slices ⟨2, ![M, N]⟩ ![o, p] ⟨2, ![A, B]⟩) (r : Fin A) (k : Fin B) (r' : Fin M) (k' : Fin N)
    (hr : r'.val = o + r.val) (hk : k'.val = p + k.val) : extractStridedSlice ⟨2, ![A, B]⟩ ![o, p] x h (ix2 r k) = x (ix2 r' k') :=
  extractStridedSlice_apply _ x h (ix2 r k) (ix2 r' k') fun a => match a with
    | ⟨0, _⟩ => hr
    | ⟨1, _⟩ => hk

end GatingMath

end
-- ==== Proof.GatingBlock.lean ====
/- One block of 256 rows of a mixing layer's first projection: what the body computes at a row and a column. -/
module

public import proofs.«01_k».proof.Proof.Gen.GatingIdeal.Value
public import proofs.«01_k».proof.Proof.GatingMath
public import proofs.«01_k».proof.Proof.QkvBlock
public import Idealize.ShloMosaic.Lib.KernelVsHost
public import Idealize.ShloMosaic.Lib.IdealHost

@[expose] public section

noncomputable section

open Idealize.ShloMosaic Idealize.ShloMosaic.ValueIdx Idealize.ShloMosaic.TcCoe RowMath RotaryMath GatingMath

namespace GatingBlock

open Cert.GatingIdeal Cert.GatingIdeal.Gen Cert.GatingIdeal.Value

/-- The norm of a block of a group's rows, as the kernel's vector operations compute it. -/
def normVec (x : FVec Ideal S256x128 .f32) (g : FVec Ideal S1x128 .f32) : FVec Ideal S256x128 .bf16 :=
  truncf .bf16 (mulf (mulf x (broadcastTo S256x128 (rsqrt (addf (divf (shapeCast S256x1
      (multiReduction .add [1] S256 (mulf x x) 0x00000000#32 reduces_S256x128_S256 (.inl rfl) rfl) shapeCasts_S256_S256x1)
      (broadcast S256x1 (Scalar.ofBits .f32 0x43000000#32))) (broadcast S256x1 (Scalar.ofBits .f32 0x358637BD#32))))
      broadcasts_S256x1_S256x128)) (broadcastTo S256x128 g broadcasts_S1x128_S256x128)) bitsLt_bf16_f32

/-- One part of one group's transform: the group's columns times the table, and one half of the product's columns. -/
def tableVec (o b : ℕ) (P : FVec Ideal S256x1536 .f32) (w : FVec Ideal S128x256 .bf16) (h : Shape.Slices S256x1536 ![0, o] S256x128)
    (h' : Shape.Slices S256x256 ![0, b] S256x128) : FVec Ideal S1x256x128 .bf16 :=
  shapeCast S1x256x128 (truncf .bf16 (extractStridedSlice S256x128 ![0, b]
    (matmul dot_S256x128_S128x256_S256x256_1_0_0_1_n_n none (truncf .bf16 (extractStridedSlice S256x128 ![0, o] P h) bitsLt_bf16_f32) w
      (constant S256x256 .f32 0x00000000#32)) h') bitsLt_bf16_f32) shapeCasts_S256x128_S1x256x128

/-- One chunk of one group's gated values: the chunk's weights times its normed rows, the offsets, times the rows that are gated. -/
def gateVec (o : ℕ) (u : FVec Ideal S256x128 .f32) (v : FVec Ideal S256x128 .bf16) (w : FVec Ideal S1x128x128 .bf16)
    (b : FVec Ideal S1x128x128 .f32) (h : Shape.Slices S256x128 ![o, 0] S128x128) : FVec Ideal S128x128 .bf16 :=
  truncf .bf16 (mulf (extractStridedSlice S128x128 ![o, 0] u h)
    (addf (matmul dot_S128x128_S128x128_S128x128_1_0_0_1_n_n none (shapeCast S128x128 w shapeCasts_S1x128x128_S128x128)
      (extractStridedSlice S128x128 ![o, 0] v h) (constant S128x128 .f32 0x00000000#32))
      (shapeCast S128x128 b shapeCasts_S1x128x128_S128x128))) bitsLt_bf16_f32

/-- The norm of a block of a group's rows. -/
theorem normVec_apply (x : FVec Ideal S256x128 .f32) (g : FVec Ideal S1x128 .f32) (r : Fin 256) (k : Fin 128) :
    normVec x g (ix2 r k) = headNorm (fun j => x (ix2 r j)) (fun j => g (ix2 0 j)) k :=
  QkvBlock.norm128_apply x g _ _ _ _ _ _ r k

/-- The projection at a row and a column. -/
theorem proj_apply (x : Vec Ideal S256x1024 .f32) (g : Vec Ideal S1x1024 .f32) (w : Vec Ideal S1024x1536 .bf16) (r : Fin 256) (n : Fin 1536) :
    k0_pay4 (F := Ideal) x g w (ix2 r n)
      = dotRow (rmsRow (fun k => x (ix2 r k)) (fun k => g (ix2 0 k))) (fun k n => w (ix2 k n)) n := by
  unfold k0_pay4
  dsimp only
  simp only [shapeCast_self]
  refine (mm_apply dot_S256x1024_S1024x1536_S256x1536_1_0_0_1_n_n rfl _ _ r n).trans ?_
  exact congrArg (fun h => dotRow h (fun k n => w (ix2 k n)) n) (funext fun k => rms_apply x g _ _ _ _ _ _ r k)

/-- The gated half of the projection at a row and a column. -/
theorem gelu_apply (P : FVec Ideal S256x1536 .f32) (r : Fin 256) (j : Fin 1024) :
    k0_pay18 (F := Ideal) P (ix2 r j) = gelu (P (ix2 r (late j))) := by
  refine Eq.trans ?_ (congrArg gelu (cut_apply 0 512 P slices_S256x1536_o0_512_S256x1024 r j r (late j) (by omega) rfl))
  unfold k0_pay18
  rfl

/-- One part of one group's transform at a row and a column. -/
theorem tableVec_apply (o b : ℕ) (P : FVec Ideal S256x1536 .f32) (w : FVec Ideal S128x256 .bf16)
    (h : Shape.Slices S256x1536 ![0, o] S256x128) (h' : Shape.Slices S256x256 ![0, b] S256x128) (z : Fin 1) (r : Fin 256) (d : Fin 128)
    (n : Fin 256) (hn : n.val = b + d.val) (f : Fin 128 → Fin 1536) (hf : ∀ k, (f k).val = o + k.val) :
    tableVec o b P w h h' (ix3 z r d) = dotRow (fun k => P (ix2 r (f k))) (fun k n => w (ix2 k n)) n := by
  unfold tableVec
  refine (shapeCast_apply _ _ _ (ix2 r d) ?_).trans ?_
  · rw [Shape.rowMajor_val_two, Shape.rowMajor_val_three]
    have hz := z.isLt
    show r.val * 128 + d.val = (z.val * 256 + r.val) * 128 + d.val
    omega
  show extractStridedSlice S256x128 ![0, b] (matmul dot_S256x128_S128x256_S256x256_1_0_0_1_n_n none
    (truncf .bf16 (extractStridedSlice S256x128 ![0, o] P h) bitsLt_bf16_f32) w (constant S256x256 .f32 0x00000000#32)) h' (ix2 r d) = _
  refine (cut_apply 0 b _ h' r d r n (by omega) hn).trans ?_
  refine (mm_apply dot_S256x128_S128x256_S256x256_1_0_0_1_n_n rfl _ _ r n).trans ?_
  exact congrArg (fun y => dotRow y (fun k n => w (ix2 k n)) n) (funext fun k => cut_apply 0 o P h r k r (f k) (by omega) (hf k))

/-- A slab of 128 rows and columns read as a matrix. -/
theorem slab_apply {α : Type} (x : S1x128x128.Idx → α) (p q : Fin 128) :
    shapeCast S128x128 x shapeCasts_S1x128x128_S128x128 (ix2 p q) = x (ix3 0 p q) := by
  refine shapeCast_apply _ _ _ (ix3 0 p q) ?_
  rw [Shape.rowMajor_val_two, Shape.rowMajor_val_three]
  show ((0 : Fin 1).val * 128 + p.val) * 128 + q.val = p.val * 128 + q.val
  omega

/-- One chunk of one group's gated values at a row and a column. -/
theorem gateVec_apply (o : ℕ) (u : FVec Ideal S256x128 .f32) (v : FVec Ideal S256x128 .bf16) (w : FVec Ideal S1x128x128 .bf16)
    (b : FVec Ideal S1x128x128 .f32) (h : Shape.Slices S256x128 ![o, 0] S128x128) (p d : Fin 128) (f : Fin 128 → Fin 256)
    (hf : ∀ q, (f q).val = o + q.val) :
    gateVec o u v w b h (ix2 p d) = gated (u (ix2 (f p) d)) (fun q => w (ix3 0 p q)) (fun q => v (ix2 (f q) d)) (b (ix3 0 p d)) := by
  have h1 : extractStridedSlice S128x128 ![o, 0] u h (ix2 p d) = u (ix2 (f p) d) := cut_apply o 0 u h p d (f p) d (hf p) (by omega)
  have h2 : matmul dot_S128x128_S128x128_S128x128_1_0_0_1_n_n none (shapeCast S128x128 w shapeCasts_S1x128x128_S128x128)
      (extractStridedSlice S128x128 ![o, 0] v h) (constant S128x128 .f32 0x00000000#32) (ix2 p d)
      = ∑ q, w (ix3 0 p q) * v (ix2 (f q) d) := by
    refine (mm_apply dot_S128x128_S128x128_S128x128_1_0_0_1_n_n rfl _ _ p d).trans ?_
    show (∑ q, _ * _) = _
    refine Finset.sum_congr rfl fun q _ => congrArg₂ (fun a b : EReal => a * b) (slab_apply w p q) ?_
    exact cut_apply o 0 v h q d (f q) d (hf q) (by omega)
  have h3 := slab_apply b p d
  show extractStridedSlice S128x128 ![o, 0] u h (ix2 p d) * (matmul dot_S128x128_S128x128_S128x128_1_0_0_1_n_n none
    (shapeCast S128x128 w shapeCasts_S1x128x128_S128x128) (extractStridedSlice S128x128 ![o, 0] v h)
    (constant S128x128 .f32 0x00000000#32) (ix2 p d) + shapeCast S128x128 b shapeCasts_S1x128x128_S128x128 (ix2 p d)) = _
  rw [h1, h2, h3]
  rfl

section Pieces
variable (P : FVec Ideal S256x1536 .f32) (U : FVec Ideal S256x1024 .f32) (t : Vec Ideal S128x256 .bf16) (g : Vec Ideal S1x128 .f32)
  (w : Vec Ideal S1x128x128 .bf16) (b : Vec Ideal S1x128x128 .f32)
  (x : Vec Ideal S256x1024 .f32) (gx : Vec Ideal S1x1024 .f32) (wx : Vec Ideal S1024x1536 .bf16)

/-- Every group's transform is the same function of its columns of the projection. -/
theorem re0 : k0_pay6 x gx wx t = tableVec 0 0 (k0_pay4 x gx wx) t slices_S256x1536_o0_0_S256x128 slices_S256x256_o0_0_S256x128 := rfl
theorem im0 : k0_pay7 x gx wx t = tableVec 0 128 (k0_pay4 x gx wx) t slices_S256x1536_o0_0_S256x128 slices_S256x256_o0_128_S256x128 := rfl
theorem re1 : k0_pay10 (k0_pay8 x gx wx) t
    = tableVec 128 0 (k0_pay4 x gx wx) t slices_S256x1536_o0_128_S256x128 slices_S256x256_o0_0_S256x128 := rfl
theorem im1 : k0_pay11 (k0_pay8 x gx wx) t
    = tableVec 128 128 (k0_pay4 x gx wx) t slices_S256x1536_o0_128_S256x128 slices_S256x256_o0_128_S256x128 := rfl
theorem re2 : k0_pay13 P t = tableVec 256 0 P t slices_S256x1536_o0_256_S256x128 slices_S256x256_o0_0_S256x128 := rfl
theorem im2 : k0_pay14 P t = tableVec 256 128 P t slices_S256x1536_o0_256_S256x128 slices_S256x256_o0_128_S256x128 := rfl
theorem re3 : k0_pay16 P t = tableVec 384 0 P t slices_S256x1536_o0_384_S256x128 slices_S256x256_o0_0_S256x128 := rfl
theorem im3 : k0_pay17 (k0_pay15 P t) = tableVec 384 128 P t slices_S256x1536_o0_384_S256x128 slices_S256x256_o0_128_S256x128 := rfl

/-- Every group's normed rows are the same function of its columns. -/
theorem norm0 : k0_pay20 P g = normVec (extractStridedSlice S256x128 ![0, 512] (k0_pay18 P) slices_S256x1024_o0_512_S256x128) g := by
  unfold k0_pay20
  generalize k0_pay18 (F := Ideal) P = U
  simp only [shapeCast_self]; rfl
theorem norm1 : k0_pay25 U g = normVec (extractStridedSlice S256x128 ![0, 640] U slices_S256x1024_o0_640_S256x128) g := by
  unfold k0_pay25; simp only [shapeCast_self]; rfl
theorem norm2 : k0_pay31 U g = normVec (extractStridedSlice S256x128 ![0, 768] U slices_S256x1024_o0_768_S256x128) g := by
  unfold k0_pay31; simp only [shapeCast_self]; rfl
theorem norm3 : k0_pay1 (k0_pay35 U) (k0_pay36 g)
    = normVec (extractStridedSlice S256x128 ![0, 896] U slices_S256x1024_o0_896_S256x128) g := by
  unfold k0_pay1 k0_pay35 k0_pay36; simp only [shapeCast_self]; rfl

/-- Every chunk's gated values are the same function of its rows. -/
theorem gate0 : k0_pay22 (k0_pay19 P) (k0_pay21 P g w) b
    = gateVec 0 (extractStridedSlice S256x128 ![0, 0] (k0_pay18 P) slices_S256x1024_o0_0_S256x128)
      (normVec (extractStridedSlice S256x128 ![0, 512] (k0_pay18 P) slices_S256x1024_o0_512_S256x128) g) w b slices_S256x128_o0_0_S128x128 := by
  rw [← norm0]; rfl
theorem gate0' : k0_pay23 (k0_pay19 P) (k0_pay20 P g) w b
    = gateVec 128 (extractStridedSlice S256x128 ![0, 0] (k0_pay18 P) slices_S256x1024_o0_0_S256x128)
      (normVec (extractStridedSlice S256x128 ![0, 512] (k0_pay18 P) slices_S256x1024_o0_512_S256x128) g) w b slices_S256x128_o128_0_S128x128 := by
  rw [← norm0]; rfl
theorem gate1 : k0_pay28 (k0_pay24 U) (k0_pay26 w) (k0_pay27 U g) b
    = gateVec 0 (extractStridedSlice S256x128 ![0, 128] U slices_S256x1024_o0_128_S256x128)
      (normVec (extractStridedSlice S256x128 ![0, 640] U slices_S256x1024_o0_640_S256x128) g) w b slices_S256x128_o0_0_S128x128 := by
  rw [← norm1]; rfl
theorem gate1' : k0_pay29 (k0_pay24 U) (k0_pay25 U g) w b
    = gateVec 128 (extractStridedSlice S256x128 ![0, 128] U slices_S256x1024_o0_128_S256x128)
      (normVec (extractStridedSlice S256x128 ![0, 640] U slices_S256x1024_o0_640_S256x128) g) w b slices_S256x128_o128_0_S128x128 := by
  rw [← norm1]; rfl
theorem gate2 : k0_pay32 (k0_pay30 U) (k0_pay31 U g) w b
    = gateVec 0 (extractStridedSlice S256x128 ![0, 256] U slices_S256x1024_o0_256_S256x128)
      (normVec (extractStridedSlice S256x128 ![0, 768] U slices_S256x1024_o0_768_S256x128) g) w b slices_S256x128_o0_0_S128x128 := by
  rw [← norm2]; rfl
theorem gate2' : k0_pay33 (k0_pay30 U) (k0_pay31 U g) w b
    = gateVec 128 (extractStridedSlice S256x128 ![0, 256] U slices_S256x1024_o0_256_S256x128)
      (normVec (extractStridedSlice S256x128 ![0, 768] U slices_S256x1024_o0_768_S256x128) g) w b slices_S256x128_o128_0_S128x128 := by
  rw [← norm2]; rfl
theorem gate3 : k0_pay2 (k0_pay34 U) (k0_pay35 U) (k0_pay36 g) w b
    = gateVec 0 (extractStridedSlice S256x128 ![0, 384] U slices_S256x1024_o0_384_S256x128)
      (normVec (extractStridedSlice S256x128 ![0, 896] U slices_S256x1024_o0_896_S256x128) g) w b slices_S256x128_o0_0_S128x128 := by
  rw [← norm3]; rfl
theorem gate3' : k0_pay3 (k0_pay34 U) (k0_pay35 U) (k0_pay36 g) w b
    = gateVec 128 (extractStridedSlice S256x128 ![0, 384] U slices_S256x1024_o0_384_S256x128)
      (normVec (extractStridedSlice S256x128 ![0, 896] U slices_S256x1024_o0_896_S256x128) g) w b slices_S256x128_o128_0_S128x128 := by
  rw [← norm3]; rfl

end Pieces

/-- What the transform's block holds at a place, from the projection's block. -/
def zPlace (P : S256x1536.Idx → EReal) (t : S128x256.Idx → EReal) : S2x256x512.Idx → EReal := fun i =>
  zVal (fun n => P (ix2 (i 1) n)) (fun k n => t (ix2 k n)) (i 0) (i 2)

/-- What the gated block holds at a place, from the gated half of the projection's block. -/
def gPlace (U : S256x1024.Idx → EReal) (g : S1x512.Idx → EReal) (w b : S4x128x128.Idx → EReal) : S256x512.Idx → EReal := fun i =>
  gated (U (ix2 (i 0) (uCol (i 1)))) (fun q => w (ix3 (group (i 1)) (place (N := 256) (i 0)) q))
    (fun q => headNorm (fun k => U (ix2 (chunk (i 0) q) (mCol (i 1) k))) (fun k => g (ix2 0 (gCol (i 1) k))) (place (N := 512) (i 1)))
    (b (ix3 (group (i 1)) (place (N := 256) (i 0)) (place (N := 512) (i 1))))

/-- A group's part of the transform is its part of the block. -/
theorem z_piece (a o b : ℕ) (ha : a < 2) (ho : o % 128 = 0) (hl : o + 128 ≤ 512) (hb : b = a * 128) (P : FVec Ideal S256x1536 .f32)
    (t : FVec Ideal S128x256 .bf16) (h : Shape.Slices S256x1536 ![0, o] S256x128) (h' : Shape.Slices S256x256 ![0, b] S256x128)
    (inb : ∀ c, (![a, 0, o] : Fin 3 → ℕ) c + S1x256x128.size c ≤ S2x256x512.size c) (y : S1x256x128.Idx) :
    tableVec o b P t h h' y = zPlace P t ((Rect.unit (s := S2x256x512) ![a, 0, o] S1x256x128.size inb).emb y) := by
  obtain ⟨z, r, d, rfl⟩ : ∃ (z : Fin 1) (r : Fin 256) (d : Fin 128), y = ix3 z r d := ⟨y 0, y 1, y 2, eq_ix3 y⟩
  have hd := d.isLt
  have hz := z.isLt
  have e : (Rect.unit (s := S2x256x512) ![a, 0, o] S1x256x128.size inb).emb (ix3 z r d)
      = ix3 (⟨a, ha⟩ : Fin 2) r (⟨o + d.val, by omega⟩ : Fin 512) := funext fun c => Fin.ext (match c with
    | ⟨0, _⟩ => by show a + 1 * z.val = a; omega
    | ⟨1, _⟩ => by show 0 + 1 * r.val = r.val; omega
    | ⟨2, _⟩ => by show o + 1 * d.val = o + d.val; omega)
  rw [e]
  refine tableVec_apply o b P t h h' z r d (tableCol ⟨a, ha⟩ ⟨o + d.val, by omega⟩) ?_ (fCol ⟨o + d.val, by omega⟩) fun k => ?_
  · show a * 128 + (o + d.val) % 128 = b + d.val
    omega
  · show (o + d.val) / 128 * 128 + k.val = o + k.val
    omega

/-- A chunk's part of a group's gated values is its part of the block. -/
theorem g_piece (j o c v : ℕ) (hj : j < 4) (hc : c = j * 128) (hv : v = 512 + c) (ho : o = 0 ∨ o = 128)
    (U : FVec Ideal S256x1024 .f32) (g : FVec Ideal S1x512 .f32) (w : FVec Ideal S4x128x128 .bf16) (b : FVec Ideal S4x128x128 .f32)
    (h : Shape.Slices S256x128 ![o, 0] S128x128) (hs : Shape.Slices S256x1024 ![0, c] S256x128) (hs' : Shape.Slices S256x1024 ![0, v] S256x128)
    (ing : ∀ e, (![0, c] : Fin 2 → ℕ) e + S1x128.size e ≤ S1x512.size e)
    (inw : ∀ e, (![j, 0, 0] : Fin 3 → ℕ) e + S1x128x128.size e ≤ S4x128x128.size e)
    (inb : ∀ e, (![o, c] : Fin 2 → ℕ) e + S128x128.size e ≤ S256x512.size e) (y : S128x128.Idx) :
    gateVec o (extractStridedSlice S256x128 ![0, c] U hs) (normVec (extractStridedSlice S256x128 ![0, v] U hs')
        (View.ld (e' := .f32) (Val := Elt Ideal) g (Rect.unit (s := S1x512) ![0, c] S1x128.size ing)))
      (View.ld (e' := .bf16) (Val := Elt Ideal) w (Rect.unit (s := S4x128x128) ![j, 0, 0] S1x128x128.size inw))
      (View.ld (e' := .f32) (Val := Elt Ideal) b (Rect.unit (s := S4x128x128) ![j, 0, 0] S1x128x128.size inw)) h y
      = gPlace U g w b ((Rect.unit (s := S256x512) ![o, c] S128x128.size inb).emb y) := by
  obtain ⟨p, d, rfl⟩ : ∃ p d : Fin 128, y = ix2 p d := ⟨y 0, y 1, eq_ix2 y⟩
  have hp := p.isLt
  have hd := d.isLt
  have e : (Rect.unit (s := S256x512) ![o, c] S128x128.size inb).emb (ix2 p d)
      = ix2 (⟨o + p.val, by omega⟩ : Fin 256) (⟨c + d.val, by omega⟩ : Fin 512) := funext fun c' => Fin.ext (match c' with
    | ⟨0, _⟩ => by show o + 1 * p.val = o + p.val; omega
    | ⟨1, _⟩ => by show c + 1 * d.val = c + d.val; omega)
  rw [e]
  have hr : ∀ q : Fin 128, (chunk ⟨o + p.val, by omega⟩ q).val = o + q.val := fun q => by
    show (o + p.val) / 128 * 128 + q.val = o + q.val
    omega
  refine (gateVec_apply o _ _ _ _ h p d (chunk ⟨o + p.val, by omega⟩) hr).trans ?_
  have e1 : chunk ⟨o + p.val, by omega⟩ p = (⟨o + p.val, by omega⟩ : Fin 256) := Fin.ext (hr p)
  have ej : group ⟨c + d.val, by omega⟩ = ⟨j, hj⟩ := Fin.ext (by show (c + d.val) / 128 = j; omega)
  have ep : place (⟨o + p.val, by omega⟩ : Fin 256) = p := Fin.ext (by show (o + p.val) % 128 = p.val; omega)
  have ed : place (⟨c + d.val, by omega⟩ : Fin 512) = d := Fin.ext (by show (c + d.val) % 128 = d.val; omega)
  have slab : ∀ p q : Fin 128, (Rect.unit (s := S4x128x128) ![j, 0, 0] S1x128x128.size inw).emb (ix3 0 p q) = ix3 ⟨j, hj⟩ p q :=
    fun p q => funext fun c' => Fin.ext (match c' with
      | ⟨0, _⟩ => by show j + 1 * (0 : Fin 1).val = j; simp
      | ⟨1, _⟩ => by show 0 + 1 * p.val = p.val; omega
      | ⟨2, _⟩ => by show 0 + 1 * q.val = q.val; omega)
  show _ = gated (U (ix2 (⟨o + p.val, _⟩ : Fin 256) (uCol (⟨c + d.val, _⟩ : Fin 512))))
    (fun q => w (ix3 (group (⟨c + d.val, _⟩ : Fin 512)) (place (⟨o + p.val, _⟩ : Fin 256)) q))
    (fun q => headNorm (fun k => U (ix2 (chunk (⟨o + p.val, _⟩ : Fin 256) q) (mCol (⟨c + d.val, _⟩ : Fin 512) k)))
      (fun k => g (ix2 0 (gCol (⟨c + d.val, _⟩ : Fin 512) k))) (place (⟨c + d.val, _⟩ : Fin 512)))
    (b (ix3 (group (⟨c + d.val, _⟩ : Fin 512)) (place (⟨o + p.val, _⟩ : Fin 256)) (place (⟨c + d.val, _⟩ : Fin 512))))
  rw [ej, ep, ed, e1]
  refine congr (congr (congr (congrArg gated ?_) (funext fun q => ?_)) (funext fun q => ?_)) ?_
  · exact cut_apply 0 c U hs _ d _ _ (by omega) rfl
  · exact congrArg w (slab p q)
  · rw [normVec_apply]
    refine congrFun (congrArg₂ headNorm (funext fun k => ?_) (funext fun k => ?_)) d
    · refine cut_apply 0 v U hs' _ k _ _ (by omega) ?_
      show 512 + (c + d.val) / 128 * 128 + k.val = v + k.val
      omega
    · refine congrArg g (funext fun c' => Fin.ext (match c' with
        | ⟨0, _⟩ => by show 0 + 1 * (0 : Fin 1).val = 0; simp
        | ⟨1, _⟩ => ?_))
      show c + 1 * k.val = (c + d.val) / 128 * 128 + k.val
      omega
  · exact congrArg b (slab p d)

theorem offsets_zero : (![0, 0] : Fin 2 → Nat) = fun _ => 0 := funext fun a => by fin_cases a <;> rfl

section Out
variable (x : Vec Ideal S256x1024 .f32) (gx : Vec Ideal S1x1024 .f32) (wx : Vec Ideal S1024x1536 .bf16) (t : Vec Ideal S128x256 .bf16)
  (g : Vec Ideal S1x512 .f32) (w : Vec Ideal S4x128x128 .bf16) (b : Vec Ideal S4x128x128 .f32)

/-- The transform's block the body leaves. -/
theorem z_apply (i : S2x256x512.Idx) : out0_7 x gx wx t g w b i = zPlace (k0_pay4 x gx wx) t i := by
  unfold out0_7
  refine View.canon_apply_of_pieces (Val := Elt Ideal) (e := .bf16) (zPlace (k0_pay4 x gx wx) t) _ ?_ i (cover0_7 _ _ _ _ _ _ _ _ i)
  unfold k0_pay38 k0_pay37
  rw [show View.ld x r0_0 = x from View.ld_unit_zero (Val := Elt Ideal) offsets_zero _ x,
    show View.ld gx r0_1 = gx from View.ld_unit_zero (Val := Elt Ideal) offsets_zero _ gx,
    show View.ld wx r0_2 = wx from View.ld_unit_zero (Val := Elt Ideal) offsets_zero _ wx,
    show View.ld t r0_3 = t from View.ld_unit_zero (Val := Elt Ideal) offsets_zero _ t,
    re0, im0, re1, im1, re2, im2, re3, im3]
  intro p hp
  simp only [List.mem_cons, List.not_mem_nil, or_false] at hp
  rcases hp with rfl | rfl | rfl | rfl | rfl | rfl | rfl | rfl
  · exact z_piece 1 384 128 (by norm_num) (by norm_num) (by norm_num) (by norm_num) _ _ _ _ inb_S2x256x512_S1x256x128_1_0_384
  · exact z_piece 0 384 0 (by norm_num) (by norm_num) (by norm_num) (by norm_num) _ _ _ _ inb_S2x256x512_S1x256x128_0_0_384
  · exact z_piece 1 256 128 (by norm_num) (by norm_num) (by norm_num) (by norm_num) _ _ _ _ inb_S2x256x512_S1x256x128_1_0_256
  · exact z_piece 0 256 0 (by norm_num) (by norm_num) (by norm_num) (by norm_num) _ _ _ _ inb_S2x256x512_S1x256x128_0_0_256
  · exact z_piece 1 128 128 (by norm_num) (by norm_num) (by norm_num) (by norm_num) _ _ _ _ inb_S2x256x512_S1x256x128_1_0_128
  · exact z_piece 0 128 0 (by norm_num) (by norm_num) (by norm_num) (by norm_num) _ _ _ _ inb_S2x256x512_S1x256x128_0_0_128
  · exact z_piece 1 0 128 (by norm_num) (by norm_num) (by norm_num) (by norm_num) _ _ _ _ inb_S2x256x512_S1x256x128_1_0_0
  · exact z_piece 0 0 0 (by norm_num) (by norm_num) (by norm_num) (by norm_num) _ _ _ _ inb_S2x256x512_S1x256x128_0_0_0

/-- The gated block the body leaves. -/
theorem g_apply (i : S256x512.Idx) : out0_8 x gx wx t g w b i = gPlace (k0_pay18 (k0_pay4 x gx wx)) g w b i := by
  unfold out0_8
  refine View.canon_apply_of_pieces (Val := Elt Ideal) (e := .bf16) (gPlace (k0_pay18 (k0_pay4 x gx wx)) g w b) _ ?_ i
    (cover0_8 _ _ _ _ _ _ _ _ i)
  unfold k0_pay46 k0_pay45 k0_pay44 k0_pay43 k0_pay42 k0_pay41 k0_pay40 k0_pay39 k0_pay37
  rw [show View.ld x r0_0 = x from View.ld_unit_zero (Val := Elt Ideal) offsets_zero _ x,
    show View.ld gx r0_1 = gx from View.ld_unit_zero (Val := Elt Ideal) offsets_zero _ gx,
    show View.ld wx r0_2 = wx from View.ld_unit_zero (Val := Elt Ideal) offsets_zero _ wx,
    gate0, gate0', gate1, gate1', gate2, gate2', gate3, gate3']
  intro p hp
  simp only [List.mem_cons, List.not_mem_nil, or_false] at hp
  rcases hp with rfl | rfl | rfl | rfl | rfl | rfl | rfl | rfl
  · exact g_piece 3 128 384 896 (by norm_num) (by norm_num) (by norm_num) (.inr rfl) _ g w b _ _ _ inb_S1x512_S1x128_0_384
      inb_S4x128x128_S1x128x128_3_0_0 inb_S256x512_S128x128_128_384
  · exact g_piece 3 0 384 896 (by norm_num) (by norm_num) (by norm_num) (.inl rfl) _ g w b _ _ _ inb_S1x512_S1x128_0_384
      inb_S4x128x128_S1x128x128_3_0_0 inb_S256x512_S128x128_0_384
  · exact g_piece 2 128 256 768 (by norm_num) (by norm_num) (by norm_num) (.inr rfl) _ g w b _ _ _ inb_S1x512_S1x128_0_256
      inb_S4x128x128_S1x128x128_2_0_0 inb_S256x512_S128x128_128_256
  · exact g_piece 2 0 256 768 (by norm_num) (by norm_num) (by norm_num) (.inl rfl) _ g w b _ _ _ inb_S1x512_S1x128_0_256
      inb_S4x128x128_S1x128x128_2_0_0 inb_S256x512_S128x128_0_256
  · exact g_piece 1 128 128 640 (by norm_num) (by norm_num) (by norm_num) (.inr rfl) _ g w b _ _ _ inb_S1x512_S1x128_0_128
      inb_S4x128x128_S1x128x128_1_0_0 inb_S256x512_S128x128_128_128
  · exact g_piece 1 0 128 640 (by norm_num) (by norm_num) (by norm_num) (.inl rfl) _ g w b _ _ _ inb_S1x512_S1x128_0_128
      inb_S4x128x128_S1x128x128_1_0_0 inb_S256x512_S128x128_0_128
  · exact g_piece 0 128 0 512 (by norm_num) (by norm_num) (by norm_num) (.inr rfl) _ g w b _ _ _ inb_S1x512_S1x128_0_0
      inb_S4x128x128_S1x128x128_0_0_0 inb_S256x512_S128x128_128_0
  · exact g_piece 0 0 0 512 (by norm_num) (by norm_num) (by norm_num) (.inl rfl) _ g w b _ _ _ inb_S1x512_S1x128_0_0
      inb_S4x128x128_S1x128x128_0_0_0 inb_S256x512_S128x128_0_0

end Out

end GatingBlock

end
-- ==== Proof.GatingArray.lean ====
/- What the two result arrays of a mixing layer's first kernel hold after a run: the two parts of the transform along the channels,
   and the gated mixture of the rows. -/
module

public import proofs.«01_k».proof.Proof.GatingBlock

@[expose] public section

noncomputable section

open Idealize.ShloMosaic Idealize.ShloMosaic.ValueIdx Idealize.ShloMosaic.TcCoe Idealize.SL.Sem RowMath RotaryMath GatingMath
open Idealize.ShloMosaic.Pipeline (Dat)

namespace GatingArray

open Cert.GatingIdeal Cert.GatingIdeal.Gen Cert.GatingIdeal.Value GatingBlock

variable (m : (ℓ : Loc nD τ sig) → Buf (Elt Ideal) ℓ)

/-- The weights the kernel is handed are the arguments. -/
theorem V_w (c : Dev nD) : V m c main_v2 = (m ((c : Thread nD τ).loc main_arg2) : S1024x1536.Idx → EReal) := by
  simp only [V, hostOps0]; after_results <;> rfl
theorem V_ws (c : Dev nD) : V m c main_v3 = (m ((c : Thread nD τ).loc main_arg5) : S4x128x128.Idx → EReal) := by
  simp only [V, hostOps0]; after_results <;> rfl
/-- The norm's weights as one row, and the groups' norm weights as one row. -/
theorem V_norm (c : Dev nD) : V m c main_v4
    = shapeCast S1x1024 (m ((c : Thread nD τ).loc main_arg1) : S1024.Idx → EReal) shapeCasts_S1024_S1x1024 := by
  simp only [V, hostOps0]; after_results <;> rfl
theorem V_vn (c : Dev nD) : V m c main_v5
    = shapeCast S1x512 (m ((c : Thread nD τ).loc main_arg4) : S4x128.Idx → EReal) shapeCasts_S4x128_S1x512 := by
  simp only [V, hostOps0]; after_results <;> rfl
/-- The offsets, repeated along the channels. -/
theorem V_b (c : Dev nD) : V m c main_v1
    = broadcastInDim S4x128x128 ![0, 1, 2] bcast_S4x128x1_S4x128x128_0_1_2
      (broadcastInDim S4x128x1 ![0, 1] bcast_S4x128_S4x128x1_0_1 (m ((c : Thread nD τ).loc main_arg6) : S4x128.Idx → EReal)) := by
  simp only [V, hostOps0]; after_results <;> rfl

/-- The blocks' places: the rows' and the results' block `t` is block `t` of rows, every other block is its whole array. -/
theorem idx_facts : ∀ t : Fin cfg0.N, (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0 ∧ win0_5.index t 2 = 0)
    ∧ (win0_6.index t 0 = 0 ∧ win0_6.index t 1 = 0 ∧ win0_6.index t 2 = 0)
    ∧ (win0_7.index t 0 = 0 ∧ win0_7.index t 1 = t.val ∧ win0_7.index t 2 = 0)
    ∧ (win0_8.index t 0 = t.val ∧ win0_8.index t 1 = 0) :=
  (by decide +kernel : ∀ t : Fin grid0.N, (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0 ∧ win0_5.index t 2 = 0)
    ∧ (win0_6.index t 0 = 0 ∧ win0_6.index t 1 = 0 ∧ win0_6.index t 2 = 0)
    ∧ (win0_7.index t 0 = 0 ∧ win0_7.index t 1 = t.val ∧ win0_7.index t 2 = 0)
    ∧ (win0_8.index t 0 = t.val ∧ win0_8.index t 1 = 0))

/-- Row `r` of block `t` as a row of the array. -/
def rowAt (t : Fin cfg0.N) (r : Fin 256) : Fin 16384 :=
  ⟨t.val * 256 + r.val, by have h : t.val < 64 := t.isLt; have := r.isLt; omega⟩

/-- The stream's block at point `t`, read at a row and a column. -/
theorem stream_apply (c : Dev nD) (t : Fin cfg0.N) (r : Fin 256) (k : Fin 1024) :
    iblk m c 0 t (ix2 r k) = m ((c : Thread nD τ).loc main_arg0) (ix2 (rowAt t r) k) := by
  show V m c main_arg0 ((win0_0.rect t).emb (ix2 r k)) = _
  rw [V_main_arg0]
  refine congrArg (m ((c : Thread nD τ).loc main_arg0)) (funext fun a => Fin.ext ?_)
  refine (Pipeline.Window.rect_emb_val win0_0 t (ix2 r k) a).trans ?_
  match a with
  | ⟨0, _⟩ => exact congrArg (· * 256 + r.val) (idx_facts t).1.1
  | ⟨1, _⟩ => exact (congrArg (· * 1024 + k.val) (idx_facts t).1.2).trans (by show 0 * 1024 + k.val = k.val; omega)

/-- The norm weights' block is the argument. -/
theorem norm_apply (c : Dev nD) (t : Fin cfg0.N) (k : Fin 1024) :
    iblk m c 1 t (ix2 0 k) = m ((c : Thread nD τ).loc main_arg1) (ix1 k) := by
  show V m c main_v4 ((win0_1.rect t).emb (ix2 0 k)) = _
  rw [V_norm]
  refine shapeCast_apply _ _ _ (ix1 k) ?_
  rw [Shape.rowMajor_val_one, Shape.rowMajor_val_two]
  have h0 := Pipeline.Window.rect_emb_val_of_index_zero win0_1 t 0 (idx_facts t).2.1.1 (ix2 0 k)
  have h1 := Pipeline.Window.rect_emb_val_of_index_zero win0_1 t 1 (idx_facts t).2.1.2 (ix2 0 k)
  exact (show k.val = 0 * 1024 + k.val by omega).trans (congrArg₂ (fun a b => a * 1024 + b) h0 h1).symm

/-- The weights' block is the argument. -/
theorem weight_apply (c : Dev nD) (t : Fin cfg0.N) (q : Fin 1024) (n : Fin 1536) :
    iblk m c 2 t (ix2 q n) = m ((c : Thread nD τ).loc main_arg2) (ix2 q n) := by
  show V m c main_v2 ((win0_2.rect t).emb (ix2 q n)) = _
  rw [V_w]
  have e : (win0_2.rect t).emb (ix2 q n) = ix2 q n := funext fun a => Fin.ext (match a with
    | ⟨0, _⟩ => Pipeline.Window.rect_emb_val_of_index_zero win0_2 t 0 (idx_facts t).2.2.1.1 (ix2 q n)
    | ⟨1, _⟩ => Pipeline.Window.rect_emb_val_of_index_zero win0_2 t 1 (idx_facts t).2.2.1.2 (ix2 q n))
  exact congrArg _ e

/-- The table's block is the argument. -/
theorem table_apply (c : Dev nD) (t : Fin cfg0.N) (q : Fin 128) (n : Fin 256) :
    iblk m c 3 t (ix2 q n) = m ((c : Thread nD τ).loc main_arg3) (ix2 q n) := by
  show V m c main_arg3 ((win0_3.rect t).emb (ix2 q n)) = _
  rw [V_main_arg3]
  have e : (win0_3.rect t).emb (ix2 q n) = ix2 q n := funext fun a => Fin.ext (match a with
    | ⟨0, _⟩ => Pipeline.Window.rect_emb_val_of_index_zero win0_3 t 0 (idx_facts t).2.2.2.1.1 (ix2 q n)
    | ⟨1, _⟩ => Pipeline.Window.rect_emb_val_of_index_zero win0_3 t 1 (idx_facts t).2.2.2.1.2 (ix2 q n))
  exact congrArg _ e

/-- The groups' norm weights' block at a column of a group. -/
theorem vn_apply (c : Dev nD) (t : Fin cfg0.N) (n : Fin 512) (k : Fin 128) :
    iblk m c 4 t (ix2 0 (gCol n k)) = m ((c : Thread nD τ).loc main_arg4) (ix2 (group n) k) := by
  show V m c main_v5 ((win0_4.rect t).emb (ix2 0 (gCol n k))) = _
  rw [V_vn]
  refine shapeCast_apply _ _ _ (ix2 (group n) k) ?_
  rw [Shape.rowMajor_val_two, Shape.rowMajor_val_two]
  have h0 := Pipeline.Window.rect_emb_val_of_index_zero win0_4 t 0 (idx_facts t).2.2.2.2.1.1 (ix2 0 (gCol n k))
  have h1 := Pipeline.Window.rect_emb_val_of_index_zero win0_4 t 1 (idx_facts t).2.2.2.2.1.2 (ix2 0 (gCol n k))
  exact (show n.val / 128 * 128 + k.val = 0 * 512 + (n.val / 128 * 128 + k.val) by omega).trans
    (congrArg₂ (fun a b => a * 512 + b) h0 h1).symm

/-- The mixing weights' block is the argument. -/
theorem ws_apply (c : Dev nD) (t : Fin cfg0.N) (j : Fin 4) (p q : Fin 128) :
    iblk m c 5 t (ix3 j p q) = m ((c : Thread nD τ).loc main_arg5) (ix3 j p q) := by
  show V m c main_v3 ((win0_5.rect t).emb (ix3 j p q)) = _
  rw [V_ws]
  have e : (win0_5.rect t).emb (ix3 j p q) = ix3 j p q := funext fun a => Fin.ext (match a with
    | ⟨0, _⟩ => Pipeline.Window.rect_emb_val_of_index_zero win0_5 t 0 (idx_facts t).2.2.2.2.2.1.1 (ix3 j p q)
    | ⟨1, _⟩ => Pipeline.Window.rect_emb_val_of_index_zero win0_5 t 1 (idx_facts t).2.2.2.2.2.1.2.1 (ix3 j p q)
    | ⟨2, _⟩ => Pipeline.Window.rect_emb_val_of_index_zero win0_5 t 2 (idx_facts t).2.2.2.2.2.1.2.2 (ix3 j p q))
  exact congrArg _ e

/-- The offsets' block holds at every channel the argument's offset of the row. -/
theorem b_apply (c : Dev nD) (t : Fin cfg0.N) (j : Fin 4) (p d : Fin 128) :
    iblk m c 6 t (ix3 j p d) = m ((c : Thread nD τ).loc main_arg6) (ix2 j p) := by
  show V m c main_v1 ((win0_6.rect t).emb (ix3 j p d)) = _
  rw [V_b]
  have e : (win0_6.rect t).emb (ix3 j p d) = ix3 j p d := funext fun a => Fin.ext (match a with
    | ⟨0, _⟩ => Pipeline.Window.rect_emb_val_of_index_zero win0_6 t 0 (idx_facts t).2.2.2.2.2.2.1.1 (ix3 j p d)
    | ⟨1, _⟩ => Pipeline.Window.rect_emb_val_of_index_zero win0_6 t 1 (idx_facts t).2.2.2.2.2.2.1.2.1 (ix3 j p d)
    | ⟨2, _⟩ => Pipeline.Window.rect_emb_val_of_index_zero win0_6 t 2 (idx_facts t).2.2.2.2.2.2.1.2.2 (ix3 j p d))
  refine (congrArg _ e).trans ?_
  refine (broadcastInDim_apply _ _ _ (ix3 j p d) (ix3 j p 0) fun a => match a with | ⟨0, _⟩ => rfl | ⟨1, _⟩ => rfl | ⟨2, _⟩ => rfl).trans ?_
  exact broadcastInDim_apply _ _ _ (ix3 j p 0) (ix2 j p) fun a => match a with | ⟨0, _⟩ => rfl | ⟨1, _⟩ => rfl

/-- Row `i` of the projection of the arguments. -/
def projRow (c : Dev nD) (i : Fin 16384) : Fin 1536 → EReal :=
  dotRow (rmsRow (fun k => m ((c : Thread nD τ).loc main_arg0) (ix2 i k)) (fun k => m ((c : Thread nD τ).loc main_arg1) (ix1 k)))
    (fun k n => m ((c : Thread nD τ).loc main_arg2) (ix2 k n))

/-- The gated value at a row and a column. -/
def gateVal (c : Dev nD) (i : Fin 16384) (n : Fin 512) : EReal :=
  gated (gelu (projRow m c i (late (uCol n))))
    (fun q => m ((c : Thread nD τ).loc main_arg5) (ix3 (group n) (place (N := 16384) i) q))
    (fun q => headNorm (fun k => gelu (projRow m c (chunkRow i q) (late (mCol n k))))
      (fun k => m ((c : Thread nD τ).loc main_arg4) (ix2 (group n) k)) (place (N := 512) n))
    (m ((c : Thread nD τ).loc main_arg6) (ix2 (group n) (place (N := 16384) i)))

/-- A block's projection is the projection of its rows. -/
theorem proj_block (c : Dev nD) (t : Fin cfg0.N) (r : Fin 256) (n : Fin 1536) :
    k0_pay4 (F := Ideal) (iblk m c 0 t) (iblk m c 1 t) (iblk m c 2 t) (ix2 r n) = projRow m c (rowAt t r) n := by
  refine (GatingBlock.proj_apply _ _ _ r n).trans ?_
  unfold projRow
  show (∑ k, _ * _) = ∑ k, _ * _
  refine Finset.sum_congr rfl fun k _ => congrArg₂ (fun a b : EReal => a * b) ?_ (weight_apply m c t k n)
  exact congrFun (congrArg₂ rmsRow (funext fun k => stream_apply m c t r k) (funext fun k => norm_apply m c t k)) k

/-- The transform's block's places are the transform of the rows. -/
theorem z_block (c : Dev nD) (t : Fin cfg0.N) (a : Fin 2) (r : Fin 256) (n : Fin 512) :
    zPlace (k0_pay4 (F := Ideal) (iblk m c 0 t) (iblk m c 1 t) (iblk m c 2 t)) (iblk m c 3 t) (ix3 a r n)
      = zVal (projRow m c (rowAt t r)) (fun k n => m ((c : Thread nD τ).loc main_arg3) (ix2 k n)) a n := by
  show zVal (fun n => k0_pay4 (F := Ideal) (iblk m c 0 t) (iblk m c 1 t) (iblk m c 2 t) (ix2 r n)) (fun k n => iblk m c 3 t (ix2 k n)) a n = _
  rw [show (fun n => k0_pay4 (F := Ideal) (iblk m c 0 t) (iblk m c 1 t) (iblk m c 2 t) (ix2 r n)) = projRow m c (rowAt t r) from
      funext fun n => proj_block m c t r n,
    show (fun (k : Fin 128) (n : Fin 256) => iblk m c 3 t (ix2 k n)) = fun k n => m ((c : Thread nD τ).loc main_arg3) (ix2 k n) from
      funext fun k => funext fun n => table_apply m c t k n]

/-- The gated half of a block's projection. -/
theorem gelu_block (c : Dev nD) (t : Fin cfg0.N) (r : Fin 256) (j : Fin 1024) :
    k0_pay18 (F := Ideal) (k0_pay4 (F := Ideal) (iblk m c 0 t) (iblk m c 1 t) (iblk m c 2 t)) (ix2 r j)
      = gelu (projRow m c (rowAt t r) (late j)) :=
  (GatingBlock.gelu_apply _ r j).trans (congrArg gelu (proj_block m c t r (late j)))

/-- A block's chunks are chunks of the array. -/
theorem rowAt_chunk (t : Fin cfg0.N) (r : Fin 256) (q : Fin 128) : rowAt t (chunk r q) = chunkRow (rowAt t r) q :=
  Fin.ext (by
    show t.val * 256 + (r.val / 128 * 128 + q.val) = (t.val * 256 + r.val) / 128 * 128 + q.val
    omega)
theorem place_rowAt (t : Fin cfg0.N) (r : Fin 256) : place (rowAt t r) = place r :=
  Fin.ext (by
    show (t.val * 256 + r.val) % 128 = r.val % 128
    omega)

/-- The gated block's places are the gated values of the rows. -/
theorem g_block (c : Dev nD) (t : Fin cfg0.N) (r : Fin 256) (n : Fin 512) :
    gPlace (k0_pay18 (F := Ideal) (k0_pay4 (F := Ideal) (iblk m c 0 t) (iblk m c 1 t) (iblk m c 2 t))) (iblk m c 4 t) (iblk m c 5 t)
      (iblk m c 6 t) (ix2 r n) = gateVal m c (rowAt t r) n := by
  unfold gateVal
  rw [place_rowAt]
  show gated _ _ _ _ = _
  refine congr (congr (congr (congrArg gated ?_) (funext fun q => ?_)) (funext fun q => ?_)) ?_
  · exact gelu_block m c t r (uCol n)
  · exact ws_apply m c t (group n) (place r) q
  · refine congrFun (congrArg₂ headNorm (funext fun k => ?_) (funext fun k => vn_apply m c t n k)) (place n)
    exact (gelu_block m c t (chunk r q) (mCol n k)).trans (by rw [rowAt_chunk])
  · exact b_apply m c t (group n) (place r) (place n)

/-- The whole result arrays as functions. -/
def GZ (c : Dev nD) : S2x16384x512.Idx → EReal := fun i =>
  zVal (projRow m c (i 1)) (fun k n => m ((c : Thread nD τ).loc main_arg3) (ix2 k n)) (i 0) (i 2)
def GG (c : Dev nD) : S16384x512.Idx → EReal := fun i => gateVal m c (i 0) (i 1)

/-- A place of the results' blocks `t` in their arrays. -/
theorem emb_z (t : Fin cfg0.N) (a : Fin 2) (r : Fin 256) (j : Fin 512) : (win0_7.rect t).emb (ix3 a r j) = ix3 a (rowAt t r) j := by
  refine funext fun b => Fin.ext ?_
  refine (Pipeline.Window.rect_emb_val win0_7 t (ix3 a r j) b).trans ?_
  match b with
  | ⟨0, _⟩ => exact (congrArg (· * 2 + a.val) (idx_facts t).2.2.2.2.2.2.2.1.1).trans (by show 0 * 2 + a.val = a.val; omega)
  | ⟨1, _⟩ => exact congrArg (· * 256 + r.val) (idx_facts t).2.2.2.2.2.2.2.1.2.1
  | ⟨2, _⟩ => exact (congrArg (· * 512 + j.val) (idx_facts t).2.2.2.2.2.2.2.1.2.2).trans (by show 0 * 512 + j.val = j.val; omega)
theorem emb_g (t : Fin cfg0.N) (r : Fin 256) (j : Fin 512) : (win0_8.rect t).emb (ix2 r j) = ix2 (rowAt t r) j := by
  refine funext fun a => Fin.ext ?_
  refine (Pipeline.Window.rect_emb_val win0_8 t (ix2 r j) a).trans ?_
  match a with
  | ⟨0, _⟩ => exact congrArg (· * 256 + r.val) (idx_facts t).2.2.2.2.2.2.2.2.1
  | ⟨1, _⟩ => exact (congrArg (· * 512 + j.val) (idx_facts t).2.2.2.2.2.2.2.2.2).trans (by show 0 * 512 + j.val = j.val; omega)

/-- What point `t` writes back is block `t` of those functions. -/
theorem flushed_z (c : Dev nD) (t : Fin cfg0.N) :
    (dats m 0 c).flushed 7 t = ((cfg0.win 7).blk t).view.read (Elt Ideal) (GZ m c) := by
  rw [flushed7]
  refine funext fun (y : S2x256x512.Idx) => ?_
  obtain ⟨a, r, j, rfl⟩ : ∃ (a : Fin 2) (r : Fin 256) (j : Fin 512), y = ix3 a r j := ⟨y 0, y 1, y 2, eq_ix3 y⟩
  have cut : ∀ (X : S2x256x512.Idx → EReal) (y : S2x256x512.Idx), (cfg0.win 7).cut (grid0.coords t) X y = X y := fun _ _ => rfl
  have get : ∀ (W : S2x16384x512.Idx → EReal) (y : S2x256x512.Idx), ((cfg0.win 7).blk t).view.read (Elt Ideal) W y = W ((win0_7.rect t).emb y) := fun _ _ => rfl
  refine (cut _ (ix3 a r j)).trans ?_
  refine Eq.trans ?_ ((get (GZ m c) (ix3 a r j)).trans (congrArg (GZ m c) (emb_z t a r j))).symm
  exact (GatingBlock.z_apply _ _ _ _ _ _ _ (ix3 a r j)).trans (z_block m c t a r j)
theorem flushed_g (c : Dev nD) (t : Fin cfg0.N) :
    (dats m 0 c).flushed 8 t = ((cfg0.win 8).blk t).view.read (Elt Ideal) (GG m c) := by
  rw [flushed8]
  refine funext fun (y : S256x512.Idx) => ?_
  obtain ⟨r, j, rfl⟩ : ∃ (r : Fin 256) (j : Fin 512), y = ix2 r j := ⟨y 0, y 1, eq_ix2 y⟩
  have cut : ∀ (X : S256x512.Idx → EReal) (y : S256x512.Idx), (cfg0.win 8).cut (grid0.coords t) X y = X y := fun _ _ => rfl
  have get : ∀ (W : S16384x512.Idx → EReal) (y : S256x512.Idx), ((cfg0.win 8).blk t).view.read (Elt Ideal) W y = W ((win0_8.rect t).emb y) := fun _ _ => rfl
  refine (cut _ (ix2 r j)).trans ?_
  refine Eq.trans ?_ ((get (GG m c) (ix2 r j)).trans (congrArg (GG m c) (emb_g t r j))).symm
  exact (GatingBlock.g_apply _ _ _ _ _ _ _ (ix2 r j)).trans (g_block m c t r j)

/-- The block a row lies in, and its row there. -/
def blockOf (i : Fin 16384) : Fin cfg0.N := ⟨i.val / 256, by have := i.isLt; show _ < 64; omega⟩
def inBlock (i : Fin 16384) : Fin 256 := ⟨i.val % 256, Nat.mod_lt _ (by norm_num)⟩
theorem rowAt_blockOf (i : Fin 16384) : rowAt (blockOf i) (inBlock i) = i :=
  Fin.ext (by show i.val / 256 * 256 + i.val % 256 = i.val; omega)

/-- Every place of the arrays lies in some point's block. -/
theorem cover_z (i : S2x16384x512.Idx) : ∃ t : Fin cfg0.N, (cfg0.win 7).flush t = true ∧ i ∈ ((cfg0.win 7).blk t).view.set := by
  refine ⟨blockOf (i 1), flush0_7 _, ?_⟩
  have e := ((cfg0.win 7).blk (blockOf (i 1))).view.emb_mem_set (ix3 (i 0) (inBlock (i 1)) (i 2))
  refine (congrArg (· ∈ _) ?_).mp e
  exact (emb_z _ (i 0) _ (i 2)).trans ((congrArg (fun r => ix3 (i 0) r (i 2)) (rowAt_blockOf (i 1))).trans (eq_ix3 i).symm)
theorem cover_g (i : S16384x512.Idx) : ∃ t : Fin cfg0.N, (cfg0.win 8).flush t = true ∧ i ∈ ((cfg0.win 8).blk t).view.set := by
  refine ⟨blockOf (i 0), flush0_8 _, ?_⟩
  have e := ((cfg0.win 8).blk (blockOf (i 0))).view.emb_mem_set (ix2 (inBlock (i 0)) (i 1))
  refine (congrArg (· ∈ _) ?_).mp e
  exact (emb_g _ _ (i 1)).trans ((congrArg (ix2 · (i 1)) (rowAt_blockOf (i 0))).trans (eq_ix2 i).symm)

/-- The result arrays after the run. -/
theorem final_z (c : Dev nD) : (dats m 0 c).arrAt 7 cfg0.N = GZ m c :=
  (dats m 0 c).arrAt_eq_of_cover 7 (GZ m c) (fun t _ => flushed_z m c t) cover_z
theorem final_g (c : Dev nD) : (dats m 0 c).arrAt 8 cfg0.N = GG m c :=
  (dats m 0 c).arrAt_eq_of_cover 8 (GG m c) (fun t _ => flushed_g m c t) cover_g

end GatingArray

end
-- ==== Proof.GatingRead.lean ====
/- What the first projection's reference computes: the two parts of the transform along the channels of each group, and the gated
   mixture of the rows of each chunk. -/
module

public import proofs.«01_k».proof.Proof.Gen.GatingRefIdeal.Read
public import proofs.«01_k».proof.Proof.GatingMath
public import Idealize.ShloMosaic.Lib.KernelVsHost
public import Idealize.ShloMosaic.Lib.IdealHost

@[expose] public section

noncomputable section

open Idealize.ShloMosaic Idealize.ShloMosaic.ValueIdx RowMath RotaryMath GatingMath

namespace GatingRead

open Cert.GatingRefIdeal Cert.GatingRefIdeal.Read

variable (x0 : (⟨S16384x1024, .f32⟩ : BufTy).Contents (Elt Ideal)) (x1 : (⟨S1024, .f32⟩ : BufTy).Contents (Elt Ideal))
  (x2 : (⟨S1024x1536, .f32⟩ : BufTy).Contents (Elt Ideal)) (x3 : (⟨S128x256, .bf16⟩ : BufTy).Contents (Elt Ideal))
  (x4 : (⟨S4x128, .f32⟩ : BufTy).Contents (Elt Ideal)) (x5 : (⟨S4x128x128, .f32⟩ : BufTy).Contents (Elt Ideal))
  (x6 : (⟨S4x128, .f32⟩ : BufTy).Contents (Elt Ideal))

/-- Row `i` of the projection. -/
def projRow (i : Fin 16384) : Fin 1536 → EReal :=
  dotRow (rmsRow (fun k => x0 (ix2 i k)) (fun k => x1 (ix1 k))) (fun k n => x2 (ix2 k n))

/-- The sum of a row's squares. -/
theorem squares_apply (i : Fin 16384) (z : Fin 1) :
    val_main_v2 (F := Ideal) x0 (ix2 i z) = ∑ k : Fin 1024, x0 (ix2 i k) * x0 (ix2 i k) := by
  rw [val_main_v2_apply, val_main_v1_apply]
  show Ideal.ofBits .f32 0x00000000#32 + _ = _
  rw [Ideal.ofBits_zero_f32, zero_add]
  refine Finset.sum_congr rfl fun k _ => ?_
  rw [val_main_v0_apply, show idx_main_v1 (idx_main_v2 (ix2 i z)) k = ix2 i k from
    funext fun a => match a with | ⟨0, _⟩ => rfl | ⟨1, _⟩ => rfl]
  rfl

/-- The normalized row. -/
theorem norm_apply (i : Fin 16384) (k : Fin 1024) :
    val_main_v12 (F := Ideal) x0 x1 (ix2 i k) = rmsRow (fun j => x0 (ix2 i j)) (fun j => x1 (ix1 j)) k := by
  rw [val_main_v12_apply, val_main_v9_apply, val_main_v8_apply, val_main_v7_apply, val_main_v6_apply, val_main_v4_apply,
    val_main_v3_apply, val_main_v5_apply, val_main_v11_apply, val_main_v10_apply, val_main_cst_0_apply, val_main_cst_1_apply,
    show idx_main_v8 (ix2 i k) = ix2 i 0 from funext fun a => match a with | ⟨0, _⟩ => rfl | ⟨1, _⟩ => rfl,
    squares_apply,
    show idx_main_v10 (idx_main_v11 (ix2 i k)) = ix1 k from funext fun a => match a with | ⟨0, _⟩ => rfl]
  rfl

/-- The projection. -/
theorem proj_apply (i : Fin 16384) (n : Fin 1536) : val_main_v13 (F := Ideal) x0 x1 x2 (ix2 i n) = projRow x0 x1 x2 i n := by
  rw [val_main_v13_apply]
  unfold projRow
  refine Finset.sum_congr rfl fun k _ => ?_
  rw [show lidx_main_v13 (ix2 i n) k = ix2 i k from funext fun a => match a with | ⟨0, _⟩ => rfl | ⟨1, _⟩ => rfl,
    show ridx_main_v13 (ix2 i n) k = ix2 k n from funext fun a => match a with | ⟨0, _⟩ => rfl | ⟨1, _⟩ => rfl,
    norm_apply]

/-- Column `k` of group `g`, in the projection and in its gated half. -/
def fHead (g : Fin 4) (k : Fin 128) : Fin 1536 := ⟨g.val * 128 + k.val, by have := g.isLt; have := k.isLt; omega⟩
def vHead (g : Fin 4) (k : Fin 128) : Fin 1024 := ⟨512 + (g.val * 128 + k.val), by have := g.isLt; have := k.isLt; omega⟩

/-- The transformed part by group. -/
theorem f_apply (i : Fin 16384) (g : Fin 4) (k : Fin 128) :
    val_main_v15 (F := Ideal) x0 x1 x2 (ix3 i g k) = projRow x0 x1 x2 i (fHead g k) := by
  have hi := i.isLt
  have hg := g.isLt
  have hk := k.isLt
  rw [val_main_v15_apply, val_main_v14_apply, show idx_main_v14 (idx_main_v15 (ix3 i g k)) = ix2 i (fHead g k) from
    funext fun a => match a with
      | ⟨0, _⟩ => Fin.ext (by show ((i.val * 4 + g.val) * 128 + k.val) / 512 = i.val; omega)
      | ⟨1, _⟩ => Fin.ext (by show ((i.val * 4 + g.val) * 128 + k.val) % 512 = g.val * 128 + k.val; omega), proj_apply]

/-- A group's columns times the table. -/
theorem table_apply (i : Fin 16384) (g : Fin 4) (n : Fin 256) :
    val_main_v17 (F := Ideal) x0 x1 x2 x3 (ix3 i g n)
      = dotRow (fun k => projRow x0 x1 x2 i (fHead g k)) (fun k n => x3 (ix2 k n)) n := by
  rw [val_main_v17_apply]
  refine Finset.sum_congr rfl fun k _ => ?_
  rw [show lidx_main_v17 (ix3 i g n) k = ix3 i g k from funext fun a => match a with | ⟨0, _⟩ => rfl | ⟨1, _⟩ => rfl | ⟨2, _⟩ => rfl,
    show ridx_main_v17 (ix3 i g n) k = ix2 k n from funext fun a => match a with | ⟨0, _⟩ => rfl | ⟨1, _⟩ => rfl,
    f_apply, val_main_v16_apply]
  rfl

/-- The two halves of the product's columns, one after the other. -/
theorem parts_apply (a : Fin 2) (i : Fin 16384) (g : Fin 4) (d : Fin 128) (n : Fin 256) (hn : n.val = a.val * 128 + d.val) :
    val_main_v22 (F := Ideal) x0 x1 x2 x3 (ix4 a i g d) = val_main_v17 (F := Ideal) x0 x1 x2 x3 (ix3 i g n) := by
  have ha := a.isLt
  unfold val_main_v22
  by_cases h : a.val = 0
  · refine (concatenate_pair_apply_left (t := S2x16384x4x128) (s₁ := S1x16384x4x128) (s₂ := S1x16384x4x128) (0 : Fin 4) _ _ _ (ix4 a i g d) rfl
      (ix4 0 i g d : S1x16384x4x128.Idx) fun b => ?_).trans ?_
    · match b with
      | ⟨0, _⟩ => exact h.symm
      | ⟨1, _⟩ => rfl
      | ⟨2, _⟩ => rfl
      | ⟨3, _⟩ => rfl
    · rw [val_main_v20_apply, val_main_v18_apply, show idx_main_v18 (idx_main_v20 (ix4 0 i g d)) = ix3 i g n from
        funext fun b => match b with
          | ⟨0, _⟩ => rfl
          | ⟨1, _⟩ => rfl
          | ⟨2, _⟩ => Fin.ext (by show d.val = n.val; omega)]
  · refine (concatenate_pair_apply_right (t := S2x16384x4x128) (s₁ := S1x16384x4x128) (s₂ := S1x16384x4x128) (0 : Fin 4) _ _ _ (ix4 a i g d) rfl rfl
      (ix4 0 i g d : S1x16384x4x128.Idx) (fun b hb => ?_) ?_).trans ?_
    · match b with
      | ⟨0, _⟩ => exact absurd rfl hb
      | ⟨1, _⟩ => rfl
      | ⟨2, _⟩ => rfl
      | ⟨3, _⟩ => rfl
    · show (0 : Fin 1).val + 1 = a.val
      have : (0 : Fin 1).val = 0 := rfl
      omega
    · rw [val_main_v21_apply, val_main_v19_apply, show idx_main_v19 (idx_main_v21 (ix4 0 i g d)) = ix3 i g n from
        funext fun b => match b with
          | ⟨0, _⟩ => rfl
          | ⟨1, _⟩ => rfl
          | ⟨2, _⟩ => Fin.ext (by show 128 + d.val = n.val; omega)]

/-- The transform at a row and a column. -/
theorem z_result (a : Fin 2) (i : Fin 16384) (n : Fin 512) :
    val_main_v63 (F := Ideal) x0 x1 x2 x3 (ix3 a i n) = zVal (projRow x0 x1 x2 i) (fun k n => x3 (ix2 k n)) a n := by
  have ha := a.isLt
  have hi := i.isLt
  have hn := n.isLt
  rw [val_main_v63_apply, val_main_v62_apply, show idx_main_v62 (ix3 a i n) = ix4 a i (group n) (place n) from
    funext fun b => match b with
      | ⟨0, _⟩ => Fin.ext (by show ((a.val * 16384 + i.val) * 512 + n.val) / 8388608 = a.val; omega)
      | ⟨1, _⟩ => Fin.ext (by show ((a.val * 16384 + i.val) * 512 + n.val) / 512 % 16384 = i.val; omega)
      | ⟨2, _⟩ => Fin.ext (by show ((a.val * 16384 + i.val) * 512 + n.val) / 128 % 4 = n.val / 128; omega)
      | ⟨3, _⟩ => Fin.ext (by show ((a.val * 16384 + i.val) * 512 + n.val) % 128 = n.val % 128; omega),
    parts_apply x0 x1 x2 x3 a i (group n) (place n) (tableCol a n) rfl, table_apply]
  rfl

/-- The gated half of the projection. -/
theorem gelu_apply (i : Fin 16384) (j : Fin 1024) :
    val_main_v36 (F := Ideal) x0 x1 x2 (ix2 i j) = gelu (projRow x0 x1 x2 i (late j)) := by
  have h : val_main_v23 (F := Ideal) x0 x1 x2 (ix2 i j) = projRow x0 x1 x2 i (late j) := by
    rw [val_main_v23_apply, show idx_main_v23 (ix2 i j) = ix2 i (late j) from
      funext fun a => match a with | ⟨0, _⟩ => rfl | ⟨1, _⟩ => rfl, proj_apply]
  rw [val_main_v36_apply, val_main_v35_apply, val_main_v34_apply, val_main_v33_apply, val_main_v32_apply, val_main_v31_apply,
    val_main_v30_apply, val_main_v29_apply, val_main_v28_apply, val_main_v27_apply, val_main_v26_apply, val_main_v25_apply,
    val_main_v24_apply, val_main_cst_2_apply, val_main_cst_3_apply, val_main_cst_4_apply, val_main_cst_5_apply, h]
  rfl

/-- The mixed part by group. -/
theorem v_apply (i : Fin 16384) (g : Fin 4) (k : Fin 128) :
    val_main_v39 (F := Ideal) x0 x1 x2 (ix3 i g k) = gelu (projRow x0 x1 x2 i (late (vHead g k))) := by
  have hi := i.isLt
  have hg := g.isLt
  have hk := k.isLt
  rw [val_main_v39_apply, val_main_v38_apply, show idx_main_v38 (idx_main_v39 (ix3 i g k)) = ix2 i (vHead g k) from
    funext fun a => match a with
      | ⟨0, _⟩ => Fin.ext (by show ((i.val * 4 + g.val) * 128 + k.val) / 512 = i.val; omega)
      | ⟨1, _⟩ => Fin.ext (by show 512 + (((i.val * 4 + g.val) * 128 + k.val) % 512) = 512 + (g.val * 128 + k.val); omega), gelu_apply]

/-- The sum of the squares of a group's row. -/
theorem v_squares (i : Fin 16384) (g : Fin 4) (z : Fin 1) :
    val_main_v42 (F := Ideal) x0 x1 x2 (ix3 i g z)
      = ∑ k : Fin 128, gelu (projRow x0 x1 x2 i (late (vHead g k))) * gelu (projRow x0 x1 x2 i (late (vHead g k))) := by
  rw [val_main_v42_apply, val_main_v41_apply]
  show Ideal.ofBits .f32 0x00000000#32 + _ = _
  rw [Ideal.ofBits_zero_f32, zero_add]
  refine Finset.sum_congr rfl fun k _ => ?_
  rw [val_main_v40_apply, show idx_main_v41 (idx_main_v42 (ix3 i g z)) k = ix3 i g k from
    funext fun a => match a with | ⟨0, _⟩ => rfl | ⟨1, _⟩ => rfl | ⟨2, _⟩ => rfl, v_apply]
  rfl

/-- A group's row normed. -/
theorem v_norm (i : Fin 16384) (g : Fin 4) (k : Fin 128) :
    val_main_v52 (F := Ideal) x0 x1 x2 x4 (ix3 i g k)
      = headNorm (fun k => gelu (projRow x0 x1 x2 i (late (vHead g k)))) (fun k => x4 (ix2 g k)) k := by
  rw [val_main_v52_apply, val_main_v49_apply, val_main_v48_apply, val_main_v47_apply, val_main_v46_apply, val_main_v44_apply,
    val_main_v43_apply, val_main_v45_apply, val_main_v51_apply, val_main_v50_apply, val_main_cst_7_apply, val_main_cst_8_apply,
    show idx_main_v48 (ix3 i g k) = ix3 i g 0 from funext fun a => match a with | ⟨0, _⟩ => rfl | ⟨1, _⟩ => rfl | ⟨2, _⟩ => rfl,
    v_squares, v_apply,
    show idx_main_v50 (idx_main_v51 (ix3 i g k)) = ix2 g k from funext fun a => match a with | ⟨0, _⟩ => rfl | ⟨1, _⟩ => rfl]
  rfl

/-- The weighted sum over the rows of chunk `c`, for its row `p`. -/
theorem mix_apply (c p : Fin 128) (g : Fin 4) (d : Fin 128) (f : Fin 128 → Fin 16384) (hf : ∀ q, (f q).val = c.val * 128 + q.val) :
    val_main_v55 (F := Ideal) x0 x1 x2 x4 x5 (ix4 c p g d)
      = ∑ q : Fin 128, x5 (ix3 g p q)
        * headNorm (fun k => gelu (projRow x0 x1 x2 (f q) (late (vHead g k)))) (fun k => x4 (ix2 g k)) d := by
  have hc := c.isLt
  have hg := g.isLt
  have hd := d.isLt
  rw [val_main_v55_apply, show idx_main_v55 (ix4 c p g d) = ix4 g c d p from
    funext fun a => match a with | ⟨0, _⟩ => rfl | ⟨1, _⟩ => rfl | ⟨2, _⟩ => rfl | ⟨3, _⟩ => rfl, val_main_v54_apply]
  refine Finset.sum_congr rfl fun q _ => ?_
  have hq := q.isLt
  have hfq := hf q
  rw [show lidx_main_v54 (ix4 g c d p) q = ix4 c q g d from
      funext fun a => match a with | ⟨0, _⟩ => rfl | ⟨1, _⟩ => rfl | ⟨2, _⟩ => rfl | ⟨3, _⟩ => rfl,
    show ridx_main_v54 (ix4 g c d p) q = ix3 g p q from
      funext fun a => match a with | ⟨0, _⟩ => rfl | ⟨1, _⟩ => rfl | ⟨2, _⟩ => rfl,
    val_main_v53_apply, show idx_main_v53 (ix4 c q g d) = ix3 (f q) g d from
      funext fun a => match a with
        | ⟨0, _⟩ => Fin.ext (by show (((c.val * 128 + q.val) * 4 + g.val) * 128 + d.val) / 512 = (f q).val; omega)
        | ⟨1, _⟩ => Fin.ext (by show (((c.val * 128 + q.val) * 4 + g.val) * 128 + d.val) / 128 % 4 = g.val; omega)
        | ⟨2, _⟩ => Fin.ext (by show (((c.val * 128 + q.val) * 4 + g.val) * 128 + d.val) % 128 = d.val; omega),
    v_norm]
  exact mul_comm _ _

/-- The offsets, repeated over the chunks and the channels. -/
theorem b_apply (c p : Fin 128) (g : Fin 4) (d : Fin 128) : val_main_v58 (F := Ideal) x6 (ix4 c p g d) = x6 (ix2 g p) := by
  rw [val_main_v58_apply, val_main_v57_apply, val_main_v56_apply,
    show idx_main_v56 (idx_main_v57 (idx_main_v58 (ix4 c p g d))) = ix2 g p from
      funext fun a => match a with | ⟨0, _⟩ => rfl | ⟨1, _⟩ => rfl]

/-- The mixture with its offset at a row and a column. -/
theorem offset_mix_apply (i : Fin 16384) (n : Fin 512) :
    val_main_v60 (F := Ideal) x0 x1 x2 x4 x5 x6 (ix2 i n)
      = (∑ q : Fin 128, x5 (ix3 (group n) (place (N := 16384) i) q)
          * headNorm (fun k => gelu (projRow x0 x1 x2 (chunkRow i q) (late (mCol n k)))) (fun k => x4 (ix2 (group n) k)) (place (N := 512) n))
        + x6 (ix2 (group n) (place (N := 16384) i)) := by
  have hi := i.isLt
  have hn := n.isLt
  have hc : i.val / 128 < 128 := by omega
  have e : vHead (group n) = mCol n := funext fun k => Fin.ext (by
    show 512 + (n.val / 128 * 128 + k.val) = 512 + n.val / 128 * 128 + k.val
    omega)
  have h := mix_apply x0 x1 x2 x4 x5 ⟨i.val / 128, hc⟩ (place (N := 16384) i) (group n) (place (N := 512) n) (chunkRow i) fun q => rfl
  rw [e] at h
  rw [val_main_v60_apply, show idx_main_v60 (ix2 i n) = ix4 (⟨i.val / 128, hc⟩ : Fin 128) (place (N := 16384) i) (group n) (place (N := 512) n) from
      funext fun b => match b with
        | ⟨0, _⟩ => Fin.ext (by show (i.val * 512 + n.val) / 65536 = i.val / 128; omega)
        | ⟨1, _⟩ => Fin.ext (by show (i.val * 512 + n.val) / 512 % 128 = i.val % 128; omega)
        | ⟨2, _⟩ => Fin.ext (by show (i.val * 512 + n.val) / 128 % 4 = n.val / 128; omega)
        | ⟨3, _⟩ => Fin.ext (by show (i.val * 512 + n.val) % 128 = n.val % 128; omega),
    val_main_v59_apply, b_apply, h]
  rfl

/-- The gated value at a row and a column. -/
theorem g_result (i : Fin 16384) (n : Fin 512) :
    val_main_v64 (F := Ideal) x0 x1 x2 x4 x5 x6 (ix2 i n)
      = gated (gelu (projRow x0 x1 x2 i (late (uCol n)))) (fun q => x5 (ix3 (group n) (place (N := 16384) i) q))
        (fun q => headNorm (fun k => gelu (projRow x0 x1 x2 (chunkRow i q) (late (mCol n k)))) (fun k => x4 (ix2 (group n) k))
          (place (N := 512) n))
        (x6 (ix2 (group n) (place (N := 16384) i))) := by
  have h1 : val_main_v37 (F := Ideal) x0 x1 x2 (ix2 i n) = gelu (projRow x0 x1 x2 i (late (uCol n))) := by
    rw [val_main_v37_apply, show idx_main_v37 (ix2 i n) = ix2 i (uCol n) from
      funext fun a => match a with | ⟨0, _⟩ => rfl | ⟨1, _⟩ => rfl, gelu_apply]
  rw [val_main_v64_apply, val_main_v61_apply, h1, offset_mix_apply]
  rfl

end GatingRead

end
-- ==== Proof.GatingClaim.lean ====
/- A mixing layer's first call: its kernel and its reference end with the same two arrays. -/
module

public import proofs.«01_k».proof.Defs
public import proofs.«01_k».proof.Proof.GatingArray
public import proofs.«01_k».proof.Proof.GatingRead
public import proofs.«01_k».proof.Proof.Gen.GatingRefIdeal.Run

@[expose] public section

noncomputable section

open Idealize.ShloMosaic Idealize.ShloMosaic.ValueIdx Idealize.ShloMosaic.TcCoe Idealize.SL.Sem RowMath

namespace GatingClaim

local instance : Cert.GatingIdeal.Facts := Cert.GatingIdeal.Gen.facts
local instance : Cert.GatingRefIdeal.Facts := Cert.GatingRefIdeal.Gen.facts

/-- The reference runs, leaves its arguments as they were and declares no semaphore. -/
theorem frame_reference : Cert.quiescent_GatingRefIdeal := fun m g _ =>
  (θ_run Cert.GatingRefIdeal.defs _ _).mono (fun r h => ⟨fun c => (h c).2.2, sem_eq_zero_of_no_sems (by decide) r.2⟩)
    (Cert.GatingRefIdeal.Value.run m g)

/-- The two programs start from equal arguments. -/
def Args (m : (ℓ : Loc Cert.GatingIdeal.nD Cert.GatingIdeal.τ Cert.GatingIdeal.sig) → Buf (Elt Ideal) ℓ)
    (m' : (ℓ : Loc Cert.GatingRefIdeal.nD Cert.GatingRefIdeal.τ Cert.GatingRefIdeal.sig) → Buf (Elt Ideal) ℓ) (c : Dev Cert.GatingIdeal.nD) : Prop :=
      m' ((c.tc : Thread Cert.GatingRefIdeal.nD Cert.GatingRefIdeal.τ).loc Cert.GatingRefIdeal.main_arg0) = m ((c.tc : Thread Cert.GatingIdeal.nD Cert.GatingIdeal.τ).loc Cert.GatingIdeal.main_arg0) ∧
      m' ((c.tc : Thread Cert.GatingRefIdeal.nD Cert.GatingRefIdeal.τ).loc Cert.GatingRefIdeal.main_arg1) = m ((c.tc : Thread Cert.GatingIdeal.nD Cert.GatingIdeal.τ).loc Cert.GatingIdeal.main_arg1) ∧
      m' ((c.tc : Thread Cert.GatingRefIdeal.nD Cert.GatingRefIdeal.τ).loc Cert.GatingRefIdeal.main_arg2) = m ((c.tc : Thread Cert.GatingIdeal.nD Cert.GatingIdeal.τ).loc Cert.GatingIdeal.main_arg2) ∧
      m' ((c.tc : Thread Cert.GatingRefIdeal.nD Cert.GatingRefIdeal.τ).loc Cert.GatingRefIdeal.main_arg3) = m ((c.tc : Thread Cert.GatingIdeal.nD Cert.GatingIdeal.τ).loc Cert.GatingIdeal.main_arg3) ∧
      m' ((c.tc : Thread Cert.GatingRefIdeal.nD Cert.GatingRefIdeal.τ).loc Cert.GatingRefIdeal.main_arg4) = m ((c.tc : Thread Cert.GatingIdeal.nD Cert.GatingIdeal.τ).loc Cert.GatingIdeal.main_arg4) ∧
      m' ((c.tc : Thread Cert.GatingRefIdeal.nD Cert.GatingRefIdeal.τ).loc Cert.GatingRefIdeal.main_arg5) = m ((c.tc : Thread Cert.GatingIdeal.nD Cert.GatingIdeal.τ).loc Cert.GatingIdeal.main_arg5) ∧
      m' ((c.tc : Thread Cert.GatingRefIdeal.nD Cert.GatingRefIdeal.τ).loc Cert.GatingRefIdeal.main_arg6) = m ((c.tc : Thread Cert.GatingIdeal.nD Cert.GatingIdeal.τ).loc Cert.GatingIdeal.main_arg6)

/-- On equal arguments the reference's transform is the one the kernel's blocks make up. -/
theorem reference_z (m : (ℓ : Loc Cert.GatingIdeal.nD Cert.GatingIdeal.τ Cert.GatingIdeal.sig) → Buf (Elt Ideal) ℓ)
    (m' : (ℓ : Loc Cert.GatingRefIdeal.nD Cert.GatingRefIdeal.τ Cert.GatingRefIdeal.sig) → Buf (Elt Ideal) ℓ)
    (c : Dev Cert.GatingIdeal.nD) (h : Args m m' c) :
    Cert.GatingRefIdeal.Read.val_main_v63 (F := Ideal) (m' ((c.tc : Thread Cert.GatingRefIdeal.nD Cert.GatingRefIdeal.τ).loc Cert.GatingRefIdeal.main_arg0))
      (m' ((c.tc : Thread Cert.GatingRefIdeal.nD Cert.GatingRefIdeal.τ).loc Cert.GatingRefIdeal.main_arg1))
      (m' ((c.tc : Thread Cert.GatingRefIdeal.nD Cert.GatingRefIdeal.τ).loc Cert.GatingRefIdeal.main_arg2))
      (m' ((c.tc : Thread Cert.GatingRefIdeal.nD Cert.GatingRefIdeal.τ).loc Cert.GatingRefIdeal.main_arg3))
      = GatingArray.GZ m c := by
  obtain ⟨h0, h1, h2, h3, h4, h5, h6⟩ := h
  rw [h0, h1, h2, h3]
  refine funext fun y => ?_
  obtain ⟨a, i, j, rfl⟩ : ∃ (a : Fin 2) (i : Fin 16384) (j : Fin 512), y = ix3 a i j := ⟨y 0, y 1, y 2, eq_ix3 y⟩
  exact GatingRead.z_result _ _ _ _ a i j

/-- On equal arguments the reference's gated values are those the kernel's blocks make up. -/
theorem reference_g (m : (ℓ : Loc Cert.GatingIdeal.nD Cert.GatingIdeal.τ Cert.GatingIdeal.sig) → Buf (Elt Ideal) ℓ)
    (m' : (ℓ : Loc Cert.GatingRefIdeal.nD Cert.GatingRefIdeal.τ Cert.GatingRefIdeal.sig) → Buf (Elt Ideal) ℓ)
    (c : Dev Cert.GatingIdeal.nD) (h : Args m m' c) :
    Cert.GatingRefIdeal.Read.val_main_v64 (F := Ideal) (m' ((c.tc : Thread Cert.GatingRefIdeal.nD Cert.GatingRefIdeal.τ).loc Cert.GatingRefIdeal.main_arg0))
      (m' ((c.tc : Thread Cert.GatingRefIdeal.nD Cert.GatingRefIdeal.τ).loc Cert.GatingRefIdeal.main_arg1))
      (m' ((c.tc : Thread Cert.GatingRefIdeal.nD Cert.GatingRefIdeal.τ).loc Cert.GatingRefIdeal.main_arg2))
      (m' ((c.tc : Thread Cert.GatingRefIdeal.nD Cert.GatingRefIdeal.τ).loc Cert.GatingRefIdeal.main_arg4))
      (m' ((c.tc : Thread Cert.GatingRefIdeal.nD Cert.GatingRefIdeal.τ).loc Cert.GatingRefIdeal.main_arg5))
      (m' ((c.tc : Thread Cert.GatingRefIdeal.nD Cert.GatingRefIdeal.τ).loc Cert.GatingRefIdeal.main_arg6))
      = GatingArray.GG m c := by
  obtain ⟨h0, h1, h2, h3, h4, h5, h6⟩ := h
  rw [h0, h1, h2, h4, h5, h6]
  refine funext fun y => ?_
  obtain ⟨i, j, rfl⟩ : ∃ (i : Fin 16384) (j : Fin 512), y = ix2 i j := ⟨y 0, y 1, eq_ix2 y⟩
  exact GatingRead.g_result _ _ _ _ _ _ i j

/-- On equal arguments the two programs end with the same transform and the same gated values. -/
theorem algebraic : Cert.algebraic_GatingIdeal_GatingRefIdeal := fun m g m' g' _ hargs =>
  ⟨fun c => GatingArray.GZ m c, fun c => GatingArray.GG m c,
    (θ_run Cert.GatingIdeal.defs _ _).mono
      (fun _ h c => ⟨(h c).1.trans (GatingArray.final_z m c), (h c).2.1.trans (GatingArray.final_g m c), (h c).2.2⟩)
      (Cert.GatingIdeal.Value.run_blocks m g),
    (θ_run Cert.GatingRefIdeal.defs _ _).mono
      (fun _ h c => ⟨((h c).1.trans (Cert.GatingRefIdeal.Read.val_main_v63_eq _ _ _ _)).trans (reference_z m m' c (hargs c)),
        ((h c).2.1.trans (Cert.GatingRefIdeal.Read.val_main_v64_eq m' c)).trans (reference_g m m' c (hargs c)), (h c).2.2⟩)
      (Cert.GatingRefIdeal.Value.run m' g')⟩

end GatingClaim

end
-- ==== Proof.FourierMath.lean ====
/- The two stages of the transform over positions, on the extended reals: a stage is a product of two halves with the two halves of a
   table's row, and the two halves of matrices set side by side. -/
module

public import proofs.«01_k».proof.Proof.RowMath

@[expose] public section

noncomputable section

open Idealize.ShloMosaic Idealize.ShloMosaic.ValueIdx RowMath
open scoped BigOperators

namespace FourierMath

/-- The first and the second half of 256 places. -/
def first (k : Fin 128) : Fin 256 := ⟨k.val, by have := k.isLt; omega⟩
def second (k : Fin 128) : Fin 256 := ⟨128 + k.val, by have := k.isLt; omega⟩

/-- Two products of rows, added. -/
def pair (c s a b : Fin 128 → EReal) : EReal := (∑ k, c k * a k) + ∑ k, s k * b k

/-- A sum of 256 products is that of the first 128 and that of the last 128, added. -/
theorem sum_halves (f g : Fin 256 → EReal) :
    (∑ k, f k * g k) = pair (fun k => f (first k)) (fun k => f (second k)) (fun k => g (first k)) (fun k => g (second k)) :=
  Fin.sum_univ_add (a := 128) (b := 128) fun k => f k * g k

/-- A row of two matrices, one above the other: one of the first, or one of the second. -/
theorem above_first {N : ℕ} {α : Type} (x y : (⟨2, ![128, N]⟩ : Shape).Idx → α)
    (h : Shape.Concatenates [⟨2, ![128, N]⟩, ⟨2, ![128, N]⟩] ⟨2, ![256, N]⟩ 0) (r : Fin 128) (n : Fin N) :
    concatenate ⟨2, ![256, N]⟩ 0 [⟨⟨2, ![128, N]⟩, x⟩, ⟨⟨2, ![128, N]⟩, y⟩] h (ix2 (first r) n) = x (ix2 r n) :=
  concatenate_pair_apply_left (t := ⟨2, ![256, N]⟩) (s₁ := ⟨2, ![128, N]⟩) (s₂ := ⟨2, ![128, N]⟩) (0 : Fin 2) x y h _ rfl (ix2 r n)
    fun b => match b with
      | ⟨0, _⟩ => rfl
      | ⟨1, _⟩ => rfl
theorem above_second {N : ℕ} {α : Type} (x y : (⟨2, ![128, N]⟩ : Shape).Idx → α)
    (h : Shape.Concatenates [⟨2, ![128, N]⟩, ⟨2, ![128, N]⟩] ⟨2, ![256, N]⟩ 0) (r : Fin 128) (n : Fin N) :
    concatenate ⟨2, ![256, N]⟩ 0 [⟨⟨2, ![128, N]⟩, x⟩, ⟨⟨2, ![128, N]⟩, y⟩] h (ix2 (second r) n) = y (ix2 r n) :=
  concatenate_pair_apply_right (t := ⟨2, ![256, N]⟩) (s₁ := ⟨2, ![128, N]⟩) (s₂ := ⟨2, ![128, N]⟩) (0 : Fin 2) x y h _ rfl rfl (ix2 r n)
    (fun b hb => match b, hb with
      | ⟨0, _⟩, hb => absurd rfl hb
      | ⟨1, _⟩, _ => rfl)
    (Nat.add_comm r.val 128)

/-- A column of two matrices side by side: one of the first, or one of the second. -/
theorem beside_first {α : Type} (x y : (⟨2, ![128, 128]⟩ : Shape).Idx → α)
    (h : Shape.Concatenates [⟨2, ![128, 128]⟩, ⟨2, ![128, 128]⟩] ⟨2, ![128, 256]⟩ 1) (r k : Fin 128) :
    concatenate ⟨2, ![128, 256]⟩ 1 [⟨⟨2, ![128, 128]⟩, x⟩, ⟨⟨2, ![128, 128]⟩, y⟩] h (ix2 r (first k)) = x (ix2 r k) :=
  concatenate_pair_apply_left (t := ⟨2, ![128, 256]⟩) (s₁ := ⟨2, ![128, 128]⟩) (s₂ := ⟨2, ![128, 128]⟩) (1 : Fin 2) x y h _ rfl (ix2 r k)
    fun b => match b with
      | ⟨0, _⟩ => rfl
      | ⟨1, _⟩ => rfl
theorem beside_second {α : Type} (x y : (⟨2, ![128, 128]⟩ : Shape).Idx → α)
    (h : Shape.Concatenates [⟨2, ![128, 128]⟩, ⟨2, ![128, 128]⟩] ⟨2, ![128, 256]⟩ 1) (r k : Fin 128) :
    concatenate ⟨2, ![128, 256]⟩ 1 [⟨⟨2, ![128, 128]⟩, x⟩, ⟨⟨2, ![128, 128]⟩, y⟩] h (ix2 r (second k)) = y (ix2 r k) :=
  concatenate_pair_apply_right (t := ⟨2, ![128, 256]⟩) (s₁ := ⟨2, ![128, 128]⟩) (s₂ := ⟨2, ![128, 128]⟩) (1 : Fin 2) x y h _ rfl rfl (ix2 r k)
    (fun b hb => match b, hb with
      | ⟨0, _⟩, _ => rfl
      | ⟨1, _⟩, hb => absurd rfl hb)
    (Nat.add_comm k.val 128)

/-- The row of a position: `k` in the slow half of the digits, the column's chunk in the fast half. -/
def position (k : Fin 128) (j : Fin 65536) : Fin 16384 := ⟨k.val * 128 + j.val / 512, by have := k.isLt; have := j.isLt; omega⟩
/-- The channel of a column of 128 rows of 512 laid side by side. -/
def channel (j : Fin 65536) : Fin 512 := ⟨j.val % 512, Nat.mod_lt _ (by norm_num)⟩

/-- The first stage's real part at a row and a column, and its imaginary part: the product of the table `c - i s` with `a - i b`. -/
def realPart (c s : Fin 128 → Fin 128 → EReal) (a b : Fin 128 → EReal) (r : Fin 128) : EReal := pair (c r) (fun k => -s r k) a b
def imagPart (c s : Fin 128 → Fin 128 → EReal) (a b : Fin 128 → EReal) (r : Fin 128) : EReal :=
  pair (fun k => -s r k) (fun k => -c r k) a b

/-- The first stage, its imaginary part below its real part. -/
def stageOne (c s : Fin 128 → Fin 128 → EReal) (a b : Fin 128 → EReal) (i : Fin 256) : EReal :=
  if h : i.val < 128 then realPart c s a b ⟨i.val, h⟩ else imagPart c s a b ⟨i.val - 128, by have := i.isLt; omega⟩
theorem stageOne_first (c s : Fin 128 → Fin 128 → EReal) (a b : Fin 128 → EReal) (r : Fin 128) :
    stageOne c s a b (first r) = realPart c s a b r := dif_pos r.isLt
theorem stageOne_second (c s : Fin 128 → Fin 128 → EReal) (a b : Fin 128 → EReal) (r : Fin 128) :
    stageOne c s a b (second r) = imagPart c s a b r := by
  have hn : ¬ (128 + r.val < 128) := by omega
  exact (dif_neg hn).trans (congrArg (imagPart c s a b) (Fin.ext (by show 128 + r.val - 128 = r.val; omega)))

/-- Every place of 256 is in one of the halves. -/
theorem halves (i : Fin 256) : (∃ r, i = first r) ∨ ∃ r, i = second r := by
  by_cases h : i.val < 128
  · exact .inl ⟨⟨i.val, h⟩, rfl⟩
  · have hi := i.isLt
    exact .inr ⟨⟨i.val - 128, by omega⟩, Fin.ext (by show i.val = 128 + (i.val - 128); omega)⟩

end FourierMath

end
-- ==== Proof.FourierArray.lean ====
/- What the result array of the first stage of the transform over positions holds after a run. -/
module

public import proofs.«01_k».proof.Proof.Gen.FourierIdeal.Value
public import proofs.«01_k».proof.Proof.FourierMath

@[expose] public section

noncomputable section

open Idealize.ShloMosaic Idealize.ShloMosaic.ValueIdx Idealize.ShloMosaic.TcCoe Idealize.SL.Sem RowMath FourierMath
open Idealize.ShloMosaic.Pipeline (Dat)

namespace FourierArray

open Cert.FourierIdeal Cert.FourierIdeal.Gen Cert.FourierIdeal.Value

/-- The zero offsets of the body's loads and store, as a function. -/
theorem offsets_zero : (![0, 0] : Fin 2 → Nat) = fun _ => 0 := funext fun a => by fin_cases a <;> rfl

/-- What the body leaves in the output block at a row and a column: the product of its blocks. -/
theorem out_apply (w : Vec Ideal S256x256 .bf16) (z : Vec Ideal S256x4096 .bf16) (r : Fin 256) (j : Fin 4096) :
    out0_2 (F := Ideal) w z (ix2 r j) = dotRow (fun k => w (ix2 r k)) (fun k n => z (ix2 k n)) j := by
  unfold out0_2
  refine (congrFun (View.canon_unit_zero (Val := Elt Ideal) offsets_zero inb_S256x4096_S256x4096_0_0 _) (ix2 r j)).trans ?_
  rw [show View.ld w r0_0 = w from View.ld_unit_zero (Val := Elt Ideal) offsets_zero _ w,
    show View.ld z r0_1 = z from View.ld_unit_zero (Val := Elt Ideal) offsets_zero _ z]
  unfold k0_pay1
  simp only [shapeCast_self]
  exact mm_apply (φ₁ := .bf16) (φ₂ := .bf16) dot_S256x256_S256x4096_S256x4096_1_0_0_1_n_n rfl w z r j

variable (m : (ℓ : Loc nD τ sig) → Buf (Elt Ideal) ℓ)

/-- The arguments: the two parts, and the tables of cosines and of sines. -/
def argZ (c : Dev nD) : S2x16384x512.Idx → EReal := m ((c : Thread nD τ).loc main_arg0)
def argC (c : Dev nD) : S128x128.Idx → EReal := m ((c : Thread nD τ).loc main_arg1)
def argS (c : Dev nD) : S128x128.Idx → EReal := m ((c : Thread nD τ).loc main_arg2)
/-- What the kernel is handed: the table, and the parts. -/
def tableW (c : Dev nD) : S256x256.Idx → EReal := V m c main_v6
def partsZ (c : Dev nD) : S256x65536.Idx → EReal := V m c main_v7

/-- The table the kernel is handed: the real part's row of blocks above the imaginary part's. -/
theorem V_w (c : Dev nD) : tableW m c
    = concatenate S256x256 0 [
        ⟨S128x256, concatenate S128x256 1 [⟨S128x128, argC m c⟩,
          ⟨S128x128, fun i => -(argS m c i)⟩] concatenates_S128x128_S128x128_S128x256_d1⟩,
        ⟨S128x256, concatenate S128x256 1 [⟨S128x128, fun i => -(argS m c i)⟩,
          ⟨S128x128, fun i => -(argC m c i)⟩] concatenates_S128x128_S128x128_S128x256_d1⟩]
      concatenates_S128x256_S128x256_S256x256_d0 := by
  unfold tableW argC argS; simp only [V, hostOps0]; after_results <;> rfl
/-- The two parts, their rows laid side by side in chunks of 128. -/
theorem V_z (c : Dev nD) : partsZ m c
    = shapeCast S256x65536 (argZ m c) shapeCasts_S2x16384x512_S256x65536 := by
  unfold partsZ argZ; simp only [V, hostOps0]; after_results <;> rfl

/-- The blocks' places: the table's block is the table, the others' block `t` is block `t` of columns. -/
theorem idx_facts : ∀ t : Fin cfg0.N, (win0_0.index t 0 = 0 ∧ win0_0.index t 1 = 0) ∧ (win0_1.index t 0 = 0 ∧ win0_1.index t 1 = t.val)
    ∧ (win0_2.index t 0 = 0 ∧ win0_2.index t 1 = t.val) :=
  (by decide +kernel : ∀ t : Fin grid0.N, (win0_0.index t 0 = 0 ∧ win0_0.index t 1 = 0) ∧ (win0_1.index t 0 = 0 ∧ win0_1.index t 1 = t.val)
    ∧ (win0_2.index t 0 = 0 ∧ win0_2.index t 1 = t.val))

/-- Column `j` of block `t` as a column of the array. -/
def colAt (t : Fin cfg0.N) (j : Fin 4096) : Fin 65536 :=
  ⟨t.val * 4096 + j.val, by have h : t.val < 16 := t.isLt; have := j.isLt; omega⟩

/-- The table's block is the table. -/
theorem w_block (c : Dev nD) (t : Fin cfg0.N) (r k : Fin 256) : iblk m c 0 t (ix2 r k) = tableW m c (ix2 r k) := by
  show V m c main_v6 ((win0_0.rect t).emb (ix2 r k)) = _
  refine congrArg (V m c main_v6) (funext fun a => Fin.ext ?_)
  match a with
  | ⟨0, _⟩ => exact Pipeline.Window.rect_emb_val_of_index_zero win0_0 t 0 (idx_facts t).1.1 (ix2 r k)
  | ⟨1, _⟩ => exact Pipeline.Window.rect_emb_val_of_index_zero win0_0 t 1 (idx_facts t).1.2 (ix2 r k)

/-- The first and the second row of the table's blocks. -/
theorem w_first (c : Dev nD) (r k : Fin 128) : tableW m c (ix2 (first r) (first k)) = argC m c (ix2 r k) := by
  rw [V_w]
  exact (above_first _ _ _ r (first k)).trans (beside_first _ _ _ r k)
theorem w_first_second (c : Dev nD) (r k : Fin 128) :
    tableW m c (ix2 (first r) (second k)) = -(argS m c (ix2 r k)) := by
  rw [V_w]
  exact (above_first _ _ _ r (second k)).trans (beside_second _ _ _ r k)
theorem w_second_first (c : Dev nD) (r k : Fin 128) :
    tableW m c (ix2 (second r) (first k)) = -(argS m c (ix2 r k)) := by
  rw [V_w]
  exact (above_second _ _ _ r (first k)).trans (beside_first _ _ _ r k)
theorem w_second (c : Dev nD) (r k : Fin 128) :
    tableW m c (ix2 (second r) (second k)) = -(argC m c (ix2 r k)) := by
  rw [V_w]
  exact (above_second _ _ _ r (second k)).trans (beside_second _ _ _ r k)

/-- The parts' block at point `t`, read at a row and a column. -/
theorem z_block (c : Dev nD) (t : Fin cfg0.N) (q : Fin 256) (j : Fin 4096) :
    iblk m c 1 t (ix2 q j) = partsZ m c (ix2 q (colAt t j)) := by
  show V m c main_v7 ((win0_1.rect t).emb (ix2 q j)) = _
  refine congrArg (V m c main_v7) (funext fun a => Fin.ext ?_)
  match a with
  | ⟨0, _⟩ => exact Pipeline.Window.rect_emb_val_of_index_zero win0_1 t 0 (idx_facts t).2.1.1 (ix2 q j)
  | ⟨1, _⟩ => exact (Pipeline.Window.rect_emb_val win0_1 t (ix2 q j) 1).trans (congrArg (· * 4096 + j.val) (idx_facts t).2.1.2)

/-- A row of the first part and one of the second. -/
theorem z_first (c : Dev nD) (k : Fin 128) (j : Fin 65536) :
    partsZ m c (ix2 (first k) j) = argZ m c (ix3 (0 : Fin 2) (position k j) (channel j)) := by
  rw [V_z]
  refine shapeCast_apply _ _ _ _ ?_
  rw [Shape.rowMajor_val_two, Shape.rowMajor_val_three]
  have hj := j.isLt
  show (0 * 16384 + (k.val * 128 + j.val / 512)) * 512 + j.val % 512 = k.val * 65536 + j.val
  omega
theorem z_second (c : Dev nD) (k : Fin 128) (j : Fin 65536) :
    partsZ m c (ix2 (second k) j) = argZ m c (ix3 (1 : Fin 2) (position k j) (channel j)) := by
  rw [V_z]
  refine shapeCast_apply _ _ _ _ ?_
  rw [Shape.rowMajor_val_two, Shape.rowMajor_val_three]
  have hj := j.isLt
  show (1 * 16384 + (k.val * 128 + j.val / 512)) * 512 + j.val % 512 = (128 + k.val) * 65536 + j.val
  omega

/-- The first stage at a row and a column. -/
def value (c : Dev nD) (i : Fin 256) (j : Fin 65536) : EReal :=
  stageOne (fun r k => argC m c (ix2 r k)) (fun r k => argS m c (ix2 r k))
    (fun k => argZ m c (ix3 (0 : Fin 2) (position k j) (channel j)))
    (fun k => argZ m c (ix3 (1 : Fin 2) (position k j) (channel j))) i

/-- The product of the table with the two parts is the first stage. -/
theorem product_eq (c : Dev nD) (i : Fin 256) (j : Fin 65536) :
    (∑ k : Fin 256, tableW m c (ix2 i k) * partsZ m c (ix2 k j)) = value m c i j := by
  refine (sum_halves (fun k => tableW m c (ix2 i k)) fun k => partsZ m c (ix2 k j)).trans ?_
  unfold value
  rcases halves i with ⟨r, rfl⟩ | ⟨r, rfl⟩
  · rw [stageOne_first]
    unfold FourierMath.realPart
    exact congr (congr (congr (congrArg pair (funext fun k => w_first m c r k)) (funext fun k => w_first_second m c r k))
      (funext fun k => z_first m c k j)) (funext fun k => z_second m c k j)
  · rw [stageOne_second]
    unfold FourierMath.imagPart
    exact congr (congr (congr (congrArg pair (funext fun k => w_second_first m c r k)) (funext fun k => w_second m c r k))
      (funext fun k => z_first m c k j)) (funext fun k => z_second m c k j)

/-- The whole result array as one function. -/
def G (c : Dev nD) : S256x65536.Idx → EReal := fun i => value m c (i 0) (i 1)

/-- A place of the result's block `t` in the array. -/
theorem emb_out (t : Fin cfg0.N) (r : Fin 256) (j : Fin 4096) : (win0_2.rect t).emb (ix2 r j) = ix2 r (colAt t j) := by
  refine funext fun a => Fin.ext ?_
  match a with
  | ⟨0, _⟩ => exact Pipeline.Window.rect_emb_val_of_index_zero win0_2 t 0 (idx_facts t).2.2.1 (ix2 r j)
  | ⟨1, _⟩ => exact (Pipeline.Window.rect_emb_val win0_2 t (ix2 r j) 1).trans (congrArg (· * 4096 + j.val) (idx_facts t).2.2.2)

/-- What point `t` writes back is block `t` of that function. -/
theorem flushed_eq (c : Dev nD) (t : Fin cfg0.N) :
    (dats m 0 c).flushed 2 t = ((cfg0.win 2).blk t).view.read (Elt Ideal) (G m c) := by
  rw [flushed2]
  refine funext fun (y : S256x4096.Idx) => ?_
  obtain ⟨r, j, rfl⟩ : ∃ (r : Fin 256) (j : Fin 4096), y = ix2 r j := ⟨y 0, y 1, eq_ix2 y⟩
  show out0_2 (F := Ideal) _ _ (ix2 r j) = G m c ((win0_2.rect t).emb (ix2 r j))
  rw [emb_out]
  refine (out_apply _ _ r j).trans ?_
  refine Eq.trans ?_ (product_eq m c r (colAt t j))
  unfold dotRow
  exact Finset.sum_congr rfl fun k _ => congrArg₂ (fun a b : EReal => a * b) (w_block m c t r k) (z_block m c t k j)

/-- Every place of the array lies in some point's block. -/
theorem cover (i : S256x65536.Idx) : ∃ t : Fin cfg0.N, (cfg0.win 2).flush t = true ∧ i ∈ ((cfg0.win 2).blk t).view.set := by
  have h1 : (i 1).val < 65536 := (i 1).isLt
  refine ⟨⟨(i 1).val / 4096, by show _ < 16; omega⟩, flush0_2 _, ?_⟩
  have e := ((cfg0.win 2).blk ⟨(i 1).val / 4096, by show _ < 16; omega⟩).view.emb_mem_set
    (ix2 (i 0) (⟨(i 1).val % 4096, Nat.mod_lt _ (by norm_num)⟩ : Fin 4096))
  refine (congrArg (· ∈ _) ?_).mp e
  refine (emb_out _ (i 0) _).trans ?_
  refine (congrArg (ix2 (i 0) ·) (Fin.ext ?_)).trans (eq_ix2 i).symm
  show (i 1).val / 4096 * 4096 + (i 1).val % 4096 = (i 1).val
  omega

/-- The result array after the run. -/
theorem final (c : Dev nD) : (dats m 0 c).arrAt 2 cfg0.N = G m c :=
  (dats m 0 c).arrAt_eq_of_cover 2 (G m c) (fun t _ => flushed_eq m c t) cover

end FourierArray

end
-- ==== Proof.FourierRead.lean ====
/- What the reference of the first stage of the transform over positions computes at a row and a column. -/
module

public import proofs.«01_k».proof.Proof.Gen.FourierRefIdeal.Read
public import proofs.«01_k».proof.Proof.FourierMath

@[expose] public section

noncomputable section

open Idealize.ShloMosaic Idealize.ShloMosaic.ValueIdx RowMath FourierMath

namespace FourierRead

open Cert.FourierRefIdeal Cert.FourierRefIdeal.Read

variable (x0 : (⟨S2x16384x512, .bf16⟩ : BufTy).Contents (Elt Ideal)) (x1 x2 : (⟨S128x128, .f32⟩ : BufTy).Contents (Elt Ideal))

/-- A row of each part, its chunks of columns side by side. -/
theorem part_apply (p : Fin 2) (k : Fin 128) (j : Fin 65536) :
    val_main_v1 (F := Ideal) x0 (ix3 p k j) = x0 (ix3 p (position k j) (channel j)) := by
  have hp := p.isLt
  have hk := k.isLt
  have hj := j.isLt
  rw [val_main_v1_apply, val_main_v0_apply, show idx_main_v1 (ix3 p k j) = ix3 p (position k j) (channel j) from
    funext fun a => match a with
      | ⟨0, _⟩ => Fin.ext (by show ((p.val * 128 + k.val) * 65536 + j.val) / 8388608 = p.val; omega)
      | ⟨1, _⟩ => Fin.ext (by show ((p.val * 128 + k.val) * 65536 + j.val) / 512 % 16384 = k.val * 128 + j.val / 512; omega)
      | ⟨2, _⟩ => Fin.ext (by show ((p.val * 128 + k.val) * 65536 + j.val) % 512 = j.val % 512; omega)]
  rfl
theorem a_apply (k : Fin 128) (j : Fin 65536) :
    val_main_v3 (F := Ideal) x0 (ix2 k j) = x0 (ix3 (0 : Fin 2) (position k j) (channel j)) := by
  have hk := k.isLt
  have hj := j.isLt
  rw [val_main_v3_apply, val_main_v2_apply, show idx_main_v2 (idx_main_v3 (ix2 k j)) = ix3 (0 : Fin 2) k j from
    funext fun a => match a with
      | ⟨0, _⟩ => rfl
      | ⟨1, _⟩ => Fin.ext (by show (k.val * 65536 + j.val) / 65536 % 128 = k.val; omega)
      | ⟨2, _⟩ => Fin.ext (by show (k.val * 65536 + j.val) % 65536 = j.val; omega), part_apply]
theorem b_apply (k : Fin 128) (j : Fin 65536) :
    val_main_v5 (F := Ideal) x0 (ix2 k j) = x0 (ix3 (1 : Fin 2) (position k j) (channel j)) := by
  have hk := k.isLt
  have hj := j.isLt
  rw [val_main_v5_apply, val_main_v4_apply, show idx_main_v4 (idx_main_v5 (ix2 k j)) = ix3 (1 : Fin 2) k j from
    funext fun a => match a with
      | ⟨0, _⟩ => rfl
      | ⟨1, _⟩ => Fin.ext (by show (k.val * 65536 + j.val) / 65536 % 128 = k.val; omega)
      | ⟨2, _⟩ => Fin.ext (by show (k.val * 65536 + j.val) % 65536 = j.val; omega), part_apply]

/-- The real part. -/
theorem real_apply (r : Fin 128) (j : Fin 65536) :
    val_main_v9 (F := Ideal) x0 x1 x2 (ix2 r j)
      = realPart (fun r k => x1 (ix2 r k)) (fun r k => x2 (ix2 r k)) (fun k => x0 (ix3 (0 : Fin 2) (position k j) (channel j)))
        (fun k => x0 (ix3 (1 : Fin 2) (position k j) (channel j))) r := by
  rw [val_main_v9_apply, val_main_v6_apply, val_main_v8_apply]
  refine congrArg₂ (fun a b : EReal => a + b) (Finset.sum_congr rfl fun k _ => ?_) (Finset.sum_congr rfl fun k _ => ?_)
  · rw [show lidx_main_v6 (ix2 r j) k = ix2 r k from funext fun a => match a with | ⟨0, _⟩ => rfl | ⟨1, _⟩ => rfl,
      show ridx_main_v6 (ix2 r j) k = ix2 k j from funext fun a => match a with | ⟨0, _⟩ => rfl | ⟨1, _⟩ => rfl, a_apply]
  · rw [show lidx_main_v8 (ix2 r j) k = ix2 r k from funext fun a => match a with | ⟨0, _⟩ => rfl | ⟨1, _⟩ => rfl,
      show ridx_main_v8 (ix2 r j) k = ix2 k j from funext fun a => match a with | ⟨0, _⟩ => rfl | ⟨1, _⟩ => rfl, b_apply]
    rfl

/-- The imaginary part. -/
theorem imag_apply (r : Fin 128) (j : Fin 65536) :
    val_main_v14 (F := Ideal) x0 x1 x2 (ix2 r j)
      = imagPart (fun r k => x1 (ix2 r k)) (fun r k => x2 (ix2 r k)) (fun k => x0 (ix3 (0 : Fin 2) (position k j) (channel j)))
        (fun k => x0 (ix3 (1 : Fin 2) (position k j) (channel j))) r := by
  rw [val_main_v14_apply, val_main_v11_apply, val_main_v13_apply]
  refine congrArg₂ (fun a b : EReal => a + b) (Finset.sum_congr rfl fun k _ => ?_) (Finset.sum_congr rfl fun k _ => ?_)
  · rw [show lidx_main_v11 (ix2 r j) k = ix2 r k from funext fun a => match a with | ⟨0, _⟩ => rfl | ⟨1, _⟩ => rfl,
      show ridx_main_v11 (ix2 r j) k = ix2 k j from funext fun a => match a with | ⟨0, _⟩ => rfl | ⟨1, _⟩ => rfl, a_apply]
    rfl
  · rw [show lidx_main_v13 (ix2 r j) k = ix2 r k from funext fun a => match a with | ⟨0, _⟩ => rfl | ⟨1, _⟩ => rfl,
      show ridx_main_v13 (ix2 r j) k = ix2 k j from funext fun a => match a with | ⟨0, _⟩ => rfl | ⟨1, _⟩ => rfl, b_apply]
    rfl

/-- The stacked parts, the first and the second. -/
theorem stack_first (r : Fin 128) (j : Fin 65536) :
    val_main_v17 (F := Ideal) x0 x1 x2 (ix3 (0 : Fin 2) r j) = val_main_v9 (F := Ideal) x0 x1 x2 (ix2 r j) := by
  unfold val_main_v17
  refine (concatenate_pair_apply_left (t := S2x128x65536) (s₁ := S1x128x65536) (s₂ := S1x128x65536) (0 : Fin 3) _ _ _ _ rfl
    (ix3 0 r j : S1x128x65536.Idx) fun b => ?_).trans ?_
  · match b with
    | ⟨0, _⟩ => rfl
    | ⟨1, _⟩ => rfl
    | ⟨2, _⟩ => rfl
  · rw [val_main_v15_apply]
    exact congrArg _ (funext fun a => match a with | ⟨0, _⟩ => rfl | ⟨1, _⟩ => rfl)
theorem stack_second (r : Fin 128) (j : Fin 65536) :
    val_main_v17 (F := Ideal) x0 x1 x2 (ix3 (1 : Fin 2) r j) = val_main_v14 (F := Ideal) x0 x1 x2 (ix2 r j) := by
  unfold val_main_v17
  refine (concatenate_pair_apply_right (t := S2x128x65536) (s₁ := S1x128x65536) (s₂ := S1x128x65536) (0 : Fin 3) _ _ _ _ rfl rfl
    (ix3 0 r j : S1x128x65536.Idx) (fun b hb => ?_) rfl).trans ?_
  · match b with
    | ⟨0, _⟩ => exact absurd rfl hb
    | ⟨1, _⟩ => rfl
    | ⟨2, _⟩ => rfl
  · rw [val_main_v16_apply]
    exact congrArg _ (funext fun a => match a with | ⟨0, _⟩ => rfl | ⟨1, _⟩ => rfl)

/-- The result at a row and a column. -/
theorem result_apply (i : Fin 256) (j : Fin 65536) :
    val_main_v19 (F := Ideal) x0 x1 x2 (ix2 i j)
      = stageOne (fun r k => x1 (ix2 r k)) (fun r k => x2 (ix2 r k)) (fun k => x0 (ix3 (0 : Fin 2) (position k j) (channel j)))
        (fun k => x0 (ix3 (1 : Fin 2) (position k j) (channel j))) i := by
  have hj := j.isLt
  rw [val_main_v19_apply, val_main_v18_apply]
  rcases halves i with ⟨r, rfl⟩ | ⟨r, rfl⟩
  · have hr := r.isLt
    rw [stageOne_first, show idx_main_v18 (ix2 (first r) j) = ix3 (0 : Fin 2) r j from
      funext fun a => match a with
        | ⟨0, _⟩ => Fin.ext (by show (r.val * 65536 + j.val) / 8388608 = 0; omega)
        | ⟨1, _⟩ => Fin.ext (by show (r.val * 65536 + j.val) / 65536 % 128 = r.val; omega)
        | ⟨2, _⟩ => Fin.ext (by show (r.val * 65536 + j.val) % 65536 = j.val; omega), stack_first, real_apply]
    rfl
  · have hr := r.isLt
    rw [stageOne_second, show idx_main_v18 (ix2 (second r) j) = ix3 (1 : Fin 2) r j from
      funext fun a => match a with
        | ⟨0, _⟩ => Fin.ext (by show ((128 + r.val) * 65536 + j.val) / 8388608 = 1; omega)
        | ⟨1, _⟩ => Fin.ext (by show ((128 + r.val) * 65536 + j.val) / 65536 % 128 = r.val; omega)
        | ⟨2, _⟩ => Fin.ext (by show ((128 + r.val) * 65536 + j.val) % 65536 = j.val; omega), stack_second, imag_apply]
    rfl

end FourierRead

end
-- ==== Proof.FourierClaim.lean ====
/- The first stage of the transform over positions: its kernel and its reference end with the same array. -/
module

public import proofs.«01_k».proof.Defs
public import proofs.«01_k».proof.Proof.FourierArray
public import proofs.«01_k».proof.Proof.FourierRead
public import proofs.«01_k».proof.Proof.Gen.FourierRefIdeal.Run

@[expose] public section

noncomputable section

open Idealize.ShloMosaic Idealize.ShloMosaic.ValueIdx Idealize.ShloMosaic.TcCoe Idealize.SL.Sem RowMath

namespace FourierClaim

local instance : Cert.FourierIdeal.Facts := Cert.FourierIdeal.Gen.facts
local instance : Cert.FourierRefIdeal.Facts := Cert.FourierRefIdeal.Gen.facts

/-- The reference runs, leaves its arguments as they were and declares no semaphore. -/
theorem frame_reference : Cert.quiescent_FourierRefIdeal := fun m g _ =>
  (θ_run Cert.FourierRefIdeal.defs _ _).mono (fun r h => ⟨fun c => (h c).2, sem_eq_zero_of_no_sems (by decide) r.2⟩)
    (Cert.FourierRefIdeal.Value.run m g)

/-- On equal arguments the reference's value is the array the kernel's blocks make up. -/
theorem reference_eq (m : (ℓ : Loc Cert.FourierIdeal.nD Cert.FourierIdeal.τ Cert.FourierIdeal.sig) → Buf (Elt Ideal) ℓ)
    (m' : (ℓ : Loc Cert.FourierRefIdeal.nD Cert.FourierRefIdeal.τ Cert.FourierRefIdeal.sig) → Buf (Elt Ideal) ℓ)
    (c : Dev Cert.FourierIdeal.nD)
    (h : m' ((c.tc : Thread Cert.FourierRefIdeal.nD Cert.FourierRefIdeal.τ).loc Cert.FourierRefIdeal.main_arg0) = m ((c.tc : Thread Cert.FourierIdeal.nD Cert.FourierIdeal.τ).loc Cert.FourierIdeal.main_arg0)
      ∧ m' ((c.tc : Thread Cert.FourierRefIdeal.nD Cert.FourierRefIdeal.τ).loc Cert.FourierRefIdeal.main_arg1) = m ((c.tc : Thread Cert.FourierIdeal.nD Cert.FourierIdeal.τ).loc Cert.FourierIdeal.main_arg1)
      ∧ m' ((c.tc : Thread Cert.FourierRefIdeal.nD Cert.FourierRefIdeal.τ).loc Cert.FourierRefIdeal.main_arg2) = m ((c.tc : Thread Cert.FourierIdeal.nD Cert.FourierIdeal.τ).loc Cert.FourierIdeal.main_arg2)) :
    Cert.FourierRefIdeal.Read.val_main_v19 (F := Ideal) (m' ((c.tc : Thread Cert.FourierRefIdeal.nD Cert.FourierRefIdeal.τ).loc Cert.FourierRefIdeal.main_arg0))
      (m' ((c.tc : Thread Cert.FourierRefIdeal.nD Cert.FourierRefIdeal.τ).loc Cert.FourierRefIdeal.main_arg1))
      (m' ((c.tc : Thread Cert.FourierRefIdeal.nD Cert.FourierRefIdeal.τ).loc Cert.FourierRefIdeal.main_arg2)) = FourierArray.G m c := by
  obtain ⟨h0, h1, h2⟩ := h
  rw [h0, h1, h2]
  refine funext fun y => ?_
  obtain ⟨i, j, rfl⟩ : ∃ (i : Fin 256) (j : Fin 65536), y = ix2 i j := ⟨y 0, y 1, eq_ix2 y⟩
  exact FourierRead.result_apply _ _ _ i j

/-- The kernel and its reference end with equal results. -/
theorem algebraic : Cert.algebraic_FourierIdeal_FourierRefIdeal := fun m g m' g' _ hargs =>
  ⟨fun c => FourierArray.G m c,
    (θ_run Cert.FourierIdeal.defs _ _).mono (fun _ h c => ⟨(h c).1.trans (FourierArray.final m c), (h c).2⟩)
      (Cert.FourierIdeal.Value.run_blocks m g),
    (θ_run Cert.FourierRefIdeal.defs _ _).mono
      (fun _ h c => ⟨((h c).1.trans (Cert.FourierRefIdeal.Read.val_main_v19_eq _ _ _)).trans (reference_eq m m' c (hargs c)), (h c).2⟩)
      (Cert.FourierRefIdeal.Value.run m' g')⟩

end FourierClaim

end
-- ==== Proof.TwiddleMath.lean ====
/- The second stage of the transform over positions, on the extended reals: for each slow digit a product with its own two tables. -/
module

public import proofs.«01_k».proof.Proof.FourierMath

@[expose] public section

noncomputable section

open Idealize.ShloMosaic Idealize.ShloMosaic.ValueIdx RowMath FourierMath
open scoped BigOperators

namespace TwiddleMath

/-- The slow digit whose chunk a column lies in, and the column of a digit and a channel. -/
def slot (j : Fin 65536) : Fin 128 := ⟨j.val / 512, by have := j.isLt; omega⟩
def column (n : Fin 128) (w : Fin 512) : Fin 65536 := ⟨n.val * 512 + w.val, by have := n.isLt; have := w.isLt; omega⟩
/-- The same within a block of eight digits. -/
def blockSlot (j : Fin 4096) : Fin 8 := ⟨j.val / 512, by have := j.isLt; omega⟩
def blockChannel (j : Fin 4096) : Fin 512 := ⟨j.val % 512, Nat.mod_lt _ (by norm_num)⟩

/-- The second stage at a row and a column: the real part of the product of the digit's table with the digit's rows. -/
def stageTwo (t : (⟨2, ![256, 65536]⟩ : Shape).Idx → EReal) (c s : (⟨3, ![128, 128, 128]⟩ : Shape).Idx → EReal) (r : Fin 128)
    (j : Fin 65536) : EReal :=
  pair (fun n => c (ix3 (slot j) r n)) (fun n => s (ix3 (slot j) r n)) (fun n => t (ix2 (first (slot j)) (column n (channel j))))
    (fun n => t (ix2 (second (slot j)) (column n (channel j))))

/-- A column of two stacks of tables side by side: one of the first, or one of the second. -/
theorem tables_first {α : Type} (x y : (⟨3, ![128, 128, 128]⟩ : Shape).Idx → α)
    (h : Shape.Concatenates [⟨3, ![128, 128, 128]⟩, ⟨3, ![128, 128, 128]⟩] ⟨3, ![128, 128, 256]⟩ 2) (k r n : Fin 128) :
    concatenate ⟨3, ![128, 128, 256]⟩ 2 [⟨⟨3, ![128, 128, 128]⟩, x⟩, ⟨⟨3, ![128, 128, 128]⟩, y⟩] h (ix3 k r (first n)) = x (ix3 k r n) :=
  concatenate_pair_apply_left (t := ⟨3, ![128, 128, 256]⟩) (s₁ := ⟨3, ![128, 128, 128]⟩) (s₂ := ⟨3, ![128, 128, 128]⟩) (2 : Fin 3) x y h _
    rfl (ix3 k r n) fun b => match b with
      | ⟨0, _⟩ => rfl
      | ⟨1, _⟩ => rfl
      | ⟨2, _⟩ => rfl
theorem tables_second {α : Type} (x y : (⟨3, ![128, 128, 128]⟩ : Shape).Idx → α)
    (h : Shape.Concatenates [⟨3, ![128, 128, 128]⟩, ⟨3, ![128, 128, 128]⟩] ⟨3, ![128, 128, 256]⟩ 2) (k r n : Fin 128) :
    concatenate ⟨3, ![128, 128, 256]⟩ 2 [⟨⟨3, ![128, 128, 128]⟩, x⟩, ⟨⟨3, ![128, 128, 128]⟩, y⟩] h (ix3 k r (second n)) = y (ix3 k r n) :=
  concatenate_pair_apply_right (t := ⟨3, ![128, 128, 256]⟩) (s₁ := ⟨3, ![128, 128, 128]⟩) (s₂ := ⟨3, ![128, 128, 128]⟩) (2 : Fin 3) x y h _
    rfl rfl (ix3 k r n)
    (fun b hb => match b, hb with
      | ⟨0, _⟩, _ => rfl
      | ⟨1, _⟩, _ => rfl
      | ⟨2, _⟩, hb => absurd rfl hb)
    (Nat.add_comm n.val 128)

end TwiddleMath

end
-- ==== Proof.TwiddleBlock.lean ====
/- One block of eight digits of the second stage of the transform over positions: what the body computes at a row and a column. -/
module

public import proofs.«01_k».proof.Proof.Gen.TwiddleIdeal.Value
public import proofs.«01_k».proof.Proof.TwiddleMath

@[expose] public section

noncomputable section

open Idealize.ShloMosaic Idealize.ShloMosaic.ValueIdx Idealize.ShloMosaic.TcCoe RowMath FourierMath TwiddleMath

namespace TwiddleBlock

open Cert.TwiddleIdeal Cert.TwiddleIdeal.Gen Cert.TwiddleIdeal.Value

/-- One digit's product, as the kernel's vector operations compute it: its table times its two rows of blocks, one above the other. -/
def stepVec (a b : Vec Ideal S1x1x128x512 .bf16) (v : Vec Ideal S1x128x256 .bf16) : FVec Ideal S128x512 .bf16 :=
  truncf .bf16 (matmul dot_S128x256_S256x512_S128x512_1_0_0_1_n_n none
    (shapeCast S128x256 (v : FVec Ideal S1x128x256 .bf16) shapeCasts_S1x128x256_S128x256 : FVec Ideal S128x256 .bf16)
    (concatenate S256x512 0 [⟨S128x512, shapeCast S128x512 a shapeCasts_S1x1x128x512_S128x512⟩,
      ⟨S128x512, shapeCast S128x512 b shapeCasts_S1x1x128x512_S128x512⟩] concatenates_S128x512_S128x512_S256x512_d0 : FVec Ideal S256x512 .bf16)
    (constant S128x512 .f32 0x00000000#32)) bitsLt_bf16_f32

/-- A digit's table and a digit's rows, without their leading axes of length one. -/
theorem table_apply (v : S1x128x256.Idx → EReal) (r : Fin 128) (k : Fin 256) :
    shapeCast S128x256 v shapeCasts_S1x128x256_S128x256 (ix2 r k) = v (ix3 (0 : Fin 1) r k) := by
  refine shapeCast_apply _ _ _ _ ?_
  rw [Shape.rowMajor_val_two, Shape.rowMajor_val_three]
  show (0 * 128 + r.val) * 256 + k.val = r.val * 256 + k.val
  omega
theorem rows_apply (a : S1x1x128x512.Idx → EReal) (n : Fin 128) (w : Fin 512) :
    shapeCast S128x512 a shapeCasts_S1x1x128x512_S128x512 (ix2 n w) = a (ix4 (0 : Fin 1) (0 : Fin 1) n w) := by
  refine shapeCast_apply _ _ _ _ ?_
  rw [Shape.rowMajor_val_two, Shape.rowMajor_val_four]
  show ((0 * 1 + 0) * 128 + n.val) * 512 + w.val = n.val * 512 + w.val
  omega

/-- One digit's product at a row and a channel. -/
theorem step_apply (a b : S1x1x128x512.Idx → EReal) (v : S1x128x256.Idx → EReal) (r : Fin 128) (w : Fin 512) :
    stepVec a b v (ix2 r w)
      = pair (fun n => v (ix3 (0 : Fin 1) r (first n))) (fun n => v (ix3 (0 : Fin 1) r (second n)))
        (fun n => a (ix4 (0 : Fin 1) (0 : Fin 1) n w)) (fun n => b (ix4 (0 : Fin 1) (0 : Fin 1) n w)) := by
  unfold stepVec
  refine (mm_apply (φ₁ := .bf16) (φ₂ := .bf16) dot_S128x256_S256x512_S128x512_1_0_0_1_n_n rfl _ _ r w).trans ?_
  unfold dotRow
  refine (sum_halves _ _).trans ?_
  exact congr (congr (congr (congrArg pair (funext fun n => table_apply v r (first n))) (funext fun n => table_apply v r (second n)))
    (funext fun n => (above_first _ _ _ n w).trans (rows_apply a n w))) (funext fun n => (above_second _ _ _ n w).trans (rows_apply b n w))

/-- What the block holds at a place, from the tables' and the rows' blocks. -/
def block (g : S8x128x256.Idx → EReal) (x : S2x8x128x512.Idx → EReal) : S128x4096.Idx → EReal := fun i =>
  pair (fun n => g (ix3 (blockSlot (i 1)) (i 0) (first n))) (fun n => g (ix3 (blockSlot (i 1)) (i 0) (second n)))
    (fun n => x (ix4 (0 : Fin 2) (blockSlot (i 1)) n (blockChannel (i 1)))) (fun n => x (ix4 (1 : Fin 2) (blockSlot (i 1)) n (blockChannel (i 1))))

/-- A digit's rows in the rows' block, and a digit's table in the tables' block. -/
theorem rows_emb (a i : ℕ) (ha : a < 2) (hi : i < 8) (inb : ∀ c, (![a, i, 0, 0] : Fin 4 → ℕ) c + S1x1x128x512.size c ≤ S2x8x128x512.size c)
    (n : Fin 128) (w : Fin 512) :
    (Rect.unit (s := S2x8x128x512) ![a, i, 0, 0] S1x1x128x512.size inb).emb (ix4 (0 : Fin 1) (0 : Fin 1) n w)
      = ix4 (⟨a, ha⟩ : Fin 2) (⟨i, hi⟩ : Fin 8) n w := funext fun c => Fin.ext (match c with
    | ⟨0, _⟩ => by show a + 1 * 0 = a; omega
    | ⟨1, _⟩ => by show i + 1 * 0 = i; omega
    | ⟨2, _⟩ => by show 0 + 1 * n.val = n.val; omega
    | ⟨3, _⟩ => by show 0 + 1 * w.val = w.val; omega)
theorem table_emb (i : ℕ) (hi : i < 8) (inb : ∀ c, (![i, 0, 0] : Fin 3 → ℕ) c + S1x128x256.size c ≤ S8x128x256.size c) (r : Fin 128)
    (k : Fin 256) :
    (Rect.unit (s := S8x128x256) ![i, 0, 0] S1x128x256.size inb).emb (ix3 (0 : Fin 1) r k) = ix3 (⟨i, hi⟩ : Fin 8) r k :=
  funext fun c => Fin.ext (match c with
    | ⟨0, _⟩ => by show i + 1 * 0 = i; omega
    | ⟨1, _⟩ => by show 0 + 1 * r.val = r.val; omega
    | ⟨2, _⟩ => by show 0 + 1 * k.val = k.val; omega)

/-- A digit's product is its part of the block. -/
theorem step_piece (i o : ℕ) (hi : i < 8) (ho : o = i * 512) (g : Vec Ideal S8x128x256 .bf16) (x : Vec Ideal S2x8x128x512 .bf16)
    (in0 : ∀ c, (![0, i, 0, 0] : Fin 4 → ℕ) c + S1x1x128x512.size c ≤ S2x8x128x512.size c)
    (in1 : ∀ c, (![1, i, 0, 0] : Fin 4 → ℕ) c + S1x1x128x512.size c ≤ S2x8x128x512.size c)
    (int : ∀ c, (![i, 0, 0] : Fin 3 → ℕ) c + S1x128x256.size c ≤ S8x128x256.size c)
    (inb : ∀ c, (![0, o] : Fin 2 → ℕ) c + S128x512.size c ≤ S128x4096.size c) (y : S128x512.Idx) :
    stepVec (View.ld (e' := .bf16) (Val := Elt Ideal) x (Rect.unit (s := S2x8x128x512) ![0, i, 0, 0] S1x1x128x512.size in0))
      (View.ld (e' := .bf16) (Val := Elt Ideal) x (Rect.unit (s := S2x8x128x512) ![1, i, 0, 0] S1x1x128x512.size in1))
      (View.ld (e' := .bf16) (Val := Elt Ideal) g (Rect.unit (s := S8x128x256) ![i, 0, 0] S1x128x256.size int)) y
      = block g x ((Rect.unit (s := S128x4096) ![0, o] S128x512.size inb).emb y) := by
  obtain ⟨r, w, rfl⟩ : ∃ (r : Fin 128) (w : Fin 512), y = ix2 r w := ⟨y 0, y 1, eq_ix2 y⟩
  have hw := w.isLt
  have e : (Rect.unit (s := S128x4096) ![0, o] S128x512.size inb).emb (ix2 r w) = ix2 r (⟨o + w.val, by omega⟩ : Fin 4096) :=
    funext fun c => Fin.ext (match c with
      | ⟨0, _⟩ => by show 0 + 1 * r.val = r.val; omega
      | ⟨1, _⟩ => by show o + 1 * w.val = o + w.val; omega)
  have hs : blockSlot (⟨o + w.val, by omega⟩ : Fin 4096) = ⟨i, hi⟩ := Fin.ext (by show (o + w.val) / 512 = i; omega)
  have hc : blockChannel (⟨o + w.val, by omega⟩ : Fin 4096) = w := Fin.ext (by show (o + w.val) % 512 = w.val; omega)
  rw [e]
  refine (step_apply _ _ _ r w).trans ?_
  show _ = pair (fun n => g (ix3 (blockSlot (⟨o + w.val, _⟩ : Fin 4096)) r (first n))) (fun n => g (ix3 (blockSlot (⟨o + w.val, _⟩ : Fin 4096)) r (second n)))
    (fun n => x (ix4 (0 : Fin 2) (blockSlot (⟨o + w.val, _⟩ : Fin 4096)) n (blockChannel (⟨o + w.val, _⟩ : Fin 4096))))
    (fun n => x (ix4 (1 : Fin 2) (blockSlot (⟨o + w.val, _⟩ : Fin 4096)) n (blockChannel (⟨o + w.val, _⟩ : Fin 4096))))
  rw [hs, hc]
  exact congr (congr (congr (congrArg pair (funext fun n => congrArg g (table_emb i hi int r (first n))))
    (funext fun n => congrArg g (table_emb i hi int r (second n)))) (funext fun n => congrArg x (rows_emb 0 i (by norm_num) hi in0 n w)))
    (funext fun n => congrArg x (rows_emb 1 i (by norm_num) hi in1 n w))

/-- The block the body leaves. -/
theorem out_apply (g : Vec Ideal S8x128x256 .bf16) (x : Vec Ideal S2x8x128x512 .bf16) (i : S128x4096.Idx) :
    out0_2 (F := Ideal) g x i = block g x i := by
  unfold out0_2
  refine View.canon_apply_of_pieces (Val := Elt Ideal) (e := .bf16) (block g x) _ ?_ i (cover0_2 _ _ _ _ _ _ _ _ i)
  intro p hp
  simp only [List.mem_cons, List.not_mem_nil, or_false] at hp
  rcases hp with rfl | rfl | rfl | rfl | rfl | rfl | rfl | rfl
  · exact step_piece 7 3584 (by norm_num) (by norm_num) g x inb_S2x8x128x512_S1x1x128x512_0_7_0_0 inb_S2x8x128x512_S1x1x128x512_1_7_0_0
      inb_S8x128x256_S1x128x256_7_0_0 inb_S128x4096_S128x512_0_3584
  · exact step_piece 6 3072 (by norm_num) (by norm_num) g x inb_S2x8x128x512_S1x1x128x512_0_6_0_0 inb_S2x8x128x512_S1x1x128x512_1_6_0_0
      inb_S8x128x256_S1x128x256_6_0_0 inb_S128x4096_S128x512_0_3072
  · exact step_piece 5 2560 (by norm_num) (by norm_num) g x inb_S2x8x128x512_S1x1x128x512_0_5_0_0 inb_S2x8x128x512_S1x1x128x512_1_5_0_0
      inb_S8x128x256_S1x128x256_5_0_0 inb_S128x4096_S128x512_0_2560
  · exact step_piece 4 2048 (by norm_num) (by norm_num) g x inb_S2x8x128x512_S1x1x128x512_0_4_0_0 inb_S2x8x128x512_S1x1x128x512_1_4_0_0
      inb_S8x128x256_S1x128x256_4_0_0 inb_S128x4096_S128x512_0_2048
  · exact step_piece 3 1536 (by norm_num) (by norm_num) g x inb_S2x8x128x512_S1x1x128x512_0_3_0_0 inb_S2x8x128x512_S1x1x128x512_1_3_0_0
      inb_S8x128x256_S1x128x256_3_0_0 inb_S128x4096_S128x512_0_1536
  · exact step_piece 2 1024 (by norm_num) (by norm_num) g x inb_S2x8x128x512_S1x1x128x512_0_2_0_0 inb_S2x8x128x512_S1x1x128x512_1_2_0_0
      inb_S8x128x256_S1x128x256_2_0_0 inb_S128x4096_S128x512_0_1024
  · exact step_piece 1 512 (by norm_num) (by norm_num) g x inb_S2x8x128x512_S1x1x128x512_0_1_0_0 inb_S2x8x128x512_S1x1x128x512_1_1_0_0
      inb_S8x128x256_S1x128x256_1_0_0 inb_S128x4096_S128x512_0_512
  · exact step_piece 0 0 (by norm_num) (by norm_num) g x inb_S2x8x128x512_S1x1x128x512_0_0_0_0 inb_S2x8x128x512_S1x1x128x512_1_0_0_0
      inb_S8x128x256_S1x128x256_0_0_0 inb_S128x4096_S128x512_0_0

end TwiddleBlock

end
-- ==== Proof.TwiddleArray.lean ====
/- What the result array of the second stage of the transform over positions holds after a run. -/
module

public import proofs.«01_k».proof.Proof.TwiddleBlock

@[expose] public section

noncomputable section

open Idealize.ShloMosaic Idealize.ShloMosaic.ValueIdx Idealize.ShloMosaic.TcCoe Idealize.SL.Sem RowMath FourierMath TwiddleMath
open Idealize.ShloMosaic.Pipeline (Dat)

namespace TwiddleArray

open Cert.TwiddleIdeal Cert.TwiddleIdeal.Gen Cert.TwiddleIdeal.Value TwiddleBlock

variable (m : (ℓ : Loc nD τ sig) → Buf (Elt Ideal) ℓ)

/-- The arguments: the first stage's result, and the tables of cosines and of sines. -/
def argT (c : Dev nD) : S256x65536.Idx → EReal := m ((c : Thread nD τ).loc main_arg0)
def argC (c : Dev nD) : S128x128x128.Idx → EReal := m ((c : Thread nD τ).loc main_arg1)
def argS (c : Dev nD) : S128x128x128.Idx → EReal := m ((c : Thread nD τ).loc main_arg2)
/-- What the kernel is handed: the tables side by side, and the rows. -/
def tables (c : Dev nD) : S128x128x256.Idx → EReal := V m c main_v1
def rows (c : Dev nD) : S2x128x128x512.Idx → EReal := V m c main_v2

theorem V_tables (c : Dev nD) : tables m c
    = concatenate S128x128x256 2 [⟨S128x128x128, argC m c⟩, ⟨S128x128x128, argS m c⟩] concatenates_S128x128x128_S128x128x128_S128x128x256_d2 := by
  unfold tables argC argS; simp only [V, hostOps0]; after_results <;> rfl
theorem V_rows (c : Dev nD) : rows m c = shapeCast S2x128x128x512 (argT m c) shapeCasts_S256x65536_S2x128x128x512 := by
  unfold rows argT; simp only [V, hostOps0]; after_results <;> rfl

/-- The blocks' places: block `t` is the digits from `8 t`. -/
theorem idx_facts : ∀ t : Fin cfg0.N, (win0_0.index t 0 = t.val ∧ win0_0.index t 1 = 0 ∧ win0_0.index t 2 = 0)
    ∧ (win0_1.index t 0 = 0 ∧ win0_1.index t 1 = t.val ∧ win0_1.index t 2 = 0 ∧ win0_1.index t 3 = 0)
    ∧ (win0_2.index t 0 = 0 ∧ win0_2.index t 1 = t.val) :=
  (by decide +kernel : ∀ t : Fin grid0.N, (win0_0.index t 0 = t.val ∧ win0_0.index t 1 = 0 ∧ win0_0.index t 2 = 0)
    ∧ (win0_1.index t 0 = 0 ∧ win0_1.index t 1 = t.val ∧ win0_1.index t 2 = 0 ∧ win0_1.index t 3 = 0)
    ∧ (win0_2.index t 0 = 0 ∧ win0_2.index t 1 = t.val))

/-- Digit `d` and column `j` of block `t` as a digit and a column of the array. -/
def digitAt (t : Fin cfg0.N) (d : Fin 8) : Fin 128 := ⟨t.val * 8 + d.val, by have h : t.val < 16 := t.isLt; have := d.isLt; omega⟩
def colAt (t : Fin cfg0.N) (j : Fin 4096) : Fin 65536 :=
  ⟨t.val * 4096 + j.val, by have h : t.val < 16 := t.isLt; have := j.isLt; omega⟩
theorem slot_colAt (t : Fin cfg0.N) (j : Fin 4096) : slot (colAt t j) = digitAt t (blockSlot j) :=
  Fin.ext (by show (t.val * 4096 + j.val) / 512 = t.val * 8 + j.val / 512; omega)
theorem channel_colAt (t : Fin cfg0.N) (j : Fin 4096) : channel (colAt t j) = blockChannel j :=
  Fin.ext (by show (t.val * 4096 + j.val) % 512 = j.val % 512; omega)

/-- The tables' block and the rows' block at point `t`. -/
theorem tables_block (c : Dev nD) (t : Fin cfg0.N) (d : Fin 8) (r : Fin 128) (k : Fin 256) :
    iblk m c 0 t (ix3 d r k) = tables m c (ix3 (digitAt t d) r k) := by
  show V m c main_v1 ((win0_0.rect t).emb (ix3 d r k)) = V m c main_v1 (ix3 (digitAt t d) r k)
  refine congrArg (V m c main_v1) (funext fun a => Fin.ext ?_)
  match a with
  | ⟨0, _⟩ => exact (Pipeline.Window.rect_emb_val win0_0 t (ix3 d r k) 0).trans (congrArg (· * 8 + d.val) (idx_facts t).1.1)
  | ⟨1, _⟩ => exact Pipeline.Window.rect_emb_val_of_index_zero win0_0 t 1 (idx_facts t).1.2.1 (ix3 d r k)
  | ⟨2, _⟩ => exact Pipeline.Window.rect_emb_val_of_index_zero win0_0 t 2 (idx_facts t).1.2.2 (ix3 d r k)
theorem rows_block (c : Dev nD) (t : Fin cfg0.N) (p : Fin 2) (d : Fin 8) (n : Fin 128) (w : Fin 512) :
    iblk m c 1 t (ix4 p d n w) = rows m c (ix4 p (digitAt t d) n w) := by
  show V m c main_v2 ((win0_1.rect t).emb (ix4 p d n w)) = V m c main_v2 (ix4 p (digitAt t d) n w)
  refine congrArg (V m c main_v2) (funext fun a => Fin.ext ?_)
  match a with
  | ⟨0, _⟩ => exact Pipeline.Window.rect_emb_val_of_index_zero win0_1 t 0 (idx_facts t).2.1.1 (ix4 p d n w)
  | ⟨1, _⟩ => exact (Pipeline.Window.rect_emb_val win0_1 t (ix4 p d n w) 1).trans (congrArg (· * 8 + d.val) (idx_facts t).2.1.2.1)
  | ⟨2, _⟩ => exact Pipeline.Window.rect_emb_val_of_index_zero win0_1 t 2 (idx_facts t).2.1.2.2.1 (ix4 p d n w)
  | ⟨3, _⟩ => exact Pipeline.Window.rect_emb_val_of_index_zero win0_1 t 3 (idx_facts t).2.1.2.2.2 (ix4 p d n w)

/-- The tables' columns, and the rows of either part. -/
theorem tables_cos (c : Dev nD) (k r n : Fin 128) : tables m c (ix3 k r (first n)) = argC m c (ix3 k r n) := by
  rw [V_tables]
  exact tables_first _ _ _ k r n
theorem tables_sin (c : Dev nD) (k r n : Fin 128) : tables m c (ix3 k r (second n)) = argS m c (ix3 k r n) := by
  rw [V_tables]
  exact tables_second _ _ _ k r n
theorem rows_first (c : Dev nD) (k n : Fin 128) (w : Fin 512) :
    rows m c (ix4 (0 : Fin 2) k n w) = argT m c (ix2 (first k) (column n w)) := by
  rw [V_rows]
  refine shapeCast_apply _ _ _ _ ?_
  rw [Shape.rowMajor_val_two, Shape.rowMajor_val_four]
  show k.val * 65536 + (n.val * 512 + w.val) = ((0 * 128 + k.val) * 128 + n.val) * 512 + w.val
  omega
theorem rows_second (c : Dev nD) (k n : Fin 128) (w : Fin 512) :
    rows m c (ix4 (1 : Fin 2) k n w) = argT m c (ix2 (second k) (column n w)) := by
  rw [V_rows]
  refine shapeCast_apply _ _ _ _ ?_
  rw [Shape.rowMajor_val_two, Shape.rowMajor_val_four]
  show (128 + k.val) * 65536 + (n.val * 512 + w.val) = ((1 * 128 + k.val) * 128 + n.val) * 512 + w.val
  omega

/-- The whole result array as one function. -/
def G (c : Dev nD) : S128x65536.Idx → EReal := fun i => stageTwo (argT m c) (argC m c) (argS m c) (i 0) (i 1)

/-- A place of the result's block `t` in the array. -/
theorem emb_out (t : Fin cfg0.N) (r : Fin 128) (j : Fin 4096) : (win0_2.rect t).emb (ix2 r j) = ix2 r (colAt t j) := by
  refine funext fun a => Fin.ext ?_
  match a with
  | ⟨0, _⟩ => exact Pipeline.Window.rect_emb_val_of_index_zero win0_2 t 0 (idx_facts t).2.2.1 (ix2 r j)
  | ⟨1, _⟩ => exact (Pipeline.Window.rect_emb_val win0_2 t (ix2 r j) 1).trans (congrArg (· * 4096 + j.val) (idx_facts t).2.2.2)

/-- A block's products are the second stage at the block's columns. -/
theorem block_eq (c : Dev nD) (t : Fin cfg0.N) (r : Fin 128) (j : Fin 4096) :
    block (iblk m c 0 t) (iblk m c 1 t) (ix2 r j) = stageTwo (argT m c) (argC m c) (argS m c) r (colAt t j) := by
  unfold stageTwo
  rw [slot_colAt, channel_colAt]
  refine congr (congr (congr (congrArg pair (funext fun n => ?_)) (funext fun n => ?_)) (funext fun n => ?_)) (funext fun n => ?_)
  · exact (tables_block m c t (blockSlot j) r (first n)).trans (tables_cos m c _ r n)
  · exact (tables_block m c t (blockSlot j) r (second n)).trans (tables_sin m c _ r n)
  · exact (rows_block m c t 0 (blockSlot j) n (blockChannel j)).trans (rows_first m c _ n _)
  · exact (rows_block m c t 1 (blockSlot j) n (blockChannel j)).trans (rows_second m c _ n _)

/-- What point `t` writes back is block `t` of that function. -/
theorem flushed_eq (c : Dev nD) (t : Fin cfg0.N) :
    (dats m 0 c).flushed 2 t = ((cfg0.win 2).blk t).view.read (Elt Ideal) (G m c) := by
  rw [flushed2]
  refine funext fun (y : S128x4096.Idx) => ?_
  obtain ⟨r, j, rfl⟩ : ∃ (r : Fin 128) (j : Fin 4096), y = ix2 r j := ⟨y 0, y 1, eq_ix2 y⟩
  show out0_2 (F := Ideal) _ _ (ix2 r j) = G m c ((win0_2.rect t).emb (ix2 r j))
  rw [emb_out]
  exact (out_apply _ _ (ix2 r j)).trans (block_eq m c t r j)

/-- Every place of the array lies in some point's block. -/
theorem cover (i : S128x65536.Idx) : ∃ t : Fin cfg0.N, (cfg0.win 2).flush t = true ∧ i ∈ ((cfg0.win 2).blk t).view.set := by
  have h1 : (i 1).val < 65536 := (i 1).isLt
  refine ⟨⟨(i 1).val / 4096, by show _ < 16; omega⟩, flush0_2 _, ?_⟩
  have e := ((cfg0.win 2).blk ⟨(i 1).val / 4096, by show _ < 16; omega⟩).view.emb_mem_set
    (ix2 (i 0) (⟨(i 1).val % 4096, Nat.mod_lt _ (by norm_num)⟩ : Fin 4096))
  refine (congrArg (· ∈ _) ?_).mp e
  refine (emb_out _ (i 0) _).trans ?_
  refine (congrArg (ix2 (i 0) ·) (Fin.ext ?_)).trans (eq_ix2 i).symm
  show (i 1).val / 4096 * 4096 + (i 1).val % 4096 = (i 1).val
  omega

/-- The result array after the run. -/
theorem final (c : Dev nD) : (dats m 0 c).arrAt 2 cfg0.N = G m c :=
  (dats m 0 c).arrAt_eq_of_cover 2 (G m c) (fun t _ => flushed_eq m c t) cover

end TwiddleArray

end
-- ==== Proof.TwiddleRead.lean ====
/- What the reference of the second stage of the transform over positions computes at a row and a column. -/
module

public import proofs.«01_k».proof.Proof.Gen.TwiddleRefIdeal.Read
public import proofs.«01_k».proof.Proof.TwiddleMath

@[expose] public section

noncomputable section

open Idealize.ShloMosaic Idealize.ShloMosaic.ValueIdx RowMath FourierMath TwiddleMath

namespace TwiddleRead

open Cert.TwiddleRefIdeal Cert.TwiddleRefIdeal.Read

variable (x0 : (⟨S256x65536, .bf16⟩ : BufTy).Contents (Elt Ideal)) (x1 x2 : (⟨S128x128x128, .f32⟩ : BufTy).Contents (Elt Ideal))

/-- The real and the imaginary part of the first stage's result, by digit, row and channel. -/
theorem re_apply (k n : Fin 128) (w : Fin 512) : val_main_v3 (F := Ideal) x0 (ix3 k n w) = x0 (ix2 (first k) (column n w)) := by
  have hk := k.isLt
  have hn := n.isLt
  have hw := w.isLt
  rw [val_main_v3_apply, val_main_v2_apply, val_main_v1_apply, val_main_v0_apply,
    show idx_main_v2 (idx_main_v3 (ix3 k n w)) = ix4 (0 : Fin 2) k n w from
      funext fun a => match a with
        | ⟨0, _⟩ => rfl
        | ⟨1, _⟩ => Fin.ext (by show ((k.val * 128 + n.val) * 512 + w.val) / 65536 % 128 = k.val; omega)
        | ⟨2, _⟩ => Fin.ext (by show ((k.val * 128 + n.val) * 512 + w.val) / 512 % 128 = n.val; omega)
        | ⟨3, _⟩ => Fin.ext (by show ((k.val * 128 + n.val) * 512 + w.val) % 512 = w.val; omega),
    show idx_main_v1 (ix4 (0 : Fin 2) k n w) = ix2 (first k) (column n w) from
      funext fun a => match a with
        | ⟨0, _⟩ => Fin.ext (by show (((0 * 128 + k.val) * 128 + n.val) * 512 + w.val) / 65536 = k.val; omega)
        | ⟨1, _⟩ => Fin.ext (by show (((0 * 128 + k.val) * 128 + n.val) * 512 + w.val) % 65536 = n.val * 512 + w.val; omega)]
  rfl
theorem im_apply (k n : Fin 128) (w : Fin 512) : val_main_v5 (F := Ideal) x0 (ix3 k n w) = x0 (ix2 (second k) (column n w)) := by
  have hk := k.isLt
  have hn := n.isLt
  have hw := w.isLt
  rw [val_main_v5_apply, val_main_v4_apply, val_main_v1_apply, val_main_v0_apply,
    show idx_main_v4 (idx_main_v5 (ix3 k n w)) = ix4 (1 : Fin 2) k n w from
      funext fun a => match a with
        | ⟨0, _⟩ => rfl
        | ⟨1, _⟩ => Fin.ext (by show ((k.val * 128 + n.val) * 512 + w.val) / 65536 % 128 = k.val; omega)
        | ⟨2, _⟩ => Fin.ext (by show ((k.val * 128 + n.val) * 512 + w.val) / 512 % 128 = n.val; omega)
        | ⟨3, _⟩ => Fin.ext (by show ((k.val * 128 + n.val) * 512 + w.val) % 512 = w.val; omega),
    show idx_main_v1 (ix4 (1 : Fin 2) k n w) = ix2 (second k) (column n w) from
      funext fun a => match a with
        | ⟨0, _⟩ => Fin.ext (by show (((1 * 128 + k.val) * 128 + n.val) * 512 + w.val) / 65536 = 128 + k.val; omega)
        | ⟨1, _⟩ => Fin.ext (by show (((1 * 128 + k.val) * 128 + n.val) * 512 + w.val) % 65536 = n.val * 512 + w.val; omega)]
  rfl

/-- The product with the table of cosines, and that with the table of sines. -/
theorem cos_apply (k r : Fin 128) (w : Fin 512) :
    val_main_v7 (F := Ideal) x0 x1 (ix3 r k w)
      = ∑ n : Fin 128, (x1 : S128x128x128.Idx → EReal) (ix3 k r n) * (x0 : S256x65536.Idx → EReal) (ix2 (first k) (column n w)) := by
  rw [val_main_v7_apply, val_main_v6_apply]
  refine Finset.sum_congr rfl fun n _ => ?_
  rw [show lidx_main_v6 (idx_main_v7 (ix3 r k w)) n = ix3 k n w from
      funext fun a => match a with | ⟨0, _⟩ => rfl | ⟨1, _⟩ => rfl | ⟨2, _⟩ => rfl,
    show ridx_main_v6 (idx_main_v7 (ix3 r k w)) n = ix3 k r n from
      funext fun a => match a with | ⟨0, _⟩ => rfl | ⟨1, _⟩ => rfl | ⟨2, _⟩ => rfl, re_apply]
  exact mul_comm (_ : EReal) _
theorem sin_apply (k r : Fin 128) (w : Fin 512) :
    val_main_v9 (F := Ideal) x0 x2 (ix3 r k w)
      = ∑ n : Fin 128, (x2 : S128x128x128.Idx → EReal) (ix3 k r n) * (x0 : S256x65536.Idx → EReal) (ix2 (second k) (column n w)) := by
  rw [val_main_v9_apply, val_main_v8_apply]
  refine Finset.sum_congr rfl fun n _ => ?_
  rw [show lidx_main_v8 (idx_main_v9 (ix3 r k w)) n = ix3 k n w from
      funext fun a => match a with | ⟨0, _⟩ => rfl | ⟨1, _⟩ => rfl | ⟨2, _⟩ => rfl,
    show ridx_main_v8 (idx_main_v9 (ix3 r k w)) n = ix3 k r n from
      funext fun a => match a with | ⟨0, _⟩ => rfl | ⟨1, _⟩ => rfl | ⟨2, _⟩ => rfl, im_apply]
  exact mul_comm (_ : EReal) _

/-- The result at a row and a column. -/
theorem result_apply (r : Fin 128) (j : Fin 65536) :
    val_main_v12 (F := Ideal) x0 x1 x2 (ix2 r j) = stageTwo x0 x1 x2 r j := by
  have hr := r.isLt
  have hj := j.isLt
  rw [val_main_v12_apply, val_main_v11_apply, show idx_main_v11 (ix2 r j) = ix3 r (slot j) (channel j) from
    funext fun a => match a with
      | ⟨0, _⟩ => Fin.ext (by show (r.val * 65536 + j.val) / 65536 = r.val; omega)
      | ⟨1, _⟩ => Fin.ext (by show (r.val * 65536 + j.val) / 512 % 128 = j.val / 512; omega)
      | ⟨2, _⟩ => Fin.ext (by show (r.val * 65536 + j.val) % 512 = j.val % 512; omega), val_main_v10_apply]
  exact congrArg₂ (fun a b : EReal => a + b) (cos_apply x0 x1 _ _ _) (sin_apply x0 x2 _ _ _)

end TwiddleRead

end
-- ==== Proof.TwiddleClaim.lean ====
/- The second stage of the transform over positions: its kernel and its reference end with the same array. -/
module

public import proofs.«01_k».proof.Defs
public import proofs.«01_k».proof.Proof.TwiddleArray
public import proofs.«01_k».proof.Proof.TwiddleRead
public import proofs.«01_k».proof.Proof.Gen.TwiddleRefIdeal.Run

@[expose] public section

noncomputable section

open Idealize.ShloMosaic Idealize.ShloMosaic.ValueIdx Idealize.ShloMosaic.TcCoe Idealize.SL.Sem RowMath

namespace TwiddleClaim

local instance : Cert.TwiddleIdeal.Facts := Cert.TwiddleIdeal.Gen.facts
local instance : Cert.TwiddleRefIdeal.Facts := Cert.TwiddleRefIdeal.Gen.facts

/-- The reference runs, leaves its arguments as they were and declares no semaphore. -/
theorem frame_reference : Cert.quiescent_TwiddleRefIdeal := fun m g _ =>
  (θ_run Cert.TwiddleRefIdeal.defs _ _).mono (fun r h => ⟨fun c => (h c).2, sem_eq_zero_of_no_sems (by decide) r.2⟩)
    (Cert.TwiddleRefIdeal.Value.run m g)

/-- On equal arguments the reference's value is the array the kernel's blocks make up. -/
theorem reference_eq (m : (ℓ : Loc Cert.TwiddleIdeal.nD Cert.TwiddleIdeal.τ Cert.TwiddleIdeal.sig) → Buf (Elt Ideal) ℓ)
    (m' : (ℓ : Loc Cert.TwiddleRefIdeal.nD Cert.TwiddleRefIdeal.τ Cert.TwiddleRefIdeal.sig) → Buf (Elt Ideal) ℓ)
    (c : Dev Cert.TwiddleIdeal.nD)
    (h : m' ((c.tc : Thread Cert.TwiddleRefIdeal.nD Cert.TwiddleRefIdeal.τ).loc Cert.TwiddleRefIdeal.main_arg0) = m ((c.tc : Thread Cert.TwiddleIdeal.nD Cert.TwiddleIdeal.τ).loc Cert.TwiddleIdeal.main_arg0)
      ∧ m' ((c.tc : Thread Cert.TwiddleRefIdeal.nD Cert.TwiddleRefIdeal.τ).loc Cert.TwiddleRefIdeal.main_arg1) = m ((c.tc : Thread Cert.TwiddleIdeal.nD Cert.TwiddleIdeal.τ).loc Cert.TwiddleIdeal.main_arg1)
      ∧ m' ((c.tc : Thread Cert.TwiddleRefIdeal.nD Cert.TwiddleRefIdeal.τ).loc Cert.TwiddleRefIdeal.main_arg2) = m ((c.tc : Thread Cert.TwiddleIdeal.nD Cert.TwiddleIdeal.τ).loc Cert.TwiddleIdeal.main_arg2)) :
    Cert.TwiddleRefIdeal.Read.val_main_v12 (F := Ideal) (m' ((c.tc : Thread Cert.TwiddleRefIdeal.nD Cert.TwiddleRefIdeal.τ).loc Cert.TwiddleRefIdeal.main_arg0))
      (m' ((c.tc : Thread Cert.TwiddleRefIdeal.nD Cert.TwiddleRefIdeal.τ).loc Cert.TwiddleRefIdeal.main_arg1))
      (m' ((c.tc : Thread Cert.TwiddleRefIdeal.nD Cert.TwiddleRefIdeal.τ).loc Cert.TwiddleRefIdeal.main_arg2)) = TwiddleArray.G m c := by
  obtain ⟨h0, h1, h2⟩ := h
  rw [h0, h1, h2]
  refine funext fun y => ?_
  obtain ⟨i, j, rfl⟩ : ∃ (i : Fin 128) (j : Fin 65536), y = ix2 i j := ⟨y 0, y 1, eq_ix2 y⟩
  exact TwiddleRead.result_apply _ _ _ i j

/-- The kernel and its reference end with equal results. -/
theorem algebraic : Cert.algebraic_TwiddleIdeal_TwiddleRefIdeal := fun m g m' g' _ hargs =>
  ⟨fun c => TwiddleArray.G m c,
    (θ_run Cert.TwiddleIdeal.defs _ _).mono (fun _ h c => ⟨(h c).1.trans (TwiddleArray.final m c), (h c).2⟩)
      (Cert.TwiddleIdeal.Value.run_blocks m g),
    (θ_run Cert.TwiddleRefIdeal.defs _ _).mono
      (fun _ h c => ⟨((h c).1.trans (Cert.TwiddleRefIdeal.Read.val_main_v12_eq _ _ _)).trans (reference_eq m m' c (hargs c)), (h c).2⟩)
      (Cert.TwiddleRefIdeal.Value.run m' g')⟩

end TwiddleClaim

end
-- ==== Proof.lean ====
/- The claim, from its parts: each kernel's frame, each reference's frame, what idealizing changed, and the equal
   results. -/
module

public import proofs.«01_k».proof.Defs
public import proofs.«01_k».proof.Proof.Gen.Attention.Frame
public import proofs.«01_k».proof.Proof.Gen.AttentionIdeal.Frame
public import proofs.«01_k».proof.Proof.AttentionClaim
public import proofs.«01_k».proof.Proof.Gen.Ffn.Frame
public import proofs.«01_k».proof.Proof.Gen.FfnIdeal.Frame
public import proofs.«01_k».proof.Proof.FfnClaim
public import proofs.«01_k».proof.Proof.Gen.MixFfn.Frame
public import proofs.«01_k».proof.Proof.Gen.MixFfnIdeal.Frame
public import proofs.«01_k».proof.Proof.MixFfnClaim
public import proofs.«01_k».proof.Proof.Gen.OutFfn.Frame
public import proofs.«01_k».proof.Proof.Gen.OutFfnIdeal.Frame
public import proofs.«01_k».proof.Proof.OutFfnClaim
public import proofs.«01_k».proof.Proof.Gen.Qkv.Frame
public import proofs.«01_k».proof.Proof.Gen.QkvIdeal.Frame
public import proofs.«01_k».proof.Proof.QkvClaim
public import proofs.«01_k».proof.Proof.Gen.Gating.Frame
public import proofs.«01_k».proof.Proof.Gen.GatingIdeal.Frame
public import proofs.«01_k».proof.Proof.GatingClaim
public import proofs.«01_k».proof.Proof.Gen.Fourier.Frame
public import proofs.«01_k».proof.Proof.Gen.FourierIdeal.Frame
public import proofs.«01_k».proof.Proof.FourierClaim
public import proofs.«01_k».proof.Proof.Gen.Twiddle.Frame
public import proofs.«01_k».proof.Proof.Gen.TwiddleIdeal.Frame
public import proofs.«01_k».proof.Proof.TwiddleClaim
public import proofs.«01_k».proof.Proof.Gen.Pre_finite

@[expose] public section

noncomputable section

/-- Every claim of the certificate. -/
theorem Cert.Proof.claim : Cert.Claim :=
  ⟨Cert.Attention.Gen.facts,
    Cert.AttentionIdeal.Gen.facts,
    Cert.AttentionRefIdeal.Gen.facts,
    Cert.Ffn.Gen.facts,
    Cert.FfnIdeal.Gen.facts,
    Cert.FfnRefIdeal.Gen.facts,
    Cert.MixFfn.Gen.facts,
    Cert.MixFfnIdeal.Gen.facts,
    Cert.MixFfnRefIdeal.Gen.facts,
    Cert.OutFfn.Gen.facts,
    Cert.OutFfnIdeal.Gen.facts,
    Cert.OutFfnRefIdeal.Gen.facts,
    Cert.Qkv.Gen.facts,
    Cert.QkvIdeal.Gen.facts,
    Cert.QkvRefIdeal.Gen.facts,
    Cert.Gating.Gen.facts,
    Cert.GatingIdeal.Gen.facts,
    Cert.GatingRefIdeal.Gen.facts,
    Cert.Fourier.Gen.facts,
    Cert.FourierIdeal.Gen.facts,
    Cert.FourierRefIdeal.Gen.facts,
    Cert.Twiddle.Gen.facts,
    Cert.TwiddleIdeal.Gen.facts,
    Cert.TwiddleRefIdeal.Gen.facts,
    Cert.Pre_finite.Gen.facts,
    fun m ρ _ => Cert.Attention.Gen.frame m ρ,
    fun m ρ _ => Cert.AttentionIdeal.Gen.frame m ρ,
    fun m ρ _ => Cert.AttentionIdeal.Gen.frame m ρ,
    AttentionClaim.frame_reference,
    AttentionClaim.frame_reference_pre,
    fun m ρ _ => Cert.Ffn.Gen.frame m ρ,
    fun m ρ _ => Cert.FfnIdeal.Gen.frame m ρ,
    FfnClaim.frame_reference,
    fun m ρ _ => Cert.MixFfn.Gen.frame m ρ,
    fun m ρ _ => Cert.MixFfnIdeal.Gen.frame m ρ,
    MixFfnClaim.frame_reference,
    fun m ρ _ => Cert.OutFfn.Gen.frame m ρ,
    fun m ρ _ => Cert.OutFfnIdeal.Gen.frame m ρ,
    OutFfnClaim.frame_reference,
    fun m ρ _ => Cert.Qkv.Gen.frame m ρ,
    fun m ρ _ => Cert.QkvIdeal.Gen.frame m ρ,
    QkvClaim.frame_reference,
    fun m ρ _ => Cert.Gating.Gen.frame m ρ,
    fun m ρ _ => Cert.GatingIdeal.Gen.frame m ρ,
    GatingClaim.frame_reference,
    fun m ρ _ => Cert.Fourier.Gen.frame m ρ,
    fun m ρ _ => Cert.FourierIdeal.Gen.frame m ρ,
    FourierClaim.frame_reference,
    fun m ρ _ => Cert.Twiddle.Gen.frame m ρ,
    fun m ρ _ => Cert.TwiddleIdeal.Gen.frame m ρ,
    TwiddleClaim.frame_reference,
    AttentionClaim.preserves,
    AttentionClaim.algebraic,
    trivial,
    FfnClaim.algebraic,
    trivial,
    MixFfnClaim.algebraic,
    trivial,
    OutFfnClaim.algebraic,
    trivial,
    QkvClaim.algebraic,
    trivial,
    GatingClaim.algebraic,
    trivial,
    FourierClaim.algebraic,
    trivial,
    TwiddleClaim.algebraic⟩

end
